-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_memory [hPre_finite_memory : Cert.Pre_finite_memory.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_memory.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_memory [hPre_finite_memory : Cert.Pre_finite_memory.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_memory.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Kernel3Ideal_pre_finite_memory [hKernel3Ideal : Cert.Kernel3Ideal.Facts] [hPre_finite_memory : Cert.Pre_finite_memory.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_memory m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Reference3Ideal_pre_finite_memory [hReference3Ideal : Cert.Reference3Ideal.Facts] [hPre_finite_memory : Cert.Pre_finite_memory.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_memory m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "qscale" .f32 0x3E16C740#32 (((3424635 / 33554432) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_memory [hKernel3Ideal : Cert.Kernel3Ideal.Facts] [hReference3Ideal : Cert.Reference3Ideal.Facts] [hPre_finite_memory : Cert.Pre_finite_memory.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_memory m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v45)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v45) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v97) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  IdealRules.named_const.Statement Cert.Kernel4Ideal.κ "inv96" .f32 0x3C2AAAAB#32 ((1 / 96 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v130_0)) (v1 : (c : Dev Cert.Kernel4Ideal.nD) → Buf (Elt Ideal) ((c.tc : Thread Cert.Kernel4Ideal.nD Cert.Kernel4Ideal.τ).loc Cert.Kernel4Ideal.main_v130_1)) (v2 : (c : Dev Cert.Kernel4Ideal.nD) → Buf (Elt Ideal) ((c.tc : Thread Cert.Kernel4Ideal.nD Cert.Kernel4Ideal.τ).loc Cert.Kernel4Ideal.main_v130_2)) (v3 : (c : Dev Cert.Kernel4Ideal.nD) → Buf (Elt Ideal) ((c.tc : Thread Cert.Kernel4Ideal.nD Cert.Kernel4Ideal.τ).loc Cert.Kernel4Ideal.main_v130_3)) (v4 : (c : Dev Cert.Kernel4Ideal.nD) → Buf (Elt Ideal) ((c.tc : Thread Cert.Kernel4Ideal.nD Cert.Kernel4Ideal.τ).loc Cert.Kernel4Ideal.main_v130_4)) (v5 : (c : Dev Cert.Kernel4Ideal.nD) → Buf (Elt Ideal) ((c.tc : Thread Cert.Kernel4Ideal.nD Cert.Kernel4Ideal.τ).loc Cert.Kernel4Ideal.main_v130_5)) (v6 : (c : Dev Cert.Kernel4Ideal.nD) → Buf (Elt Ideal) ((c.tc : Thread Cert.Kernel4Ideal.nD Cert.Kernel4Ideal.τ).loc Cert.Kernel4Ideal.main_v130_6)) (v7 : (c : Dev Cert.Kernel4Ideal.nD) → Buf (Elt Ideal) ((c.tc : Thread Cert.Kernel4Ideal.nD Cert.Kernel4Ideal.τ).loc Cert.Kernel4Ideal.main_v130_7)) (v8 : (c : Dev Cert.Kernel4Ideal.nD) → Buf (Elt Ideal) ((c.tc : Thread Cert.Kernel4Ideal.nD Cert.Kernel4Ideal.τ).loc Cert.Kernel4Ideal.main_v130_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v130_0) = v0 c
          ∧ r.2.mem ((c.tc : Thread Cert.Kernel4Ideal.nD Cert.Kernel4Ideal.τ).loc Cert.Kernel4Ideal.main_v130_1) = v1 c
          ∧ r.2.mem ((c.tc : Thread Cert.Kernel4Ideal.nD Cert.Kernel4Ideal.τ).loc Cert.Kernel4Ideal.main_v130_2) = v2 c
          ∧ r.2.mem ((c.tc : Thread Cert.Kernel4Ideal.nD Cert.Kernel4Ideal.τ).loc Cert.Kernel4Ideal.main_v130_3) = v3 c
          ∧ r.2.mem ((c.tc : Thread Cert.Kernel4Ideal.nD Cert.Kernel4Ideal.τ).loc Cert.Kernel4Ideal.main_v130_4) = v4 c
          ∧ r.2.mem ((c.tc : Thread Cert.Kernel4Ideal.nD Cert.Kernel4Ideal.τ).loc Cert.Kernel4Ideal.main_v130_5) = v5 c
          ∧ r.2.mem ((c.tc : Thread Cert.Kernel4Ideal.nD Cert.Kernel4Ideal.τ).loc Cert.Kernel4Ideal.main_v130_6) = v6 c
          ∧ r.2.mem ((c.tc : Thread Cert.Kernel4Ideal.nD Cert.Kernel4Ideal.τ).loc Cert.Kernel4Ideal.main_v130_7) = v7 c
          ∧ r.2.mem ((c.tc : Thread Cert.Kernel4Ideal.nD Cert.Kernel4Ideal.τ).loc Cert.Kernel4Ideal.main_v130_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v143) = v0 c
          ∧ r.2.mem ((c.tc : Thread Cert.Reference4Ideal.nD Cert.Reference4Ideal.τ).loc Cert.Reference4Ideal.main_v229) = v1 c
          ∧ r.2.mem ((c.tc : Thread Cert.Reference4Ideal.nD Cert.Reference4Ideal.τ).loc Cert.Reference4Ideal.main_v230) = v2 c
          ∧ r.2.mem ((c.tc : Thread Cert.Reference4Ideal.nD Cert.Reference4Ideal.τ).loc Cert.Reference4Ideal.main_v231) = v3 c
          ∧ r.2.mem ((c.tc : Thread Cert.Reference4Ideal.nD Cert.Reference4Ideal.τ).loc Cert.Reference4Ideal.main_v232) = v4 c
          ∧ r.2.mem ((c.tc : Thread Cert.Reference4Ideal.nD Cert.Reference4Ideal.τ).loc Cert.Reference4Ideal.main_v233) = v5 c
          ∧ r.2.mem ((c.tc : Thread Cert.Reference4Ideal.nD Cert.Reference4Ideal.τ).loc Cert.Reference4Ideal.main_v234) = v6 c
          ∧ r.2.mem ((c.tc : Thread Cert.Reference4Ideal.nD Cert.Reference4Ideal.τ).loc Cert.Reference4Ideal.main_v235) = v7 c
          ∧ r.2.mem ((c.tc : Thread Cert.Reference4Ideal.nD Cert.Reference4Ideal.τ).loc Cert.Reference4Ideal.main_v236) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_finite_memory : Cert.Pre_finite_memory.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_memory (hKernel3Ideal := hKernel3Ideal) (hPre_finite_memory := hPre_finite_memory)
    ∧ quiescent_Reference3Ideal (hReference3Ideal := hReference3Ideal)
    ∧ quiescent_Reference3Ideal_pre_finite_memory (hReference3Ideal := hReference3Ideal) (hPre_finite_memory := hPre_finite_memory)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_memory (hKernel3Ideal := hKernel3Ideal) (hReference3Ideal := hReference3Ideal) (hPre_finite_memory := hPre_finite_memory)
    ∧ preserves_Kernel4_Kernel4Ideal
    ∧ algebraic_Kernel4Ideal_Reference4Ideal (hKernel4Ideal := hKernel4Ideal) (hReference4Ideal := hReference4Ideal)
-- ==== Pre_finite_memory.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S512 : Shape := ⟨1, ![512]⟩
abbrev S1024x1024 : Shape := ⟨2, ![1024, 1024]⟩
abbrev S1024 : Shape := ⟨1, ![1024]⟩
abbrev S1024x256 : Shape := ⟨2, ![1024, 256]⟩
abbrev S64 : Shape := ⟨1, ![64]⟩
abbrev S4x256x4x64 : Shape := ⟨4, ![4, 256, 4, 64]⟩
abbrev S256x1024 : Shape := ⟨2, ![256, 1024]⟩
abbrev S1024x5632 : Shape := ⟨2, ![1024, 5632]⟩
abbrev S2816x1024 : Shape := ⟨2, ![2816, 1024]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S4x256x4x64 : S_.BroadcastsInDim S4x256x4x64 (![] : Fin 0 → Fin S4x256x4x64.rank)
  reducesTo_S4x256x4x64_S_d0_1_2_3 : S4x256x4x64.ReducesTo [0, 1, 2, 3] S_

variable [Facts]

def fn {F : FTy → Type} [FloatOps F] (main_arg0 : FVec F S4x8192x1024 .f32) (main_arg1 : FVec F S4x8192x512 .f32) (main_arg2 : FVec F S4x8192x256 .f32) (main_arg3 : FVec F S4x8192x256 .f32) (main_arg4 : FVec F S512 .f32) (main_arg5 : FVec F S1024x1024 .f32) (main_arg6 : FVec F S1024 .f32) (main_arg7 : FVec F S1024x256 .f32) (main_arg8 : FVec F S64 .f32) (main_arg9 : FVec F S4x256x4x64 .f32) (main_arg10 : FVec F S4x256x4x64 .f32) (main_arg11 : FVec F S256x1024 .f32) (main_arg12 : FVec F S1024 .f32) (main_arg13 : FVec F S1024x5632 .f32) (main_arg14 : FVec F S2816x1024 .f32) (main_arg15 : FVec F S1024 .f32) : IVec S_ 1 :=
  let main_v0 : FVec F S64 .f32 := Host.absf main_arg8
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S4x256x4x64 .f32 := Host.absf main_arg9
  let main_cst_0 : FVec F S_ .f32 := constant S_ .f32 0x7F800000#32
  let main_v5 : FVec F S4x256x4x64 .f32 := broadcastInDim S4x256x4x64 ![] bcast_S_S4x256x4x64 main_cst_0
  let main_v6 : IVec S4x256x4x64 1 := cmpf .olt main_v4 main_v5
  let main_c_1 : IVec S_ 1 := constantI S_ 1 1#1
  let main_v7 : IVec S_ 1 := (fun x v => Host.reduce IntOp.andi x v reducesTo_S4x256x4x64_S_d0_1_2_3 h_S_) main_v6 main_c_1
  let main_v8 : IVec S_ 1 := andi main_v3 main_v7
  main_v8
-- ==== Pre_finite_scores.lean ====
abbrev S4x8192x8x96 : Shape := ⟨4, ![4, 8192, 8, 96]⟩
abbrev S4x8192x8x64 : Shape := ⟨4, ![4, 8192, 8, 64]⟩
abbrev S_ : Shape := ⟨0, ![]⟩

class Facts : Prop where
  bcast_S_S4x8192x8x96 : S_.BroadcastsInDim S4x8192x8x96 (![] : Fin 0 → Fin S4x8192x8x96.rank)
  reducesTo_S4x8192x8x96_S_d0_1_2_3 : S4x8192x8x96.ReducesTo [0, 1, 2, 3] S_
  h_S_ : 0 < S_.numel

variable [Facts]

def fn {F : FTy → Type} [FloatOps F] (main_arg0 : FVec F S4x8192x8x96 .f32) (main_arg1 : FVec F S4x8192x8x96 .f32) (main_arg2 : FVec F S4x8192x8x64 .f32) : IVec S_ 1 :=
  let main_v0 : FVec F S4x8192x8x96 .f32 := Host.absf main_arg0
  let main_cst : FVec F S_ .f32 := constant S_ .f32 0x7F800000#32
  let main_v1 : FVec F S4x8192x8x96 .f32 := broadcastInDim S4x8192x8x96 ![] bcast_S_S4x8192x8x96 main_cst
  let main_v2 : IVec S4x8192x8x96 1 := cmpf .olt main_v0 main_v1
  let main_c : IVec S_ 1 := constantI S_ 1 1#1
  let main_v3 : IVec S_ 1 := (fun x v => Host.reduce IntOp.andi x v reducesTo_S4x8192x8x96_S_d0_1_2_3 h_S_) main_v2 main_c
  let main_v4 : FVec F S4x8192x8x96 .f32 := Host.absf main_arg1
  let main_cst_0 : FVec F S_ .f32 := constant S_ .f32 0x7F800000#32
  let main_v5 : FVec F S4x8192x8x96 .f32 := broadcastInDim S4x8192x8x96 ![] bcast_S_S4x8192x8x96 main_cst_0
  let main_v6 : IVec S4x8192x8x96 1 := cmpf .olt main_v4 main_v5
  let main_c_1 : IVec S_ 1 := constantI S_ 1 1#1
  let main_v7 : IVec S_ 1 := (fun x v => Host.reduce IntOp.andi x v reducesTo_S4x8192x8x96_S_d0_1_2_3 h_S_) main_v6 main_c_1
  let main_v8 : IVec S_ 1 := andi main_v3 main_v7
  main_v8
-- ==== Kernel.lean ====
abbrev S4x8192x8x96 : Shape := ⟨4, ![4, 8192, 8, 96]⟩
abbrev S4x8192x8x64 : Shape := ⟨4, ![4, 8192, 8, 64]⟩
abbrev S4x8192x8x16 : Shape := ⟨4, ![4, 8192, 8, 16]⟩
abbrev S_ : Shape := ⟨0, ![]⟩
abbrev S4x8192x8x32 : Shape := ⟨4, ![4, 8192, 8, 32]⟩
abbrev S4x8192x8x48 : Shape := ⟨4, ![4, 8192, 8, 48]⟩
abbrev S4x8192x8x128 : Shape := ⟨4, ![4, 8192, 8, 128]⟩
abbrev S4x16x512x8x128 : Shape := ⟨5, ![4, 16, 512, 8, 128]⟩
abbrev S4x16x8x128x512 : Shape := ⟨5, ![4, 16, 8, 128, 512]⟩
abbrev S4x8x8192x128 : Shape := ⟨4, ![4, 8, 8192, 128]⟩
abbrev S4x16x512x512 : Shape := ⟨4, ![4, 16, 512, 512]⟩
abbrev S4x8192x512 : Shape := ⟨3, ![4, 8192, 512]⟩
abbrev S1x4x4x128x512 : Shape := ⟨5, ![1, 4, 4, 128, 512]⟩
abbrev S1x4x8192x128 : Shape := ⟨4, ![1, 4, 8192, 128]⟩
abbrev S1x16x256x512 : Shape := ⟨4, ![1, 16, 256, 512]⟩
abbrev S1x2048x256 : Shape := ⟨3, ![1, 2048, 256]⟩
abbrev S2x4x512x512 : Shape := ⟨4, ![2, 4, 512, 512]⟩
abbrev S2x4x1x512 : Shape := ⟨4, ![2, 4, 1, 512]⟩
abbrev S4x80x512 : Shape := ⟨3, ![4, 80, 512]⟩
abbrev S4x1x512 : Shape := ⟨3, ![4, 1, 512]⟩
abbrev S16x512 : Shape := ⟨2, ![16, 512]⟩
abbrev S1x1x1x128x512 : Shape := ⟨5, ![1, 1, 1, 128, 512]⟩
abbrev S128x512 : Shape := ⟨2, ![128, 512]⟩
abbrev S1x1x512x128 : Shape := ⟨4, ![1, 1, 512, 128]⟩
abbrev S512x128 : Shape := ⟨2, ![512, 128]⟩
abbrev S512x512 : Shape := ⟨2, ![512, 512]⟩
abbrev S1x1x512x512 : Shape := ⟨4, ![1, 1, 512, 512]⟩
abbrev S512 : Shape := ⟨1, ![512]⟩
abbrev S1x512 : Shape := ⟨2, ![1, 512]⟩
abbrev S1x1x1x512 : Shape := ⟨4, ![1, 1, 1, 512]⟩
abbrev S1x1x512 : Shape := ⟨3, ![1, 1, 512]⟩
abbrev S1x1x64x512 : Shape := ⟨4, ![1, 1, 64, 512]⟩
abbrev S64x512 : Shape := ⟨2, ![64, 512]⟩
abbrev S80x512 : Shape := ⟨2, ![80, 512]⟩
abbrev S1x80x512 : Shape := ⟨3, ![1, 80, 512]⟩
abbrev S1x64x512 : Shape := ⟨3, ![1, 64, 512]⟩
abbrev S1x512x128 : Shape := ⟨3, ![1, 512, 128]⟩

abbrev nBuf : Space → Nat
  | .hbm => 25
  | .vmem => 14
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x64, .f32⟩
  | .hbm, ⟨3, _⟩ => ⟨S4x8192x8x16, .f32⟩
  | .hbm, ⟨4, _⟩ => ⟨S4x8192x8x16, .f32⟩
  | .hbm, ⟨5, _⟩ => ⟨S_, .f32⟩
  | .hbm, ⟨6, _⟩ => ⟨S4x8192x8x32, .f32⟩
  | .hbm, ⟨7, _⟩ => ⟨S4x8192x8x48, .f32⟩
  | .hbm, ⟨8, _⟩ => ⟨S4x8192x8x16, .f32⟩
  | .hbm, ⟨9, _⟩ => ⟨S4x8192x8x128, .f32⟩
  | .hbm, ⟨10, _⟩ => ⟨S4x16x512x8x128, .f32⟩
  | .hbm, ⟨11, _⟩ => ⟨S4x16x8x128x512, .f32⟩
  | .hbm, ⟨12, _⟩ => ⟨S4x8192x8x16, .f32⟩
  | .hbm, ⟨13, _⟩ => ⟨S4x8192x8x16, .f32⟩
  | .hbm, ⟨14, _⟩ => ⟨S_, .f32⟩
  | .hbm, ⟨15, _⟩ => ⟨S4x8192x8x32, .f32⟩
  | .hbm, ⟨16, _⟩ => ⟨S4x8192x8x48, .f32⟩
  | .hbm, ⟨17, _⟩ => ⟨S4x8192x8x16, .f32⟩
  | .hbm, ⟨18, _⟩ => ⟨S4x8192x8x128, .f32⟩
  | .hbm, ⟨19, _⟩ => ⟨S4x8192x8x128, .bf16⟩
  | .hbm, ⟨20, _⟩ => ⟨S4x8x8192x128, .bf16⟩
  | .hbm, ⟨21, _⟩ => ⟨S4x8192x8x64, .bf16⟩
  | .hbm, ⟨22, _⟩ => ⟨S4x16x512x512, .bf16⟩
  | .hbm, ⟨23, _⟩ => ⟨S4x16x512x512, .bf16⟩
  | .hbm, ⟨24, _⟩ => ⟨S4x8192x512, .f32⟩
  | .local _ .vmem, ⟨0, _⟩ => ⟨S1x4x4x128x512, .f32⟩
  | .local _ .vmem, ⟨1, _⟩ => ⟨S1x4x4x128x512, .f32⟩
  | .local _ .vmem, ⟨2, _⟩ => ⟨S1x4x8192x128, .bf16⟩
  | .local _ .vmem, ⟨3, _⟩ => ⟨S1x4x8192x128, .bf16⟩
  | .local _ .vmem, ⟨4, _⟩ => ⟨S1x16x256x512, .bf16⟩
  | .local _ .vmem, ⟨5, _⟩ => ⟨S1x16x256x512, .bf16⟩
  | .local _ .vmem, ⟨6, _⟩ => ⟨S1x2048x256, .f32⟩
  | .local _ .vmem, ⟨7, _⟩ => ⟨S1x2048x256, .f32⟩
  | .local _ .vmem, ⟨8, _⟩ => ⟨S2x4x512x512, .f32⟩
  | .local _ .vmem, ⟨9, _⟩ => ⟨S2x4x512x512, .bf16⟩
  | .local _ .vmem, ⟨10, _⟩ => ⟨S2x4x1x512, .f32⟩
  | .local _ .vmem, ⟨11, _⟩ => ⟨S2x4x1x512, .f32⟩
  | .local _ .vmem, ⟨12, _⟩ => ⟨S4x80x512, .f32⟩
  | .local _ .vmem, ⟨13, _⟩ => ⟨S4x1x512, .f32⟩
  | _, _ => ⟨S4x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

@[reducible] def k0_t1_loop : Scf.Loop 32 :=
  let c1_i32 : BitVec 32 := 1#32
  let c63_i32 : BitVec 32 := 63#32
  let v73 : BitVec 32 := Scalar.addi c1_i32 c63_i32
  let c1_i32_84 : BitVec 32 := 1#32
  ⟨c1_i32, v73, c1_i32_84⟩
def k0_cond1 (k0_t1 : Fin k0_t1_loop.trips) : BitVec 1 :=
  let c1_i32 : BitVec 32 := 1#32
  let c1_i32_84 : BitVec 32 := 1#32
  let arg13 : BitVec 32 := Scf.iv c1_i32 c1_i32_84 k0_t1
  let c1_i32_282 : BitVec 32 := 1#32
  let v268 : BitVec 32 := Scalar.andi arg13 c1_i32_282
  let c0_i32 : BitVec 32 := 0#32
  let v269 : BitVec 1 := Scalar.cmpi .eq v268 c0_i32
  let v270 : BitVec 32 := Scalar.extui v269
  let c0_i32_283 : BitVec 32 := 0#32
  let v271 : BitVec 1 := Scalar.cmpi .ne v270 c0_i32_283
  v271

def k0_mult1 (k0_t1 : Fin k0_t1_loop.trips) : BitVec 32 :=
  let c1_i32 : BitVec 32 := 1#32
  let c1_i32_84 : BitVec 32 := 1#32
  let arg13 : BitVec 32 := Scf.iv c1_i32 c1_i32_84 k0_t1
  let c16_i32_287 : BitVec 32 := 16#32
  let v277 : BitVec 32 := Scalar.remsi arg13 c16_i32_287
  let c512_i32 : BitVec 32 := 512#32
  let v278 : BitVec 32 := Scalar.muli v277 c512_i32
  v278
def k0_off1 (k0_t1 : Fin k0_t1_loop.trips) : Fin 5 → Nat :=
  let c0_288 : Index := 0#32
  let c1_i32 : BitVec 32 := 1#32
  let c1_i32_84 : BitVec 32 := 1#32
  let arg13 : BitVec 32 := Scf.iv c1_i32 c1_i32_84 k0_t1
  let c16_i32 : BitVec 32 := 16#32
  let v276 : BitVec 32 := Scalar.divsi arg13 c16_i32
  let v280 : Index := Scalar.indexCast v276
  let c0_289 : Index := 0#32
  let c0_290 : Index := 0#32
  let c0_291 : Index := 0#32
  ![0, v280.toNat, 0, 0, 0]
def k0_off2 (k0_t1 : Fin k0_t1_loop.trips) : Fin 4 → Nat :=
  let c0_293 : Index := 0#32
  let c0_294 : Index := 0#32
  let c1_i32 : BitVec 32 := 1#32
  let c1_i32_84 : BitVec 32 := 1#32
  let arg13 : BitVec 32 := Scf.iv c1_i32 c1_i32_84 k0_t1
  let c16_i32_287 : BitVec 32 := 16#32
  let v277 : BitVec 32 := Scalar.remsi arg13 c16_i32_287
  let c512_i32 : BitVec 32 := 512#32
  let v278 : BitVec 32 := Scalar.muli v277 c512_i32
  let v279 : BitVec 32 := v278
  let v286 : Index := Scalar.indexCast v279
  let c0_295 : Index := 0#32
  ![0, 0, v286.toNat, 0]
def k0_off3 (k0_t1 : Fin k0_t1_loop.trips) : Fin 4 → Nat :=
  let c0_334 : Index := 0#32
  let c1_i32 : BitVec 32 := 1#32
  let c1_i32_84 : BitVec 32 := 1#32
  let arg13 : BitVec 32 := Scf.iv c1_i32 c1_i32_84 k0_t1
  let c1_i32_332 : BitVec 32 := 1#32
  let v325 : BitVec 32 := Scalar.subi arg13 c1_i32_332
  let c16_i32_333 : BitVec 32 := 16#32
  let v326 : BitVec 32 := Scalar.remsi v325 c16_i32_333
  let v327 : Index := Scalar.indexCast v326
  let c0_335 : Index := 0#32
  let c0_336 : Index := 0#32
  ![0, v327.toNat, 0, 0]
def k0_mult2 (k0_t1 : Fin k0_t1_loop.trips) : BitVec 32 :=
  let c1_i32 : BitVec 32 := 1#32
  let c1_i32_84 : BitVec 32 := 1#32
  let arg13 : BitVec 32 := Scf.iv c1_i32 c1_i32_84 k0_t1
  let c16_i32_353 : BitVec 32 := 16#32
  let v345 : BitVec 32 := Scalar.remsi arg13 c16_i32_353
  let c512_i32_354 : BitVec 32 := 512#32
  let v346 : BitVec 32 := Scalar.muli v345 c512_i32_354
  v346
def k0_off4 (k0_t1 : Fin k0_t1_loop.trips) : Fin 5 → Nat :=
  let c0_355 : Index := 0#32
  let c1_i32 : BitVec 32 := 1#32
  let c1_i32_84 : BitVec 32 := 1#32
  let arg13 : BitVec 32 := Scf.iv c1_i32 c1_i32_84 k0_t1
  let c16_i32_352 : BitVec 32 := 16#32
  let v344 : BitVec 32 := Scalar.divsi arg13 c16_i32_352
  let v348 : Index := Scalar.indexCast v344
  let c1_356 : Index := 1#32
  let c0_357 : Index := 0#32
  let c0_358 : Index := 0#32
  ![0, v348.toNat, 1, 0, 0]
def k0_off5 (k0_t1 : Fin k0_t1_loop.trips) : Fin 4 → Nat :=
  let c0_360 : Index := 0#32
  let c1_361 : Index := 1#32
  let c1_i32 : BitVec 32 := 1#32
  let c1_i32_84 : BitVec 32 := 1#32
  let arg13 : BitVec 32 := Scf.iv c1_i32 c1_i32_84 k0_t1
  let c16_i32_353 : BitVec 32 := 16#32
  let v345 : BitVec 32 := Scalar.remsi arg13 c16_i32_353
  let c512_i32_354 : BitVec 32 := 512#32
  let v346 : BitVec 32 := Scalar.muli v345 c512_i32_354
  let v347 : BitVec 32 := v346
  let v354 : Index := Scalar.indexCast v347
  let c0_362 : Index := 0#32
  ![0, 1, v354.toNat, 0]
def k0_off6 (k0_t1 : Fin k0_t1_loop.trips) : Fin 4 → Nat :=
  let c0_401 : Index := 0#32
  let c1_i32 : BitVec 32 := 1#32
  let c1_i32_84 : BitVec 32 := 1#32
  let arg13 : BitVec 32 := Scf.iv c1_i32 c1_i32_84 k0_t1
  let c1_i32_399 : BitVec 32 := 1#32
  let v393 : BitVec 32 := Scalar.subi arg13 c1_i32_399
  let c16_i32_400 : BitVec 32 := 16#32
  let v394 : BitVec 32 := Scalar.remsi v393 c16_i32_400
  let v395 : Index := Scalar.indexCast v394
  let c64_402 : Index := 64#32
  let c0_403 : Index := 0#32
  ![0, v395.toNat, 64, 0]
def k0_mult3 (k0_t1 : Fin k0_t1_loop.trips) : BitVec 32 :=
  let c1_i32 : BitVec 32 := 1#32
  let c1_i32_84 : BitVec 32 := 1#32
  let arg13 : BitVec 32 := Scf.iv c1_i32 c1_i32_84 k0_t1
  let c16_i32_420 : BitVec 32 := 16#32
  let v413 : BitVec 32 := Scalar.remsi arg13 c16_i32_420
  let c512_i32_421 : BitVec 32 := 512#32
  let v414 : BitVec 32 := Scalar.muli v413 c512_i32_421
  v414
def k0_off7 (k0_t1 : Fin k0_t1_loop.trips) : Fin 5 → Nat :=
  let c0_422 : Index := 0#32
  let c1_i32 : BitVec 32 := 1#32
  let c1_i32_84 : BitVec 32 := 1#32
  let arg13 : BitVec 32 := Scf.iv c1_i32 c1_i32_84 k0_t1
  let c16_i32_419 : BitVec 32 := 16#32
  let v412 : BitVec 32 := Scalar.divsi arg13 c16_i32_419
  let v416 : Index := Scalar.indexCast v412
  let c2_423 : Index := 2#32
  let c0_424 : Index := 0#32
  let c0_425 : Index := 0#32
  ![0, v416.toNat, 2, 0, 0]
def k0_off8 (k0_t1 : Fin k0_t1_loop.trips) : Fin 4 → Nat :=
  let c0_427 : Index := 0#32
  let c2_428 : Index := 2#32
  let c1_i32 : BitVec 32 := 1#32
  let c1_i32_84 : BitVec 32 := 1#32
  let arg13 : BitVec 32 := Scf.iv c1_i32 c1_i32_84 k0_t1
  let c16_i32_420 : BitVec 32 := 16#32
  let v413 : BitVec 32 := Scalar.remsi arg13 c16_i32_420
  let c512_i32_421 : BitVec 32 := 512#32
  let v414 : BitVec 32 := Scalar.muli v413 c512_i32_421
  let v415 : BitVec 32 := v414
  let v422 : Index := Scalar.indexCast v415
  let c0_429 : Index := 0#32
  ![0, 2, v422.toNat, 0]
def k0_off9 (k0_t1 : Fin k0_t1_loop.trips) : Fin 4 → Nat :=
  let c0_468 : Index := 0#32
  let c1_i32 : BitVec 32 := 1#32
  let c1_i32_84 : BitVec 32 := 1#32
  let arg13 : BitVec 32 := Scf.iv c1_i32 c1_i32_84 k0_t1
  let c1_i32_466 : BitVec 32 := 1#32
  let v461 : BitVec 32 := Scalar.subi arg13 c1_i32_466
  let c16_i32_467 : BitVec 32 := 16#32
  let v462 : BitVec 32 := Scalar.remsi v461 c16_i32_467
  let v463 : Index := Scalar.indexCast v462
  let c128_469 : Index := 128#32
  let c0_470 : Index := 0#32
  ![0, v463.toNat, 128, 0]
def k0_mult4 (k0_t1 : Fin k0_t1_loop.trips) : BitVec 32 :=
  let c1_i32 : BitVec 32 := 1#32
  let c1_i32_84 : BitVec 32 := 1#32
  let arg13 : BitVec 32 := Scf.iv c1_i32 c1_i32_84 k0_t1
  let c16_i32_487 : BitVec 32 := 16#32
  let v481 : BitVec 32 := Scalar.remsi arg13 c16_i32_487
  let c512_i32_488 : BitVec 32 := 512#32
  let v482 : BitVec 32 := Scalar.muli v481 c512_i32_488
  v482
def k0_off10 (k0_t1 : Fin k0_t1_loop.trips) : Fin 5 → Nat :=
  let c0_489 : Index := 0#32
  let c1_i32 : BitVec 32 := 1#32
  let c1_i32_84 : BitVec 32 := 1#32
  let arg13 : BitVec 32 := Scf.iv c1_i32 c1_i32_84 k0_t1
  let c16_i32_486 : BitVec 32 := 16#32
  let v480 : BitVec 32 := Scalar.divsi arg13 c16_i32_486
  let v484 : Index := Scalar.indexCast v480
  let c3_490 : Index := 3#32
  let c0_491 : Index := 0#32
  let c0_492 : Index := 0#32
  ![0, v484.toNat, 3, 0, 0]
def k0_off11 (k0_t1 : Fin k0_t1_loop.trips) : Fin 4 → Nat :=
  let c0_494 : Index := 0#32
  let c3_495 : Index := 3#32
  let c1_i32 : BitVec 32 := 1#32
  let c1_i32_84 : BitVec 32 := 1#32
  let arg13 : BitVec 32 := Scf.iv c1_i32 c1_i32_84 k0_t1
  let c16_i32_487 : BitVec 32 := 16#32
  let v481 : BitVec 32 := Scalar.remsi arg13 c16_i32_487
  let c512_i32_488 : BitVec 32 := 512#32
  let v482 : BitVec 32 := Scalar.muli v481 c512_i32_488
  let v483 : BitVec 32 := v482
  let v490 : Index := Scalar.indexCast v483
  let c0_496 : Index := 0#32
  ![0, 3, v490.toNat, 0]
def k0_off12 (k0_t1 : Fin k0_t1_loop.trips) : Fin 4 → Nat :=
  let c0_535 : Index := 0#32
  let c1_i32 : BitVec 32 := 1#32
  let c1_i32_84 : BitVec 32 := 1#32
  let arg13 : BitVec 32 := Scf.iv c1_i32 c1_i32_84 k0_t1
  let c1_i32_533 : BitVec 32 := 1#32
  let v529 : BitVec 32 := Scalar.subi arg13 c1_i32_533
  let c16_i32_534 : BitVec 32 := 16#32
  let v530 : BitVec 32 := Scalar.remsi v529 c16_i32_534
  let v531 : Index := Scalar.indexCast v530
  let c192_536 : Index := 192#32
  let c0_537 : Index := 0#32
  ![0, v531.toNat, 192, 0]
def k0_cond2 (k0_t1 : Fin k0_t1_loop.trips) : BitVec 1 :=
  let c1_i32 : BitVec 32 := 1#32
  let c1_i32_84 : BitVec 32 := 1#32
  let arg13 : BitVec 32 := Scf.iv c1_i32 c1_i32_84 k0_t1
  let c16_i32_553 : BitVec 32 := 16#32
  let v548 : BitVec 32 := Scalar.remsi arg13 c16_i32_553
  let c0_i32_554 : BitVec 32 := 0#32
  let v549 : BitVec 1 := Scalar.cmpi .eq v548 c0_i32_554
  let v551 : BitVec 32 := Scalar.extui v549
  let c0_i32_556 : BitVec 32 := 0#32
  let v552 : BitVec 1 := Scalar.cmpi .ne v551 c0_i32_556
  v552

def k0_mult5 (k0_t1 : Fin k0_t1_loop.trips) : BitVec 32 :=
  let c1_i32 : BitVec 32 := 1#32
  let c1_i32_84 : BitVec 32 := 1#32
  let arg13 : BitVec 32 := Scf.iv c1_i32 c1_i32_84 k0_t1
  let c1_i32_555 : BitVec 32 := 1#32
  let v550 : BitVec 32 := Scalar.subi arg13 c1_i32_555
  let c16_i32_557 : BitVec 32 := 16#32
  let v553 : BitVec 32 := Scalar.divsi v550 c16_i32_557
  let c512_i32_558 : BitVec 32 := 512#32
  let v554 : BitVec 32 := Scalar.muli v553 c512_i32_558
  v554
def k0_off13 (k0_t1 : Fin k0_t1_loop.trips) : Fin 3 → Nat :=
  let c0_571 : Index := 0#32
  let c1_i32 : BitVec 32 := 1#32
  let c1_i32_84 : BitVec 32 := 1#32
  let arg13 : BitVec 32 := Scf.iv c1_i32 c1_i32_84 k0_t1
  let c1_i32_555 : BitVec 32 := 1#32
  let v550 : BitVec 32 := Scalar.subi arg13 c1_i32_555
  let c16_i32_557 : BitVec 32 := 16#32
  let v553 : BitVec 32 := Scalar.divsi v550 c16_i32_557
  let c512_i32_558 : BitVec 32 := 512#32
  let v554 : BitVec 32 := Scalar.muli v553 c512_i32_558
  let v555 : BitVec 32 := v554
  let v570 : Index := Scalar.indexCast v555
  let c0_572 : Index := 0#32
  ![0, v570.toNat, 0]
def k0_off14 (k0_t1 : Fin k0_t1_loop.trips) : Fin 3 → Nat :=
  let c0_585 : Index := 0#32
  let c1_i32 : BitVec 32 := 1#32
  let c1_i32_84 : BitVec 32 := 1#32
  let arg13 : BitVec 32 := Scf.iv c1_i32 c1_i32_84 k0_t1
  let c1_i32_555 : BitVec 32 := 1#32
  let v550 : BitVec 32 := Scalar.subi arg13 c1_i32_555
  let c16_i32_557 : BitVec 32 := 16#32
  let v553 : BitVec 32 := Scalar.divsi v550 c16_i32_557
  let c512_i32_558 : BitVec 32 := 512#32
  let v554 : BitVec 32 := Scalar.muli v553 c512_i32_558
  let v555 : BitVec 32 := v554
  let v588 : Index := Scalar.indexCast v555
  let c128_586 : Index := 128#32
  ![0, v588.toNat, 128]
def k0_cond3 (k0_t1 : Fin k0_t1_loop.trips) : BitVec 1 :=
  let c1_i32 : BitVec 32 := 1#32
  let c1_i32_84 : BitVec 32 := 1#32
  let arg13 : BitVec 32 := Scf.iv c1_i32 c1_i32_84 k0_t1
  let c1_i32_284 : BitVec 32 := 1#32
  let v272 : BitVec 32 := Scalar.andi arg13 c1_i32_284
  let c1_i32_285 : BitVec 32 := 1#32
  let v273 : BitVec 1 := Scalar.cmpi .eq v272 c1_i32_285
  let v274 : BitVec 32 := Scalar.extui v273
  let c0_i32_286 : BitVec 32 := 0#32
  let v275 : BitVec 1 := Scalar.cmpi .ne v274 c0_i32_286
  v275

def k0_mult6 (k0_t1 : Fin k0_t1_loop.trips) : BitVec 32 :=
  let c1_i32 : BitVec 32 := 1#32
  let c1_i32_84 : BitVec 32 := 1#32
  let arg13 : BitVec 32 := Scf.iv c1_i32 c1_i32_84 k0_t1
  let c16_i32_287 : BitVec 32 := 16#32
  let v277 : BitVec 32 := Scalar.remsi arg13 c16_i32_287
  let c512_i32 : BitVec 32 := 512#32
  let v278 : BitVec 32 := Scalar.muli v277 c512_i32
  v278
def k0_off15 (k0_t1 : Fin k0_t1_loop.trips) : Fin 5 → Nat :=
  let c0_288 : Index := 0#32
  let c1_i32 : BitVec 32 := 1#32
  let c1_i32_84 : BitVec 32 := 1#32
  let arg13 : BitVec 32 := Scf.iv c1_i32 c1_i32_84 k0_t1
  let c16_i32 : BitVec 32 := 16#32
  let v276 : BitVec 32 := Scalar.divsi arg13 c16_i32
  let v280 : Index := Scalar.indexCast v276
  let c0_289 : Index := 0#32
  let c0_290 : Index := 0#32
  let c0_291 : Index := 0#32
  ![0, v280.toNat, 0, 0, 0]
def k0_off16 (k0_t1 : Fin k0_t1_loop.trips) : Fin 4 → Nat :=
  let c0_293 : Index := 0#32
  let c0_294 : Index := 0#32
  let c1_i32 : BitVec 32 := 1#32
  let c1_i32_84 : BitVec 32 := 1#32
  let arg13 : BitVec 32 := Scf.iv c1_i32 c1_i32_84 k0_t1
  let c16_i32_287 : BitVec 32 := 16#32
  let v277 : BitVec 32 := Scalar.remsi arg13 c16_i32_287
  let c512_i32 : BitVec 32 := 512#32
  let v278 : BitVec 32 := Scalar.muli v277 c512_i32
  let v279 : BitVec 32 := v278
  let v286 : Index := Scalar.indexCast v279
  let c0_295 : Index := 0#32
  ![0, 0, v286.toNat, 0]
def k0_off17 (k0_t1 : Fin k0_t1_loop.trips) : Fin 4 → Nat :=
  let c0_334 : Index := 0#32
  let c1_i32 : BitVec 32 := 1#32
  let c1_i32_84 : BitVec 32 := 1#32
  let arg13 : BitVec 32 := Scf.iv c1_i32 c1_i32_84 k0_t1
  let c1_i32_332 : BitVec 32 := 1#32
  let v325 : BitVec 32 := Scalar.subi arg13 c1_i32_332
  let c16_i32_333 : BitVec 32 := 16#32
  let v326 : BitVec 32 := Scalar.remsi v325 c16_i32_333
  let v327 : Index := Scalar.indexCast v326
  let c0_335 : Index := 0#32
  let c0_336 : Index := 0#32
  ![0, v327.toNat, 0, 0]
def k0_mult7 (k0_t1 : Fin k0_t1_loop.trips) : BitVec 32 :=
  let c1_i32 : BitVec 32 := 1#32
  let c1_i32_84 : BitVec 32 := 1#32
  let arg13 : BitVec 32 := Scf.iv c1_i32 c1_i32_84 k0_t1
  let c16_i32_353 : BitVec 32 := 16#32
  let v345 : BitVec 32 := Scalar.remsi arg13 c16_i32_353
  let c512_i32_354 : BitVec 32 := 512#32
  let v346 : BitVec 32 := Scalar.muli v345 c512_i32_354
  v346
def k0_off18 (k0_t1 : Fin k0_t1_loop.trips) : Fin 5 → Nat :=
  let c0_355 : Index := 0#32
  let c1_i32 : BitVec 32 := 1#32
  let c1_i32_84 : BitVec 32 := 1#32
  let arg13 : BitVec 32 := Scf.iv c1_i32 c1_i32_84 k0_t1
  let c16_i32_352 : BitVec 32 := 16#32
  let v344 : BitVec 32 := Scalar.divsi arg13 c16_i32_352
  let v348 : Index := Scalar.indexCast v344
  let c1_356 : Index := 1#32
  let c0_357 : Index := 0#32
  let c0_358 : Index := 0#32
  ![0, v348.toNat, 1, 0, 0]
def k0_off19 (k0_t1 : Fin k0_t1_loop.trips) : Fin 4 → Nat :=
  let c0_360 : Index := 0#32
  let c1_361 : Index := 1#32
  let c1_i32 : BitVec 32 := 1#32
  let c1_i32_84 : BitVec 32 := 1#32
  let arg13 : BitVec 32 := Scf.iv c1_i32 c1_i32_84 k0_t1
  let c16_i32_353 : BitVec 32 := 16#32
  let v345 : BitVec 32 := Scalar.remsi arg13 c16_i32_353
  let c512_i32_354 : BitVec 32 := 512#32
  let v346 : BitVec 32 := Scalar.muli v345 c512_i32_354
  let v347 : BitVec 32 := v346
  let v354 : Index := Scalar.indexCast v347
  let c0_362 : Index := 0#32
  ![0, 1, v354.toNat, 0]
def k0_off20 (k0_t1 : Fin k0_t1_loop.trips) : Fin 4 → Nat :=
  let c0_401 : Index := 0#32
  let c1_i32 : BitVec 32 := 1#32
  let c1_i32_84 : BitVec 32 := 1#32
  let arg13 : BitVec 32 := Scf.iv c1_i32 c1_i32_84 k0_t1
  let c1_i32_399 : BitVec 32 := 1#32
  let v393 : BitVec 32 := Scalar.subi arg13 c1_i32_399
  let c16_i32_400 : BitVec 32 := 16#32
  let v394 : BitVec 32 := Scalar.remsi v393 c16_i32_400
  let v395 : Index := Scalar.indexCast v394
  let c64_402 : Index := 64#32
  let c0_403 : Index := 0#32
  ![0, v395.toNat, 64, 0]
def k0_mult8 (k0_t1 : Fin k0_t1_loop.trips) : BitVec 32 :=
  let c1_i32 : BitVec 32 := 1#32
  let c1_i32_84 : BitVec 32 := 1#32
  let arg13 : BitVec 32 := Scf.iv c1_i32 c1_i32_84 k0_t1
  let c16_i32_420 : BitVec 32 := 16#32
  let v413 : BitVec 32 := Scalar.remsi arg13 c16_i32_420
  let c512_i32_421 : BitVec 32 := 512#32
  let v414 : BitVec 32 := Scalar.muli v413 c512_i32_421
  v414
def k0_off21 (k0_t1 : Fin k0_t1_loop.trips) : Fin 5 → Nat :=
  let c0_422 : Index := 0#32
  let c1_i32 : BitVec 32 := 1#32
  let c1_i32_84 : BitVec 32 := 1#32
  let arg13 : BitVec 32 := Scf.iv c1_i32 c1_i32_84 k0_t1
  let c16_i32_419 : BitVec 32 := 16#32
  let v412 : BitVec 32 := Scalar.divsi arg13 c16_i32_419
  let v416 : Index := Scalar.indexCast v412
  let c2_423 : Index := 2#32
  let c0_424 : Index := 0#32
  let c0_425 : Index := 0#32
  ![0, v416.toNat, 2, 0, 0]
def k0_off22 (k0_t1 : Fin k0_t1_loop.trips) : Fin 4 → Nat :=
  let c0_427 : Index := 0#32
  let c2_428 : Index := 2#32
  let c1_i32 : BitVec 32 := 1#32
  let c1_i32_84 : BitVec 32 := 1#32
  let arg13 : BitVec 32 := Scf.iv c1_i32 c1_i32_84 k0_t1
  let c16_i32_420 : BitVec 32 := 16#32
  let v413 : BitVec 32 := Scalar.remsi arg13 c16_i32_420
  let c512_i32_421 : BitVec 32 := 512#32
  let v414 : BitVec 32 := Scalar.muli v413 c512_i32_421
  let v415 : BitVec 32 := v414
  let v422 : Index := Scalar.indexCast v415
  let c0_429 : Index := 0#32
  ![0, 2, v422.toNat, 0]
def k0_off23 (k0_t1 : Fin k0_t1_loop.trips) : Fin 4 → Nat :=
  let c0_468 : Index := 0#32
  let c1_i32 : BitVec 32 := 1#32
  let c1_i32_84 : BitVec 32 := 1#32
  let arg13 : BitVec 32 := Scf.iv c1_i32 c1_i32_84 k0_t1
  let c1_i32_466 : BitVec 32 := 1#32
  let v461 : BitVec 32 := Scalar.subi arg13 c1_i32_466
  let c16_i32_467 : BitVec 32 := 16#32
  let v462 : BitVec 32 := Scalar.remsi v461 c16_i32_467
  let v463 : Index := Scalar.indexCast v462
  let c128_469 : Index := 128#32
  let c0_470 : Index := 0#32
  ![0, v463.toNat, 128, 0]
def k0_mult9 (k0_t1 : Fin k0_t1_loop.trips) : BitVec 32 :=
  let c1_i32 : BitVec 32 := 1#32
  let c1_i32_84 : BitVec 32 := 1#32
  let arg13 : BitVec 32 := Scf.iv c1_i32 c1_i32_84 k0_t1
  let c16_i32_487 : BitVec 32 := 16#32
  let v481 : BitVec 32 := Scalar.remsi arg13 c16_i32_487
  let c512_i32_488 : BitVec 32 := 512#32
  let v482 : BitVec 32 := Scalar.muli v481 c512_i32_488
  v482
def k0_off24 (k0_t1 : Fin k0_t1_loop.trips) : Fin 5 → Nat :=
  let c0_489 : Index := 0#32
  let c1_i32 : BitVec 32 := 1#32
  let c1_i32_84 : BitVec 32 := 1#32
  let arg13 : BitVec 32 := Scf.iv c1_i32 c1_i32_84 k0_t1
  let c16_i32_486 : BitVec 32 := 16#32
  let v480 : BitVec 32 := Scalar.divsi arg13 c16_i32_486
  let v484 : Index := Scalar.indexCast v480
  let c3_490 : Index := 3#32
  let c0_491 : Index := 0#32
  let c0_492 : Index := 0#32
  ![0, v484.toNat, 3, 0, 0]
def k0_off25 (k0_t1 : Fin k0_t1_loop.trips) : Fin 4 → Nat :=
  let c0_494 : Index := 0#32
  let c3_495 : Index := 3#32
  let c1_i32 : BitVec 32 := 1#32
  let c1_i32_84 : BitVec 32 := 1#32
  let arg13 : BitVec 32 := Scf.iv c1_i32 c1_i32_84 k0_t1
  let c16_i32_487 : BitVec 32 := 16#32
  let v481 : BitVec 32 := Scalar.remsi arg13 c16_i32_487
  let c512_i32_488 : BitVec 32 := 512#32
  let v482 : BitVec 32 := Scalar.muli v481 c512_i32_488
  let v483 : BitVec 32 := v482
  let v490 : Index := Scalar.indexCast v483
  let c0_496 : Index := 0#32
  ![0, 3, v490.toNat, 0]
def k0_off26 (k0_t1 : Fin k0_t1_loop.trips) : Fin 4 → Nat :=
  let c0_535 : Index := 0#32
  let c1_i32 : BitVec 32 := 1#32
  let c1_i32_84 : BitVec 32 := 1#32
  let arg13 : BitVec 32 := Scf.iv c1_i32 c1_i32_84 k0_t1
  let c1_i32_533 : BitVec 32 := 1#32
  let v529 : BitVec 32 := Scalar.subi arg13 c1_i32_533
  let c16_i32_534 : BitVec 32 := 16#32
  let v530 : BitVec 32 := Scalar.remsi v529 c16_i32_534
  let v531 : Index := Scalar.indexCast v530
  let c192_536 : Index := 192#32
  let c0_537 : Index := 0#32
  ![0, v531.toNat, 192, 0]
def k0_cond4 (k0_t1 : Fin k0_t1_loop.trips) : BitVec 1 :=
  let c1_i32 : BitVec 32 := 1#32
  let c1_i32_84 : BitVec 32 := 1#32
  let arg13 : BitVec 32 := Scf.iv c1_i32 c1_i32_84 k0_t1
  let c16_i32_553 : BitVec 32 := 16#32
  let v548 : BitVec 32 := Scalar.remsi arg13 c16_i32_553
  let c0_i32_554 : BitVec 32 := 0#32
  let v549 : BitVec 1 := Scalar.cmpi .eq v548 c0_i32_554
  let v551 : BitVec 32 := Scalar.extui v549
  let c0_i32_556 : BitVec 32 := 0#32
  let v552 : BitVec 1 := Scalar.cmpi .ne v551 c0_i32_556
  v552

def k0_mult10 (k0_t1 : Fin k0_t1_loop.trips) : BitVec 32 :=
  let c1_i32 : BitVec 32 := 1#32
  let c1_i32_84 : BitVec 32 := 1#32
  let arg13 : BitVec 32 := Scf.iv c1_i32 c1_i32_84 k0_t1
  let c1_i32_555 : BitVec 32 := 1#32
  let v550 : BitVec 32 := Scalar.subi arg13 c1_i32_555
  let c16_i32_557 : BitVec 32 := 16#32
  let v553 : BitVec 32 := Scalar.divsi v550 c16_i32_557
  let c512_i32_558 : BitVec 32 := 512#32
  let v554 : BitVec 32 := Scalar.muli v553 c512_i32_558
  v554
def k0_off27 (k0_t1 : Fin k0_t1_loop.trips) : Fin 3 → Nat :=
  let c0_571 : Index := 0#32
  let c1_i32 : BitVec 32 := 1#32
  let c1_i32_84 : BitVec 32 := 1#32
  let arg13 : BitVec 32 := Scf.iv c1_i32 c1_i32_84 k0_t1
  let c1_i32_555 : BitVec 32 := 1#32
  let v550 : BitVec 32 := Scalar.subi arg13 c1_i32_555
  let c16_i32_557 : BitVec 32 := 16#32
  let v553 : BitVec 32 := Scalar.divsi v550 c16_i32_557
  let c512_i32_558 : BitVec 32 := 512#32
  let v554 : BitVec 32 := Scalar.muli v553 c512_i32_558
  let v555 : BitVec 32 := v554
  let v570 : Index := Scalar.indexCast v555
  let c0_572 : Index := 0#32
  ![0, v570.toNat, 0]
def k0_off28 (k0_t1 : Fin k0_t1_loop.trips) : Fin 3 → Nat :=
  let c0_585 : Index := 0#32
  let c1_i32 : BitVec 32 := 1#32
  let c1_i32_84 : BitVec 32 := 1#32
  let arg13 : BitVec 32 := Scf.iv c1_i32 c1_i32_84 k0_t1
  let c1_i32_555 : BitVec 32 := 1#32
  let v550 : BitVec 32 := Scalar.subi arg13 c1_i32_555
  let c16_i32_557 : BitVec 32 := 16#32
  let v553 : BitVec 32 := Scalar.divsi v550 c16_i32_557
  let c512_i32_558 : BitVec 32 := 512#32
  let v554 : BitVec 32 := Scalar.muli v553 c512_i32_558
  let v555 : BitVec 32 := v554
  let v588 : Index := Scalar.indexCast v555
  let c128_586 : Index := 128#32
  ![0, v588.toNat, 128]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x4x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | "qscale" => some (((3424635 / 33554432) * (Real.log 2)⁻¹ : ℝ) : EReal)
  | _ => none
-- ==== ReferenceIdeal.lean ====
abbrev S4x8192x8x96 : Shape := ⟨4, ![4, 8192, 8, 96]⟩
abbrev S4x8192x8x64 : Shape := ⟨4, ![4, 8192, 8, 64]⟩
abbrev S4x8x8192x8192 : Shape := ⟨4, ![4, 8, 8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S4x8192x512 : Shape := ⟨3, ![4, 8192, 512]⟩

abbrev nBuf : Space → Nat
  | .hbm => 24
  | .vmem => 0
  | .smem => 0
  | _ => 0

abbrev bufTy : (tb : Table) → Fin (tcTables nBuf tb) → BufTy
  | .hbm, ⟨0, _⟩ => ⟨S4x8192x8x96, .f32⟩
  | .hbm, ⟨1, _⟩ => ⟨S4x8192x8x96, .f32⟩
  | .hbm, ⟨2, _⟩ => ⟨S4x8192x8x64, .f32⟩
  | .hbm, ⟨3, _⟩ => ⟨S4x8x8192x8192, .f32⟩
  | .hbm, ⟨4, _⟩ => ⟨S_, .f32⟩
  | .hbm, ⟨5, _⟩ => ⟨S4x8x8192x8192, .f32⟩
  | .hbm, ⟨6, _⟩ => ⟨S4x8x8192x8192, .f32⟩
  | .hbm, ⟨7, _⟩ => ⟨S_, .f32⟩
  | .hbm, ⟨8, _⟩ => ⟨S4x8x8192, .f32⟩
  | .hbm, ⟨9, _⟩ => ⟨S_, .f32⟩
  | .hbm, ⟨10, _⟩ => ⟨S4x8x8192, .f32⟩
  | .hbm, ⟨11, _⟩ => ⟨S4x8x8192, .f32⟩
  | .hbm, ⟨12, _⟩ => ⟨S4x8x8192x1, .f32⟩
  | .hbm, ⟨13, _⟩ => ⟨S4x8x8192x8192, .f32⟩
  | .hbm, ⟨14, _⟩ => ⟨S4x8x8192x8192, .f32⟩
  | .hbm, ⟨15, _⟩ => ⟨S4x8x8192x8192, .f32⟩
  | .hbm, ⟨16, _⟩ => ⟨S_, .f32⟩
  | .hbm, ⟨17, _⟩ => ⟨S4x8x8192, .f32⟩
  | .hbm, ⟨18, _⟩ => ⟨S4x8x8192x1, .f32⟩
  | .hbm, ⟨19, _⟩ => ⟨S4x8x8192x8192, .f32⟩
  | .hbm, ⟨20, _⟩ => ⟨S4x8x8192x8192, .f32⟩
  | .hbm, ⟨21, _⟩ => ⟨S4x8x64x8192, .f32⟩
  | .hbm, ⟨22, _⟩ => ⟨S4x8192x8x64, .f32⟩
  | .hbm, ⟨23, _⟩ => ⟨S4x8192x512, .f32⟩
  | _, _ => ⟨S4x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S1x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x8192x1024 : Shape := ⟨3, ![4, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S4x8192x5632, .f32⟩
  | .hbm, ⟨21, _⟩ => ⟨S4x8192x2816, .f32⟩
  | .hbm, ⟨22, _⟩ => ⟨S4x8192x2816, .f32⟩
  | .hbm, ⟨23, _⟩ => ⟨S4x8192x2816, .f32⟩
  | .hbm, ⟨24, _⟩ => ⟨S4x8192x2816, .f32⟩
  | .hbm, ⟨25, _⟩ => ⟨S_, .f32⟩
  | .hbm, ⟨26, _⟩ => ⟨S4x8192x2816, .f32⟩
  | .hbm, ⟨27, _⟩ => ⟨S4x8192x2816, .f32⟩
  | .hbm, ⟨28, _⟩ => ⟨S_, .f32⟩
  | .hbm, ⟨29, _⟩ => ⟨S4x8192x2816, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S4x8192x1024, .f32⟩
  | .hbm, ⟨34, _⟩ => ⟨S_, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S512 : Shape := ⟨1, ![512]⟩
abbrev S1024x1024 : Shape := ⟨2, ![1024, 1024]⟩
abbrev S1024 : Shape := ⟨1, ![1024]⟩
abbrev S1024x256 : Shape := ⟨2, ![1024, 256]⟩
abbrev S64 : Shape := ⟨1, ![64]⟩
abbrev S4x256x4x64 : Shape := ⟨4, ![4, 256, 4, 64]⟩
abbrev S256x1024 : Shape := ⟨2, ![256, 1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S1x512 : Shape := ⟨2, ![1, 512]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S4x1x4x1 : Shape := ⟨4, ![4, 1, 4, 1]⟩
abbrev S4x64x4x64 : Shape := ⟨4, ![4, 64, 4, 64]⟩
abbrev S256x256 : Shape := ⟨2, ![256, 256]⟩
abbrev S1x4x1x4x1 : Shape := ⟨5, ![1, 4, 1, 4, 1]⟩
abbrev S4x4x256x4x64 : Shape := ⟨5, ![4, 4, 256, 4, 64]⟩
abbrev S4x1x256x4x64 : Shape := ⟨5, ![4, 1, 256, 4, 64]⟩
abbrev S_ : Shape := ⟨0, ![]⟩
abbrev S4x4x256x256 : Shape := ⟨4, ![4, 4, 256, 256]⟩
abbrev S1x512x1024 : Shape := ⟨3, ![1, 512, 1024]⟩
abbrev S1x512x512 : Shape := ⟨3, ![1, 512, 512]⟩
abbrev S1x512x256 : Shape := ⟨3, ![1, 512, 256]⟩
abbrev S1x4x256x256 : Shape := ⟨4, ![1, 4, 256, 256]⟩
abbrev S512x512 : Shape := ⟨2, ![512, 512]⟩
abbrev S512x1 : Shape := ⟨2, ![512, 1]⟩
abbrev S512x256 : Shape := ⟨2, ![512, 256]⟩
abbrev S512x1024 : Shape := ⟨2, ![512, 1024]⟩
abbrev S1x1x256x256 : Shape := ⟨4, ![1, 1, 256, 256]⟩
abbrev S512x2816 : Shape := ⟨2, ![512, 2816]⟩

abbrev nBuf : Space → Nat
  | .hbm => 64
  | .vmem => 26
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x256, .f32⟩
  | .hbm, ⟨3, _⟩ => ⟨S4x8192x256, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x256, .f32⟩
  | .hbm, ⟨8, _⟩ => ⟨S64, .f32⟩
  | .hbm, ⟨9, _⟩ => ⟨S4x256x4x64, .f32⟩
  | .hbm, ⟨10, _⟩ => ⟨S4x256x4x64, .f32⟩
  | .hbm, ⟨11, _⟩ => ⟨S256x1024, .f32⟩
  | .hbm, ⟨12, _⟩ => ⟨S1024, .f32⟩
  | .hbm, ⟨13, _⟩ => ⟨S1024x5632, .f32⟩
  | .hbm, ⟨14, _⟩ => ⟨S2816x1024, .f32⟩
  | .hbm, ⟨15, _⟩ => ⟨S1024, .f32⟩
  | .hbm, ⟨16, _⟩ => ⟨S1x1024, .f32⟩
  | .hbm, ⟨17, _⟩ => ⟨S1024x2816, .f32⟩
  | .hbm, ⟨18, _⟩ => ⟨S1024x2816, .bf16⟩
  | .hbm, ⟨19, _⟩ => ⟨S1024x2816, .f32⟩
  | .hbm, ⟨20, _⟩ => ⟨S1024x2816, .bf16⟩
  | .hbm, ⟨21, _⟩ => ⟨S2816x1024, .bf16⟩
  | .hbm, ⟨22, _⟩ => ⟨S1x512, .f32⟩
  | .hbm, ⟨23, _⟩ => ⟨S1024x1024, .bf16⟩
  | .hbm, ⟨24, _⟩ => ⟨S1x1024, .f32⟩
  | .hbm, ⟨25, _⟩ => ⟨S1024x256, .bf16⟩
  | .hbm, ⟨26, _⟩ => ⟨S1x64, .f32⟩
  | .hbm, ⟨27, _⟩ => ⟨S1x1x1x64, .f32⟩
  | .hbm, ⟨28, _⟩ => ⟨S1x1x4x64, .f32⟩
  | .hbm, ⟨29, _⟩ => ⟨S1x256, .f32⟩
  | .hbm, ⟨30, _⟩ => ⟨S256x1024, .bf16⟩
  | .hbm, ⟨31, _⟩ => ⟨S1x1024, .f32⟩
  | .hbm, ⟨32, _⟩ => ⟨S4x1x4x1, .i32⟩
  | .hbm, ⟨33, _⟩ => ⟨S4x1x4x1, .i32⟩
  | .hbm, ⟨34, _⟩ => ⟨S4x1x4x1, .i1⟩
  | .hbm, ⟨35, _⟩ => ⟨S4x64x4x64, .i1⟩
  | .hbm, ⟨36, _⟩ => ⟨S256x256, .i1⟩
  | .hbm, ⟨37, _⟩ => ⟨S256x256, .f32⟩
  | .hbm, ⟨38, _⟩ => ⟨S256x256, .bf16⟩
  | .hbm, ⟨39, _⟩ => ⟨S4x8192x256, .bf16⟩
  | .hbm, ⟨40, _⟩ => ⟨S4x8192x256, .bf16⟩
  | .hbm, ⟨41, _⟩ => ⟨S1x4x1x4x1, .i32⟩
  | .hbm, ⟨42, _⟩ => ⟨S1x4x1x4x1, .i32⟩
  | .hbm, ⟨43, _⟩ => ⟨S1x4x1x4x1, .i1⟩
  | .hbm, ⟨44, _⟩ => ⟨S4x4x256x4x64, .i1⟩
  | .hbm, ⟨45, _⟩ => ⟨S4x1x256x4x64, .f32⟩
  | .hbm, ⟨46, _⟩ => ⟨S4x4x256x4x64, .f32⟩
  | .hbm, ⟨47, _⟩ => ⟨S_, .f32⟩
  | .hbm, ⟨48, _⟩ => ⟨S4x4x256x4x64, .f32⟩
  | .hbm, ⟨49, _⟩ => ⟨S4x4x256x4x64, .f32⟩
  | .hbm, ⟨50, _⟩ => ⟨S4x4x256x256, .f32⟩
  | .hbm, ⟨51, _⟩ => ⟨S4x4x256x256, .bf16⟩
  | .hbm, ⟨52, _⟩ => ⟨S1x4x1x4x1, .i32⟩
  | .hbm, ⟨53, _⟩ => ⟨S1x4x1x4x1, .i32⟩
  | .hbm, ⟨54, _⟩ => ⟨S1x4x1x4x1, .i1⟩
  | .hbm, ⟨55, _⟩ => ⟨S4x4x256x4x64, .i1⟩
  | .hbm, ⟨56, _⟩ => ⟨S4x1x256x4x64, .f32⟩
  | .hbm, ⟨57, _⟩ => ⟨S4x4x256x4x64, .f32⟩
  | .hbm, ⟨58, _⟩ => ⟨S_, .f32⟩
  | .hbm, ⟨59, _⟩ => ⟨S4x4x256x4x64, .f32⟩
  | .hbm, ⟨60, _⟩ => ⟨S4x4x256x4x64, .f32⟩
  | .hbm, ⟨61, _⟩ => ⟨S4x4x256x256, .f32⟩
  | .hbm, ⟨62, _⟩ => ⟨S4x4x256x256, .bf16⟩
  | .hbm, ⟨63, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1024x256, .bf16⟩
  | .local _ .vmem, ⟨12, _⟩ => ⟨S1x256, .f32⟩
  | .local _ .vmem, ⟨13, _⟩ => ⟨S256x256, .bf16⟩
  | .local _ .vmem, ⟨14, _⟩ => ⟨S1x4x256x256, .bf16⟩
  | .local _ .vmem, ⟨15, _⟩ => ⟨S1x4x256x256, .bf16⟩
  | .local _ .vmem, ⟨16, _⟩ => ⟨S1x4x256x256, .bf16⟩
  | .local _ .vmem, ⟨17, _⟩ => ⟨S1x4x256x256, .bf16⟩
  | .local _ .vmem, ⟨18, _⟩ => ⟨S256x1024, .bf16⟩
  | .local _ .vmem, ⟨19, _⟩ => ⟨S1x1024, .f32⟩
  | .local _ .vmem, ⟨20, _⟩ => ⟨S1024x2816, .bf16⟩
  | .local _ .vmem, ⟨21, _⟩ => ⟨S1024x2816, .bf16⟩
  | .local _ .vmem, ⟨22, _⟩ => ⟨S2816x1024, .bf16⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_0 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x2816 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S4x8192x1024 : Shape := ⟨3, ![4, 8192, 1024]⟩
abbrev S4x8192x512 : Shape := ⟨3, ![4, 8192, 512]⟩
abbrev S4x8192x256 : Shape := ⟨3, ![4, 8192, 256]⟩
abbrev S512 : Shape := ⟨1, ![512]⟩
abbrev S1024x1024 : Shape := ⟨2, ![1024, 1024]⟩
abbrev S1024 : Shape := ⟨1, ![1024]⟩
abbrev S1024x256 : Shape := ⟨2, ![1024, 256]⟩
abbrev S64 : Shape := ⟨1, ![64]⟩
abbrev S4x256x4x64 : Shape := ⟨4, ![4, 256, 4, 64]⟩
abbrev S256x1024 : Shape := ⟨2, ![256, 1024]⟩
abbrev S1024x5632 : Shape := ⟨2, ![1024, 5632]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x512 : Shape := ⟨3, ![1, 1, 512]⟩
abbrev S1x1x1024 : Shape := ⟨3, ![1, 1, 1024]⟩
abbrev S4x8192x4x64 : Shape := ⟨4, ![4, 8192, 4, 64]⟩
abbrev S4x8192x4 : Shape := ⟨3, ![4, 8192, 4]⟩
abbrev S4x8192x4x1 : Shape := ⟨4, ![4, 8192, 4, 1]⟩
abbrev S1x1x1x64 : Shape := ⟨4, ![1, 1, 1, 64]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩
abbrev S4x8192x5632 : Shape := ⟨3, ![4, 8192, 5632]⟩
abbrev S4x8192x2816 : Shape := ⟨3, ![4, 8192, 2816]⟩

abbrev nBuf : Space → Nat
  | .hbm => 142
  | .vmem => 0
  | .smem => 0
  | _ => 0

abbrev hbmTy0_0 (i : Nat) : BufTy := match i % 128 with
  | 0 => ⟨S4x8192x1024, .f32⟩
  | 1 => ⟨S4x8192x512, .f32⟩
  | 2 => ⟨S4x8192x256, .f32⟩
  | 3 => ⟨S4x8192x256, .f32⟩
  | 4 => ⟨S512, .f32⟩
  | 5 => ⟨S1024x1024, .f32⟩
  | 6 => ⟨S1024, .f32⟩
  | 7 => ⟨S1024x256, .f32⟩
  | 8 => ⟨S64, .f32⟩
  | 9 => ⟨S4x256x4x64, .f32⟩
  | 10 => ⟨S4x256x4x64, .f32⟩
  | 11 => ⟨S256x1024, .f32⟩
  | 12 => ⟨S1024, .f32⟩
  | 13 => ⟨S1024x5632, .f32⟩
  | 14 => ⟨S2816x1024, .f32⟩
  | 15 => ⟨S1024, .f32⟩
  | 16 => ⟨S4x8192x512, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S_, .f32⟩
  | 24 => ⟨S4x8192x1, .f32⟩
  | 25 => ⟨S4x8192x1, .f32⟩
  | 26 => ⟨S4x8192x1, .f32⟩
  | 27 => ⟨S4x8192x512, .f32⟩
  | 28 => ⟨S4x8192x512, .f32⟩
  | 29 => ⟨S1x1x512, .f32⟩
  | 30 => ⟨S4x8192x512, .f32⟩
  | 31 => ⟨S4x8192x512, .f32⟩
  | 32 => ⟨S4x8192x1024, .f32⟩
  | 33 => ⟨S4x8192x1024, .f32⟩
  | 34 => ⟨S4x8192x1024, .f32⟩
  | 35 => ⟨S4x8192x1024, .f32⟩
  | 36 => ⟨S_, .f32⟩
  | 37 => ⟨S4x8192, .f32⟩
  | 38 => ⟨S4x8192x1, .f32⟩
  | 39 => ⟨S_, .f32⟩
  | 40 => ⟨S4x8192x1, .f32⟩
  | 41 => ⟨S4x8192x1, .f32⟩
  | 42 => ⟨S_, .f32⟩
  | 43 => ⟨S4x8192x1, .f32⟩
  | 44 => ⟨S4x8192x1, .f32⟩
  | 45 => ⟨S4x8192x1, .f32⟩
  | 46 => ⟨S4x8192x1024, .f32⟩
  | 47 => ⟨S4x8192x1024, .f32⟩
  | 48 => ⟨S1x1x1024, .f32⟩
  | 49 => ⟨S4x8192x1024, .f32⟩
  | 50 => ⟨S4x8192x1024, .f32⟩
  | 51 => ⟨S4x8192x256, .f32⟩
  | 52 => ⟨S4x8192x4x64, .f32⟩
  | 53 => ⟨S4x8192x4x64, .f32⟩
  | 54 => ⟨S_, .f32⟩
  | 55 => ⟨S4x8192x4, .f32⟩
  | 56 => ⟨S4x8192x4x1, .f32⟩
  | 57 => ⟨S_, .f32⟩
  | 58 => ⟨S4x8192x4x1, .f32⟩
  | 59 => ⟨S4x8192x4x1, .f32⟩
  | 60 => ⟨S_, .f32⟩
  | 61 => ⟨S4x8192x4x1, .f32⟩
  | 62 => ⟨S4x8192x4x1, .f32⟩
  | 63 => ⟨S4x8192x4x1, .f32⟩
  | 64 => ⟨S4x8192x4x64, .f32⟩
  | 65 => ⟨S4x8192x4x64, .f32⟩
  | 66 => ⟨S1x1x1x64, .f32⟩
  | 67 => ⟨S4x8192x4x64, .f32⟩
  | 68 => ⟨S4x8192x4x64, .f32⟩
  | 69 => ⟨S4x4x8192x256, .f32⟩
  | 70 => ⟨S_, .f32⟩
  | 71 => ⟨S4x4x8192x256, .f32⟩
  | 72 => ⟨S4x4x8192x256, .f32⟩
  | 73 => ⟨S_, .f32⟩
  | 74 => ⟨S4x4x8192, .f32⟩
  | 75 => ⟨S_, .f32⟩
  | 76 => ⟨S4x4x8192, .f32⟩
  | 77 => ⟨S4x4x8192, .f32⟩
  | 78 => ⟨S4x4x8192x1, .f32⟩
  | 79 => ⟨S4x4x8192x256, .f32⟩
  | 80 => ⟨S4x4x8192x256, .f32⟩
  | 81 => ⟨S4x4x8192x256, .f32⟩
  | 82 => ⟨S_, .f32⟩
  | 83 => ⟨S4x4x8192, .f32⟩
  | 84 => ⟨S4x4x8192x1, .f32⟩
  | 85 => ⟨S4x4x8192x256, .f32⟩
  | 86 => ⟨S4x4x8192x256, .f32⟩
  | 87 => ⟨S4x4x64x8192, .f32⟩
  | 88 => ⟨S4x8192x4x64, .f32⟩
  | 89 => ⟨S4x8192x256, .f32⟩
  | 90 => ⟨S4x8192x1024, .f32⟩
  | 91 => ⟨S4x8192x1024, .f32⟩
  | 92 => ⟨S4x8192x1024, .f32⟩
  | 93 => ⟨S_, .f32⟩
  | 94 => ⟨S4x8192, .f32⟩
  | 95 => ⟨S4x8192x1, .f32⟩
  | 96 => ⟨S_, .f32⟩
  | 97 => ⟨S4x8192x1, .f32⟩
  | 98 => ⟨S4x8192x1, .f32⟩
  | 99 => ⟨S_, .f32⟩
  | 100 => ⟨S4x8192x1, .f32⟩
  | 101 => ⟨S4x8192x1, .f32⟩
  | 102 => ⟨S4x8192x1, .f32⟩
  | 103 => ⟨S4x8192x1024, .f32⟩
  | 104 => ⟨S4x8192x1024, .f32⟩
  | 105 => ⟨S1x1x1024, .f32⟩
  | 106 => ⟨S4x8192x1024, .f32⟩
  | 107 => ⟨S4x8192x1024, .f32⟩
  | 108 => ⟨S4x8192x5632, .f32⟩
  | 109 => ⟨S4x8192x2816, .f32⟩
  | 110 => ⟨S4x8192x2816, .f32⟩
  | 111 => ⟨S4x8192x2816, .f32⟩
  | 112 => ⟨S4x8192x2816, .f32⟩
  | 113 => ⟨S_, .f32⟩
  | 114 => ⟨S4x8192x2816, .f32⟩
  | 115 => ⟨S4x8192x2816, .f32⟩
  | 116 => ⟨S_, .f32⟩
  | 117 => ⟨S4x8192x2816, .f32⟩
  | 118 => ⟨S4x8192x2816, .f32⟩
  | 119 => ⟨S4x8192x2816, .f32⟩
  | 120 => ⟨S4x8192x2816, .f32⟩
  | 121 => ⟨S4x8192x1024, .f32⟩
  | 122 => ⟨S_, .f32⟩
  | 123 => ⟨S4x8192x1024, .f32⟩
  | 124 => ⟨S4x8192x1024, .f32⟩
  | 125 => ⟨S4x8192x1024, .f32⟩
  | 126 => ⟨S4x8192x1024, .f32⟩
  | 127 => ⟨S_, .f32⟩
  | _ => ⟨S4x8192x1024, .f32⟩

abbrev hbmTy0_1 (i : Nat) : BufTy := match i % 128 with
  | 0 => ⟨S4x8192, .f32⟩
  | 1 => ⟨S4x8192x1, .f32⟩
  | 2 => ⟨S_, .f32⟩
  | 3 => ⟨S4x8192x1, .f32⟩
  | 4 => ⟨S4x8192x1, .f32⟩
  | 5 => ⟨S_, .f32⟩
  | 6 => ⟨S4x8192x1, .f32⟩
  | 7 => ⟨S4x8192x1, .f32⟩
  | 8 => ⟨S4x8192x1, .f32⟩
  | 9 => ⟨S4x8192x1024, .f32⟩
  | 10 => ⟨S4x8192x1024, .f32⟩
  | 11 => ⟨S1x1x1024, .f32⟩
  | 12 => ⟨S4x8192x1024, .f32⟩
  | 13 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_call0_v0 : Ref sig .tc := ⟨.hbm, 111, rfl⟩
abbrev main_call0_v1 : Ref sig .tc := ⟨.hbm, 112, rfl⟩
abbrev main_call0_cst : Ref sig .tc := ⟨.hbm, 113, rfl⟩
abbrev main_call0_v2 : Ref sig .tc := ⟨.hbm, 114, rfl⟩
abbrev main_call0_v3 : Ref sig .tc := ⟨.hbm, 115, rfl⟩
abbrev main_call0_cst_0 : Ref sig .tc := ⟨.hbm, 116, rfl⟩
abbrev main_call0_v4 : Ref sig .tc := ⟨.hbm, 117, rfl⟩
abbrev main_call0_v5 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_15 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_16 : Ref sig .tc := ⟨.hbm, 127, rfl⟩
abbrev main_v86 : Ref sig .tc := ⟨.hbm, 128, rfl⟩
abbrev main_v87 : Ref sig .tc := ⟨.hbm, 129, rfl⟩
abbrev main_cst_17 : Ref sig .tc := ⟨.hbm, 130, rfl⟩
abbrev main_v88 : Ref sig .tc := ⟨.hbm, 131, rfl⟩
abbrev main_v89 : Ref sig .tc := ⟨.hbm, 132, rfl⟩
abbrev main_cst_18 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024 : Shape := ⟨1, ![1024]⟩
abbrev S1024x1696 : Shape := ⟨2, ![1024, 1696]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S64 : Shape := ⟨1, ![64]⟩
abbrev S1024x32 : Shape := ⟨2, ![1024, 32]⟩
abbrev S_ : Shape := ⟨0, ![]⟩
abbrev S1024x96 : Shape := ⟨2, ![1024, 96]⟩
abbrev S1024x16 : Shape := ⟨2, ![1024, 16]⟩
abbrev S1024x48 : Shape := ⟨2, ![1024, 48]⟩
abbrev S1024x128 : Shape := ⟨2, ![1024, 128]⟩
abbrev S1024x384 : Shape := ⟨2, ![1024, 384]⟩
abbrev S1024x512 : Shape := ⟨2, ![1024, 512]⟩
abbrev S1x1024 : Shape := ⟨2, ![1, 1024]⟩
abbrev S1x256 : Shape := ⟨2, ![1, 256]⟩
abbrev S1x128 : Shape := ⟨2, ![1, 128]⟩
abbrev S256x8x96 : Shape := ⟨3, ![256, 8, 96]⟩
abbrev S256x8x16 : Shape := ⟨3, ![256, 8, 16]⟩
abbrev S256x8x32 : Shape := ⟨3, ![256, 8, 32]⟩
abbrev S256x8x48 : Shape := ⟨3, ![256, 8, 48]⟩
abbrev S256x8x128 : Shape := ⟨3, ![256, 8, 128]⟩
abbrev S256x1024 : Shape := ⟨2, ![256, 1024]⟩
abbrev S1024x256 : Shape := ⟨2, ![1024, 256]⟩
abbrev S128x8x128 : Shape := ⟨3, ![128, 8, 128]⟩
abbrev S128x8x64 : Shape := ⟨3, ![128, 8, 64]⟩
abbrev S128x8x96 : Shape := ⟨3, ![128, 8, 96]⟩
abbrev S128x8x16 : Shape := ⟨3, ![128, 8, 16]⟩
abbrev S128x8x32 : Shape := ⟨3, ![128, 8, 32]⟩
abbrev S128x8x48 : Shape := ⟨3, ![128, 8, 48]⟩
abbrev S128x512 : Shape := ⟨2, ![128, 512]⟩
abbrev S512x128 : Shape := ⟨2, ![512, 128]⟩
abbrev S1x96 : Shape := ⟨2, ![1, 96]⟩
abbrev S1x16 : Shape := ⟨2, ![1, 16]⟩
abbrev S1x32 : Shape := ⟨2, ![1, 32]⟩
abbrev S1x48 : Shape := ⟨2, ![1, 48]⟩
abbrev S128x1 : Shape := ⟨2, ![128, 1]⟩
abbrev S16 : Shape := ⟨1, ![16]⟩
abbrev S8192 : Shape := ⟨1, ![8192]⟩
abbrev S8192x1 : Shape := ⟨2, ![8192, 1]⟩
abbrev S8192x16 : Shape := ⟨2, ![8192, 16]⟩
abbrev S8192x64 : Shape := ⟨2, ![8192, 64]⟩
abbrev S8192x96 : Shape := ⟨2, ![8192, 96]⟩
abbrev S8192x32 : Shape := ⟨2, ![8192, 32]⟩
abbrev S8192x48 : Shape := ⟨2, ![8192, 48]⟩
abbrev S8192x128 : Shape := ⟨2, ![8192, 128]⟩
abbrev S128x8192 : Shape := ⟨2, ![128, 8192]⟩
abbrev S1024x2x64 : Shape := ⟨3, ![1024, 2, 64]⟩
abbrev S1024x2x2x64 : Shape := ⟨4, ![1024, 2, 2, 64]⟩
abbrev S1024x4x64 : Shape := ⟨3, ![1024, 4, 64]⟩
abbrev S1024x768 : Shape := ⟨2, ![1024, 768]⟩
abbrev S1x64 : Shape := ⟨2, ![1, 64]⟩
abbrev S1x1x1x64 : Shape := ⟨4, ![1, 1, 1, 64]⟩
abbrev S1x1x4x64 : Shape := ⟨4, ![1, 1, 4, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S4x16x8x128x512 : Shape := ⟨5, ![4, 16, 8, 128, 512]⟩
abbrev S4x8x8192x128 : Shape := ⟨4, ![4, 8, 8192, 128]⟩
abbrev S4x16x512x512 : Shape := ⟨4, ![4, 16, 512, 512]⟩
abbrev S4x8192x256 : Shape := ⟨3, ![4, 8192, 256]⟩
abbrev S1x512x1024 : Shape := ⟨3, ![1, 512, 1024]⟩
abbrev S1x1x8x128x512 : Shape := ⟨5, ![1, 1, 8, 128, 512]⟩
abbrev S1x8x512x128 : Shape := ⟨4, ![1, 8, 512, 128]⟩
abbrev S1x1x512x512 : Shape := ⟨4, ![1, 1, 512, 512]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S1x1x512x128 : Shape := ⟨4, ![1, 1, 512, 128]⟩
abbrev S1x512 : Shape := ⟨2, ![1, 512]⟩
abbrev S64x512 : Shape := ⟨2, ![64, 512]⟩
abbrev S1x1x1x128x512 : Shape := ⟨5, ![1, 1, 1, 128, 512]⟩
abbrev S512x768 : Shape := ⟨2, ![512, 768]⟩

abbrev nBuf : Space → Nat
  | .hbm => 170
  | .vmem => 44
  | .smem => 0
  | _ => 0

abbrev hbmTy0_0 (i : Nat) : BufTy := match i % 128 with
  | 0 => ⟨S4x8192x1024, .f32⟩
  | 1 => ⟨S1024, .f32⟩
  | 2 => ⟨S1024x1696, .f32⟩
  | 3 => ⟨S256, .f32⟩
  | 4 => ⟨S256x768, .f32⟩
  | 5 => ⟨S128, .f32⟩
  | 6 => ⟨S128x1024, .f32⟩
  | 7 => ⟨S96, .f32⟩
  | 8 => ⟨S96, .f32⟩
  | 9 => ⟨S64, .f32⟩
  | 10 => ⟨S64, .f32⟩
  | 11 => ⟨S64, .f32⟩
  | 12 => ⟨S64, .f32⟩
  | 13 => ⟨S1024x32, .f32⟩
  | 14 => ⟨S_, .i32⟩
  | 15 => ⟨S_, .f32⟩
  | 16 => ⟨S1024x96, .f32⟩
  | 17 => ⟨S1024x16, .f32⟩
  | 18 => ⟨S1024x16, .f32⟩
  | 19 => ⟨S_, .f32⟩
  | 20 => ⟨S1024x32, .f32⟩
  | 21 => ⟨S1024x48, .f32⟩
  | 22 => ⟨S1024x16, .f32⟩
  | 23 => ⟨S1024x128, .f32⟩
  | 24 => ⟨S1024x384, .f32⟩
  | 25 => ⟨S1024x512, .f32⟩
  | 26 => ⟨S1024x512, .bf16⟩
  | 27 => ⟨S1x1024, .f32⟩
  | 28 => ⟨S1x256, .f32⟩
  | 29 => ⟨S1x128, .f32⟩
  | 30 => ⟨S256x8x96, .f32⟩
  | 31 => ⟨S256x8x16, .f32⟩
  | 32 => ⟨S256x8x16, .f32⟩
  | 33 => ⟨S_, .f32⟩
  | 34 => ⟨S256x8x32, .f32⟩
  | 35 => ⟨S256x8x48, .f32⟩
  | 36 => ⟨S256x8x16, .f32⟩
  | 37 => ⟨S256x8x128, .f32⟩
  | 38 => ⟨S256x1024, .f32⟩
  | 39 => ⟨S1024x256, .f32⟩
  | 40 => ⟨S1024x256, .bf16⟩
  | 41 => ⟨S128x8x128, .f32⟩
  | 42 => ⟨S128x8x64, .f32⟩
  | 43 => ⟨S_, .i32⟩
  | 44 => ⟨S_, .f32⟩
  | 45 => ⟨S128x8x96, .f32⟩
  | 46 => ⟨S128x8x16, .f32⟩
  | 47 => ⟨S128x8x16, .f32⟩
  | 48 => ⟨S_, .f32⟩
  | 49 => ⟨S128x8x32, .f32⟩
  | 50 => ⟨S128x8x48, .f32⟩
  | 51 => ⟨S128x8x16, .f32⟩
  | 52 => ⟨S128x8x128, .f32⟩
  | 53 => ⟨S128x1024, .f32⟩
  | 54 => ⟨S128x1024, .bf16⟩
  | 55 => ⟨S128x8x64, .f32⟩
  | 56 => ⟨S128x512, .f32⟩
  | 57 => ⟨S512x128, .f32⟩
  | 58 => ⟨S512x128, .bf16⟩
  | 59 => ⟨S1x96, .f32⟩
  | 60 => ⟨S1x16, .f32⟩
  | 61 => ⟨S1x16, .f32⟩
  | 62 => ⟨S_, .f32⟩
  | 63 => ⟨S1x32, .f32⟩
  | 64 => ⟨S1x48, .f32⟩
  | 65 => ⟨S1x16, .f32⟩
  | 66 => ⟨S1x128, .f32⟩
  | 67 => ⟨S128x1, .f32⟩
  | 68 => ⟨S1x96, .f32⟩
  | 69 => ⟨S1x16, .f32⟩
  | 70 => ⟨S1x16, .f32⟩
  | 71 => ⟨S_, .f32⟩
  | 72 => ⟨S1x32, .f32⟩
  | 73 => ⟨S1x48, .f32⟩
  | 74 => ⟨S1x16, .f32⟩
  | 75 => ⟨S1x128, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S_, .f32⟩
  | 90 => ⟨S16, .f32⟩
  | 91 => ⟨S16, .f32⟩
  | 92 => ⟨S8192, .f32⟩
  | 93 => ⟨S8192x1, .f32⟩
  | 94 => ⟨S1x16, .f32⟩
  | 95 => ⟨S8192x16, .f32⟩
  | 96 => ⟨S8192x16, .f32⟩
  | 97 => ⟨S8192x16, .f32⟩
  | 98 => ⟨S8192x16, .f32⟩
  | 99 => ⟨S8192x16, .f32⟩
  | 100 => ⟨S_, .f32⟩
  | 101 => ⟨S8192x64, .f32⟩
  | 102 => ⟨S8192x96, .f32⟩
  | 103 => ⟨S8192x16, .f32⟩
  | 104 => ⟨S8192x16, .f32⟩
  | 105 => ⟨S_, .f32⟩
  | 106 => ⟨S8192x32, .f32⟩
  | 107 => ⟨S8192x48, .f32⟩
  | 108 => ⟨S8192x16, .f32⟩
  | 109 => ⟨S8192x128, .f32⟩
  | 110 => ⟨S_, .f32⟩
  | 111 => ⟨S8192x64, .f32⟩
  | 112 => ⟨S8192x16, .f32⟩
  | 113 => ⟨S8192x96, .f32⟩
  | 114 => ⟨S8192x16, .f32⟩
  | 115 => ⟨S8192x16, .f32⟩
  | 116 => ⟨S_, .f32⟩
  | 117 => ⟨S8192x32, .f32⟩
  | 118 => ⟨S8192x48, .f32⟩
  | 119 => ⟨S8192x16, .f32⟩
  | 120 => ⟨S8192x128, .f32⟩
  | 121 => ⟨S128x8192, .f32⟩
  | 122 => ⟨S128x8192, .f32⟩
  | 123 => ⟨S1024x256, .f32⟩
  | 124 => ⟨S1024x128, .f32⟩
  | 125 => ⟨S1024x2x64, .f32⟩
  | 126 => ⟨S1024x128, .f32⟩
  | 127 => ⟨S1024x2x64, .f32⟩
  | _ => ⟨S4x8192x1024, .f32⟩

abbrev hbmTy0_1 (i : Nat) : BufTy := match i % 128 with
  | 0 => ⟨S1024x2x2x64, .f32⟩
  | 1 => ⟨S1024x4x64, .f32⟩
  | 2 => ⟨S1024x256, .f32⟩
  | 3 => ⟨S1024x2x2x64, .f32⟩
  | 4 => ⟨S1024x4x64, .f32⟩
  | 5 => ⟨S1024x256, .f32⟩
  | 6 => ⟨S1024x768, .f32⟩
  | 7 => ⟨S1024x768, .bf16⟩
  | 8 => ⟨S1x64, .f32⟩
  | 9 => ⟨S1x1x1x64, .f32⟩
  | 10 => ⟨S1x1x4x64, .f32⟩
  | 11 => ⟨S1x256, .f32⟩
  | 12 => ⟨S1x64, .f32⟩
  | 13 => ⟨S1x1x1x64, .f32⟩
  | 14 => ⟨S1x1x4x64, .f32⟩
  | 15 => ⟨S1x256, .f32⟩
  | 16 => ⟨S1024x768, .f32⟩
  | 17 => ⟨S1024x768, .bf16⟩
  | 18 => ⟨S1x64, .f32⟩
  | 19 => ⟨S1x1x1x64, .f32⟩
  | 20 => ⟨S1x1x4x64, .f32⟩
  | 21 => ⟨S1x256, .f32⟩
  | 22 => ⟨S1x64, .f32⟩
  | 23 => ⟨S1x1x1x64, .f32⟩
  | 24 => ⟨S1x1x4x64, .f32⟩
  | 25 => ⟨S1x256, .f32⟩
  | 26 => ⟨S4x1x4x1, .i32⟩
  | 27 => ⟨S4x1x4x1, .i32⟩
  | 28 => ⟨S4x1x4x1, .i1⟩
  | 29 => ⟨S4x64x4x64, .i1⟩
  | 30 => ⟨S256x256, .i1⟩
  | 31 => ⟨S256x256, .f32⟩
  | 32 => ⟨S256x256, .bf16⟩
  | 33 => ⟨S4x16x8x128x512, .f32⟩
  | 34 => ⟨S4x8x8192x128, .bf16⟩
  | 35 => ⟨S4x16x512x512, .bf16⟩
  | 36 => ⟨S4x8192x256, .bf16⟩
  | 37 => ⟨S4x8192x256, .bf16⟩
  | 38 => ⟨S4x8192x256, .bf16⟩
  | 39 => ⟨S4x8192x256, .bf16⟩
  | 40 => ⟨S4x8192x256, .bf16⟩
  | 41 => ⟨S4x8192x256, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x512, .bf16⟩
  | .local _ .vmem, ⟨4, _⟩ => ⟨S1x256, .f32⟩
  | .local _ .vmem, ⟨5, _⟩ => ⟨S1x128, .f32⟩
  | .local _ .vmem, ⟨6, _⟩ => ⟨S1024x256, .bf16⟩
  | .local _ .vmem, ⟨7, _⟩ => ⟨S128x1024, .bf16⟩
  | .local _ .vmem, ⟨8, _⟩ => ⟨S512x128, .bf16⟩
  | .local _ .vmem, ⟨9, _⟩ => ⟨S128x1, .f32⟩
  | .local _ .vmem, ⟨10, _⟩ => ⟨S1x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S1024x768, .bf16⟩
  | .local _ .vmem, ⟨20, _⟩ => ⟨S1x256, .f32⟩
  | .local _ .vmem, ⟨21, _⟩ => ⟨S1x256, .f32⟩
  | .local _ .vmem, ⟨22, _⟩ => ⟨S1024x768, .bf16⟩
  | .local _ .vmem, ⟨23, _⟩ => ⟨S1x256, .f32⟩
  | .local _ .vmem, ⟨24, _⟩ => ⟨S1x256, .f32⟩
  | .local _ .vmem, ⟨25, _⟩ => ⟨S256x256, .bf16⟩
  | .local _ .vmem, ⟨26, _⟩ => ⟨S1x1x8x128x512, .f32⟩
  | .local _ .vmem, ⟨27, _⟩ => ⟨S1x1x8x128x512, .f32⟩
  | .local _ .vmem, ⟨28, _⟩ => ⟨S1x8x512x128, .bf16⟩
  | .local _ .vmem, ⟨29, _⟩ => ⟨S1x8x512x128, .bf16⟩
  | .local _ .vmem, ⟨30, _⟩ => ⟨S1x1x512x512, .bf16⟩
  | .local _ .vmem, ⟨31, _⟩ => ⟨S1x1x512x512, .bf16⟩
  | .local _ .vmem, ⟨32, _⟩ => ⟨S1x512x256, .bf16⟩
  | .local _ .vmem, ⟨33, _⟩ => ⟨S1x512x256, .bf16⟩
  | .local _ .vmem, ⟨34, _⟩ => ⟨S1x512x256, .bf16⟩
  | .local _ .vmem, ⟨35, _⟩ => ⟨S1x512x256, .bf16⟩
  | .local _ .vmem, ⟨36, _⟩ => ⟨S1x512x256, .bf16⟩
  | .local _ .vmem, ⟨37, _⟩ => ⟨S1x512x256, .bf16⟩
  | .local _ .vmem, ⟨38, _⟩ => ⟨S1x512x256, .bf16⟩
  | .local _ .vmem, ⟨39, _⟩ => ⟨S1x512x256, .bf16⟩
  | .local _ .vmem, ⟨40, _⟩ => ⟨S1x512x256, .bf16⟩
  | .local _ .vmem, ⟨41, _⟩ => ⟨S1x512x256, .bf16⟩
  | .local _ .vmem, ⟨42, _⟩ => ⟨S1x512x256, .bf16⟩
  | .local _ .vmem, ⟨43, _⟩ => ⟨S1x512x256, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_1 : Ref sig .tc := ⟨.hbm, 43, rfl⟩
abbrev main_call1_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_3 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_4 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_5 : Ref sig .tc := ⟨.hbm, 77, rfl⟩
abbrev main_v55 : Ref sig .tc := ⟨.hbm, 78, rfl⟩
abbrev main_v56 : Ref sig .tc := ⟨.hbm, 79, rfl⟩
abbrev main_cst_6 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_cst_8 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_10 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_13 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130_0 : Ref sig .tc := ⟨.hbm, 161, rfl⟩
abbrev main_v130_1 : Ref sig .tc := ⟨.hbm, 162, rfl⟩
abbrev main_v130_2 : Ref sig .tc := ⟨.hbm, 163, rfl⟩
abbrev main_v130_3 : Ref sig .tc := ⟨.hbm, 164, rfl⟩
abbrev main_v130_4 : Ref sig .tc := ⟨.hbm, 165, rfl⟩
abbrev main_v130_5 : Ref sig .tc := ⟨.hbm, 166, rfl⟩
abbrev main_v130_6 : Ref sig .tc := ⟨.hbm, 167, rfl⟩
abbrev main_v130_7 : Ref sig .tc := ⟨.hbm, 168, rfl⟩
abbrev main_v130_8 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_stg28_0 : Ref sig .tc := ⟨.vmem, 40, rfl⟩
abbrev cc0_stg28_1 : Ref sig .tc := ⟨.vmem, 41, rfl⟩
abbrev cc0_stg29_0 : Ref sig .tc := ⟨.vmem, 42, rfl⟩
abbrev cc0_stg29_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39
abbrev cc0_sem28_0 : DmaSem sig := 40
abbrev cc0_sem28_1 : DmaSem sig := 41
abbrev cc0_sem29_0 : DmaSem sig := 42
abbrev cc0_sem29_1 : DmaSem sig := 43

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S1024x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x768 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S256x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x1x8x128x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x8x512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1x512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x256 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x512x256 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x512x256 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]
-- ==== Kernel4Ideal.lean ====
variable {F : FTy → Type} [FloatOps F] [Named F]
def κ : String → Option EReal := fun
  | "inv96" => some ((1 / 96 : ℝ) : EReal)
  | _ => none
-- ==== Reference4Ideal.lean ====
abbrev S4x8192x1024 : Shape := ⟨3, ![4, 8192, 1024]⟩
abbrev S1024 : Shape := ⟨1, ![1024]⟩
abbrev S1024x1696 : Shape := ⟨2, ![1024, 1696]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S96 : Shape := ⟨1, ![96]⟩
abbrev S64 : Shape := ⟨1, ![64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1696 : Shape := ⟨3, ![4, 8192, 1696]⟩
abbrev S4x8192x416 : Shape := ⟨3, ![4, 8192, 416]⟩
abbrev S4x8192x512 : Shape := ⟨3, ![4, 8192, 512]⟩
abbrev S4x8192x768 : Shape := ⟨3, ![4, 8192, 768]⟩
abbrev S4x8192x256 : Shape := ⟨3, ![4, 8192, 256]⟩
abbrev S4x8192x128 : Shape := ⟨3, ![4, 8192, 128]⟩
abbrev S4x8192x32 : Shape := ⟨3, ![4, 8192, 32]⟩
abbrev S1x1x256 : Shape := ⟨3, ![1, 1, 256]⟩
abbrev S4x8192x8x96 : Shape := ⟨4, ![4, 8192, 8, 96]⟩
abbrev S1x1x128 : Shape := ⟨3, ![1, 1, 128]⟩
abbrev S4x8192x8x128 : Shape := ⟨4, ![4, 8192, 8, 128]⟩
abbrev S4x8192x8x64 : Shape := ⟨4, ![4, 8192, 8, 64]⟩
abbrev S4x8192x1x32 : Shape := ⟨4, ![4, 8192, 1, 32]⟩
abbrev S4x8192x8x32 : Shape := ⟨4, ![4, 8192, 8, 32]⟩
abbrev S4x8192x8 : Shape := ⟨3, ![4, 8192, 8]⟩
abbrev S4x8192x8x1 : Shape := ⟨4, ![4, 8192, 8, 1]⟩
abbrev S1x1x1x96 : Shape := ⟨4, ![1, 1, 1, 96]⟩
abbrev S16 : Shape := ⟨1, ![16]⟩
abbrev S8192 : Shape := ⟨1, ![8192]⟩
abbrev S8192x1 : Shape := ⟨2, ![8192, 1]⟩
abbrev S1x16 : Shape := ⟨2, ![1, 16]⟩
abbrev S8192x16 : Shape := ⟨2, ![8192, 16]⟩
abbrev S4x8192x8x16 : Shape := ⟨4, ![4, 8192, 8, 16]⟩
abbrev S1x8192x1x16 : Shape := ⟨4, ![1, 8192, 1, 16]⟩
abbrev S4x8192x8x48 : Shape := ⟨4, ![4, 8192, 8, 48]⟩
abbrev S4x16x512x8x128 : Shape := ⟨5, ![4, 16, 512, 8, 128]⟩
abbrev S4x16x8x128x512 : Shape := ⟨5, ![4, 16, 8, 128, 512]⟩
abbrev S4x8x8192x128 : Shape := ⟨4, ![4, 8, 8192, 128]⟩
abbrev S4x16x512x512 : Shape := ⟨4, ![4, 16, 512, 512]⟩
abbrev S4x8192x4x64 : Shape := ⟨4, ![4, 8192, 4, 64]⟩
abbrev S4x8192x4 : Shape := ⟨3, ![4, 8192, 4]⟩
abbrev S4x8192x4x1 : Shape := ⟨4, ![4, 8192, 4, 1]⟩
abbrev S1x1x1x64 : Shape := ⟨4, ![1, 1, 1, 64]⟩
abbrev S4x8192x2x64 : Shape := ⟨4, ![4, 8192, 2, 64]⟩
abbrev S4x8192x2 : Shape := ⟨3, ![4, 8192, 2]⟩
abbrev S4x8192x2x1 : Shape := ⟨4, ![4, 8192, 2, 1]⟩
abbrev S4x8192x2x1x64 : Shape := ⟨5, ![4, 8192, 2, 1, 64]⟩
abbrev S4x8192x2x2x64 : Shape := ⟨5, ![4, 8192, 2, 2, 64]⟩

abbrev nBuf : Space → Nat
  | .hbm => 286
  | .vmem => 0
  | .smem => 0
  | _ => 0

abbrev hbmTy0_0 (i : Nat) : BufTy := match i % 128 with
  | 0 => ⟨S4x8192x1024, .f32⟩
  | 1 => ⟨S1024, .f32⟩
  | 2 => ⟨S1024x1696, .f32⟩
  | 3 => ⟨S256, .f32⟩
  | 4 => ⟨S256x768, .f32⟩
  | 5 => ⟨S128, .f32⟩
  | 6 => ⟨S128x1024, .f32⟩
  | 7 => ⟨S96, .f32⟩
  | 8 => ⟨S96, .f32⟩
  | 9 => ⟨S64, .f32⟩
  | 10 => ⟨S64, .f32⟩
  | 11 => ⟨S64, .f32⟩
  | 12 => ⟨S64, .f32⟩
  | 13 => ⟨S4x8192x1024, .f32⟩
  | 14 => ⟨S_, .f32⟩
  | 15 => ⟨S4x8192, .f32⟩
  | 16 => ⟨S4x8192x1, .f32⟩
  | 17 => ⟨S_, .f32⟩
  | 18 => ⟨S4x8192x1, .f32⟩
  | 19 => ⟨S4x8192x1, .f32⟩
  | 20 => ⟨S_, .f32⟩
  | 21 => ⟨S4x8192x1, .f32⟩
  | 22 => ⟨S4x8192x1, .f32⟩
  | 23 => ⟨S4x8192x1, .f32⟩
  | 24 => ⟨S4x8192x1024, .f32⟩
  | 25 => ⟨S4x8192x1024, .f32⟩
  | 26 => ⟨S1x1x1024, .f32⟩
  | 27 => ⟨S4x8192x1024, .f32⟩
  | 28 => ⟨S4x8192x1024, .f32⟩
  | 29 => ⟨S4x8192x1696, .f32⟩
  | 30 => ⟨S4x8192x416, .f32⟩
  | 31 => ⟨S4x8192x512, .f32⟩
  | 32 => ⟨S4x8192x768, .f32⟩
  | 33 => ⟨S4x8192x256, .f32⟩
  | 34 => ⟨S4x8192x128, .f32⟩
  | 35 => ⟨S4x8192x32, .f32⟩
  | 36 => ⟨S4x8192x256, .f32⟩
  | 37 => ⟨S_, .f32⟩
  | 38 => ⟨S4x8192, .f32⟩
  | 39 => ⟨S4x8192x1, .f32⟩
  | 40 => ⟨S_, .f32⟩
  | 41 => ⟨S4x8192x1, .f32⟩
  | 42 => ⟨S4x8192x1, .f32⟩
  | 43 => ⟨S_, .f32⟩
  | 44 => ⟨S4x8192x1, .f32⟩
  | 45 => ⟨S4x8192x1, .f32⟩
  | 46 => ⟨S4x8192x1, .f32⟩
  | 47 => ⟨S4x8192x256, .f32⟩
  | 48 => ⟨S4x8192x256, .f32⟩
  | 49 => ⟨S1x1x256, .f32⟩
  | 50 => ⟨S4x8192x256, .f32⟩
  | 51 => ⟨S4x8192x256, .f32⟩
  | 52 => ⟨S4x8192x768, .f32⟩
  | 53 => ⟨S4x8192x8x96, .f32⟩
  | 54 => ⟨S4x8192x128, .f32⟩
  | 55 => ⟨S_, .f32⟩
  | 56 => ⟨S4x8192, .f32⟩
  | 57 => ⟨S4x8192x1, .f32⟩
  | 58 => ⟨S_, .f32⟩
  | 59 => ⟨S4x8192x1, .f32⟩
  | 60 => ⟨S4x8192x1, .f32⟩
  | 61 => ⟨S_, .f32⟩
  | 62 => ⟨S4x8192x1, .f32⟩
  | 63 => ⟨S4x8192x1, .f32⟩
  | 64 => ⟨S4x8192x1, .f32⟩
  | 65 => ⟨S4x8192x128, .f32⟩
  | 66 => ⟨S4x8192x128, .f32⟩
  | 67 => ⟨S1x1x128, .f32⟩
  | 68 => ⟨S4x8192x128, .f32⟩
  | 69 => ⟨S4x8192x128, .f32⟩
  | 70 => ⟨S4x8192x1024, .f32⟩
  | 71 => ⟨S4x8192x8x128, .f32⟩
  | 72 => ⟨S4x8192x8x64, .f32⟩
  | 73 => ⟨S4x8192x8x64, .f32⟩
  | 74 => ⟨S4x8192x1x32, .f32⟩
  | 75 => ⟨S4x8192x8x32, .f32⟩
  | 76 => ⟨S4x8192x8x96, .f32⟩
  | 77 => ⟨S4x8192x8x96, .f32⟩
  | 78 => ⟨S_, .f32⟩
  | 79 => ⟨S4x8192x8, .f32⟩
  | 80 => ⟨S4x8192x8x1, .f32⟩
  | 81 => ⟨S_, .f32⟩
  | 82 => ⟨S4x8192x8x1, .f32⟩
  | 83 => ⟨S4x8192x8x1, .f32⟩
  | 84 => ⟨S_, .f32⟩
  | 85 => ⟨S4x8192x8x1, .f32⟩
  | 86 => ⟨S4x8192x8x1, .f32⟩
  | 87 => ⟨S4x8192x8x1, .f32⟩
  | 88 => ⟨S4x8192x8x96, .f32⟩
  | 89 => ⟨S4x8192x8x96, .f32⟩
  | 90 => ⟨S1x1x1x96, .f32⟩
  | 91 => ⟨S4x8192x8x96, .f32⟩
  | 92 => ⟨S4x8192x8x96, .f32⟩
  | 93 => ⟨S4x8192x8x96, .f32⟩
  | 94 => ⟨S_, .f32⟩
  | 95 => ⟨S4x8192x8, .f32⟩
  | 96 => ⟨S4x8192x8x1, .f32⟩
  | 97 => ⟨S_, .f32⟩
  | 98 => ⟨S4x8192x8x1, .f32⟩
  | 99 => ⟨S4x8192x8x1, .f32⟩
  | 100 => ⟨S_, .f32⟩
  | 101 => ⟨S4x8192x8x1, .f32⟩
  | 102 => ⟨S4x8192x8x1, .f32⟩
  | 103 => ⟨S4x8192x8x1, .f32⟩
  | 104 => ⟨S4x8192x8x96, .f32⟩
  | 105 => ⟨S4x8192x8x96, .f32⟩
  | 106 => ⟨S1x1x1x96, .f32⟩
  | 107 => ⟨S4x8192x8x96, .f32⟩
  | 108 => ⟨S4x8192x8x96, .f32⟩
  | 109 => ⟨S16, .f32⟩
  | 110 => ⟨S_, .f32⟩
  | 111 => ⟨S16, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S_, .f32⟩
  | 123 => ⟨S16, .f32⟩
  | 124 => ⟨S16, .f32⟩
  | 125 => ⟨S8192, .f32⟩
  | 126 => ⟨S8192x1, .f32⟩
  | 127 => ⟨S1x16, .f32⟩
  | _ => ⟨S4x8192x1024, .f32⟩

abbrev hbmTy0_1 (i : Nat) : BufTy := match i % 128 with
  | 0 => ⟨S8192x16, .f32⟩
  | 1 => ⟨S8192x16, .f32⟩
  | 2 => ⟨S8192x16, .f32⟩
  | 3 => ⟨S8192x16, .f32⟩
  | 4 => ⟨S8192x16, .f32⟩
  | 5 => ⟨S4x8192x8x64, .f32⟩
  | 6 => ⟨S4x8192x8x32, .f32⟩
  | 7 => ⟨S4x8192x8x16, .f32⟩
  | 8 => ⟨S4x8192x8x16, .f32⟩
  | 9 => ⟨S1x8192x1x16, .f32⟩
  | 10 => ⟨S1x8192x1x16, .f32⟩
  | 11 => ⟨S4x8192x8x16, .f32⟩
  | 12 => ⟨S4x8192x8x16, .f32⟩
  | 13 => ⟨S4x8192x8x16, .f32⟩
  | 14 => ⟨S4x8192x8x16, .f32⟩
  | 15 => ⟨S4x8192x8x16, .f32⟩
  | 16 => ⟨S4x8192x8x16, .f32⟩
  | 17 => ⟨S4x8192x8x16, .f32⟩
  | 18 => ⟨S4x8192x8x16, .f32⟩
  | 19 => ⟨S4x8192x8x16, .f32⟩
  | 20 => ⟨S4x8192x8x16, .f32⟩
  | 21 => ⟨S4x8192x8x32, .f32⟩
  | 22 => ⟨S4x8192x8x96, .f32⟩
  | 23 => ⟨S4x8192x8x64, .f32⟩
  | 24 => ⟨S4x8192x8x32, .f32⟩
  | 25 => ⟨S4x8192x8x16, .f32⟩
  | 26 => ⟨S4x8192x8x16, .f32⟩
  | 27 => ⟨S1x8192x1x16, .f32⟩
  | 28 => ⟨S1x8192x1x16, .f32⟩
  | 29 => ⟨S4x8192x8x16, .f32⟩
  | 30 => ⟨S4x8192x8x16, .f32⟩
  | 31 => ⟨S4x8192x8x16, .f32⟩
  | 32 => ⟨S4x8192x8x16, .f32⟩
  | 33 => ⟨S4x8192x8x16, .f32⟩
  | 34 => ⟨S4x8192x8x16, .f32⟩
  | 35 => ⟨S4x8192x8x16, .f32⟩
  | 36 => ⟨S4x8192x8x16, .f32⟩
  | 37 => ⟨S4x8192x8x16, .f32⟩
  | 38 => ⟨S4x8192x8x16, .f32⟩
  | 39 => ⟨S4x8192x8x32, .f32⟩
  | 40 => ⟨S4x8192x8x96, .f32⟩
  | 41 => ⟨S4x8192x8x16, .f32⟩
  | 42 => ⟨S4x8192x8x48, .f32⟩
  | 43 => ⟨S4x8192x8x16, .f32⟩
  | 44 => ⟨S4x8192x8x16, .f32⟩
  | 45 => ⟨S_, .f32⟩
  | 46 => ⟨S4x8192x8x32, .f32⟩
  | 47 => ⟨S4x8192x8x128, .f32⟩
  | 48 => ⟨S4x16x512x8x128, .f32⟩
  | 49 => ⟨S4x16x8x128x512, .f32⟩
  | 50 => ⟨S4x8192x8x16, .f32⟩
  | 51 => ⟨S4x8192x8x48, .f32⟩
  | 52 => ⟨S4x8192x8x16, .f32⟩
  | 53 => ⟨S4x8192x8x16, .f32⟩
  | 54 => ⟨S_, .f32⟩
  | 55 => ⟨S4x8192x8x32, .f32⟩
  | 56 => ⟨S4x8192x8x128, .f32⟩
  | 57 => ⟨S4x8x8192x128, .f32⟩
  | 58 => ⟨S4x16x512x512, .f32⟩
  | 59 => ⟨S4x16x512x512, .f32⟩
  | 60 => ⟨S4x8192x256, .f32⟩
  | 61 => ⟨S4x8192x128, .f32⟩
  | 62 => ⟨S4x8192x128, .f32⟩
  | 63 => ⟨S4x8192x4x64, .f32⟩
  | 64 => ⟨S4x8192x4x64, .f32⟩
  | 65 => ⟨S_, .f32⟩
  | 66 => ⟨S4x8192x4, .f32⟩
  | 67 => ⟨S4x8192x4x1, .f32⟩
  | 68 => ⟨S_, .f32⟩
  | 69 => ⟨S4x8192x4x1, .f32⟩
  | 70 => ⟨S4x8192x4x1, .f32⟩
  | 71 => ⟨S_, .f32⟩
  | 72 => ⟨S4x8192x4x1, .f32⟩
  | 73 => ⟨S4x8192x4x1, .f32⟩
  | 74 => ⟨S4x8192x4x1, .f32⟩
  | 75 => ⟨S4x8192x4x64, .f32⟩
  | 76 => ⟨S4x8192x4x64, .f32⟩
  | 77 => ⟨S1x1x1x64, .f32⟩
  | 78 => ⟨S4x8192x4x64, .f32⟩
  | 79 => ⟨S4x8192x4x64, .f32⟩
  | 80 => ⟨S4x8192x256, .f32⟩
  | 81 => ⟨S_, .f32⟩
  | 82 => ⟨S4x8192x256, .f32⟩
  | 83 => ⟨S4x8192x256, .f32⟩
  | 84 => ⟨S4x8192x2x64, .f32⟩
  | 85 => ⟨S4x8192x2x64, .f32⟩
  | 86 => ⟨S_, .f32⟩
  | 87 => ⟨S4x8192x2, .f32⟩
  | 88 => ⟨S4x8192x2x1, .f32⟩
  | 89 => ⟨S_, .f32⟩
  | 90 => ⟨S4x8192x2x1, .f32⟩
  | 91 => ⟨S4x8192x2x1, .f32⟩
  | 92 => ⟨S_, .f32⟩
  | 93 => ⟨S4x8192x2x1, .f32⟩
  | 94 => ⟨S4x8192x2x1, .f32⟩
  | 95 => ⟨S4x8192x2x1, .f32⟩
  | 96 => ⟨S4x8192x2x64, .f32⟩
  | 97 => ⟨S4x8192x2x64, .f32⟩
  | 98 => ⟨S1x1x1x64, .f32⟩
  | 99 => ⟨S4x8192x2x64, .f32⟩
  | 100 => ⟨S4x8192x2x64, .f32⟩
  | 101 => ⟨S4x8192x2x1x64, .f32⟩
  | 102 => ⟨S4x8192x2x2x64, .f32⟩
  | 103 => ⟨S4x8192x256, .f32⟩
  | 104 => ⟨S4x8192x2x64, .f32⟩
  | 105 => ⟨S4x8192x2x1x64, .f32⟩
  | 106 => ⟨S4x8192x2x2x64, .f32⟩
  | 107 => ⟨S4x8192x256, .f32⟩
  | 108 => ⟨S4x8192x256, .f32⟩
  | 109 => ⟨S4x8192x256, .f32⟩
  | 110 => ⟨S4x8192x256, .f32⟩
  | 111 => ⟨S4x8192x4x64, .f32⟩
  | 112 => ⟨S4x8192x4x64, .f32⟩
  | 113 => ⟨S_, .f32⟩
  | 114 => ⟨S4x8192x4, .f32⟩
  | 115 => ⟨S4x8192x4x1, .f32⟩
  | 116 => ⟨S_, .f32⟩
  | 117 => ⟨S4x8192x4x1, .f32⟩
  | 118 => ⟨S4x8192x4x1, .f32⟩
  | 119 => ⟨S_, .f32⟩
  | 120 => ⟨S4x8192x4x1, .f32⟩
  | 121 => ⟨S4x8192x4x1, .f32⟩
  | 122 => ⟨S4x8192x4x1, .f32⟩
  | 123 => ⟨S4x8192x4x64, .f32⟩
  | 124 => ⟨S4x8192x4x64, .f32⟩
  | 125 => ⟨S1x1x1x64, .f32⟩
  | 126 => ⟨S4x8192x4x64, .f32⟩
  | 127 => ⟨S4x8192x4x64, .f32⟩
  | _ => ⟨S4x8192x1024, .f32⟩

abbrev hbmTy0_2 (i : Nat) : BufTy := match i % 128 with
  | 0 => ⟨S4x8192x256, .f32⟩
  | 1 => ⟨S_, .f32⟩
  | 2 => ⟨S4x8192x256, .f32⟩
  | 3 => ⟨S4x8192x256, .f32⟩
  | 4 => ⟨S4x8192x4x64, .f32⟩
  | 5 => ⟨S4x8192x4x64, .f32⟩
  | 6 => ⟨S_, .f32⟩
  | 7 => ⟨S4x8192x4, .f32⟩
  | 8 => ⟨S4x8192x4x1, .f32⟩
  | 9 => ⟨S_, .f32⟩
  | 10 => ⟨S4x8192x4x1, .f32⟩
  | 11 => ⟨S4x8192x4x1, .f32⟩
  | 12 => ⟨S_, .f32⟩
  | 13 => ⟨S4x8192x4x1, .f32⟩
  | 14 => ⟨S4x8192x4x1, .f32⟩
  | 15 => ⟨S4x8192x4x1, .f32⟩
  | 16 => ⟨S4x8192x4x64, .f32⟩
  | 17 => ⟨S4x8192x4x64, .f32⟩
  | 18 => ⟨S1x1x1x64, .f32⟩
  | 19 => ⟨S4x8192x4x64, .f32⟩
  | 20 => ⟨S4x8192x4x64, .f32⟩
  | 21 => ⟨S4x8192x256, .f32⟩
  | 22 => ⟨S4x8x8192x128, .bf16⟩
  | 23 => ⟨S4x16x512x512, .bf16⟩
  | 24 => ⟨S4x8192x256, .bf16⟩
  | 25 => ⟨S4x8192x256, .bf16⟩
  | 26 => ⟨S4x8192x256, .bf16⟩
  | 27 => ⟨S4x8192x256, .bf16⟩
  | 28 => ⟨S4x8192x256, .bf16⟩
  | 29 => ⟨S4x8192x256, .bf16⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_v70 : Ref sig .tc := ⟨.hbm, 96, rfl⟩
abbrev main_cst_12 : Ref sig .tc := ⟨.hbm, 97, rfl⟩
abbrev main_v71 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_14 : Ref sig .tc := ⟨.hbm, 110, rfl⟩
abbrev main_v82 : Ref sig .tc := ⟨.hbm, 111, rfl⟩
abbrev main_v83 : Ref sig .tc := ⟨.hbm, 112, rfl⟩
abbrev main_cst_15 : Ref sig .tc := ⟨.hbm, 113, rfl⟩
abbrev main_v84 : Ref sig .tc := ⟨.hbm, 114, rfl⟩
abbrev main_v85 : Ref sig .tc := ⟨.hbm, 115, rfl⟩
abbrev main_cst_16 : Ref sig .tc := ⟨.hbm, 116, rfl⟩
abbrev main_v86 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_v89 : Ref sig .tc := ⟨.hbm, 121, rfl⟩
abbrev main_cst_18 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_cst_19 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_cst_20 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_21 : Ref sig .tc := ⟨.hbm, 193, rfl⟩
abbrev main_v158 : Ref sig .tc := ⟨.hbm, 194, rfl⟩
abbrev main_v159 : Ref sig .tc := ⟨.hbm, 195, rfl⟩
abbrev main_cst_22 : Ref sig .tc := ⟨.hbm, 196, rfl⟩
abbrev main_v160 : Ref sig .tc := ⟨.hbm, 197, rfl⟩
abbrev main_v161 : Ref sig .tc := ⟨.hbm, 198, rfl⟩
abbrev main_cst_23 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_cst_24 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_cst_25 : Ref sig .tc := ⟨.hbm, 214, rfl⟩
abbrev main_v175 : Ref sig .tc := ⟨.hbm, 215, rfl⟩
abbrev main_v176 : Ref sig .tc := ⟨.hbm, 216, rfl⟩
abbrev main_cst_26 : Ref sig .tc := ⟨.hbm, 217, rfl⟩
abbrev main_v177 : Ref sig .tc := ⟨.hbm, 218, rfl⟩
abbrev main_v178 : Ref sig .tc := ⟨.hbm, 219, rfl⟩
abbrev main_cst_27 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_cst_28 : Ref sig .tc := ⟨.hbm, 241, rfl⟩
abbrev main_v199 : Ref sig .tc := ⟨.hbm, 242, rfl⟩
abbrev main_v200 : Ref sig .tc := ⟨.hbm, 243, rfl⟩
abbrev main_cst_29 : Ref sig .tc := ⟨.hbm, 244, rfl⟩
abbrev main_v201 : Ref sig .tc := ⟨.hbm, 245, rfl⟩
abbrev main_v202 : Ref sig .tc := ⟨.hbm, 246, rfl⟩
abbrev main_cst_30 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_cst_31 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_cst_32 : Ref sig .tc := ⟨.hbm, 262, rfl⟩
abbrev main_v216 : Ref sig .tc := ⟨.hbm, 263, rfl⟩
abbrev main_v217 : Ref sig .tc := ⟨.hbm, 264, rfl⟩
abbrev main_cst_33 : Ref sig .tc := ⟨.hbm, 265, rfl⟩
abbrev main_v218 : Ref sig .tc := ⟨.hbm, 266, rfl⟩
abbrev main_v219 : Ref sig .tc := ⟨.hbm, 267, rfl⟩
abbrev main_cst_34 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩

abbrev nD : Nat := 1
abbrev τ : Topo := Topo.v7x

variable {F : FTy → Type} [FloatOps F]
-- ==== Proof.KI.Rel.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles of a trip, by head -/

abbrev R3 (qb h : Fin 4) : Rect S1x4x4x128x512 :=
  Rect.unit (s := S1x4x4x128x512) ![0, qb.val, h.val, 0, 0] S1x1x1x128x512.size
    (by have := qb.isLt; have := h.isLt; intro a; fin_cases a <;> simp <;> omega)
abbrev R4 (kt : Fin 16) (h : Fin 4) : Rect S1x4x8192x128 :=
  Rect.unit (s := S1x4x8192x128) ![0, h.val, 512 * kt.val, 0] S1x1x512x128.size
    (by have := kt.isLt; have := h.isLt; intro a; fin_cases a <;> simp <;> omega)
abbrev R5 (kt : Fin 16) (h : Fin 4) : Rect S1x16x256x512 :=
  Rect.unit (s := S1x16x256x512) ![0, kt.val, 64 * h.val, 0] S1x1x64x512.size
    (by have := kt.isLt; have := h.isLt; intro a; fin_cases a <;> simp <;> omega)
abbrev R6 (qb : Fin 4) (p : Fin 2) : Rect S1x2048x256 :=
  Rect.unit (s := S1x2048x256) ![0, 512 * qb.val, 128 * p.val] S1x512x128.size
    (by have := qb.isLt; have := p.isLt; intro a; fin_cases a <;> simp <;> omega)
abbrev R7 (b : Fin 2) (h : Fin 4) : Rect S2x4x512x512 :=
  Rect.unit (s := S2x4x512x512) ![b.val, h.val, 0, 0] S1x1x512x512.size
    (by have := b.isLt; have := h.isLt; intro a; fin_cases a <;> simp <;> omega)
abbrev R9 (b : Fin 2) (h : Fin 4) : Rect S2x4x1x512 :=
  Rect.unit (s := S2x4x1x512) ![b.val, h.val, 0, 0] S1x1x1x512.size
    (by have := b.isLt; have := h.isLt; intro a; fin_cases a <;> simp <;> omega)
abbrev R11 (h : Fin 4) : Rect S4x80x512 :=
  Rect.unit (s := S4x80x512) ![h.val, 0, 0] S1x80x512.size
    (by have := h.isLt; intro a; fin_cases a <;> simp <;> omega)
/-- The first 64 rows of a head's running sums, and the row after them. -/
abbrev R11a (h : Fin 4) : Rect S4x80x512 :=
  Rect.unit (s := S4x80x512) ![h.val, 0, 0] S1x64x512.size
    (by have := h.isLt; intro a; fin_cases a <;> simp <;> omega)
abbrev R11b (h : Fin 4) : Rect S4x80x512 :=
  Rect.unit (s := S4x80x512) ![h.val, 64, 0] S1x1x512.size
    (by have := h.isLt; intro a; fin_cases a <;> simp <;> omega)
abbrev R12 (h : Fin 4) : Rect S4x1x512 :=
  Rect.unit (s := S4x1x512) ![h.val, 0, 0] S1x1x512.size
    (by have := h.isLt; intro a; fin_cases a <;> simp <;> omega)

/-! ## What a trip leaves, as a relation between the buffers' vectors -/

/-- The five buffers a trip hands to the next one: the output block, the scores of two tiles, their columns' maxima,
    the running sums, the running maxima. -/
structure St (F : FTy → Type) where
  o : Vec F S1x2048x256 .f32
  s : Vec F S2x4x512x512 .f32
  b : Vec F S2x4x1x512 .f32
  acc : Vec F S4x80x512 .f32
  m : Vec F S4x1x512 .f32

/-- Slot `sl` holds the scores of key tile `kt` at query tile `qb` and their columns' maxima. -/
def Scored (Q : Vec F S1x4x4x128x512 .f32) (K : Vec F S1x4x8192x128 .bf16) (qb : Fin 4) (kt : Fin 16) (sl : Fin 2) (σ' : St F) : Prop :=
  ∀ h : Fin 4,
    View.ld σ'.s (R7 sl h) = k0_pay7 (View.ld Q (R3 qb h)) (View.ld K (R4 kt h))
    ∧ View.ld σ'.b (R9 sl h) = k0_pay8 (View.ld Q (R3 qb h)) (View.ld K (R4 kt h))

/-- The running maxima and sums take in key tile `kt`, whose scores slot `sl` holds; `mo` is what the running maxima
    are taken to be beforehand. -/
def Taken (V : Vec F S1x16x256x512 .bf16) (v0 : FVec F S16x512 .bf16) (mo : Fin 4 → FVec F S1x512 .f32) (kt : Fin 16) (sl : Fin 2) (σ σ' : St F) : Prop :=
  ∀ h : Fin 4,
    View.ld σ'.m (R12 h) = k0_pay11 (mo h) (View.ld σ.b (R9 sl h))
    ∧ View.ld σ'.acc (R11 h) = k0_pay16 (k0_pay14 v0 (View.ld V (R5 kt h))) (k0_pay15 (k0_pay12 (mo h) (View.ld σ.b (R9 sl h))))
        (View.ld σ.acc (R11 h)) (k0_pay13 (mo h) (View.ld σ.b (R9 sl h)) (View.ld σ.s (R7 sl h)))

/-- The rows of query tile `qb` are the quotients of the running sums, the other rows are kept. -/
def Flushed (qb : Fin 4) (o : Vec F S1x2048x256 .f32) (σ' : St F) : Prop :=
  View.ld σ'.o (R6 qb 0) = k0_pay2 (View.ld σ'.acc (R11a 0)) (View.ld σ'.acc (R11b 0)) (View.ld σ'.acc (R11a 1)) (View.ld σ'.acc (R11b 1))
  ∧ View.ld σ'.o (R6 qb 1) = k0_pay2 (View.ld σ'.acc (R11a 2)) (View.ld σ'.acc (R11b 2)) (View.ld σ'.acc (R11a 3)) (View.ld σ'.acc (R11b 3))
  ∧ ∀ qb' : Fin 4, qb' ≠ qb → ∀ p : Fin 2, View.ld σ'.o (R6 qb' p) = View.ld o (R6 qb' p)

def slot (n : ℕ) : Fin 2 := ⟨n % 2, Nat.mod_lt _ (by decide)⟩
def kt' (n : ℕ) : Fin 16 := ⟨n % 16, Nat.mod_lt _ (by decide)⟩
def qb' (n : ℕ) : Fin 4 := ⟨n / 16 % 4, Nat.mod_lt _ (by decide)⟩

/-- Trip `k`: tile `k + 1` is scored, tile `k` is taken in, and at the end of a query tile its rows are written. -/
def Trip (Q : Vec F S1x4x4x128x512 .f32) (K : Vec F S1x4x8192x128 .bf16) (V : Vec F S1x16x256x512 .bf16) (v0 : FVec F S16x512 .bf16)
    (k : ℕ) (σ σ' : St F) : Prop :=
  Scored Q K (qb' (k + 1)) (kt' (k + 1)) (slot (k + 1)) σ'
  ∧ Taken V v0 (fun h => k0_pay9 (Scf.iv 1#32 1#32 k) (View.ld σ.m (R12 h))) (kt' k) (slot k) σ σ'
  ∧ ((k + 1) % 16 = 0 → Flushed (qb' k) σ.o σ')
  ∧ ((k + 1) % 16 ≠ 0 → σ'.o = σ.o)

/-! ## Reading back a list of pieces -/

section Back
variable {sig' : RefSig} {κ' : Kind} {sp' : Space} {S : Shape} {e : EltTy} (v : View sig' κ' sp' S e) (f : v.ty.Contents (Elt F))

theorem ld_hit (R : Rect S) (w) (L : List (View.Piece (Elt F) S e)) : View.ld (v.read (Elt F) (v.writes (Elt F) f (⟨R, w⟩ :: L))) R = w :=
  funext fun x => View.read_writes_cons_emb v f R w L x

theorem ld_miss (R R' : Rect S) (w) (L : List (View.Piece (Elt F) S e)) (h : Disjoint R.set R'.set) :
    View.ld (v.read (Elt F) (v.writes (Elt F) f (⟨R', w⟩ :: L))) R = View.ld (v.read (Elt F) (v.writes (Elt F) f L)) R :=
  funext fun x => View.read_writes_cons_miss v f ⟨R', w⟩ L _ (fun hx => Finset.disjoint_left.mp h (R.idx_mem x) hx)

theorem ld_four (R : Fin 4 → Rect S) (hR : ∀ i j, i ≠ j → Disjoint (R i).set (R j).set) (w0 w1 w2 w3) :
    let X := v.read (Elt F) (v.writes (Elt F) f [⟨R 3, w3⟩, ⟨R 2, w2⟩, ⟨R 1, w1⟩, ⟨R 0, w0⟩])
    View.ld X (R 0) = w0 ∧ View.ld X (R 1) = w1 ∧ View.ld X (R 2) = w2 ∧ View.ld X (R 3) = w3 := by
  refine ⟨?_, ?_, ?_, ld_hit v f _ _ _⟩
  · rw [ld_miss v f _ _ _ _ (hR 0 3 (by decide)), ld_miss v f _ _ _ _ (hR 0 2 (by decide)), ld_miss v f _ _ _ _ (hR 0 1 (by decide)), ld_hit]
  · rw [ld_miss v f _ _ _ _ (hR 1 3 (by decide)), ld_miss v f _ _ _ _ (hR 1 2 (by decide)), ld_hit]
  · rw [ld_miss v f _ _ _ _ (hR 2 3 (by decide)), ld_hit]

theorem forall4 {P : Fin 4 → Prop} (h0 : P 0) (h1 : P 1) (h2 : P 2) (h3 : P 3) : ∀ h, P h := by
  intro h; fin_cases h <;> assumption
end Back

theorem R7_disj (b) : ∀ i j : Fin 4, i ≠ j → Disjoint (R7 b i).set (R7 b j).set := fun i j h =>
  Rect.unit_disjoint 1 (by simp; omega)
theorem R9_disj (b) : ∀ i j : Fin 4, i ≠ j → Disjoint (R9 b i).set (R9 b j).set := fun i j h =>
  Rect.unit_disjoint 1 (by simp; omega)
theorem R11_disj : ∀ i j : Fin 4, i ≠ j → Disjoint (R11 i).set (R11 j).set := fun i j h =>
  Rect.unit_disjoint 0 (by simp; omega)
theorem R12_disj : ∀ i j : Fin 4, i ≠ j → Disjoint (R12 i).set (R12 j).set := fun i j h =>
  Rect.unit_disjoint 0 (by simp; omega)

/-- A head's sums from equal tiles: the factor and the weights are read back from where they were just stored. -/
theorem accEq {v0 : FVec F S16x512 .bf16} {v v' al al' acc p p'} (hv : v = v') (hal : al = al') (hp : p = p') :
    k0_pay16 (F := F) (k0_pay14 v0 v) (k0_pay15 al) acc p = k0_pay16 (k0_pay14 v0 v') (k0_pay15 al') acc p' := by
  subst hv hal hp; rfl

theorem R6_disj {q q' : Fin 4} {p p' : Fin 2} (h : q ≠ q' ∨ p ≠ p') : Disjoint (R6 q p).set (R6 q' p').set := by
  rcases h with h | h
  · exact Rect.unit_disjoint 1 (by simp; omega)
  · exact Rect.unit_disjoint 2 (by simp; omega)

/-- The output block after a query tile's two stores. -/
theorem ldOut (v : View sig .tc .vmem S1x2048x256 .f32) (f : v.ty.Contents (Elt F)) {qb : Fin 4} {off off'}
    (h0 : off = (R6 qb 0).off) (h1 : off' = (R6 qb 1).off) (inb inb') (w0 w1) :
    let X := v.read (Elt F) (v.writes (Elt F) f
      [⟨Rect.unit (s := S1x2048x256) off' S1x512x128.size inb', w1⟩, ⟨Rect.unit (s := S1x2048x256) off S1x512x128.size inb, w0⟩])
    View.ld X (R6 qb 0) = w0 ∧ View.ld X (R6 qb 1) = w1
    ∧ ∀ q : Fin 4, q ≠ qb → ∀ p : Fin 2, View.ld X (R6 q p) = View.ld (v.read (Elt F) f) (R6 q p) := by
  subst h0 h1
  refine ⟨?_, ld_hit v f (R6 qb 1) _ _, fun q hq p => ?_⟩
  · exact (ld_miss v f (R6 qb 0) (R6 qb 1) _ _ (R6_disj (.inr (by decide)))).trans (ld_hit v f (R6 qb 0) _ _)
  · exact (ld_miss v f (R6 q p) (R6 qb 1) _ _ (R6_disj (.inl hq))).trans (ld_miss v f (R6 q p) (R6 qb 0) _ _ (R6_disj (.inl hq)))

/-- A load inside one of the four pieces reads the same whatever the buffer held before them. -/
theorem covEq (v : View sig .tc .vmem S4x80x512 .f32) (f : v.ty.Contents (Elt F)) (w0 w1 w2 w3) (B : Rect S4x80x512)
    (hB : ∃ h : Fin 4, ∀ x, B.idx x ∈ (R11 h).set) :
    v.readCov [⟨R11 3, w3⟩, ⟨R11 2, w2⟩, ⟨R11 1, w1⟩, ⟨R11 0, w0⟩] B.toLoadRect
      = View.ld (v.read (Elt F) (v.writes (Elt F) f [⟨R11 3, w3⟩, ⟨R11 2, w2⟩, ⟨R11 1, w1⟩, ⟨R11 0, w0⟩])) B := by
  obtain ⟨h, hB⟩ := hB
  refine (View.readAt_writes_of_cover v f _ B.toLoadRect fun x => ?_).symm
  exact forall4 (P := fun h => B.idx x ∈ (R11 h).set → ∃ p ∈ ([⟨R11 3, w3⟩, ⟨R11 2, w2⟩, ⟨R11 1, w1⟩, ⟨R11 0, w0⟩] : List (View.Piece (Elt F) S4x80x512 .f32)), B.idx x ∈ p.1.set)
    (fun h => Exists.intro ⟨R11 0, w0⟩ ⟨List.mem_cons_of_mem _ (List.mem_cons_of_mem _ (List.mem_cons_of_mem _ List.mem_cons_self)), h⟩)
    (fun h => Exists.intro ⟨R11 1, w1⟩ ⟨List.mem_cons_of_mem _ (List.mem_cons_of_mem _ List.mem_cons_self), h⟩)
    (fun h => Exists.intro ⟨R11 2, w2⟩ ⟨List.mem_cons_of_mem _ List.mem_cons_self, h⟩)
    (fun h => Exists.intro ⟨R11 3, w3⟩ ⟨List.mem_cons_self, h⟩) h (hB x)

theorem R11a_in (h : Fin 4) : ∀ x, (R11a h).idx x ∈ (R11 h).set := fun x => by
  have := (Rect.mem_set_unit.mp ((R11a h).idx_mem x))
  refine Rect.mem_set_unit.mpr fun a => ?_
  have := this a
  revert this; fin_cases a <;> simp <;> omega
theorem R11b_in (h : Fin 4) : ∀ x, (R11b h).idx x ∈ (R11 h).set := fun x => by
  have := (Rect.mem_set_unit.mp ((R11b h).idx_mem x))
  refine Rect.mem_set_unit.mpr fun a => ?_
  have := this a
  revert this; fin_cases a <;> simp <;> omega

theorem pay2Eq {a a' b b' d d' e e'} (h1 : a = a') (h2 : b = b') (h3 : d = d') (h4 : e = e') :
    k0_pay2 (F := F) a b d e = k0_pay2 a' b' d' e' := by subst h1 h2 h3 h4; rfl

theorem conds : ∀ k : Fin k0_t1_loop.trips,
    (k0_cond1 k = 1#1 ↔ (k.val + 1) % 2 = 0) ∧ (k0_cond2 k = 1#1 ↔ (k.val + 1) % 16 = 0)
    ∧ (k0_cond3 k = 1#1 ↔ (k.val + 1) % 2 = 1) ∧ (k0_cond4 k = 1#1 ↔ (k.val + 1) % 16 = 0) := by decide +kernel

theorem offs_even : ∀ k : Fin k0_t1_loop.trips,
    (k0_off1 k = (R3 (qb' (k.val + 1)) 0).off ∧ k0_off2 k = (R4 (kt' (k.val + 1)) 0).off ∧ k0_off3 k = (R5 (kt' k.val) 0).off)
    ∧ (k0_off4 k = (R3 (qb' (k.val + 1)) 1).off ∧ k0_off5 k = (R4 (kt' (k.val + 1)) 1).off ∧ k0_off6 k = (R5 (kt' k.val) 1).off)
    ∧ (k0_off7 k = (R3 (qb' (k.val + 1)) 2).off ∧ k0_off8 k = (R4 (kt' (k.val + 1)) 2).off ∧ k0_off9 k = (R5 (kt' k.val) 2).off)
    ∧ (k0_off10 k = (R3 (qb' (k.val + 1)) 3).off ∧ k0_off11 k = (R4 (kt' (k.val + 1)) 3).off ∧ k0_off12 k = (R5 (kt' k.val) 3).off) := by decide +kernel

theorem offs_odd : ∀ k : Fin k0_t1_loop.trips,
    (k0_off15 k = (R3 (qb' (k.val + 1)) 0).off ∧ k0_off16 k = (R4 (kt' (k.val + 1)) 0).off ∧ k0_off17 k = (R5 (kt' k.val) 0).off)
    ∧ (k0_off18 k = (R3 (qb' (k.val + 1)) 1).off ∧ k0_off19 k = (R4 (kt' (k.val + 1)) 1).off ∧ k0_off20 k = (R5 (kt' k.val) 1).off)
    ∧ (k0_off21 k = (R3 (qb' (k.val + 1)) 2).off ∧ k0_off22 k = (R4 (kt' (k.val + 1)) 2).off ∧ k0_off23 k = (R5 (kt' k.val) 2).off)
    ∧ (k0_off24 k = (R3 (qb' (k.val + 1)) 3).off ∧ k0_off25 k = (R4 (kt' (k.val + 1)) 3).off ∧ k0_off26 k = (R5 (kt' k.val) 3).off) := by decide +kernel

theorem offs_flush : ∀ k : Fin k0_t1_loop.trips, k0_off13 k = (R6 (qb' k.val) 0).off ∧ k0_off14 k = (R6 (qb' k.val) 1).off := by decide +kernel

end Cert.KernelIdeal.Hand

end
-- ==== Proof.KI.Trip.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import proofs.«01_k».proof.Proof.KI.Rel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Trip
variable (𝒱₀ : Variants) (c : Dev nD) (i : grid0.Coords)
  (arg3 : Memref sig .tc .vmem S1x4x4x128x512 .f32) (harg3 : arg3.IsWhole)
  (arg4 : Memref sig .tc .vmem S1x4x8192x128 .bf16) (harg4 : arg4.IsWhole)
  (arg5 : Memref sig .tc .vmem S1x16x256x512 .bf16) (harg5 : arg5.IsWhole)
  (arg6 : Memref sig .tc .vmem S1x2048x256 .f32) (harg6 : arg6.IsWhole)
  (arg7 : Memref sig .tc .vmem S2x4x512x512 .f32) (harg7 : arg7.IsWhole)
  (arg8 : Memref sig .tc .vmem S2x4x512x512 .bf16) (harg8 : arg8.IsWhole)
  (arg9 : Memref sig .tc .vmem S2x4x1x512 .f32) (harg9 : arg9.IsWhole)
  (arg10 : Memref sig .tc .vmem S2x4x1x512 .f32) (harg10 : arg10.IsWhole)
  (arg11 : Memref sig .tc .vmem S4x80x512 .f32) (harg11 : arg11.IsWhole)
  (arg12 : Memref sig .tc .vmem S4x1x512 .f32) (harg12 : arg12.IsWhole)
  (v0 : FVec F S16x512 .bf16) (v48 : FVec F S512x512 .f32)

/-- A buffer held whole at contents. -/
abbrev pt {S : Shape} {e : EltTy} (M : Memref sig .tc .vmem S e) (f : Buf (Elt F) (M.view.loc (c : Thread nD τ))) : sProp 𝕄 :=
  M.view.loc (c : Thread nD τ) ↦[M.view.set]{fullShare} f

/-- The contents a trip leaves, the three operands' kept: what a trip's run ends in. -/
def Left (f3 : Buf (Elt F) (arg3.view.loc (c : Thread nD τ))) (f4 : Buf (Elt F) (arg4.view.loc (c : Thread nD τ))) (f5 : Buf (Elt F) (arg5.view.loc (c : Thread nD τ))) (R : St F → Prop) : sProp 𝕄 :=
  iprop(pt c arg3 f3 ∗ pt c arg4 f4 ∗ pt c arg5 f5
    ∗ ∃ g6 g7 g8 g9 g10 g11 g12, pt c arg6 g6 ∗ pt c arg7 g7 ∗ pt c arg8 g8 ∗ pt c arg9 g9 ∗ pt c arg10 g10 ∗ pt c arg11 g11 ∗ pt c arg12 g12
      ∗ ⌜R ⟨arg6.view.read (Elt F) g6, arg7.view.read (Elt F) g7, arg9.view.read (Elt F) g9, arg11.view.read (Elt F) g11, arg12.view.read (Elt F) g12⟩⌝)

theorem readAt_of_off {κ' : Kind} {sp' : Space} {S : Shape} {e : EltTy} (v : View sig κ' sp' S e) (f : v.ty.Contents (Elt F))
    {off off' size : Fin S.rank → ℕ} (h : off = off') (inb) (inb') :
    v.readAt (Elt F) (Rect.unit (s := S) off size inb).toLoadRect f
      = View.ld (v.read (Elt F) f) (Rect.unit (s := S) off' size inb') := by
  subst h; rfl

set_option sl_exec.resultNames true in
theorem tripOdd (k : Fin k0_t1_loop.trips) (h1 : ¬ k0_cond1 k = 1#1) (h3 : k0_cond3 k = 1#1) (h4 : ¬ k0_cond4 k = 1#1)
    (f3 f4 f5 f6 f7 f8 f9 f10 f11 f12) :
    iprop(pt c arg3 f3 ∗ pt c arg4 f4 ∗ pt c arg5 f5 ∗ pt c arg6 f6 ∗ pt c arg7 f7 ∗ pt c arg8 f8
      ∗ pt c arg9 f9 ∗ pt c arg10 f10 ∗ pt c arg11 f11 ∗ pt c arg12 f12)
    ⊢ wp frame (wpE (defs₀ (F := F)) 𝒱₀ (c : Thread nD τ) none) Set.univ
        (k0_t1_body (F := F) i arg3 harg3 arg4 harg4 arg5 harg5 arg6 harg6 arg7 harg7 arg8 harg8 arg9 harg9 arg10 harg10 arg11 harg11 arg12 harg12 v0 v48 k ())
        (fun _ => Left c arg3 arg4 arg5 arg6 arg7 arg8 arg9 arg10 arg11 arg12 f3 f4 f5
          (Trip (arg3.view.read (Elt F) f3) (arg4.view.read (Elt F) f4) (arg5.view.read (Elt F) f5) v0 k.val
            ⟨arg6.view.read (Elt F) f6, arg7.view.read (Elt F) f7, arg9.view.read (Elt F) f9, arg11.view.read (Elt F) f11, arg12.view.read (Elt F) f12⟩)) := by
  iintro ⟨H3, H4, H5, H6, H7, H8, H9, H10, H11, H12⟩
  sl_unfold [k0_t1_body]
  simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part12_skel k0_part13_skel k0_part14_skel k0_part15_skel k0_part16_skel k0_part17_skel k0_part18_skel k0_part19_skel k0_part20_skel
  sl_exec
  sl_step
  unfold Left
  isplitl [H3]; · iexact H3
  isplitl [H4]; · iexact H4
  isplitl [H5]; · iexact H5
  iexists _, _, _, _, _, _, _
  isplitl [H6]; · iexact H6
  isplitl [H7]; · iexact H7
  isplitl [H8]; · iexact H8
  isplitl [H9]; · iexact H9
  isplitl [H10]; · iexact H10
  isplitl [H11]; · iexact H11
  isplitl [H12]; · iexact H12
  ipureintro
  have hk := conds k
  have ho := offs_odd k
  have hlt : k.val < 63 := k.isLt
  have e1 : slot (k.val + 1) = 1 := Fin.ext (by simp only [slot]; exact hk.2.2.1.mp h3)
  have e0 : slot k.val = 0 := Fin.ext (by simp only [slot]; have := hk.2.2.1.mp h3; simp; omega)
  have h16 : (k.val + 1) % 16 ≠ 0 := fun h => h4 (hk.2.2.2.mpr h)
  refine ⟨?_, ?_, fun h => absurd h h16, fun _ => rfl⟩
  · rw [e1]; unfold Scored; dsimp only
    refine forall4 ⟨?_, ?_⟩ ⟨?_, ?_⟩ ⟨?_, ?_⟩ ⟨?_, ?_⟩
    · exact (ld_four arg7.view f7 (R7 1) (R7_disj 1) _ _ _ _).1.trans
        (congrArg₂ k0_pay7 (readAt_of_off arg3.view f3 ho.1.1 _ _) (readAt_of_off arg4.view f4 ho.1.2.1 _ _))
    · exact (ld_four arg9.view f9 (R9 1) (R9_disj 1) _ _ _ _).1.trans
        (congrArg₂ k0_pay8 (readAt_of_off arg3.view f3 ho.1.1 _ _) (readAt_of_off arg4.view f4 ho.1.2.1 _ _))
    · exact (ld_four arg7.view f7 (R7 1) (R7_disj 1) _ _ _ _).2.1.trans
        (congrArg₂ k0_pay7 (readAt_of_off arg3.view f3 ho.2.1.1 _ _) (readAt_of_off arg4.view f4 ho.2.1.2.1 _ _))
    · exact (ld_four arg9.view f9 (R9 1) (R9_disj 1) _ _ _ _).2.1.trans
        (congrArg₂ k0_pay8 (readAt_of_off arg3.view f3 ho.2.1.1 _ _) (readAt_of_off arg4.view f4 ho.2.1.2.1 _ _))
    · exact (ld_four arg7.view f7 (R7 1) (R7_disj 1) _ _ _ _).2.2.1.trans
        (congrArg₂ k0_pay7 (readAt_of_off arg3.view f3 ho.2.2.1.1 _ _) (readAt_of_off arg4.view f4 ho.2.2.1.2.1 _ _))
    · exact (ld_four arg9.view f9 (R9 1) (R9_disj 1) _ _ _ _).2.2.1.trans
        (congrArg₂ k0_pay8 (readAt_of_off arg3.view f3 ho.2.2.1.1 _ _) (readAt_of_off arg4.view f4 ho.2.2.1.2.1 _ _))
    · exact (ld_four arg7.view f7 (R7 1) (R7_disj 1) _ _ _ _).2.2.2.trans
        (congrArg₂ k0_pay7 (readAt_of_off arg3.view f3 ho.2.2.2.1 _ _) (readAt_of_off arg4.view f4 ho.2.2.2.2.1 _ _))
    · exact (ld_four arg9.view f9 (R9 1) (R9_disj 1) _ _ _ _).2.2.2.trans
        (congrArg₂ k0_pay8 (readAt_of_off arg3.view f3 ho.2.2.2.1 _ _) (readAt_of_off arg4.view f4 ho.2.2.2.2.1 _ _))
  · rw [e0]; unfold Taken; dsimp only
    refine forall4 ⟨?_, ?_⟩ ⟨?_, ?_⟩ ⟨?_, ?_⟩ ⟨?_, ?_⟩
    · exact (ld_four arg12.view f12 R12 R12_disj _ _ _ _).1.trans rfl
    · refine (ld_four arg11.view f11 R11 R11_disj _ _ _ _).1.trans ?_
      try dsimp only
      exact accEq (readAt_of_off arg5.view f5 ho.1.2.2 _ _) (View.readCov_cons_toLoadRect _ _ _ _) (View.readCov_cons_toLoadRect _ _ _ _)
    · exact (ld_four arg12.view f12 R12 R12_disj _ _ _ _).2.1.trans rfl
    · refine (ld_four arg11.view f11 R11 R11_disj _ _ _ _).2.1.trans ?_
      try dsimp only
      exact accEq (readAt_of_off arg5.view f5 ho.2.1.2.2 _ _) (View.readCov_cons_toLoadRect _ _ _ _) (View.readCov_cons_toLoadRect _ _ _ _)
    · exact (ld_four arg12.view f12 R12 R12_disj _ _ _ _).2.2.1.trans rfl
    · refine (ld_four arg11.view f11 R11 R11_disj _ _ _ _).2.2.1.trans ?_
      try dsimp only
      exact accEq (readAt_of_off arg5.view f5 ho.2.2.1.2.2 _ _) (View.readCov_cons_toLoadRect _ _ _ _) (View.readCov_cons_toLoadRect _ _ _ _)
    · exact (ld_four arg12.view f12 R12 R12_disj _ _ _ _).2.2.2.trans rfl
    · refine (ld_four arg11.view f11 R11 R11_disj _ _ _ _).2.2.2.trans ?_
      try dsimp only
      exact accEq (readAt_of_off arg5.view f5 ho.2.2.2.2.2 _ _) (View.readCov_cons_toLoadRect _ _ _ _) (View.readCov_cons_toLoadRect _ _ _ _)
set_option sl_exec.resultNames true in
theorem tripEven (k : Fin k0_t1_loop.trips) (h1 : k0_cond1 k = 1#1) (h2 : ¬ k0_cond2 k = 1#1) (h3 : ¬ k0_cond3 k = 1#1)
    (f3 f4 f5 f6 f7 f8 f9 f10 f11 f12) :
    iprop(pt c arg3 f3 ∗ pt c arg4 f4 ∗ pt c arg5 f5 ∗ pt c arg6 f6 ∗ pt c arg7 f7 ∗ pt c arg8 f8
      ∗ pt c arg9 f9 ∗ pt c arg10 f10 ∗ pt c arg11 f11 ∗ pt c arg12 f12)
    ⊢ wp frame (wpE (defs₀ (F := F)) 𝒱₀ (c : Thread nD τ) none) Set.univ
        (k0_t1_body (F := F) i arg3 harg3 arg4 harg4 arg5 harg5 arg6 harg6 arg7 harg7 arg8 harg8 arg9 harg9 arg10 harg10 arg11 harg11 arg12 harg12 v0 v48 k ())
        (fun _ => Left c arg3 arg4 arg5 arg6 arg7 arg8 arg9 arg10 arg11 arg12 f3 f4 f5
          (Trip (arg3.view.read (Elt F) f3) (arg4.view.read (Elt F) f4) (arg5.view.read (Elt F) f5) v0 k.val
            ⟨arg6.view.read (Elt F) f6, arg7.view.read (Elt F) f7, arg9.view.read (Elt F) f9, arg11.view.read (Elt F) f11, arg12.view.read (Elt F) f12⟩)) := by
  iintro ⟨H3, H4, H5, H6, H7, H8, H9, H10, H11, H12⟩
  sl_unfold [k0_t1_body]
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part2_skel k0_part3_skel k0_part4_skel k0_part5_skel k0_part6_skel k0_part7_skel k0_part8_skel k0_part9_skel k0_part10_skel
  sl_exec
  sl_step
  unfold Left
  isplitl [H3]; · iexact H3
  isplitl [H4]; · iexact H4
  isplitl [H5]; · iexact H5
  iexists _, _, _, _, _, _, _
  isplitl [H6]; · iexact H6
  isplitl [H7]; · iexact H7
  isplitl [H8]; · iexact H8
  isplitl [H9]; · iexact H9
  isplitl [H10]; · iexact H10
  isplitl [H11]; · iexact H11
  isplitl [H12]; · iexact H12
  ipureintro
  have hk := conds k
  have ho := offs_even k
  have hlt : k.val < 63 := k.isLt
  have e1 : slot (k.val + 1) = 0 := Fin.ext (by simp only [slot]; exact hk.1.mp h1)
  have e0 : slot k.val = 1 := Fin.ext (by simp only [slot]; have := hk.1.mp h1; simp; omega)
  have h16 : (k.val + 1) % 16 ≠ 0 := fun h => h2 (hk.2.1.mpr h)
  refine ⟨?_, ?_, fun h => absurd h h16, fun _ => rfl⟩
  · rw [e1]; unfold Scored; dsimp only
    refine forall4 ⟨?_, ?_⟩ ⟨?_, ?_⟩ ⟨?_, ?_⟩ ⟨?_, ?_⟩
    · exact (ld_four arg7.view f7 (R7 0) (R7_disj 0) _ _ _ _).1.trans
        (congrArg₂ k0_pay7 (readAt_of_off arg3.view f3 ho.1.1 _ _) (readAt_of_off arg4.view f4 ho.1.2.1 _ _))
    · exact (ld_four arg9.view f9 (R9 0) (R9_disj 0) _ _ _ _).1.trans
        (congrArg₂ k0_pay8 (readAt_of_off arg3.view f3 ho.1.1 _ _) (readAt_of_off arg4.view f4 ho.1.2.1 _ _))
    · exact (ld_four arg7.view f7 (R7 0) (R7_disj 0) _ _ _ _).2.1.trans
        (congrArg₂ k0_pay7 (readAt_of_off arg3.view f3 ho.2.1.1 _ _) (readAt_of_off arg4.view f4 ho.2.1.2.1 _ _))
    · exact (ld_four arg9.view f9 (R9 0) (R9_disj 0) _ _ _ _).2.1.trans
        (congrArg₂ k0_pay8 (readAt_of_off arg3.view f3 ho.2.1.1 _ _) (readAt_of_off arg4.view f4 ho.2.1.2.1 _ _))
    · exact (ld_four arg7.view f7 (R7 0) (R7_disj 0) _ _ _ _).2.2.1.trans
        (congrArg₂ k0_pay7 (readAt_of_off arg3.view f3 ho.2.2.1.1 _ _) (readAt_of_off arg4.view f4 ho.2.2.1.2.1 _ _))
    · exact (ld_four arg9.view f9 (R9 0) (R9_disj 0) _ _ _ _).2.2.1.trans
        (congrArg₂ k0_pay8 (readAt_of_off arg3.view f3 ho.2.2.1.1 _ _) (readAt_of_off arg4.view f4 ho.2.2.1.2.1 _ _))
    · exact (ld_four arg7.view f7 (R7 0) (R7_disj 0) _ _ _ _).2.2.2.trans
        (congrArg₂ k0_pay7 (readAt_of_off arg3.view f3 ho.2.2.2.1 _ _) (readAt_of_off arg4.view f4 ho.2.2.2.2.1 _ _))
    · exact (ld_four arg9.view f9 (R9 0) (R9_disj 0) _ _ _ _).2.2.2.trans
        (congrArg₂ k0_pay8 (readAt_of_off arg3.view f3 ho.2.2.2.1 _ _) (readAt_of_off arg4.view f4 ho.2.2.2.2.1 _ _))
  · rw [e0]; unfold Taken; dsimp only
    refine forall4 ⟨?_, ?_⟩ ⟨?_, ?_⟩ ⟨?_, ?_⟩ ⟨?_, ?_⟩
    · exact (ld_four arg12.view f12 R12 R12_disj _ _ _ _).1.trans rfl
    · refine (ld_four arg11.view f11 R11 R11_disj _ _ _ _).1.trans ?_
      try dsimp only
      exact accEq (readAt_of_off arg5.view f5 ho.1.2.2 _ _) (View.readCov_cons_toLoadRect _ _ _ _) (View.readCov_cons_toLoadRect _ _ _ _)
    · exact (ld_four arg12.view f12 R12 R12_disj _ _ _ _).2.1.trans rfl
    · refine (ld_four arg11.view f11 R11 R11_disj _ _ _ _).2.1.trans ?_
      try dsimp only
      exact accEq (readAt_of_off arg5.view f5 ho.2.1.2.2 _ _) (View.readCov_cons_toLoadRect _ _ _ _) (View.readCov_cons_toLoadRect _ _ _ _)
    · exact (ld_four arg12.view f12 R12 R12_disj _ _ _ _).2.2.1.trans rfl
    · refine (ld_four arg11.view f11 R11 R11_disj _ _ _ _).2.2.1.trans ?_
      try dsimp only
      exact accEq (readAt_of_off arg5.view f5 ho.2.2.1.2.2 _ _) (View.readCov_cons_toLoadRect _ _ _ _) (View.readCov_cons_toLoadRect _ _ _ _)
    · exact (ld_four arg12.view f12 R12 R12_disj _ _ _ _).2.2.2.trans rfl
    · refine (ld_four arg11.view f11 R11 R11_disj _ _ _ _).2.2.2.trans ?_
      try dsimp only
      exact accEq (readAt_of_off arg5.view f5 ho.2.2.2.2.2 _ _) (View.readCov_cons_toLoadRect _ _ _ _) (View.readCov_cons_toLoadRect _ _ _ _)
set_option sl_exec.resultNames true in
theorem tripFlush (k : Fin k0_t1_loop.trips) (h1 : k0_cond1 k = 1#1) (h2 : k0_cond2 k = 1#1) (h3 : ¬ k0_cond3 k = 1#1)
    (f3 f4 f5 f6 f7 f8 f9 f10 f11 f12) :
    iprop(pt c arg3 f3 ∗ pt c arg4 f4 ∗ pt c arg5 f5 ∗ pt c arg6 f6 ∗ pt c arg7 f7 ∗ pt c arg8 f8
      ∗ pt c arg9 f9 ∗ pt c arg10 f10 ∗ pt c arg11 f11 ∗ pt c arg12 f12)
    ⊢ wp frame (wpE (defs₀ (F := F)) 𝒱₀ (c : Thread nD τ) none) Set.univ
        (k0_t1_body (F := F) i arg3 harg3 arg4 harg4 arg5 harg5 arg6 harg6 arg7 harg7 arg8 harg8 arg9 harg9 arg10 harg10 arg11 harg11 arg12 harg12 v0 v48 k ())
        (fun _ => Left c arg3 arg4 arg5 arg6 arg7 arg8 arg9 arg10 arg11 arg12 f3 f4 f5
          (Trip (arg3.view.read (Elt F) f3) (arg4.view.read (Elt F) f4) (arg5.view.read (Elt F) f5) v0 k.val
            ⟨arg6.view.read (Elt F) f6, arg7.view.read (Elt F) f7, arg9.view.read (Elt F) f9, arg11.view.read (Elt F) f11, arg12.view.read (Elt F) f12⟩)) := by
  iintro ⟨H3, H4, H5, H6, H7, H8, H9, H10, H11, H12⟩
  sl_unfold [k0_t1_body]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  sl_exec
  sl_step
  unfold Left
  isplitl [H3]; · iexact H3
  isplitl [H4]; · iexact H4
  isplitl [H5]; · iexact H5
  iexists _, _, _, _, _, _, _
  isplitl [H6]; · iexact H6
  isplitl [H7]; · iexact H7
  isplitl [H8]; · iexact H8
  isplitl [H9]; · iexact H9
  isplitl [H10]; · iexact H10
  isplitl [H11]; · iexact H11
  isplitl [H12]; · iexact H12
  ipureintro
  have hk := conds k
  have ho := offs_even k
  have hlt : k.val < 63 := k.isLt
  have e1 : slot (k.val + 1) = 0 := Fin.ext (by simp only [slot]; exact hk.1.mp h1)
  have e0 : slot k.val = 1 := Fin.ext (by simp only [slot]; have := hk.1.mp h1; simp; omega)
  have h16 : (k.val + 1) % 16 = 0 := hk.2.1.mp h2
  have hf := offs_flush k
  refine ⟨?_, ?_, fun _ => ?_, fun h => absurd h16 h⟩
  · rw [e1]; unfold Scored; dsimp only
    refine forall4 ⟨?_, ?_⟩ ⟨?_, ?_⟩ ⟨?_, ?_⟩ ⟨?_, ?_⟩
    · exact (ld_four arg7.view f7 (R7 0) (R7_disj 0) _ _ _ _).1.trans
        (congrArg₂ k0_pay7 (readAt_of_off arg3.view f3 ho.1.1 _ _) (readAt_of_off arg4.view f4 ho.1.2.1 _ _))
    · exact (ld_four arg9.view f9 (R9 0) (R9_disj 0) _ _ _ _).1.trans
        (congrArg₂ k0_pay8 (readAt_of_off arg3.view f3 ho.1.1 _ _) (readAt_of_off arg4.view f4 ho.1.2.1 _ _))
    · exact (ld_four arg7.view f7 (R7 0) (R7_disj 0) _ _ _ _).2.1.trans
        (congrArg₂ k0_pay7 (readAt_of_off arg3.view f3 ho.2.1.1 _ _) (readAt_of_off arg4.view f4 ho.2.1.2.1 _ _))
    · exact (ld_four arg9.view f9 (R9 0) (R9_disj 0) _ _ _ _).2.1.trans
        (congrArg₂ k0_pay8 (readAt_of_off arg3.view f3 ho.2.1.1 _ _) (readAt_of_off arg4.view f4 ho.2.1.2.1 _ _))
    · exact (ld_four arg7.view f7 (R7 0) (R7_disj 0) _ _ _ _).2.2.1.trans
        (congrArg₂ k0_pay7 (readAt_of_off arg3.view f3 ho.2.2.1.1 _ _) (readAt_of_off arg4.view f4 ho.2.2.1.2.1 _ _))
    · exact (ld_four arg9.view f9 (R9 0) (R9_disj 0) _ _ _ _).2.2.1.trans
        (congrArg₂ k0_pay8 (readAt_of_off arg3.view f3 ho.2.2.1.1 _ _) (readAt_of_off arg4.view f4 ho.2.2.1.2.1 _ _))
    · exact (ld_four arg7.view f7 (R7 0) (R7_disj 0) _ _ _ _).2.2.2.trans
        (congrArg₂ k0_pay7 (readAt_of_off arg3.view f3 ho.2.2.2.1 _ _) (readAt_of_off arg4.view f4 ho.2.2.2.2.1 _ _))
    · exact (ld_four arg9.view f9 (R9 0) (R9_disj 0) _ _ _ _).2.2.2.trans
        (congrArg₂ k0_pay8 (readAt_of_off arg3.view f3 ho.2.2.2.1 _ _) (readAt_of_off arg4.view f4 ho.2.2.2.2.1 _ _))
  · rw [e0]; unfold Taken; dsimp only
    refine forall4 ⟨?_, ?_⟩ ⟨?_, ?_⟩ ⟨?_, ?_⟩ ⟨?_, ?_⟩
    · exact (ld_four arg12.view f12 R12 R12_disj _ _ _ _).1.trans rfl
    · refine (ld_four arg11.view f11 R11 R11_disj _ _ _ _).1.trans ?_
      try dsimp only
      exact accEq (readAt_of_off arg5.view f5 ho.1.2.2 _ _) (View.readCov_cons_toLoadRect _ _ _ _) (View.readCov_cons_toLoadRect _ _ _ _)
    · exact (ld_four arg12.view f12 R12 R12_disj _ _ _ _).2.1.trans rfl
    · refine (ld_four arg11.view f11 R11 R11_disj _ _ _ _).2.1.trans ?_
      try dsimp only
      exact accEq (readAt_of_off arg5.view f5 ho.2.1.2.2 _ _) (View.readCov_cons_toLoadRect _ _ _ _) (View.readCov_cons_toLoadRect _ _ _ _)
    · exact (ld_four arg12.view f12 R12 R12_disj _ _ _ _).2.2.1.trans rfl
    · refine (ld_four arg11.view f11 R11 R11_disj _ _ _ _).2.2.1.trans ?_
      try dsimp only
      exact accEq (readAt_of_off arg5.view f5 ho.2.2.1.2.2 _ _) (View.readCov_cons_toLoadRect _ _ _ _) (View.readCov_cons_toLoadRect _ _ _ _)
    · exact (ld_four arg12.view f12 R12 R12_disj _ _ _ _).2.2.2.trans rfl
    · refine (ld_four arg11.view f11 R11 R11_disj _ _ _ _).2.2.2.trans ?_
      try dsimp only
      exact accEq (readAt_of_off arg5.view f5 ho.2.2.2.2.2 _ _) (View.readCov_cons_toLoadRect _ _ _ _) (View.readCov_cons_toLoadRect _ _ _ _)
  · unfold Flushed; dsimp only
    obtain ⟨a0, a1, a2⟩ := ldOut arg6.view f6 hf.1 hf.2 (k0_off13_inb k h1 h2) (k0_off14_inb k h1 h2) _ _
    refine ⟨a0.trans ?_, a1.trans ?_, a2⟩
    · exact (pay2Eq (covEq arg11.view f11 _ _ _ _ _ ⟨0, R11a_in 0⟩) (covEq arg11.view f11 _ _ _ _ _ ⟨0, R11b_in 0⟩)
        (covEq arg11.view f11 _ _ _ _ _ ⟨1, R11a_in 1⟩) (covEq arg11.view f11 _ _ _ _ _ ⟨1, R11b_in 1⟩))
    · exact (pay2Eq (covEq arg11.view f11 _ _ _ _ _ ⟨2, R11a_in 2⟩) (covEq arg11.view f11 _ _ _ _ _ ⟨2, R11b_in 2⟩)
        (covEq arg11.view f11 _ _ _ _ _ ⟨3, R11a_in 3⟩) (covEq arg11.view f11 _ _ _ _ _ ⟨3, R11b_in 3⟩))

end Trip

end Cert.KernelIdeal.Hand

end
-- ==== Proof.KI.Body.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import proofs.«01_k».proof.Proof.KI.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Body
variable (𝒱₀ : Variants) (c : Dev nD) (i : grid0.Coords)
  (arg3 : Memref sig .tc .vmem S1x4x4x128x512 .f32) (harg3 : arg3.IsWhole)
  (arg4 : Memref sig .tc .vmem S1x4x8192x128 .bf16) (harg4 : arg4.IsWhole)
  (arg5 : Memref sig .tc .vmem S1x16x256x512 .bf16) (harg5 : arg5.IsWhole)
  (arg6 : Memref sig .tc .vmem S1x2048x256 .f32) (harg6 : arg6.IsWhole)
  (arg7 : Memref sig .tc .vmem S2x4x512x512 .f32) (harg7 : arg7.IsWhole)
  (arg8 : Memref sig .tc .vmem S2x4x512x512 .bf16) (harg8 : arg8.IsWhole)
  (arg9 : Memref sig .tc .vmem S2x4x1x512 .f32) (harg9 : arg9.IsWhole)
  (arg10 : Memref sig .tc .vmem S2x4x1x512 .f32) (harg10 : arg10.IsWhole)
  (arg11 : Memref sig .tc .vmem S4x80x512 .f32) (harg11 : arg11.IsWhole)
  (arg12 : Memref sig .tc .vmem S4x1x512 .f32) (harg12 : arg12.IsWhole)

/-- Any trip, by its parity and whether it ends a query tile. -/
theorem tripAny (v0 : FVec F S16x512 .bf16) (v48 : FVec F S512x512 .f32) (k : Fin k0_t1_loop.trips) (f3 f4 f5 f6 f7 f8 f9 f10 f11 f12) :
    iprop(pt c arg3 f3 ∗ pt c arg4 f4 ∗ pt c arg5 f5 ∗ pt c arg6 f6 ∗ pt c arg7 f7 ∗ pt c arg8 f8
      ∗ pt c arg9 f9 ∗ pt c arg10 f10 ∗ pt c arg11 f11 ∗ pt c arg12 f12)
    ⊢ wp frame (wpE (defs₀ (F := F)) 𝒱₀ (c : Thread nD τ) none) Set.univ
        (k0_t1_body (F := F) i arg3 harg3 arg4 harg4 arg5 harg5 arg6 harg6 arg7 harg7 arg8 harg8 arg9 harg9 arg10 harg10 arg11 harg11 arg12 harg12 v0 v48 k ())
        (fun _ => Left c arg3 arg4 arg5 arg6 arg7 arg8 arg9 arg10 arg11 arg12 f3 f4 f5
          (Trip (arg3.view.read (Elt F) f3) (arg4.view.read (Elt F) f4) (arg5.view.read (Elt F) f5) v0 k.val
            ⟨arg6.view.read (Elt F) f6, arg7.view.read (Elt F) f7, arg9.view.read (Elt F) f9, arg11.view.read (Elt F) f11, arg12.view.read (Elt F) f12⟩)) := by
  have hk := conds k
  by_cases h1 : k0_cond1 k = 1#1
  · have h3 : ¬ k0_cond3 k = 1#1 := fun h => by have := hk.1.mp h1; have := hk.2.2.1.mp h; omega
    by_cases h2 : k0_cond2 k = 1#1
    · exact tripFlush 𝒱₀ c i arg3 harg3 arg4 harg4 arg5 harg5 arg6 harg6 arg7 harg7 arg8 harg8 arg9 harg9 arg10 harg10 arg11 harg11 arg12 harg12 v0 v48 k h1 h2 h3 f3 f4 f5 f6 f7 f8 f9 f10 f11 f12
    · exact tripEven 𝒱₀ c i arg3 harg3 arg4 harg4 arg5 harg5 arg6 harg6 arg7 harg7 arg8 harg8 arg9 harg9 arg10 harg10 arg11 harg11 arg12 harg12 v0 v48 k h1 h2 h3 f3 f4 f5 f6 f7 f8 f9 f10 f11 f12
  · have h3 : k0_cond3 k = 1#1 := hk.2.2.1.mpr (by have : ¬ (k.val + 1) % 2 = 0 := fun h => h1 (hk.1.mpr h); omega)
    have h4 : ¬ k0_cond4 k = 1#1 := fun h => by have := hk.2.2.1.mp h3; have := hk.2.2.2.mp h; omega
    exact tripOdd 𝒱₀ c i arg3 harg3 arg4 harg4 arg5 harg5 arg6 harg6 arg7 harg7 arg8 harg8 arg9 harg9 arg10 harg10 arg11 harg11 arg12 harg12 v0 v48 k h1 h3 h4 f3 f4 f5 f6 f7 f8 f9 f10 f11 f12

/-- The 16 rows of ones the values are extended by. -/
abbrev ones : FVec F S16x512 .bf16 := k0_pay98

/-- What a trip preserves, as assertions. -/
theorem tripKeeps (Iv : ℕ → St F → Prop) (v48 : FVec F S512x512 .f32) (f3 f4 f5)
    (hI : ∀ k < 63, ∀ σ σ' : St F, Iv k σ →
      Trip (arg3.view.read (Elt F) f3) (arg4.view.read (Elt F) f4) (arg5.view.read (Elt F) f5) ones k σ σ' → Iv (k + 1) σ')
    (k : Fin k0_t1_loop.trips) (acc : Unit) :
    Left c arg3 arg4 arg5 arg6 arg7 arg8 arg9 arg10 arg11 arg12 f3 f4 f5 (Iv k.val)
    ⊢ wp frame (wpE (defs₀ (F := F)) 𝒱₀ (c : Thread nD τ) none) Set.univ
        (k0_t1_body (F := F) i arg3 harg3 arg4 harg4 arg5 harg5 arg6 harg6 arg7 harg7 arg8 harg8 arg9 harg9 arg10 harg10 arg11 harg11 arg12 harg12 ones v48 k acc)
        (fun _ => Left c arg3 arg4 arg5 arg6 arg7 arg8 arg9 arg10 arg11 arg12 f3 f4 f5 (Iv (k.val + 1))) := by
    unfold Left
    iintro ⟨H3, H4, H5, ⟨%f6, %f7, %f8, %f9, %f10, %f11, %f12, H6, H7, H8, H9, H10, H11, H12, %hσ⟩⟩
    iapply (wp_wand_r Idealize.ShloMosaic.frame (wpE (defs₀ (F := F)) 𝒱₀ (c : Thread nD τ) none) Set.univ)
    isplitl [H3 H4 H5 H6 H7 H8 H9 H10 H11 H12]
    · iapply (tripAny 𝒱₀ c i arg3 harg3 arg4 harg4 arg5 harg5 arg6 harg6 arg7 harg7 arg8 harg8 arg9 harg9 arg10 harg10 arg11 harg11 arg12 harg12
        ones v48 k f3 f4 f5 f6 f7 f8 f9 f10 f11 f12)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · unfold Left
      iintro %_ ⟨H3, H4, H5, ⟨%g6, %g7, %g8, %g9, %g10, %g11, %g12, H6, H7, H8, H9, H10, H11, H12, %ht⟩⟩
      isplitl [H3]; · iexact H3
      isplitl [H4]; · iexact H4
      isplitl [H5]; · iexact H5
      iexists g6, g7, g8, g9, g10, g11, g12
      isplitl [H6]; · iexact H6
      isplitl [H7]; · iexact H7
      isplitl [H8]; · iexact H8
      isplitl [H9]; · iexact H9
      isplitl [H10]; · iexact H10
      isplitl [H11]; · iexact H11
      isplitl [H12]; · iexact H12
      ipureintro
      exact hI k.val k.isLt _ _ hσ ht

set_option sl_exec.resultNames true in
theorem bodyRun (Iv : ℕ → St F → Prop) (Jv : St F → Prop) (f3 f4 f5 f6 f7 f8 f9 f10 f11 f12)
    (h0 : ∀ σ, Scored (arg3.view.read (Elt F) f3) (arg4.view.read (Elt F) f4) 0 0 0 σ → Iv 0 σ)
    (hI : ∀ k < 63, ∀ σ σ' : St F, Iv k σ →
      Trip (arg3.view.read (Elt F) f3) (arg4.view.read (Elt F) f4) (arg5.view.read (Elt F) f5) ones k σ σ' → Iv (k + 1) σ')
    (hJ : ∀ σ σ' : St F, Iv 63 σ →
      Taken (arg5.view.read (Elt F) f5) ones (fun h => shapeCast S1x512 (View.ld σ.m (R12 h)) shapeCasts_S1x1x512_S1x512) 15 1 σ σ' →
      Flushed 3 σ.o σ' → Jv σ') :
    iprop(pt c arg3 f3 ∗ pt c arg4 f4 ∗ pt c arg5 f5 ∗ pt c arg6 f6 ∗ pt c arg7 f7 ∗ pt c arg8 f8
      ∗ pt c arg9 f9 ∗ pt c arg10 f10 ∗ pt c arg11 f11 ∗ pt c arg12 f12)
    ⊢ wp frame (wpE (defs₀ (F := F)) 𝒱₀ (c : Thread nD τ) none) Set.univ
        (cc0_mla_attn (F := F) i arg3 harg3 arg4 harg4 arg5 harg5 arg6 harg6 arg7 harg7 arg8 harg8 arg9 harg9 arg10 harg10 arg11 harg11 arg12 harg12)
        (fun _ => Left c arg3 arg4 arg5 arg6 arg7 arg8 arg9 arg10 arg11 arg12 f3 f4 f5 Jv) := by
  iintro ⟨H3, H4, H5, H6, H7, H8, H9, H10, H11, H12⟩
  simp only [cc0_mla_attn_eq_skeleton]
  unfold cc0_mla_attn_skel
  simp only [k0_part30_eq_skeleton]
  unfold k0_part30_skel
  simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold k0_part21_skel k0_part22_skel k0_part23_skel k0_part24_skel k0_part25_skel k0_part26_skel k0_part27_skel k0_part28_skel k0_part29_skel
  sl_exec
  rw [wp_bind, wp_bind, wp_bind]
  iapply (Scf.wp_for frame (wpE (defs₀ (F := F)) 𝒱₀ (c : Thread nD τ) none) Set.univ _ _ _ _ _ _
    (fun k _ => Left c arg3 arg4 arg5 arg6 arg7 arg8 arg9 arg10 arg11 arg12 f3 f4 f5 (Iv k))
    (tripKeeps 𝒱₀ c i arg3 harg3 arg4 harg4 arg5 harg5 arg6 harg6 arg7 harg7 arg8 harg8 arg9 harg9 arg10 harg10 arg11 harg11 arg12 harg12 Iv _ f3 f4 f5 hI))
  beta_reduce
  unfold Left
  isplitl [H3 H4 H5 H6 H7 H8 H9 H10 H11 H12]
  · isplitl [H3]; · iexact H3
    isplitl [H4]; · iexact H4
    isplitl [H5]; · iexact H5
    iexists _, _, _, _, _, _, _
    isplitl [H6]; · iexact H6
    isplitl [H7]; · iexact H7
    isplitl [H8]; · iexact H8
    isplitl [H9]; · iexact H9
    isplitl [H10]; · iexact H10
    isplitl [H11]; · iexact H11
    isplitl [H12]; · iexact H12
    ipureintro
    refine h0 _ ?_
    unfold Scored; dsimp only
    refine forall4 ⟨?_, ?_⟩ ⟨?_, ?_⟩ ⟨?_, ?_⟩ ⟨?_, ?_⟩
    · exact (ld_four arg7.view f7 (R7 0) (R7_disj 0) _ _ _ _).1.trans rfl
    · exact (ld_four arg9.view f9 (R9 0) (R9_disj 0) _ _ _ _).1.trans rfl
    · exact (ld_four arg7.view f7 (R7 0) (R7_disj 0) _ _ _ _).2.1.trans rfl
    · exact (ld_four arg9.view f9 (R9 0) (R9_disj 0) _ _ _ _).2.1.trans rfl
    · exact (ld_four arg7.view f7 (R7 0) (R7_disj 0) _ _ _ _).2.2.1.trans rfl
    · exact (ld_four arg9.view f9 (R9 0) (R9_disj 0) _ _ _ _).2.2.1.trans rfl
    · exact (ld_four arg7.view f7 (R7 0) (R7_disj 0) _ _ _ _).2.2.2.trans rfl
    · exact (ld_four arg9.view f9 (R9 0) (R9_disj 0) _ _ _ _).2.2.2.trans rfl
  · iintro %_
    iintro ⟨H3, H4, H5, ⟨%g6, %g7, %g8, %g9, %g10, %g11, %g12, H6, H7, H8, H9, H10, H11, H12, %hσ⟩⟩
    sl_exec
    sl_step
    isplitl [H3]; · iexact H3
    isplitl [H4]; · iexact H4
    isplitl [H5]; · iexact H5
    iexists _, _, _, _, _, _, _
    isplitl [H6]; · iexact H6
    isplitl [H7]; · iexact H7
    isplitl [H8]; · iexact H8
    isplitl [H9]; · iexact H9
    isplitl [H10]; · iexact H10
    isplitl [H11]; · iexact H11
    isplitl [H12]; · iexact H12
    ipureintro
    refine hJ _ _ hσ ?_ ?_
    · unfold Taken; dsimp only
      refine forall4 ⟨?_, ?_⟩ ⟨?_, ?_⟩ ⟨?_, ?_⟩ ⟨?_, ?_⟩
      · exact (ld_four arg12.view g12 R12 R12_disj _ _ _ _).1.trans rfl
      · refine (ld_four arg11.view g11 R11 R11_disj _ _ _ _).1.trans ?_
        try dsimp only
        exact accEq rfl (View.readCov_cons_toLoadRect _ _ _ _) (View.readCov_cons_toLoadRect _ _ _ _)
      · exact (ld_four arg12.view g12 R12 R12_disj _ _ _ _).2.1.trans rfl
      · refine (ld_four arg11.view g11 R11 R11_disj _ _ _ _).2.1.trans ?_
        try dsimp only
        exact accEq rfl (View.readCov_cons_toLoadRect _ _ _ _) (View.readCov_cons_toLoadRect _ _ _ _)
      · exact (ld_four arg12.view g12 R12 R12_disj _ _ _ _).2.2.1.trans rfl
      · refine (ld_four arg11.view g11 R11 R11_disj _ _ _ _).2.2.1.trans ?_
        try dsimp only
        exact accEq rfl (View.readCov_cons_toLoadRect _ _ _ _) (View.readCov_cons_toLoadRect _ _ _ _)
      · exact (ld_four arg12.view g12 R12 R12_disj _ _ _ _).2.2.2.trans rfl
      · refine (ld_four arg11.view g11 R11 R11_disj _ _ _ _).2.2.2.trans ?_
        try dsimp only
        exact accEq rfl (View.readCov_cons_toLoadRect _ _ _ _) (View.readCov_cons_toLoadRect _ _ _ _)
    · unfold Flushed; dsimp only
      obtain ⟨a0, a1, a2⟩ := ldOut (qb := 3) arg6.view g6 rfl rfl inb_S1x2048x256_S1x512x128_0_1536_0 inb_S1x2048x256_S1x512x128_0_1536_128 _ _
      refine ⟨a0.trans ?_, a1.trans ?_, a2⟩
      · exact (pay2Eq (covEq arg11.view g11 _ _ _ _ _ ⟨0, R11a_in 0⟩) (covEq arg11.view g11 _ _ _ _ _ ⟨0, R11b_in 0⟩)
          (covEq arg11.view g11 _ _ _ _ _ ⟨1, R11a_in 1⟩) (covEq arg11.view g11 _ _ _ _ _ ⟨1, R11b_in 1⟩))
      · exact (pay2Eq (covEq arg11.view g11 _ _ _ _ _ ⟨2, R11a_in 2⟩) (covEq arg11.view g11 _ _ _ _ _ ⟨2, R11b_in 2⟩)
          (covEq arg11.view g11 _ _ _ _ _ ⟨3, R11a_in 3⟩) (covEq arg11.view g11 _ _ _ _ _ ⟨3, R11b_in 3⟩))
end Body

end Cert.KernelIdeal.Hand

end
-- ==== Proof.KI.Run.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.Pipeline.DatRel
public import Idealize.ShloMosaic.Lib.Pipeline.ArrRel
public import proofs.«01_k».proof.Proof.KI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Run

variable (m : (ℓ : Loc nD τ sig) → Buf (Elt F) ℓ) (ρ : Dev nD → PrngReg)

/-- Which windows are held to a predicate: the result's. -/
def fgt : Fin cfg0.W → Bool := fun w => match w with
  | ⟨0, _⟩ => false | ⟨1, _⟩ => false | ⟨2, _⟩ => false | ⟨3, _⟩ => true

/-- The proof data: each operand's block stays, nothing is named of the result's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Classical.arbitrary _
  Φ _ := Pipeline.ΦA spec0 c
  q _ := fullShare
  owed _ := 0

/-- What the result's block is held to, as a predicate on every window's. -/
def Rel (P : Fin cfg0.N → Vec F S1x2048x256 .f32 → Prop) :
    (w : Fin cfg0.W) → Fin cfg0.N → ((cfg0.win w).block.Idx → Elt F (cfg0.win w).elt) → Prop := fun w t => match w with
  | ⟨0, _⟩ => fun _ => True | ⟨1, _⟩ => fun _ => True | ⟨2, _⟩ => fun _ => True | ⟨3, _⟩ => P t

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What must be known of the tiles for the result's block to meet `P`: an invariant of the trips that the first scores
    establish, that a trip keeps, and that gives `P` once the last tile is taken in and written. -/
structure Steps (Q : Vec F S1x4x4x128x512 .f32) (K : Vec F S1x4x8192x128 .bf16) (W : Vec F S1x16x256x512 .bf16)
    (P : Vec F S1x2048x256 .f32 → Prop) where
  Iv : ℕ → St F → Prop
  init : ∀ σ, Scored Q K 0 0 0 σ → Iv 0 σ
  step : ∀ k < 63, ∀ σ σ' : St F, Iv k σ → Trip Q K W ones k σ σ' → Iv (k + 1) σ'
  last : ∀ σ σ' : St F, Iv 63 σ →
    Taken W ones (fun h => shapeCast S1x512 (View.ld σ.m (R12 h)) shapeCasts_S1x1x512_S1x512) 15 1 σ σ' →
    Flushed 3 σ.o σ' → P σ'.o

variable (P : Fin cfg0.N → Vec F S1x2048x256 .f32 → Prop)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜((dats m 0 c).toRRel fgt (Rel P)).Finds 3 t Y⌝ ∗ owns (c : Thread nD τ) (st0_3 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, ⌜P t X⌝ ∗ owns (c : Thread nD τ) (st0_3 t) fullShare X))

theorem sound_body (c : Dev nD) (t : Fin cfg0.N) (hs : Steps (iblk m c 0 t) (iblk m c 1 t) (iblk m c 2 t) (P t)) :
    bodyPre m P c t ⊢ wp frame (wpE (defs₀ (F := F)) Variants.none c none) Set.univ (bodyAt0 t) (fun _ => bodyPost m P c t) := by
  unfold bodyPre bodyPost bodyAt0
  simp only [before_0, before_1, before_2]
  rw [show (dats m 0 c).Φ t.succ = Pipeline.ΦA spec0 c from rfl, show (dats m 0 c).Φ t.castSucc = Pipeline.ΦA spec0 c from rfl,
    after_0, after_1, after_2]
  unfold Pipeline.ΦA
  rw [scopedRest0_eq]
  unfold Dat.owesAt Pipeline.owesWithin
  rw [show (dats m 0 c).owed t.castSucc = 0 from rfl, show (dats m 0 c).owed t.succ = 0 from rfl]
  unfold owns
  iintro ⟨⟨⟨⟨%f7, H7⟩, ⟨%f8, H8⟩, ⟨%f9, H9⟩, ⟨%f10, H10⟩, ⟨%f11, H11⟩, ⟨%f12, H12⟩⟩, Hg⟩, Hw, ⟨%d0, %f3, %e3, H3⟩, ⟨%d1, %f4, %e4, H4⟩, ⟨%d2, %f5, %e5, H5⟩, ⟨%Y, -, %f6, %e6, H6⟩⟩
  iapply (wp_wand_r Idealize.ShloMosaic.frame (wpE (defs₀ (F := F)) Variants.none (c : Thread nD τ) none) Set.univ)
  isplitl [H3 H4 H5 H6 H7 H8 H9 H10 H11 H12]
  · iapply (bodyRun Variants.none c (grid0.coords t) (st0_0 t) _ (st0_1 t) _ (st0_2 t) _ (st0_3 t) _
      (Memref.whole cc0_scratch0) _ (Memref.whole cc0_scratch1) _ (Memref.whole cc0_scratch2) _ (Memref.whole cc0_scratch3) _ (Memref.whole cc0_scratch4) _ (Memref.whole cc0_scratch5) _
      hs.Iv (fun σ => P t σ.o) f3 f4 f5 f6 f7 f8 f9 f10 f11 f12 (by rw [e3, e4]; exact hs.init) (by rw [e3, e4, e5]; exact hs.step) (by rw [e5]; exact hs.last))
    unfold pt
    simp only [Memref.view_whole, View.set_whole]
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · unfold Left pt
    simp only [Memref.view_whole, View.set_whole]
    iintro %_ ⟨H3, H4, H5, ⟨%g6, %g7, %g8, %g9, %g10, %g11, %g12, H6, H7, H8, H9, H10, H11, H12, %hP⟩⟩
    isplitl [H7 H8 H9 H10 H11 H12 Hg]
    · isplitl [H7 H8 H9 H10 H11 H12]
      · isplitl [H7]; · iexists g7; iexact H7
        isplitl [H8]; · iexists g8; iexact H8
        isplitl [H9]; · iexists g9; iexact H9
        isplitl [H10]; · iexists g10; iexact H10
        isplitl [H11]; · iexists g11; iexact H11
        iexists g12; iexact H12
      iexact Hg
    isplitl [Hw]; · iexact Hw
    isplitl [H3]
    · iexists f3; isplitr; · ipureintro; exact e3
      iexact H3
    isplitl [H4]
    · iexists f4; isplitr; · ipureintro; exact e4
      iexact H4
    isplitl [H5]
    · iexists f5; isplitr; · ipureintro; exact e5
      iexact H5
    iexists ((st0_3 t).view.read (Elt F) g6); isplitr
    · ipureintro; exact hP
    iexists g6; isplitr; · ipureintro; rfl
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) (hs : ∀ t, Steps (iblk m c 0 t) (iblk m c 1 t) (iblk m c 2 t) (P t)) :
    Pipeline.BodyObligationRel (dats (F := F) m 0 c) (defs₀ (F := F)) Variants.none () Set.univ fgt (Rel P) := fun t => by
  rw [bigSep_W0, bigSep_W0, defs₀_row]
  exact triple_restated (sound_body m P c t (hs t)) rfl .rfl fun _ => .rfl

/-- The run: every execution terminates, the arrays end as the pipeline leaves them with every block of the result meeting
    `P`, and every counter reads zero. -/
theorem run_main (P : Dev nD → Fin cfg0.N → Vec F S1x2048x256 .f32 → Prop)
    (hs : ∀ c t, Steps (iblk m c 0 t) (iblk m c 1 t) (iblk m c 2 t) (P c t)) :
    θ_run defs (onTc (τ := τ) (main (F := F))) (s₀ m ρ)
      (fun r => Pipeline.RDat.FramePost cfg0 (fun c => (dats m 0 c).toRRel fgt (Rel (P c))) (V m) r ∧ r.2.sem = fun _ => 0) :=
  Pipeline.RDat.θ_run_frame cfgs (0 : Fin 1) launch0 defs₀ Variants.none (fun c => (dats m 0 c).toRRel fgt (Rel (P c))) m ρ main
    (fun c => (body_obligation m (P c) c (hs c)).toRRel) (fun c => (dats m 0 c).share_full fun _ => rfl)
    (fun _ _ => rfl) (V m) (hmain m Variants.none) (A_eq m) (fun _ _ => rfl) (Q' := _) (hQ' := fun _ h => h)

/-- Every execution terminates with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main m ρ (fun _ _ _ => True) fun _ _ => ⟨fun _ _ => True, fun _ _ => trivial, fun _ _ _ _ _ _ => trivial, fun _ _ _ _ _ => trivial⟩)

end Run

end Cert.KernelIdeal.Hand

end
-- ==== Proof.KI.Pay.lean ====
module

public import proofs.«01_k».proof.Proof.KI.Rel
public import Idealize.ShloMosaic.Lib.Pointwise
public import Idealize.ShloMosaic.Lib.IdealHost
public import Idealize.ShloMosaic.PureOps.Ideal
public import Idealize.ShloMosaic.PureOps.Ideal.Laws

@[expose] public section

set_option maxRecDepth 16384

noncomputable section

namespace Cert.KernelIdeal.Hand

open Cert.KernelIdeal Cert.KernelIdeal.Gen
open Idealize.ShloMosaic

/-! ## The body's arithmetic at one index, over the extended reals -/

/-- A score: the key's row times the query's column, scaled. -/
theorem pay6 (x : Vec Ideal S1x1x1x128x512 .f32) (y : Vec Ideal S1x1x512x128 .bf16) (j i : Fin 512) :
    k0_pay6 (F := Ideal) x y (ix2 j i) = ∑ d : Fin 128, y (ix4 0 0 j d) * (x (ix5 0 0 0 d i) * (((3424635 / 33554432) * (Real.log 2)⁻¹ : ℝ) : EReal)) := by
  pointwise [k0_pay6]
  rfl

/-- The stored tile of scores. -/
theorem pay7 (x : Vec Ideal S1x1x1x128x512 .f32) (y : Vec Ideal S1x1x512x128 .bf16) (j i : Fin 512) :
    k0_pay7 (F := Ideal) x y (ix4 0 0 j i) = k0_pay6 (F := Ideal) x y (ix2 j i)  := by
  pointwise [k0_pay7]

/-- A column's greatest score. -/
theorem pay8 (x : Vec Ideal S1x1x1x128x512 .f32) (y : Vec Ideal S1x1x512x128 .bf16) (i : Fin 512) :
    k0_pay8 (F := Ideal) x y (ix4 0 0 0 i) = Finset.fold max (⊥ : EReal) (fun j => k0_pay6 (F := Ideal) x y (ix2 j i)) Finset.univ := by
  pointwise [k0_pay8]
  rw [show Ideal.ofBits FTy.f32 4286578688#32 = (⊥ : EReal) from by simp [Ideal.ofBits, Ideal.ieee]]

/-- The level a tile starts from: none at the first tile of a query tile, else the stored one. -/
theorem pay9 (k : BitVec 32) (x : Vec Ideal S1x1x512 .f32) (i : Fin 512) :
    k0_pay9 (F := Ideal) k x (ix2 0 i) =
      if Scalar.cmpi CmpIPredicate.eq (Scalar.remsi (Scalar.subi k 1#32) 16#32) 0#32 = 1#1 then ⊥ else x (ix3 0 0 i) := by
  pointwise [k0_pay9]
  rfl

/-- The new level. -/
theorem pay10 (x : Vec Ideal S1x512 .f32) (y : Vec Ideal S1x1x1x512 .f32) (i : Fin 512) :
    k0_pay10 (F := Ideal) x y (ix2 0 i) = max (x (ix2 0 i)) (y (ix4 0 0 0 i)) := by
  pointwise [k0_pay10]

/-- The stored new level. -/
theorem pay11 (x : Vec Ideal S1x512 .f32) (y : Vec Ideal S1x1x1x512 .f32) (i : Fin 512) :
    k0_pay11 (F := Ideal) x y (ix3 0 0 i) = max (x (ix2 0 i)) (y (ix4 0 0 0 i)) := by
  pointwise [k0_pay11, k0_pay10]

/-- The factor from the old level to the new one. -/
theorem pay12 (x : Vec Ideal S1x512 .f32) (y : Vec Ideal S1x1x1x512 .f32) (i : Fin 512) :
    k0_pay12 (F := Ideal) x y (ix4 0 0 0 i) = Ideal.exp2 (x (ix2 0 i) - max (x (ix2 0 i)) (y (ix4 0 0 0 i))) := by
  pointwise [k0_pay12, k0_pay10]
  rfl

/-- A score's weight at the new level. -/
theorem pay13 (x : Vec Ideal S1x512 .f32) (y : Vec Ideal S1x1x1x512 .f32) (z) (j i : Fin 512) :
    k0_pay13 (F := Ideal) x y z (ix4 0 0 j i) = Ideal.exp2 (z (ix4 0 0 j i) - max (x (ix2 0 i)) (y (ix4 0 0 0 i))) := by
  pointwise [k0_pay13, k0_pay10]
  rfl

/-- A head's sums take in a tile: rows below 64 the values, the rows after them ones. -/
theorem pay16 (w y al acc p) (r : Fin 80) (i : Fin 512) :
    k0_pay16 (F := Ideal) (k0_pay14 w y) (k0_pay15 al) acc p (ix3 0 r i) =
    al (ix4 0 0 0 i) * acc (ix3 0 r i) +
      ∑ j, (if h : r.val < 64 then y (ix4 0 0 ⟨r.val, h⟩ j) else w (ix2 ⟨r.val - 64, by omega⟩ j)) * p (ix4 0 0 j i) := by
  pointwise [k0_pay16, k0_pay14, k0_pay15]

/-- The rows of ones. -/
theorem pay98 (r : Fin 16) (i : Fin 512) : k0_pay98 (F := Ideal) (ix2 r i) = 1 := by
  pointwise [k0_pay98]

/-- The quotients of two heads, transposed. -/
theorem pay2 (a b a' b') (i : Fin 512) (x : Fin 128) :
    k0_pay2 (F := Ideal) a b a' b' (ix3 0 i x) =
   (if h : x.val < 64 then Ideal.div (a (ix3 0 ⟨x.val, h⟩ i)) (b (ix3 0 0 i))
    else Ideal.div (a' (ix3 0 ⟨x.val - 64, by omega⟩ i)) (b' (ix3 0 0 i)))  := by
  pointwise [k0_pay2]

/-- A head's query tile. -/
theorem ldR3 (Q : Vec Ideal S1x4x4x128x512 .f32) (qb h : Fin 4) (d : Fin 128) (i : Fin 512) :
   View.ld Q (R3 qb h) (ix5 0 0 0 d i) = Q (ix5 0 qb h d i) := by
  pointwise []

/-- A head's key tile. -/
theorem ldR4 (K : Vec Ideal S1x4x8192x128 .bf16) (kt : Fin 16) (h : Fin 4) (d : Fin 128) (j : Fin 512) :
   View.ld K (R4 kt h) (ix4 0 0 j d) = K (ix4 0 h ⟨512 * kt.val + j.val, by omega⟩ d) := by
  pointwise []

/-- A head's value tile. -/
theorem ldR5 (W : Vec Ideal S1x16x256x512 .bf16) (kt : Fin 16) (h : Fin 4) (r : Fin 64) (j : Fin 512) :
   View.ld W (R5 kt h) (ix4 0 0 r j) = W (ix4 0 kt ⟨64 * h.val + r.val, by omega⟩ j) := by
  pointwise []

/-- A pair of heads' rows of the result. -/
theorem ldR6 (o : Vec Ideal S1x2048x256 .f32) (qb : Fin 4) (p : Fin 2) (i : Fin 512) (x : Fin 128) :
   View.ld o (R6 qb p) (ix3 0 i x) = o (ix3 0 ⟨512 * qb.val + i.val, by omega⟩ ⟨128 * p.val + x.val, by omega⟩) := by
  pointwise []

/-- The first 64 rows of a head's sums. -/
theorem ldR11a (a : Vec Ideal S4x80x512 .f32) (h : Fin 4) (r : Fin 64) (i : Fin 512) :
   View.ld a (R11a h) (ix3 0 r i) = View.ld a (R11 h) (ix3 0 ⟨r.val, by omega⟩ i) := by
  pointwise []

/-- The row after them. -/
theorem ldR11b (a : Vec Ideal S4x80x512 .f32) (h : Fin 4) (i : Fin 512) :
   View.ld a (R11b h) (ix3 0 0 i) = View.ld a (R11 h) (ix3 0 64 i) := by
  pointwise []

end Cert.KernelIdeal.Hand

end
-- ==== Proof.KI.Math.lean ====
module

public import Idealize.ShloMosaic.PureOps.Ideal

@[expose] public section

noncomputable section

namespace Cert.Math

open Idealize.ShloMosaic

/-! ## Weighted sums of extended reals with real weights -/

/-- A real factor that is not negative goes into a sum. -/
theorem mul_sum {ι : Type} (s : Finset ι) (f : ι → EReal) {c : ℝ} (hc : 0 ≤ c) :
    (c : EReal) * ∑ j ∈ s, f j = ∑ j ∈ s, (c : EReal) * f j := by
  induction s using Finset.cons_induction with
  | empty => simp
  | cons a s h ih =>
    rw [Finset.sum_cons, Finset.sum_cons, EReal.left_distrib_of_nonneg_of_ne_top (by exact_mod_cast hc) (EReal.coe_ne_top c), ih]

theorem coe_sum {ι : Type} (s : Finset ι) (f : ι → ℝ) : ((∑ j ∈ s, f j : ℝ) : EReal) = ∑ j ∈ s, (f j : EReal) := by
  induction s using Finset.cons_induction with
  | empty => simp
  | cons a s h ih => rw [Finset.sum_cons, Finset.sum_cons, EReal.coe_add, ih]

theorem max_coe (r t : ℝ) : max (r : EReal) (t : EReal) = ((max r t : ℝ) : EReal) :=
  (EReal.coe_strictMono.monotone.map_max (a := r) (b := t)).symm

/-- The greatest of finitely many reals, one at least, is a real. -/
theorem fold_max_real {n : ℕ} (hn : 0 < n) (f : Fin n → EReal) (hf : ∀ j, ∃ r : ℝ, f j = (r : EReal)) :
    ∃ r : ℝ, Finset.fold max (⊥ : EReal) f Finset.univ = (r : EReal) := by
  have key : ∀ s : Finset (Fin n), Finset.fold max (⊥ : EReal) f s = ⊥ ∧ s = ∅ ∨ ∃ r : ℝ, Finset.fold max (⊥ : EReal) f s = (r : EReal) := by
    intro s
    induction s using Finset.cons_induction with
    | empty => exact .inl ⟨by simp, rfl⟩
    | cons a s h ih =>
      right
      rw [Finset.fold_cons]
      obtain ⟨r, hr⟩ := hf a
      rcases ih with ⟨e, _⟩ | ⟨t, ht⟩
      · exact ⟨r, by rw [hr, e]; simp⟩
      · exact ⟨max r t, by rw [hr, ht, max_coe]⟩
  rcases key Finset.univ with ⟨_, h⟩ | h
  · exact absurd h (Finset.univ_nonempty_iff.mpr ⟨⟨0, hn⟩⟩).ne_empty
  · exact h

/-- The sum of the first `n` values weighted by powers of two, relative to the level `M`. -/
def part (S : ℕ → ℝ) (V : ℕ → EReal) (M : ℝ) (n : ℕ) : EReal :=
  ∑ j ∈ Finset.range n, V j * ((Real.rpow 2 (S j - M) : ℝ) : EReal)

/-- A partial sum moves to another level by a factor. -/
theorem part_level (S : ℕ → ℝ) (V : ℕ → EReal) (M M' : ℝ) (n : ℕ) :
    ((Real.rpow 2 (M - M') : ℝ) : EReal) * part S V M n = part S V M' n := by
  unfold part
  rw [mul_sum _ _ (show 0 ≤ Real.rpow 2 (M - M') from Real.rpow_nonneg (by norm_num) _)]
  refine Finset.sum_congr rfl fun j _ => ?_
  rw [mul_left_comm, ← EReal.coe_mul]
  congr 2
  show (2 : ℝ) ^ (M - M') * 2 ^ (S j - M) = 2 ^ (S j - M')
  rw [← Real.rpow_add (by norm_num)]
  congr 1; ring

/-- A partial sum grows by the next terms. -/
theorem part_add (S : ℕ → ℝ) (V : ℕ → EReal) (M : ℝ) (n k : ℕ) :
    part S V M n + ∑ j : Fin k, V (n + j) * ((Real.rpow 2 (S (n + j) - M) : ℝ) : EReal) = part S V M (n + k) := by
  unfold part
  rw [Finset.sum_range_add, Finset.sum_range fun x => V (n + x) * ((Real.rpow 2 (S (n + x) - M) : ℝ) : EReal)]

/-- The weight of key `j` among the first `n`. -/
def weight (S : ℕ → ℝ) (n : ℕ) (j : ℕ) : ℝ := Real.rpow 2 (S j) / ∑ i ∈ Finset.range n, Real.rpow 2 (S i)

/-- Divided by the sum of the weights, a partial sum no longer depends on the level. -/
theorem part_div (S : ℕ → ℝ) (V : ℕ → EReal) (M : ℝ) {n : ℕ} (hn : 0 < n) :
    Ideal.div (part S V M n) (part S (fun _ => 1) M n) = ∑ j ∈ Finset.range n, V j * (weight S n j : EReal) := by
  have e : part S (fun _ => 1) M n = ((∑ j ∈ Finset.range n, Real.rpow 2 (S j - M) : ℝ) : EReal) := by
    unfold part; rw [coe_sum]; exact Finset.sum_congr rfl fun j _ => one_mul _
  have sub : ∀ j, Real.rpow 2 (S j - M) = Real.rpow 2 (S j) / Real.rpow 2 M := fun j => Real.rpow_sub (by norm_num) _ _
  have pos : ∀ x : ℝ, 0 < Real.rpow 2 x := fun x => Real.rpow_pos_of_pos (by norm_num) x
  have hL : 0 < ∑ j ∈ Finset.range n, Real.rpow 2 (S j) :=
    Finset.sum_pos (fun j _ => pos _) ⟨0, Finset.mem_range.mpr hn⟩
  have hL' : ∑ j ∈ Finset.range n, Real.rpow 2 (S j - M) = (∑ j ∈ Finset.range n, Real.rpow 2 (S j)) / Real.rpow 2 M := by
    rw [Finset.sum_div]; exact Finset.sum_congr rfl fun j _ => sub j
  have hpos : 0 < ∑ j ∈ Finset.range n, Real.rpow 2 (S j - M) := by rw [hL']; exact div_pos hL (pos M)
  rw [e, Ideal.div_coe hpos.ne', mul_comm]
  unfold part
  rw [mul_sum _ _ (one_div_nonneg.mpr hpos.le)]
  refine Finset.sum_congr rfl fun j _ => ?_
  rw [mul_left_comm, ← EReal.coe_mul]
  congr 2
  unfold weight
  rw [hL', sub]
  have := (pos M).ne'
  have := hL.ne'
  field_simp

/-- A sum over 128 lanes that hold a head's 96 terms in another order, and zeros after them. -/
theorem sum_lanes (g G : ℕ → ℝ) (h0 : ∀ j < 16, g j = G (80 + j)) (h1 : ∀ j < 48, g (16 + j) = G j) (h2 : ∀ j < 16, g (64 + j) = G (64 + j))
    (h3 : ∀ j < 16, g (80 + j) = G (48 + j)) (h4 : ∀ j < 32, g (96 + j) = 0) :
    ∑ j ∈ Finset.range 128, g j = ∑ j ∈ Finset.range 96, G j := by
  rw [show 128 = 16 + 48 + 16 + 16 + 32 from rfl, Finset.sum_range_add, Finset.sum_range_add, Finset.sum_range_add, Finset.sum_range_add,
    show 96 = 48 + 16 + 16 + 16 from rfl, Finset.sum_range_add, Finset.sum_range_add, Finset.sum_range_add]
  have c : ∀ {n : ℕ} {f f' : ℕ → ℝ}, (∀ j < n, f j = f' j) → ∑ j ∈ Finset.range n, f j = ∑ j ∈ Finset.range n, f' j :=
    fun h => Finset.sum_congr rfl fun j hj => h j (Finset.mem_range.mp hj)
  rw [c h0, c h1, c h2, c h3, c h4, Finset.sum_const_zero]
  ring

/-- In base 2 from scores scaled by 1/ln 2, the weights are those of the exponential. -/
theorem weight_exp (x : ℕ → ℝ) (n j : ℕ) :
    weight (fun i => x i * (Real.log 2)⁻¹) n j = Real.exp (x j) / ∑ i ∈ Finset.range n, Real.exp (x i) := by
  have e : ∀ i, Real.rpow 2 (x i * (Real.log 2)⁻¹) = Real.exp (x i) := fun i => by
    show (2 : ℝ) ^ (x i * (Real.log 2)⁻¹) = _
    have : Real.log 2 ≠ 0 := (Real.log_pos (by norm_num)).ne'
    rw [Real.rpow_def_of_pos (by norm_num)]
    congr 1; field_simp
  unfold weight
  rw [e, Finset.sum_congr rfl fun i _ => e i]

/-- The weights of the exponential do not depend on the level subtracted. -/
theorem exp_level (x : ℕ → ℝ) (M : ℝ) (n j : ℕ) :
    Real.exp (x j - M) / ∑ i ∈ Finset.range n, Real.exp (x i - M) = Real.exp (x j) / ∑ i ∈ Finset.range n, Real.exp (x i) := by
  simp only [Real.exp_sub, ← Finset.sum_div]
  have := (Real.exp_pos M).ne'
  by_cases h : ∑ i ∈ Finset.range n, Real.exp (x i) = 0
  · simp [h]
  · field_simp

/-- A quotient of a real by a real that is not zero. -/
theorem div_real (a b : ℝ) (h : b ≠ 0) : Ideal.div (a : EReal) (b : EReal) = ((a / b : ℝ) : EReal) := by
  rw [Ideal.div_coe h, ← EReal.coe_mul]
  congr 1; ring

end Cert.Math

end
-- ==== Proof.KI.Soft.lean ====
module

public import proofs.«01_k».proof.Proof.KI.Pay
public import proofs.«01_k».proof.Proof.KI.Math

@[expose] public section

set_option maxRecDepth 16384

noncomputable section

namespace Cert.KernelIdeal.Hand

open Cert.KernelIdeal Cert.KernelIdeal.Gen
open Idealize.ShloMosaic

open Cert.Math

/-! ## The online softmax of one block: what the trips keep -/

/-- The queries' scale times log2(e), as the constant stands for it. -/
def cQ : ℝ := 3424635 / 33554432 * (Real.log 2)⁻¹

/-- The score of key `n` for query `i` of tile `qb`, in base 2. -/
def score (Q : Vec Ideal S1x4x4x128x512 .f32) (K : Vec Ideal S1x4x8192x128 .bf16) (qb h : Fin 4) (i : Fin 512) (n : Fin 8192) : EReal :=
  ∑ d : Fin 128, K (ix4 0 h n d) * (Q (ix5 0 qb h d i) * (cQ : EReal))

/-- Component `r` of key `n`'s value; past the 64 components, one. -/
def val (W : Vec Ideal S1x16x256x512 .bf16) (h : Fin 4) (r : Fin 80) (n : ℕ) : EReal :=
  if hr : r.val < 64 then W (ix4 0 ⟨n / 512 % 16, Nat.mod_lt _ (by decide)⟩ ⟨64 * h.val + r.val, by omega⟩ ⟨n % 512, Nat.mod_lt _ (by decide)⟩) else 1

/-- Component `r` of the attention's result for one query, from its scores in base 2. -/
def outv (W : Vec Ideal S1x16x256x512 .bf16) (S : Fin 4 → Fin 4 → Fin 512 → ℕ → ℝ) (qb h : Fin 4) (i : Fin 512) (r : Fin 64) : EReal :=
  ∑ n ∈ Finset.range 8192, val W h ⟨r.val, by omega⟩ n * (weight (S qb h i) 8192 n : EReal)

section Soft
variable {Q : Vec Ideal S1x4x4x128x512 .f32} {K : Vec Ideal S1x4x8192x128 .bf16} {W : Vec Ideal S1x16x256x512 .bf16}
variable {S : Fin 4 → Fin 4 → Fin 512 → ℕ → ℝ} (hS : ∀ qb h i (n : Fin 8192), score Q K qb h i n = (S qb h i n.val : EReal))

/-- The running levels are real, and the running sums are the partial sums of the first `n` keys. -/
def Acc (W : Vec Ideal S1x16x256x512 .bf16) (S : Fin 4 → Fin 4 → Fin 512 → ℕ → ℝ) (n : ℕ) (qb : Fin 4) (σ : St Ideal) : Prop :=
  ∀ (h : Fin 4) (i : Fin 512), ∃ M : ℝ, View.ld σ.m (R12 h) (ix3 0 0 i) = (M : EReal)
    ∧ ∀ r : Fin 80, View.ld σ.acc (R11 h) (ix3 0 r i) = part (S qb h i) (val W h r) M n

/-- The rows of query tile `qb` hold the attention's result. -/
def Done (W : Vec Ideal S1x16x256x512 .bf16) (S : Fin 4 → Fin 4 → Fin 512 → ℕ → ℝ) (qb : Fin 4) (o : Vec Ideal S1x2048x256 .f32) : Prop :=
  ∀ (p : Fin 2) (i : Fin 512) (x : Fin 128),
    View.ld o (R6 qb p) (ix3 0 i x) = outv W S qb ⟨2 * p.val + x.val / 64, by omega⟩ i ⟨x.val % 64, Nat.mod_lt _ (by decide)⟩

include hS in
theorem pay6_eq (qb h : Fin 4) (kt : Fin 16) (j i : Fin 512) :
    k0_pay6 (F := Ideal) (View.ld Q (R3 qb h)) (View.ld K (R4 kt h)) (ix2 j i) = (S qb h i (512 * kt.val + j.val) : EReal) := by
  rw [pay6, ← hS qb h i ⟨512 * kt.val + j.val, by omega⟩]
  refine Finset.sum_congr rfl fun d _ => ?_
  rw [ldR3, ldR4]; rfl

include hS in
theorem scored_s {qb : Fin 4} {kt : Fin 16} {sl : Fin 2} {σ : St Ideal} (hs : Scored Q K qb kt sl σ) (h : Fin 4) (j i : Fin 512) :
    View.ld σ.s (R7 sl h) (ix4 0 0 j i) = (S qb h i (512 * kt.val + j.val) : EReal) := by
  rw [(hs h).1, pay7, pay6_eq hS]

include hS in
theorem scored_b {qb : Fin 4} {kt : Fin 16} {sl : Fin 2} {σ : St Ideal} (hs : Scored Q K qb kt sl σ) (h : Fin 4) (i : Fin 512) :
    ∃ r : ℝ, View.ld σ.b (R9 sl h) (ix4 0 0 0 i) = (r : EReal) := by
  rw [(hs h).2, pay8]
  exact fold_max_real (by decide) _ fun j => ⟨_, pay6_eq hS qb h kt j i⟩

theorem val_tile (h : Fin 4) (r : Fin 80) (kt : Fin 16) (j : Fin 512) :
    (if hr : r.val < 64 then View.ld W (R5 kt h) (ix4 0 0 ⟨r.val, hr⟩ j) else k0_pay98 (F := Ideal) (ix2 ⟨r.val - 64, by omega⟩ j))
      = val W h r (512 * kt.val + j.val) := by
  unfold val
  split
  · rw [ldR5]
    congr 2
    · ext; simp; omega
    · ext; simp; omega
  · rw [pay98]

include hS in
/-- A tile taken in: from the partial sums before it, or from anything when it is the query tile's first. -/
theorem taken {qb : Fin 4} {kt : Fin 16} {sl : Fin 2} {mo : Fin 4 → FVec Ideal S1x512 .f32} {σ σ' : St Ideal}
    (hs : Scored Q K qb kt sl σ) (ht : Taken W (k0_pay98 (F := Ideal)) mo kt sl σ σ')
    (hm : ∀ (h : Fin 4) (i : Fin 512), (kt.val = 0 ∧ mo h (ix2 0 i) = (⊥ : EReal))
      ∨ ∃ M : ℝ, mo h (ix2 0 i) = (M : EReal) ∧ ∀ r : Fin 80, View.ld σ.acc (R11 h) (ix3 0 r i) = part (S qb h i) (val W h r) M (512 * kt.val)) :
    Acc W S (512 * (kt.val + 1)) qb σ' := by
  intro h i
  obtain ⟨b, hb⟩ := scored_b hS hs h i
  have hmx : ∃ M' : ℝ, max (mo h (ix2 0 i) : EReal) (b : EReal) = (M' : EReal) := by
    rcases hm h i with ⟨_, e⟩ | ⟨M, e, _⟩
    · exact ⟨b, by rw [e]; simp⟩
    · exact ⟨max M b, by rw [e, max_coe]⟩
  obtain ⟨M', hM'⟩ := hmx
  refine ⟨M', ?_, fun r => ?_⟩
  · rw [(ht h).1, pay11, hb, hM']
  · rw [(ht h).2, pay16]
    have hsum : (∑ j : Fin 512, (if hr : r.val < 64 then View.ld W (R5 kt h) (ix4 0 0 ⟨r.val, hr⟩ j) else k0_pay98 (F := Ideal) (ix2 ⟨r.val - 64, by omega⟩ j))
          * k0_pay13 (F := Ideal) (mo h) (View.ld σ.b (R9 sl h)) (View.ld σ.s (R7 sl h)) (ix4 0 0 j i) : EReal)
        = ∑ j : Fin 512, val W h r (512 * kt.val + j) * ((Real.rpow 2 (S qb h i (512 * kt.val + j) - M') : ℝ) : EReal) := by
      refine Finset.sum_congr rfl fun j _ => ?_
      rw [val_tile, pay13, hb, hM', scored_s hS hs, ← EReal.coe_sub, Ideal.exp2_coe]
    rw [hsum, pay12, hb, hM', Nat.mul_add, mul_one, ← part_add]
    congr 1
    rcases hm h i with ⟨e0, e⟩ | ⟨M, e, ha⟩
    · rw [e, e0, EReal.bot_sub]
      simp [part]
    · rw [e, ha r, ← EReal.coe_sub, Ideal.exp2_coe, part_level]

theorem flushed {qb : Fin 4} {o : Vec Ideal S1x2048x256 .f32} {σ : St Ideal} (ha : Acc W S 8192 qb σ) (hf : Flushed qb o σ) :
    Done W S qb σ.o ∧ ∀ q, q ≠ qb → Done W S q o → Done W S q σ.o := by
  have div : ∀ (h : Fin 4) (i : Fin 512) (r : Fin 64),
      Ideal.div (View.ld σ.acc (R11a h) (ix3 0 r i)) (View.ld σ.acc (R11b h) (ix3 0 0 i)) = outv W S qb h i r := by
    intro h i r
    obtain ⟨M, _, hr⟩ := ha h i
    rw [ldR11a, ldR11b, hr, hr, show val W h 64 = fun _ => 1 from rfl, part_div _ _ _ (by decide)]
    rfl
  refine ⟨fun p i x => ?_, fun q hq hd p i x => by rw [hf.2.2 q hq p]; exact hd p i x⟩
  have e : ∀ {h h' : Fin 4} {r r' : Fin 64}, h = h' → r = r' → outv W S qb h i r = outv W S qb h' i r' := by
    intro h h' r r' e e'; rw [e, e']
  fin_cases p
  · refine (congrFun hf.1 _).trans ?_
    rw [pay2]
    split
    · rw [div]; exact e (by ext; simp; omega) (by ext; simp; omega)
    · rw [div]; exact e (by ext; simp; omega) (by ext; simp; omega)
  · refine (congrFun hf.2.1 _).trans ?_
    rw [pay2]
    split
    · rw [div]; exact e (by ext; simp; omega) (by ext; simp; omega)
    · rw [div]; exact e (by ext; simp; omega) (by ext; simp; omega)

/-- What holds before trip `k`. -/
structure Inv (Q : Vec Ideal S1x4x4x128x512 .f32) (K : Vec Ideal S1x4x8192x128 .bf16) (W : Vec Ideal S1x16x256x512 .bf16)
    (S : Fin 4 → Fin 4 → Fin 512 → ℕ → ℝ) (k : ℕ) (σ : St Ideal) : Prop where
  scored : Scored Q K (qb' k) (kt' k) (slot k) σ
  acc : k % 16 ≠ 0 → Acc W S (512 * (k % 16)) (qb' k) σ
  done : ∀ q : Fin 4, q.val < k / 16 → Done W S q σ.o

/-- The loop's word says whether a query tile begins. -/
theorem first_iff : ∀ k : Fin 63,
    Scalar.cmpi CmpIPredicate.eq (Scalar.remsi (Scalar.subi (Scf.iv 1#32 1#32 k.val) 1#32) 16#32) 0#32 = 1#1 ↔ k.val % 16 = 0 := by decide +kernel

include hS in
/-- What trip `k` starts from is what it needs. -/
theorem start {k : ℕ} {mo : Fin 4 → FVec Ideal S1x512 .f32} {σ : St Ideal} (hi : Inv Q K W S k σ)
    (hmo : ∀ (h : Fin 4) (i : Fin 512), mo h (ix2 0 i) = if k % 16 = 0 then (⊥ : EReal) else View.ld σ.m (R12 h) (ix3 0 0 i)) (h : Fin 4) (i : Fin 512) :
    ((kt' k).val = 0 ∧ mo h (ix2 0 i) = (⊥ : EReal))
      ∨ ∃ M : ℝ, mo h (ix2 0 i) = (M : EReal) ∧ ∀ r : Fin 80, View.ld σ.acc (R11 h) (ix3 0 r i) = part (S (qb' k) h i) (val W h r) M (512 * (kt' k).val) := by
  by_cases h0 : k % 16 = 0
  · exact .inl ⟨h0, by rw [hmo, if_pos h0]⟩
  · obtain ⟨M, e, ha⟩ := hi.acc h0 h i
    exact .inr ⟨M, by rw [hmo, if_neg h0, e], ha⟩

include hS in
theorem inv_step (k : ℕ) (hk : k < 63) (σ σ' : St Ideal) (hi : Inv Q K W S k σ) (ht : Trip Q K W (k0_pay98 (F := Ideal)) k σ σ') :
    Inv Q K W S (k + 1) σ' := by
  obtain ⟨hsc, htk, hfl, hke⟩ := ht
  have hacc : Acc W S (512 * (k % 16 + 1)) (qb' k) σ' := taken hS hi.scored htk <| start hS hi fun h i => by
    rw [pay9]; simp only [first_iff ⟨k, hk⟩]
  refine ⟨hsc, fun h0 => ?_, fun q hq => ?_⟩
  · have e1 : (k + 1) % 16 = k % 16 + 1 := by omega
    have e2 : qb' (k + 1) = qb' k := by ext; simp only [qb']; omega
    rw [e1, e2]; exact hacc
  · by_cases h0 : (k + 1) % 16 = 0
    · have e1 : 512 * (k % 16 + 1) = 8192 := by omega
      obtain ⟨d1, d2⟩ := flushed (e1 ▸ hacc) (hfl h0)
      by_cases hqq : q = qb' k
      · exact hqq ▸ d1
      · refine d2 q hqq (hi.done q ?_)
        have : q.val ≠ k / 16 % 4 := fun e => hqq (Fin.ext e)
        omega
    · rw [hke h0]; exact hi.done q (by omega)

include hS in
theorem inv_last (σ σ' : St Ideal) (hi : Inv Q K W S 63 σ)
    (htk : Taken W (k0_pay98 (F := Ideal)) (fun h => shapeCast S1x512 (View.ld σ.m (R12 h)) shapeCasts_S1x1x512_S1x512) 15 1 σ σ')
    (hfl : Flushed 3 σ.o σ') : ∀ q, Done W S q σ'.o := by
  have hacc : Acc W S 8192 3 σ' := taken (kt := 15) hS hi.scored htk <| start (k := 63) hS hi fun h i => by
    pointwise []
  obtain ⟨d1, d2⟩ := flushed hacc hfl
  intro q
  by_cases hq : q = 3
  · exact hq ▸ d1
  · exact d2 q hq (hi.done q (by omega))

end Soft

end Cert.KernelIdeal.Hand

end
-- ==== Proof.KI.Host.lean ====
module

public import proofs.«01_k».proof.Proof.KI.Soft
public import proofs.«01_k».proof.Proof.KI.Run
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe
open Cert.Math

section Host
variable {F : FTy → Type} [FloatOps F] [Named F]

/-- A head's 96 components laid out over 128 lanes. -/
def lanesOf (a : FVec F S4x8192x8x96 .f32) : FVec F S4x8192x8x128 .f32 :=
  concatenate S4x8192x8x128 3
    [⟨S4x8192x8x16, extractStridedSlice S4x8192x8x16 ![0, 0, 0, 80] a slices_S4x8192x8x96_S4x8192x8x16_0_0_0_80⟩,
     ⟨S4x8192x8x48, extractStridedSlice S4x8192x8x48 ![0, 0, 0, 0] a slices_S4x8192x8x96_S4x8192x8x48_0_0_0_0⟩,
     ⟨S4x8192x8x16, extractStridedSlice S4x8192x8x16 ![0, 0, 0, 64] a slices_S4x8192x8x96_S4x8192x8x16_0_0_0_64⟩,
     ⟨S4x8192x8x16, extractStridedSlice S4x8192x8x16 ![0, 0, 0, 48] a slices_S4x8192x8x96_S4x8192x8x16_0_0_0_48⟩,
     ⟨S4x8192x8x32, broadcastInDim S4x8192x8x32 ![] bcast_S_S4x8192x8x32 (constant S_ .f32 0x00000000#32)⟩]
    concatenates_S4x8192x8x16_S4x8192x8x48_S4x8192x8x16_S4x8192x8x16_S4x8192x8x32_S4x8192x8x128_d3

variable (m : (ℓ : Loc nD τ sig) → Buf (Elt F) ℓ) (c : Dev nD)

set_option maxHeartbeats 1600000 in
/-- The queries, laid out over the lanes, in tiles of 512 rows, transposed. -/
theorem V7 : V m c main_v7 = transpose S4x16x8x128x512 [0, 1, 3, 4, 2]
    (shapeCast S4x16x512x8x128 (lanesOf (m ((c : Thread nD τ).loc main_arg0))) shapeCasts_S4x8192x8x128_S4x16x512x8x128)
    transposes_S4x16x512x8x128_S4x16x8x128x512_0_1_3_4_2 := by
  show StableHlo.after hostOps0 _ (Proc.devRef .tc main_v7) = _
  after_results
  rfl

set_option maxHeartbeats 1600000 in
/-- The keys, laid out over the lanes, head by head. -/
theorem V15 : V m c main_v15 = transpose S4x8x8192x128 [0, 2, 1, 3]
    (truncf .bf16 (lanesOf (m ((c : Thread nD τ).loc main_arg1))) bitsLt_bf16_f32)
    transposes_S4x8192x8x128_S4x8x8192x128_0_2_1_3 := by
  show StableHlo.after hostOps0 _ (Proc.devRef .tc main_v15) = _
  after_results
  rfl

set_option maxHeartbeats 1600000 in
/-- The values in tiles of 512 rows, transposed. -/
theorem V18 : V m c main_v18 = transpose S4x16x512x512 [0, 1, 3, 2]
    (shapeCast S4x16x512x512 (truncf .bf16 (m ((c : Thread nD τ).loc main_arg2) : FVec F S4x8192x8x64 .f32) bitsLt_bf16_f32) shapeCasts_S4x8192x8x64_S4x16x512x512)
    transposes_S4x16x512x512_S4x16x512x512_0_1_3_2 := by
  show StableHlo.after hostOps0 _ (Proc.devRef .tc main_v18) = _
  after_results
  rfl

end Host

/-- Lane `d` of a head's 128: the 96 components in the order in which the kernel holds them, then zeros. -/
def lane (a : Vec Ideal S4x8192x8x96 .f32) (b : Fin 4) (s : Fin 8192) (h : Fin 8) (d : Fin 128) : EReal :=
  if h1 : d.val < 16 then a (ix4 b s h ⟨80 + d.val, by omega⟩)
  else if h2 : d.val < 64 then a (ix4 b s h ⟨d.val - 16, by omega⟩)
  else if h3 : d.val < 80 then a (ix4 b s h ⟨d.val, by omega⟩)
  else if h4 : d.val < 96 then a (ix4 b s h ⟨d.val - 32, by omega⟩)
  else 0

/-- The laid-out array at a lane. -/
theorem lanesOf_apply (a : Vec Ideal S4x8192x8x96 .f32) (b : Fin 4) (s : Fin 8192) (h : Fin 8) (d : Fin 128) :
    lanesOf (F := Ideal) a (ix4 b s h d) = lane a b s h d := by
  pointwise [lanesOf, lane]
  have e : ∀ {x y : Fin 96}, x.val = y.val → a (ix4 b s h x) = a (ix4 b s h y) := fun h => by rw [Fin.ext h]
  split_ifs
  all_goals first
    | rfl
    | omega
    | (refine e ?_; first | omega | (dsimp only <;> omega))
    | (rw [dif_pos (show d.val < 64 by omega)]; done)
    | (rw [dif_pos (show d.val < 64 by omega)]; refine e ?_; first | omega | (dsimp only <;> omega))
    | (rw [dif_neg (show ¬d.val < 64 by omega), dif_pos (show d.val < 80 by omega)]; refine e ?_; first | omega | (dsimp only <;> omega))
    | (rw [dif_neg (show ¬d.val < 64 by omega), dif_neg (show ¬d.val < 80 by omega), dif_pos (show d.val < 96 by omega)]; refine e ?_; first | omega | (dsimp only <;> omega))
    | (rw [dif_neg (show ¬d.val < 64 by omega), dif_neg (show ¬d.val < 80 by omega), dif_neg (show ¬d.val < 96 by omega)])

section Blocks
variable (m : (ℓ : Loc nD τ sig) → Buf (Elt Ideal) ℓ) (c : Dev nD)

/-- The laid-out queries at an index. -/
theorem v7 (b : Fin 4) (n : Fin 16) (h : Fin 8) (d : Fin 128) (i : Fin 512) :
    V m c main_v7 (ix5 b n h d i) = lane (m ((c : Thread nD τ).loc main_arg0)) b ⟨512 * n.val + i.val, by omega⟩ h d := by
  rw [V7, ← lanesOf_apply]
  generalize lanesOf (F := Ideal) _ = x
  refine (transpose_apply _ _ _ _ (ix5 b n i h d) (fun a => by fin_cases a <;> rfl)).trans (shapeCast_apply _ _ _ _ ?_)
  rw [Shape.rowMajor_val_four, Shape.rowMajor_val_five]
  show ((b.val * 8192 + (512 * n.val + i.val)) * 8 + h.val) * 128 + d.val = (((b.val * 16 + n.val) * 512 + i.val) * 8 + h.val) * 128 + d.val
  omega

/-- The laid-out keys at an index. -/
theorem v15 (b : Fin 4) (s : Fin 8192) (h : Fin 8) (d : Fin 128) :
    V m c main_v15 (ix4 b h s d) = lane (m ((c : Thread nD τ).loc main_arg1)) b s h d := by
  rw [V15, ← lanesOf_apply]
  generalize lanesOf (F := Ideal) _ = x
  pointwise []

/-- The laid-out values at an index. -/
theorem v18 (b : Fin 4) (n : Fin 16) (r : Fin 512) (j : Fin 512) :
    V m c main_v18 (ix4 b n r j) = m ((c : Thread nD τ).loc main_arg2)
      (ix4 b ⟨512 * n.val + j.val, by omega⟩ ⟨r.val / 64, by omega⟩ ⟨r.val % 64, Nat.mod_lt _ (by decide)⟩) := by
  rw [V18]
  generalize m _ = x
  refine (transpose_apply _ _ _ _ (ix4 b n j r) (fun a => by fin_cases a <;> rfl)).trans
    ((shapeCast_apply _ _ _ (ix4 b ⟨512 * n.val + j.val, by omega⟩ ⟨r.val / 64, by omega⟩ ⟨r.val % 64, Nat.mod_lt _ (by decide)⟩) ?_).trans rfl)
  rw [Shape.rowMajor_val_four, Shape.rowMajor_val_four]
  show ((b.val * 8192 + (512 * n.val + j.val)) * 8 + r.val / 64) * 64 + r.val % 64 = ((b.val * 16 + n.val) * 512 + j.val) * 512 + r.val
  omega

/-! ## The blocks -/

/-- A grid point's batch, -/
def tb (t : Fin cfg0.N) : Fin 4 := ⟨t.val / 8, by have h : t.val < 32 := t.isLt; omega⟩
/-- its group of four heads, -/
def tg (t : Fin cfg0.N) : Fin 2 := ⟨t.val / 4 % 2, Nat.mod_lt _ (by decide)⟩
/-- and its 2048 query rows. -/
def tq (t : Fin cfg0.N) : Fin 4 := ⟨t.val % 4, Nat.mod_lt _ (by decide)⟩

/-- The four windows' block positions. -/
theorem idx : ∀ t : Fin cfg0.N, win0_0.index t = ![(tb t).val, (tq t).val, (tg t).val, 0, 0]
   ∧ win0_1.index t = ![(tb t).val, (tg t).val, 0, 0] ∧ win0_2.index t = ![(tb t).val, 0, (tg t).val, 0]
   ∧ win0_3.index t = ![(tb t).val, (tq t).val, (tg t).val] := by decide +kernel

/-- A block of the query window, read out of an array. -/
theorem rd0 (t : Fin cfg0.N) (qb h : Fin 4) (d : Fin 128) (i : Fin 512) (A : Vec Ideal S4x16x8x128x512 .f32) :
    ((cfg0.win 0).blk t).view.read (Elt Ideal) A (ix5 0 qb h d i) = A (ix5 (tb t) ⟨4 * (tq t).val + qb.val, by omega⟩ ⟨4 * (tg t).val + h.val, by omega⟩ d i) := by
  blk_ext [(idx t).1]

/-- The query block at a point. -/
theorem blk0 (t : Fin cfg0.N) (qb h : Fin 4) (d : Fin 128) (i : Fin 512) :
    iblk m c 0 t (ix5 0 qb h d i) = V m c main_v7 (ix5 (tb t) ⟨4 * (tq t).val + qb.val, by omega⟩ ⟨4 * (tg t).val + h.val, by omega⟩ d i) := by
  unfold iblk
  exact rd0 t qb h d i _

/-- The key block at a point. -/
theorem blk1 (t : Fin cfg0.N) (h : Fin 4) (s : Fin 8192) (d : Fin 128) :
    iblk m c 1 t (ix4 0 h s d) = V m c main_v15 (ix4 (tb t) ⟨4 * (tg t).val + h.val, by omega⟩ s d) := by
  blk_ext [iblk, (idx t).2.1]

/-- The value block at a point. -/
theorem blk2 (t : Fin cfg0.N) (n : Fin 16) (r : Fin 256) (j : Fin 512) :
    iblk m c 2 t (ix4 0 n r j) = V m c main_v18 (ix4 (tb t) n ⟨256 * (tg t).val + r.val, by omega⟩ j) := by
  blk_ext [iblk, (idx t).2.2.1]

end Blocks

end Cert.KernelIdeal.Hand

end
-- ==== Proof.Ref.lean ====
module

public import proofs.«01_k».proof.Proof.KI.Math
public import proofs.«01_k».proof.Proof.Gen.ReferenceIdeal
public import proofs.«01_k».proof.Proof.Gen.ReferenceIdeal.Run
public import Idealize.ShloMosaic.Lib.Pointwise
public import Idealize.ShloMosaic.Lib.IdealHost
public import Idealize.ShloMosaic.Lib.Pipeline.Value
public import Idealize.ShloMosaic.PureOps.Ideal
public import Idealize.ShloMosaic.PureOps.Ideal.Laws

@[expose] public section

set_option maxRecDepth 16384

noncomputable section

namespace Cert.ReferenceIdeal.Hand

open Cert.ReferenceIdeal Cert.ReferenceIdeal.Gen
open Idealize.ShloMosaic
open Cert.Math

/-- The scaled scores. -/
def sc (q k : FVec Ideal S4x8192x8x96 .f32) : FVec Ideal S4x8x8192x8192 .f32 :=
  mulf (Host.dotGeneral dot_S4x8192x8x96_S4x8192x8x96_S4x8x8192x8192_3_3_1_1_02_02 none q k)
    (broadcastInDim S4x8x8192x8192 ![] bcast_S_S4x8x8192x8192 (constant S_ .f32 0x3DD105EC#32))

/-- Each row's greatest. -/
def mx (x : FVec Ideal S4x8x8192x8192 .f32) : FVec Ideal S4x8x8192 .f32 :=
  Host.reduce FloatOps.maximumf x (constant S_ .f32 0xFF800000#32) reducesTo_S4x8x8192x8192_S4x8x8192_d3 h_S_

/-- The exponentials of the scores less `m`, row by row. -/
def ex (x : FVec Ideal S4x8x8192x8192 .f32) (m : FVec Ideal S4x8x8192 .f32) : FVec Ideal S4x8x8192x8192 .f32 :=
  Host.exp (subf x (broadcastInDim S4x8x8192x8192 ![0, 1, 2, 3] bcast_S4x8x8192x1_S4x8x8192x8192_0_1_2_3
    (broadcastInDim S4x8x8192x1 ![0, 1, 2] bcast_S4x8x8192_S4x8x8192x1_0_1_2
      (maximumf (broadcastInDim S4x8x8192 ![] bcast_S_S4x8x8192 (constant S_ .f32 0xFF800000#32)) m))))

/-- Each row over its sum. -/
def pr (e : FVec Ideal S4x8x8192x8192 .f32) : FVec Ideal S4x8x8192x8192 .f32 :=
  Host.divf e (broadcastInDim S4x8x8192x8192 ![0, 1, 2, 3] bcast_S4x8x8192x1_S4x8x8192x8192_0_1_2_3
    (broadcastInDim S4x8x8192x1 ![0, 1, 2] bcast_S4x8x8192_S4x8x8192x1_0_1_2
      (Host.reduceAdd e (constant S_ .f32 0x00000000#32) reducesTo_S4x8x8192x8192_S4x8x8192_d3 h_S_)))

/-- The values under the weights, heads side by side. -/
def ov (v : FVec Ideal S4x8192x8x64 .f32) (p : FVec Ideal S4x8x8192x8192 .f32) : FVec Ideal S4x8192x512 .f32 :=
  shapeCast _ (transpose S4x8192x8x64 [0, 3, 1, 2]
    (Host.dotGeneral dot_S4x8192x8x64_S4x8x8192x8192_S4x8x64x8192_1_3_3_2_02_01 none v p)
    transposes_S4x8x64x8192_S4x8192x8x64_0_3_1_2) shapeCasts_S4x8192x8x64_S4x8192x512

/-- A scaled score. -/
theorem sc_apply (q k : FVec Ideal S4x8192x8x96 .f32) (b : Fin 4) (h : Fin 8) (s n : Fin 8192) :
    sc q k (ix4 b h s n) = (∑ d : Fin 96, q (ix4 b s h d) * k (ix4 b n h d)) * ((3424635 / 33554432 : ℝ) : EReal) := by
  pointwise [sc]
  rw [show Ideal.ofBits FTy.f32 1037108716#32 = ((3424635 / 33554432 : ℝ) : EReal) from by
    simp [Ideal.ofBits, Ideal.ieee, -EReal.coe_mul]; norm_num]

/-- The word of −∞. -/
theorem bot_word : Ideal.ofBits FTy.f32 4286578688#32 = (⊥ : EReal) := by simp [Ideal.ofBits, Ideal.ieee]

/-- A row's greatest. -/
theorem mx_apply (x : FVec Ideal S4x8x8192x8192 .f32) (b : Fin 4) (h : Fin 8) (s : Fin 8192) :
    mx x (ix3 b h s) = Finset.fold max (⊥ : EReal) (fun j => x (ix4 b h s j)) Finset.univ := by
  unfold mx
  rw [Host.reduce_eq_fold]
  refine (Shape.ReducesTo.fold_fiber_r4_a3 _ _ _ _ _).trans ?_
  rw [← bot_word]
  rfl

/-- An exponential. -/
theorem ex_apply (x : FVec Ideal S4x8x8192x8192 .f32) (m : FVec Ideal S4x8x8192 .f32) (b : Fin 4) (h : Fin 8) (s n : Fin 8192) :
    ex x m (ix4 b h s n) = Ideal.exp (x (ix4 b h s n) - m (ix3 b h s)) := by
  pointwise [ex]
  rw [bot_word]
  simp

/-- A weight. -/
theorem pr_apply (e : FVec Ideal S4x8x8192x8192 .f32) (b : Fin 4) (h : Fin 8) (s n : Fin 8192) :
    pr e (ix4 b h s n) = Ideal.div (e (ix4 b h s n)) (∑ j, e (ix4 b h s j)) := by
  pointwise [pr]

/-- A result element. -/
theorem ov_apply (v : FVec Ideal S4x8192x8x64 .f32) (p : FVec Ideal S4x8x8192x8192 .f32) (b : Fin 4) (s : Fin 8192) (r : Fin 512) :
    ov v p (ix3 b s r) = ∑ n : Fin 8192, v (ix4 b n ⟨r.val / 64, by omega⟩ ⟨r.val % 64, Nat.mod_lt _ (by decide)⟩)
      * p (ix4 b ⟨r.val / 64, by omega⟩ s n) := by
  refine (shapeCast_apply _ _ _ (ix4 b s ⟨r.val / 64, by omega⟩ ⟨r.val % 64, Nat.mod_lt _ (by decide)⟩) ?_).trans
    ((transpose_apply _ _ _ _ (ix4 b ⟨r.val / 64, by omega⟩ ⟨r.val % 64, Nat.mod_lt _ (by decide)⟩ s) (fun a => by fin_cases a <;> rfl)).trans ?_)
  · rw [Shape.rowMajor_val_four, Shape.rowMajor_val_three]
    show ((b.val * 8192 + s.val) * 8 + r.val / 64) * 64 + r.val % 64 = (b.val * 8192 + s.val) * 512 + r.val
    omega
  · pointwise []

/-- The reference's result. -/
def out (q k : FVec Ideal S4x8192x8x96 .f32) (v : FVec Ideal S4x8192x8x64 .f32) : FVec Ideal S4x8192x512 .f32 :=
  ov v (pr (ex (sc q k) (mx (sc q k))))

/-- The scaled score of two tokens, over the reals. -/
def xr (q k : S4x8192x8x96.Idx → ℝ) (b : Fin 4) (h : Fin 8) (s : Fin 8192) (n : ℕ) : ℝ :=
  3424635 / 33554432 * ∑ d : Fin 96, q (ix4 b s h d) * k (ix4 b ⟨n % 8192, Nat.mod_lt _ (by decide)⟩ h d)

/-- Over finite queries and keys the reference is a mean of the values under the scores' exponentials. -/
theorem out_apply (q k : FVec Ideal S4x8192x8x96 .f32) (v : FVec Ideal S4x8192x8x64 .f32) (q' k' : S4x8192x8x96.Idx → ℝ)
    (hq : ∀ i, q i = (q' i : EReal)) (hk : ∀ i, k i = (k' i : EReal)) (b : Fin 4) (s : Fin 8192) (r : Fin 512) :
    out q k v (ix3 b s r) = ∑ n : Fin 8192, v (ix4 b n ⟨r.val / 64, by omega⟩ ⟨r.val % 64, Nat.mod_lt _ (by decide)⟩)
      * ((Real.exp (xr q' k' b ⟨r.val / 64, by omega⟩ s n.val) / ∑ i ∈ Finset.range 8192, Real.exp (xr q' k' b ⟨r.val / 64, by omega⟩ s i) : ℝ) : EReal) := by
  have hx : ∀ (h : Fin 8) (n : Fin 8192), sc q k (ix4 b h s n) = (xr q' k' b h s n.val : EReal) := fun h n => by
    rw [sc_apply, xr, mul_comm, EReal.coe_mul, coe_sum]
    refine congrArg (_ * ·) (Finset.sum_congr rfl fun d _ => ?_)
    rw [hq, hk, EReal.coe_mul]
    congr 4
    exact Fin.ext (Nat.mod_eq_of_lt n.isLt).symm
  unfold out
  rw [ov_apply]
  refine Finset.sum_congr rfl fun n _ => congrArg (_ * ·) ?_
  generalize (⟨r.val / 64, _⟩ : Fin 8) = h
  obtain ⟨M, hM⟩ := fold_max_real (by decide) (fun j => sc q k (ix4 b h s j)) fun j => ⟨_, hx h j⟩
  have he : ∀ j : Fin 8192, ex (sc q k) (mx (sc q k)) (ix4 b h s j) = ((Real.exp (xr q' k' b h s j.val - M) : ℝ) : EReal) := fun j => by
    rw [ex_apply, mx_apply, hM, hx, ← EReal.coe_sub, Ideal.exp_coe]
  have hs : ∑ j : Fin 8192, ex (sc q k) (mx (sc q k)) (ix4 b h s j) = ((∑ i ∈ Finset.range 8192, Real.exp (xr q' k' b h s i - M) : ℝ) : EReal) := by
    rw [Finset.sum_congr rfl fun j _ => he j, ← coe_sum, Finset.sum_range]
  rw [pr_apply, hs, he, div_real _ _ (Finset.sum_pos (fun i _ => Real.exp_pos _) ⟨0, by simp⟩).ne', exp_level]

open TcCoe in
/-- The reference's run, its result by its parts. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans rfl, (h c).2⟩) (Cert.ReferenceIdeal.Value.run m ρ)

end Cert.ReferenceIdeal.Hand

end
-- ==== Proof.KI.Val.lean ====
module

public import proofs.«01_k».proof.Proof.KI.Host
public import proofs.«01_k».proof.Proof.Ref
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe
open Cert.Math
open Cert.ReferenceIdeal.Hand (xr out)

/-! ## A score over the lanes -/

/-- Component `j` of a real row. -/
def comp (a : S4x8192x8x96.Idx → ℝ) (b : Fin 4) (s : Fin 8192) (h : Fin 8) (j : ℕ) : ℝ := a (ix4 b s h ⟨j % 96, Nat.mod_lt _ (by decide)⟩)

/-- Lane `j` of a real row. -/
def laneR (a : S4x8192x8x96.Idx → ℝ) (b : Fin 4) (s : Fin 8192) (h : Fin 8) (j : ℕ) : ℝ :=
  if j < 16 then comp a b s h (80 + j) else if j < 64 then comp a b s h (j - 16) else if j < 80 then comp a b s h j
  else if j < 96 then comp a b s h (j - 32) else 0

/-- A lane of a finite row is real. -/
theorem lane_real (x : Vec Ideal S4x8192x8x96 .f32) (a : S4x8192x8x96.Idx → ℝ) (hx : ∀ i, x i = (a i : EReal)) (b : Fin 4) (s : Fin 8192) (h : Fin 8)
    (d : Fin 128) : lane x b s h d = (laneR a b s h d.val : EReal) := by
  have e : ∀ {y : Fin 96} {j : ℕ}, y.val = j % 96 → x (ix4 b s h y) = ((comp a b s h j : ℝ) : EReal) := fun {y j} e => by
    rw [hx, comp, show y = ⟨j % 96, Nat.mod_lt _ (by decide)⟩ from Fin.ext e]
  unfold lane laneR
  split_ifs
  all_goals first
    | exact e (by show _ = _ % _; dsimp only <;> omega)
    | rfl

/-- The sum over the lanes is the sum over the components. -/
theorem sum_lane (q k : S4x8192x8x96.Idx → ℝ) (b : Fin 4) (s n : Fin 8192) (h : Fin 8) :
    ∑ j ∈ Finset.range 128, laneR k b n h j * (laneR q b s h j * cQ)
      = 3424635 / 33554432 * (∑ d : Fin 96, q (ix4 b s h d) * k (ix4 b n h d)) * (Real.log 2)⁻¹ := by
  have l0 : ∀ (a : S4x8192x8x96.Idx → ℝ) (s : Fin 8192) (j : ℕ), j < 16 → laneR a b s h j = comp a b s h (80 + j) := fun a s j hj => if_pos hj
  have l1 : ∀ (a : S4x8192x8x96.Idx → ℝ) (s : Fin 8192) (j : ℕ), j < 48 → laneR a b s h (16 + j) = comp a b s h j := fun a s j hj => by
    rw [laneR, if_neg (by omega), if_pos (by omega), Nat.add_sub_cancel_left]
  have l2 : ∀ (a : S4x8192x8x96.Idx → ℝ) (s : Fin 8192) (j : ℕ), j < 16 → laneR a b s h (64 + j) = comp a b s h (64 + j) := fun a s j hj => by
    rw [laneR, if_neg (by omega), if_neg (by omega), if_pos (by omega)]
  have l3 : ∀ (a : S4x8192x8x96.Idx → ℝ) (s : Fin 8192) (j : ℕ), j < 16 → laneR a b s h (80 + j) = comp a b s h (48 + j) := fun a s j hj => by
    rw [laneR, if_neg (by omega), if_neg (by omega), if_neg (by omega), if_pos (by omega), show 80 + j - 32 = 48 + j by omega]
  have l4 : ∀ (a : S4x8192x8x96.Idx → ℝ) (s : Fin 8192) (j : ℕ), laneR a b s h (96 + j) = 0 := fun a s j => by
    rw [laneR, if_neg (by omega), if_neg (by omega), if_neg (by omega), if_neg (by omega)]
  rw [sum_lanes (fun j => laneR k b n h j * (laneR q b s h j * cQ)) (fun j => comp k b n h j * (comp q b s h j * cQ))
      (fun j hj => by rw [l0 _ _ j hj, l0 _ _ j hj]) (fun j hj => by rw [l1 _ _ j hj, l1 _ _ j hj])
      (fun j hj => by rw [l2 _ _ j hj, l2 _ _ j hj]) (fun j hj => by rw [l3 _ _ j hj, l3 _ _ j hj])
      (fun j hj => by rw [l4, zero_mul]),
    Finset.sum_range, Finset.mul_sum, Finset.sum_mul]
  refine Finset.sum_congr rfl fun d _ => ?_
  have c : ∀ (a : S4x8192x8x96.Idx → ℝ) (s : Fin 8192), comp a b s h d.val = a (ix4 b s h d) := fun a s => by
    rw [comp]; congr 2; exact Fin.ext (Nat.mod_eq_of_lt d.isLt)
  rw [c, c, cQ]; ring

section Value
variable (m : (ℓ : Loc nD τ sig) → Buf (Elt Ideal) ℓ) (c : Dev nD) (q' k' : S4x8192x8x96.Idx → ℝ)

/-- A grid point's scores in base 2. -/
def scores (t : Fin cfg0.N) (qb h : Fin 4) (i : Fin 512) (n : ℕ) : ℝ :=
  xr q' k' (tb t) ⟨4 * (tg t).val + h.val, by omega⟩ ⟨2048 * (tq t).val + (512 * qb.val + i.val), by omega⟩ n * (Real.log 2)⁻¹

/-- The kernel's scores at a point are those. -/
theorem score_eq (hq : ∀ i, (m ((c : Thread nD τ).loc main_arg0) : Vec Ideal S4x8192x8x96 .f32) i = (q' i : EReal))
    (hk : ∀ i, (m ((c : Thread nD τ).loc main_arg1) : Vec Ideal S4x8192x8x96 .f32) i = (k' i : EReal)) (t : Fin cfg0.N) (qb h : Fin 4) (i : Fin 512) (n : Fin 8192) :
    score (iblk m c 0 t) (iblk m c 1 t) qb h i n = (scores q' k' t qb h i n.val : EReal) := by
  have hK : ∀ d : Fin 128, iblk m c 1 t (ix4 0 h n d) = ((laneR k' (tb t) n ⟨4 * (tg t).val + h.val, by omega⟩ d.val : ℝ) : EReal) := fun d =>
    (blk1 m c t h n d).trans ((v15 m c _ _ _ _).trans (lane_real _ k' hk _ _ _ _))
  have hQ : ∀ d : Fin 128, iblk m c 0 t (ix5 0 qb h d i)
      = ((laneR q' (tb t) ⟨2048 * (tq t).val + (512 * qb.val + i.val), by omega⟩ ⟨4 * (tg t).val + h.val, by omega⟩ d.val : ℝ) : EReal) := fun d =>
    (blk0 m c t qb h d i).trans ((v7 m c _ _ _ _ _).trans ((lane_real _ q' hq _ _ _ _).trans
      (congrArg (fun s => ((laneR q' (tb t) s ⟨4 * (tg t).val + h.val, by omega⟩ d.val : ℝ) : EReal)) (Fin.ext (by dsimp only; omega)))))
  refine (Finset.sum_congr rfl fun d _ => (congrArg₂ (fun x y : EReal => x * (y * (cQ : EReal))) (hK d) (hQ d)).trans
    (show _ = ((laneR k' (tb t) n ⟨4 * (tg t).val + h.val, by omega⟩ d.val
      * (laneR q' (tb t) ⟨2048 * (tq t).val + (512 * qb.val + i.val), by omega⟩ ⟨4 * (tg t).val + h.val, by omega⟩ d.val * cQ) : ℝ) : EReal) by
        rw [EReal.coe_mul, EReal.coe_mul])).trans ?_
  rw [← coe_sum]
  refine congrArg _ ?_
  rw [← Finset.sum_range fun j => laneR k' (tb t) n ⟨4 * (tg t).val + h.val, by omega⟩ j
          * (laneR q' (tb t) ⟨2048 * (tq t).val + (512 * qb.val + i.val), by omega⟩ ⟨4 * (tg t).val + h.val, by omega⟩ j * cQ), sum_lane, scores, xr,
    show (⟨n.val % 8192, Nat.mod_lt _ (by decide)⟩ : Fin 8192) = n from Fin.ext (Nat.mod_eq_of_lt n.isLt)]

/-- What a point's block of the result holds. -/
def Blk (t : Fin cfg0.N) (o : Vec Ideal S1x2048x256 .f32) : Prop :=
  ∀ (s : Fin 2048) (x : Fin 256), o (ix3 0 s x)
    = out (m ((c : Thread nD τ).loc main_arg0)) (m ((c : Thread nD τ).loc main_arg1)) (m ((c : Thread nD τ).loc main_arg2))
        (ix3 (tb t) ⟨2048 * (tq t).val + s.val, by omega⟩ ⟨256 * (tg t).val + x.val, by omega⟩)

/-- A finished block holds the reference's result. -/
theorem done_blk (hq : ∀ i, (m ((c : Thread nD τ).loc main_arg0) : Vec Ideal S4x8192x8x96 .f32) i = (q' i : EReal))
    (hk : ∀ i, (m ((c : Thread nD τ).loc main_arg1) : Vec Ideal S4x8192x8x96 .f32) i = (k' i : EReal)) (t : Fin cfg0.N) (o : Vec Ideal S1x2048x256 .f32)
    (hd : ∀ qb, Done (iblk m c 2 t) (scores q' k' t) qb o) : Blk m c t o := by
  intro s x
  have h1 := hd ⟨s.val / 512, by omega⟩ ⟨x.val / 128, by omega⟩ ⟨s.val % 512, Nat.mod_lt _ (by decide)⟩ ⟨x.val % 128, Nat.mod_lt _ (by decide)⟩
  rw [ldR6] at h1
  have e1 : (ix3 0 ⟨512 * (s.val / 512) + s.val % 512, by omega⟩ ⟨128 * (x.val / 128) + x.val % 128, by omega⟩ : S1x2048x256.Idx) = ix3 0 s x := by
    rw [show (⟨512 * (s.val / 512) + s.val % 512, by omega⟩ : Fin 2048) = s from Fin.ext (Nat.div_add_mod _ _),
      show (⟨128 * (x.val / 128) + x.val % 128, by omega⟩ : Fin 256) = x from Fin.ext (Nat.div_add_mod _ _)]
  refine (congrArg o e1).symm.trans (h1.trans ?_)
  rw [Cert.ReferenceIdeal.Hand.out_apply _ _ _ q' k' hq hk]
  unfold outv
  rw [Finset.sum_range]
  refine Finset.sum_congr rfl fun n _ => ?_
  congr 1
  · rw [val, dif_pos (by dsimp only <;> omega), blk2, v18]
    refine congrArg (m ((c : Thread nD τ).loc main_arg2)) ?_
    have f : ∀ {n n' : Fin 8192} {h h' : Fin 8} {r r' : Fin 64}, n = n' → h = h' → r = r' → (ix4 (tb t) n h r : S4x8192x8x64.Idx) = ix4 (tb t) n' h' r' := by
      intro n n' h h' r r' e e' e''; rw [e, e', e'']
    refine f (Fin.ext ?_) (Fin.ext ?_) (Fin.ext ?_) <;> dsimp only <;> omega
  · refine congrArg _ ?_
    show weight (fun j => xr q' k' (tb t) _ _ j * (Real.log 2)⁻¹) 8192 n.val = _
    rw [weight_exp]
    have f : ∀ {h h' : Fin 8} {s s' : Fin 8192}, h = h' → s = s' →
        Real.exp (xr q' k' (tb t) h s n.val) / ∑ j ∈ Finset.range 8192, Real.exp (xr q' k' (tb t) h s j)
          = Real.exp (xr q' k' (tb t) h' s' n.val) / ∑ j ∈ Finset.range 8192, Real.exp (xr q' k' (tb t) h' s' j) := by
      intro h h' s s' e e'; rw [e, e']
    refine f (Fin.ext ?_) (Fin.ext ?_) <;> dsimp only <;> omega

end Value

section Run
variable (m : (ℓ : Loc nD τ sig) → Buf (Elt Ideal) ℓ) (ρ : Dev nD → PrngReg) (q' k' : Dev nD → S4x8192x8x96.Idx → ℝ)

/-- Where a point's block of the result lies. -/
theorem emb3 (t : Fin cfg0.N) (s : Fin 2048) (x : Fin 256) :
    ((cfg0.win 3).blk t).view.emb (ix3 0 s x)
      = (ix3 (tb t) ⟨2048 * (tq t).val + s.val, by omega⟩ ⟨256 * (tg t).val + x.val, by omega⟩ : S4x8192x512.Idx) := by
  blk_ext [(idx t).2.2.2]

/-- An index of a block is its row and its column. -/
theorem ix3_of (y : S1x2048x256.Idx) : ∃ (s : Fin 2048) (x : Fin 256), y = ix3 0 s x :=
  ⟨y 1, y 2, funext fun a => by
    fin_cases a
    · exact Fin.ext (Nat.lt_one_iff.mp (y 0).isLt)
    · rfl
    · rfl⟩

/-- The kernel's run over finite queries and keys: its result is the reference's, its arguments unchanged. -/
theorem run_value (hq : ∀ c i, (m (((c : Dev nD) : Thread nD τ).loc main_arg0) : Vec Ideal S4x8192x8x96 .f32) i = (q' c i : EReal))
    (hk : ∀ c i, (m (((c : Dev nD) : Thread nD τ).loc main_arg1) : Vec Ideal S4x8192x8x96 .f32) i = (k' c i : EReal)) :
    θ_run (defs (F := Ideal)) (onTc (τ := τ) (main (F := Ideal))) ⟨m, fun _ => 0, ρ⟩ fun r => ∀ c : Dev nD,
      r.2.mem ((c.tc : Thread nD τ).loc main_v19)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨by
      obtain ⟨after, hl, ha⟩ := Pipeline.RDat.FramePost.exists_exact h.1 c
      refine (ha 3).trans (Pipeline.Dat.arrAt_eq_of_covers _ 3 _ (by decide +kernel) fun t hf y => ?_)
      have hb : Blk m c t (after 3 t) := (dats m 0 c).toRRel_leaves (w := 3) rfl (hl 3 t hf)
      obtain ⟨s, x, rfl⟩ := ix3_of y
      exact (hb s x).trans (congrArg (out _ _ _) (emb3 t s x).symm),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main m ρ (Blk m) fun c t =>
      { Iv := Inv (iblk m c 0 t) (iblk m c 1 t) (iblk m c 2 t) (scores (q' c) (k' c) t)
        init := fun σ h => ⟨h, fun h0 => absurd rfl h0, fun q hq => absurd hq (Nat.not_lt_zero _)⟩
        step := inv_step (score_eq m c (q' c) (k' c) (hq c) (hk c) t)
        last := fun σ σ' hi ht hf => done_blk m c (q' c) (k' c) (hq c) (hk c) t σ'.o
          (inv_last (score_eq m c (q' c) (k' c) (hq c) (hk c) t) σ σ' hi ht hf) })

end Run

end Cert.KernelIdeal.Hand

end
-- ==== Proof.Pre.lean ====
module

public import proofs.«01_k».proof.Defs
public import proofs.«01_k».proof.Proof.Gen.KernelIdeal
public import Idealize.ShloMosaic.Lib.Pointwise
public import Idealize.ShloMosaic.Lib.ReduceAll
public import Idealize.ShloMosaic.Lib.IdealHost
public import Idealize.ShloMosaic.PureOps.Ideal

@[expose] public section

noncomputable section

namespace Cert.Proof

open Idealize.ShloMosaic Cert.Pre_finite_scores

/-- The shapes the precondition's operations name agree. -/
theorem preFacts : Cert.Pre_finite_scores.Facts :=
  ⟨by decide, by decide, by decide⟩

/-- An extended real whose absolute value is below ∞ is real. -/
theorem real_of_lt (a : Ideal .f32) (h : FloatOps.cmpf (F := Ideal) .olt (FloatOps.hostAbsf a) (FloatOps.ofBits .f32 0x7F800000#32) = 1#1) :
    ∃ r : ℝ, a = (r : EReal) := by
  have ht : FloatOps.ofBits (F := Ideal) .f32 0x7F800000#32 = (⊤ : EReal) := by simp [Ideal.ofBits, Ideal.ieee]
  rw [ht] at h
  induction a using EReal.rec with
  | coe r => exact ⟨r, rfl⟩
  | bot => exact absurd h (by show Ideal.cmp .olt (max (⊥ : EReal) (-⊥)) (⊤ : EReal) ≠ 1#1; simp [Ideal.cmp])
  | top => exact absurd h (by show Ideal.cmp .olt (max (⊤ : EReal) (-⊤)) (⊤ : EReal) ≠ 1#1; simp [Ideal.cmp])

/-- The precondition says that the queries and the keys are finite. -/
theorem finite [Cert.Pre_finite_scores.Facts] (q k : FVec Ideal S4x8192x8x96 .f32) (v : FVec Ideal S4x8192x8x64 .f32) (h : fn (F := Ideal) q k v = fun _ => 1#1) :
    (∀ i, ∃ r : ℝ, q i = (r : EReal)) ∧ ∀ i, ∃ r : ℝ, k i = (r : EReal) := by
  have h0 := congrFun h ix0
  dsimp only [fn] at h0
  have h1 : ∀ a b : BitVec 1, IntOp.andi a b = 1#1 → a = 1#1 ∧ b = 1#1 := by decide
  obtain ⟨e, e'⟩ := h1 _ _ h0
  have : Subsingleton S_.Idx := ⟨fun i j => funext fun a => a.elim0⟩
  exact ⟨fun i => real_of_lt _ (Host.reduce_andi_all _ _ _ _ _ e i), fun i => real_of_lt _ (Host.reduce_andi_all _ _ _ _ _ e' i)⟩

/-- The shapes the tail's precondition names agree. -/
theorem memFacts : Cert.Pre_finite_memory.Facts :=
  ⟨by decide, by decide, by decide, by decide, by decide⟩

open Cert.Pre_finite_memory in
/-- The tail's precondition says that the queries' gains and the memory's keys are finite. -/
theorem finiteMem [Cert.Pre_finite_memory.Facts] (a0 : FVec Ideal Cert.Pre_finite_memory.S4x8192x1024 .f32) (a1 : FVec Ideal Cert.Pre_finite_memory.S4x8192x512 .f32)
    (a2 a3 : FVec Ideal Cert.Pre_finite_memory.S4x8192x256 .f32) (a4 : FVec Ideal Cert.Pre_finite_memory.S512 .f32)
    (a5 : FVec Ideal Cert.Pre_finite_memory.S1024x1024 .f32) (a6 : FVec Ideal Cert.Pre_finite_memory.S1024 .f32)
    (a7 : FVec Ideal Cert.Pre_finite_memory.S1024x256 .f32) (a8 : FVec Ideal Cert.Pre_finite_memory.S64 .f32)
    (a9 a10 : FVec Ideal Cert.Pre_finite_memory.S4x256x4x64 .f32) (a11 : FVec Ideal Cert.Pre_finite_memory.S256x1024 .f32)
    (a12 : FVec Ideal Cert.Pre_finite_memory.S1024 .f32) (a13 : FVec Ideal Cert.Pre_finite_memory.S1024x5632 .f32)
    (a14 : FVec Ideal Cert.Pre_finite_memory.S2816x1024 .f32) (a15 : FVec Ideal Cert.Pre_finite_memory.S1024 .f32)
    (h : Cert.Pre_finite_memory.fn (F := Ideal) a0 a1 a2 a3 a4 a5 a6 a7 a8 a9 a10 a11 a12 a13 a14 a15 = fun _ => 1#1) :
    (∀ i, ∃ r : ℝ, a8 i = (r : EReal)) ∧ ∀ i, ∃ r : ℝ, a9 i = (r : EReal) := by
  have h0 := congrFun h ix0
  dsimp only [Cert.Pre_finite_memory.fn] at h0
  have h1 : ∀ a b : BitVec 1, IntOp.andi a b = 1#1 → a = 1#1 ∧ b = 1#1 := by decide
  obtain ⟨e, e'⟩ := h1 _ _ h0
  have : Subsingleton Cert.Pre_finite_memory.S_.Idx := ⟨fun i j => funext fun a => a.elim0⟩
  exact ⟨fun i => real_of_lt _ (Host.reduce_andi_all _ _ _ _ _ e i), fun i => real_of_lt _ (Host.reduce_andi_all _ _ _ _ _ e' i)⟩

end Cert.Proof

end
-- ==== Proof.Row.lean ====
module

public import Idealize.ShloMosaic.Lib.Pointwise
public import Idealize.ShloMosaic.Lib.IdealHost
public import Idealize.ShloMosaic.PureOps.Ideal
public import Idealize.ShloMosaic.PureOps.Ideal.Laws

@[expose] public section

noncomputable section

namespace Cert.Row

open Idealize.ShloMosaic

/-! ## What the layer does to one token, over the extended reals -/

/-- The small number added to a mean square, as its float word has it. -/
def eps : EReal := Ideal.ofBits FTy.f32 897988541#32

/-- A row over the root of its mean square (`n` the length as a number), times the gains. -/
def rms {N : ℕ} (n : EReal) (x g : Fin N → EReal) (c : Fin N) : EReal :=
  x c * Ideal.rsqrt (Ideal.div (∑ d, x d * x d) n + eps) * g c

/-- A row times a matrix. -/
def lin {N M : ℕ} (x : Fin N → EReal) (w : Fin N → Fin M → EReal) (c : Fin M) : EReal := ∑ d, x d * w d c

/-- The length 1024 as its float word. -/
def n1024 : EReal := Ideal.ofBits FTy.f32 1149239296#32

/-- One half as its float word. -/
def half : EReal := Ideal.ofBits FTy.f32 1056964608#32

/-- The gate and the value of the feed-forward part, joined. -/
def act (g u : EReal) : EReal := g * Ideal.logistic g * u

/-- A feed-forward half-step: the row, and half of the gated product of its normalized self. -/
def ffn (x g : Fin 1024 → EReal) (wg wu : Fin 1024 → Fin 2816 → EReal) (wo : Fin 2816 → Fin 1024 → EReal) (c : Fin 1024) : EReal :=
  x c + half * lin (fun f => act (lin (rms n1024 x g) wg f) (lin (rms n1024 x g) wu f)) wo c

end Cert.Row

end
-- ==== Proof.Ffn.Pay.lean ====
module

public import proofs.«01_k».proof.Proof.Row
public import proofs.«01_k».proof.Proof.Gen.Kernel2Ideal.Value
public import Idealize.ShloMosaic.Lib.Pipeline.Value
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic
open Cert.Row

/-! ## The feed-forward body at one index -/

/-- The normalized block. -/
def nrm (x : FVec Ideal S512x1024 .f32) (g : FVec Ideal S1x1024 .f32) : FVec Ideal S512x1024 .bf16 :=
  truncf .bf16 (mulf (mulf x (broadcastTo S512x1024 (rsqrt (addf (divf (shapeCast S512x1
      (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 g broadcasts_S1x1024_S512x1024)) bitsLt_bf16_f32

/-- The block times a matrix of the first layer. -/
def up (x : FVec Ideal S512x1024 .bf16) (w : FVec Ideal S1024x2816 .bf16) : FVec Ideal S512x2816 .f32 :=
  matmul dot_S512x1024_S1024x2816_S512x2816_1_0_0_1_n_n none x w (constant S512x2816 .f32 0x00000000#32)

/-- The gated block. -/
def gate (g u : FVec Ideal S512x2816 .f32) : FVec Ideal S512x2816 .bf16 := truncf .bf16 (mulf (mulf g (logistic g)) u) bitsLt_bf16_f32

/-- The block plus half of the second layer's product. -/
def down (x : FVec Ideal S512x1024 .f32) (a : FVec Ideal S512x2816 .bf16) (w : FVec Ideal S2816x1024 .bf16) : FVec Ideal S512x1024 .f32 :=
  addf x (mulf (broadcast S512x1024 (Scalar.ofBits .f32 0x3F000000#32))
    (matmul dot_S512x2816_S2816x1024_S512x1024_1_0_0_1_n_n none a w (constant S512x1024 .f32 0x00000000#32)))

theorem nrm_apply (x : FVec Ideal S512x1024 .f32) (g : FVec Ideal S1x1024 .f32) (r : Fin 512) (c : Fin 1024) :
    nrm x g (ix2 r c) = rms n1024 (fun d => x (ix2 r d)) (fun d => g (ix2 0 d)) c := by
  pointwise [nrm, rms, n1024, eps]

theorem up_apply (x : FVec Ideal S512x1024 .bf16) (w : FVec Ideal S1024x2816 .bf16) (r : Fin 512) (f : Fin 2816) :
    up x w (ix2 r f) = lin (fun d => x (ix2 r d)) (fun d f => w (ix2 d f)) f := by
  pointwise [up, lin]

theorem gate_apply (g u : FVec Ideal S512x2816 .f32) (r : Fin 512) (f : Fin 2816) : gate g u (ix2 r f) = act (g (ix2 r f)) (u (ix2 r f)) := by
  pointwise [gate, act]

theorem down_apply (x : FVec Ideal S512x1024 .f32) (a : FVec Ideal S512x2816 .bf16) (w : FVec Ideal S2816x1024 .bf16) (r : Fin 512) (c : Fin 1024) :
    down x a w (ix2 r c) = x (ix2 r c) + half * lin (fun f => a (ix2 r f)) (fun f c => w (ix2 f c)) c := by
  pointwise [down, half, lin]

/-- The body's payload is the four steps. -/
theorem pay_eq (x : Vec Ideal S512x1024 .f32) (g : Vec Ideal S1x1024 .f32) (wg wu : Vec Ideal S1024x2816 .bf16) (wo : Vec Ideal S2816x1024 .bf16) :
    k0_pay1 (F := Ideal) x g wg wu wo = down x (gate (up (nrm x g) wg) (up (nrm x g) wu)) wo := by
  unfold k0_pay1
  simp only [shapeCast_self]
  rfl

theorem pay_apply (x : Vec Ideal S512x1024 .f32) (g : Vec Ideal S1x1024 .f32) (wg wu : Vec Ideal S1024x2816 .bf16) (wo : Vec Ideal S2816x1024 .bf16)
    (r : Fin 512) (c : Fin 1024) :
    k0_pay1 (F := Ideal) x g wg wu wo (ix2 r c)
      = ffn (fun d => x (ix2 r d)) (fun d => g (ix2 0 d)) (fun d f => wg (ix2 d f)) (fun d f => wu (ix2 d f)) (fun f c => wo (ix2 f c)) c := by
  rw [pay_eq, down_apply]
  simp only [gate_apply, up_apply, nrm_apply]
  rfl

end Cert.Kernel2Ideal.Hand

end
-- ==== Proof.Ffn.Ref.lean ====
module

public import proofs.«01_k».proof.Proof.Row
public import proofs.«01_k».proof.Proof.Gen.Reference2Ideal
public import proofs.«01_k».proof.Proof.Gen.Reference2Ideal.Run
public import Idealize.ShloMosaic.Lib.Pipeline.Value

@[expose] public section

set_option maxRecDepth 16384

noncomputable section

namespace Cert.Reference2Ideal.Hand

open Cert.Reference2Ideal Cert.Reference2Ideal.Gen
open Idealize.ShloMosaic
open Cert.Row

/-! ## The feed-forward reference at one index -/

/-- The normalized tokens. -/
def nrm (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf
      (broadcastInDim S4x8192x1 ![0, 1] bcast_S4x8192_S4x8192x1_0_1
        (Host.reduceAdd (mulf x x) (constant S_ .f32 0x00000000#32) reducesTo_S4x8192x1024_S4x8192_d2 h_S_))
      (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The tokens times the first layer's matrix. -/
def up (x : FVec Ideal S4x8192x1024 .f32) (w : FVec Ideal S1024x5632 .f32) : FVec Ideal S4x8192x5632 .f32 :=
  Host.dotGeneral dot_S4x8192x1024_S1024x5632_S4x8192x5632_2_0_01_1_n_n none x w

/-- The gate times its logistic. -/
def silu (g : FVec Ideal S4x8192x2816 .f32) : FVec Ideal S4x8192x2816 .f32 :=
  mulf g (Host.divf (broadcastInDim S4x8192x2816 ![] bcast_S_S4x8192x2816 (constant S_ .f32 0x3F800000#32))
    (addf (broadcastInDim S4x8192x2816 ![] bcast_S_S4x8192x2816 (constant S_ .f32 0x3F800000#32)) (Host.exp (Host.negf g))))

/-- The gated values. -/
def gate (y : FVec Ideal S4x8192x5632 .f32) : FVec Ideal S4x8192x2816 .f32 :=
  mulf (silu (extractStridedSlice S4x8192x2816 ![0, 0, 0] y slices_S4x8192x5632_S4x8192x2816_0_0_0))
    (extractStridedSlice S4x8192x2816 ![0, 0, 2816] y slices_S4x8192x5632_S4x8192x2816_0_0_2816)

/-- The tokens plus half of the second layer's product. -/
def down (x : FVec Ideal S4x8192x1024 .f32) (a : FVec Ideal S4x8192x2816 .f32) (w : FVec Ideal S2816x1024 .f32) : FVec Ideal S4x8192x1024 .f32 :=
  addf x (mulf (broadcastInDim S4x8192x1024 ![] bcast_S_S4x8192x1024 (constant S_ .f32 0x3F000000#32))
    (Host.dotGeneral dot_S4x8192x2816_S2816x1024_S4x8192x1024_2_0_01_1_n_n none a w))

theorem nrm_apply (x : FVec Ideal S4x8192x1024 .f32) (g : FVec Ideal S1024 .f32) (b : Fin 4) (s : Fin 8192) (c : Fin 1024) :
    nrm x g (ix3 b s c) = rms n1024 (fun d => x (ix3 b s d)) (fun d => g (ix1 d)) c := by
  pointwise [nrm, rms, n1024, eps]

theorem up_apply (x : FVec Ideal S4x8192x1024 .f32) (w : FVec Ideal S1024x5632 .f32) (b : Fin 4) (s : Fin 8192) (f : Fin 5632) :
    up x w (ix3 b s f) = lin (fun d => x (ix3 b s d)) (fun d f => w (ix2 d f)) f := by
  pointwise [up, lin]

/-- The word of one. -/
theorem one_word : Ideal.ofBits FTy.f32 1065353216#32 = (1 : EReal) := by
  simp [Ideal.ofBits, Ideal.ieee, -EReal.coe_mul]; norm_num

theorem silu_apply (g : FVec Ideal S4x8192x2816 .f32) (i : S4x8192x2816.Idx) : silu g i = g i * Ideal.logistic (g i) := by
  pointwise [silu, one_word]
  rfl

theorem gate_apply (y : FVec Ideal S4x8192x5632 .f32) (b : Fin 4) (s : Fin 8192) (f : Fin 2816) :
    gate y (ix3 b s f) = act (y (ix3 b s ⟨f.val, by omega⟩)) (y (ix3 b s ⟨2816 + f.val, by omega⟩)) := by
  pointwise [gate, silu_apply, act]

theorem down_apply (x : FVec Ideal S4x8192x1024 .f32) (a : FVec Ideal S4x8192x2816 .f32) (w : FVec Ideal S2816x1024 .f32)
    (b : Fin 4) (s : Fin 8192) (c : Fin 1024) :
    down x a w (ix3 b s c) = x (ix3 b s c) + half * lin (fun f => a (ix3 b s f)) (fun f c => w (ix2 f c)) c := by
  pointwise [down, half, lin]

/-- The half-step on the tokens. -/
def out (x : FVec Ideal S4x8192x1024 .f32) (g : FVec Ideal S1024 .f32) (wi : FVec Ideal S1024x5632 .f32) (wo : FVec Ideal S2816x1024 .f32) :
    FVec Ideal S4x8192x1024 .f32 := down x (gate (up (nrm x g) wi)) wo

theorem out_apply (x : FVec Ideal S4x8192x1024 .f32) (g : FVec Ideal S1024 .f32) (wi : FVec Ideal S1024x5632 .f32) (wo : FVec Ideal S2816x1024 .f32)
    (b : Fin 4) (s : Fin 8192) (c : Fin 1024) :
    out x g wi wo (ix3 b s c) = ffn (fun d => x (ix3 b s d)) (fun d => g (ix1 d)) (fun d f => wi (ix2 d ⟨f.val, by omega⟩))
      (fun d f => wi (ix2 d ⟨2816 + f.val, by omega⟩)) (fun f c => wo (ix2 f c)) c := by
  rw [out, down_apply]
  simp only [gate_apply, up_apply, nrm_apply]
  rfl

/-- The tokens side by side. -/
def flat (y : FVec Ideal S4x8192x1024 .f32) : FVec Ideal S32768x1024 .f32 := shapeCast _ y shapeCasts_S4x8192x1024_S32768x1024

theorem flat_apply (y : FVec Ideal S4x8192x1024 .f32) (n : Fin 32768) (c : Fin 1024) :
    flat y (ix2 n c) = y (ix3 ⟨n.val / 8192, by omega⟩ ⟨n.val % 8192, Nat.mod_lt _ (by decide)⟩ c) := by
  refine shapeCast_apply _ _ _ _ ?_
  rw [Shape.rowMajor_val_three, Shape.rowMajor_val_two]
  show (n.val / 8192 * 8192 + n.val % 8192) * 1024 + c.val = n.val * 1024 + c.val
  omega

open TcCoe in
/-- The reference's run, its result by its parts. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
        = flat (out (m ((c.tc : Thread nD τ).loc main_arg0)) (m ((c.tc : Thread nD τ).loc main_arg1)) (m ((c.tc : Thread nD τ).loc main_arg2))
            (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans rfl, (h c).2⟩) (Cert.Reference2Ideal.Value.run m ρ)

end Cert.Reference2Ideal.Hand

end
-- ==== Proof.Ffn.Val.lean ====
module

public import proofs.«01_k».proof.Proof.Ffn.Pay
public import proofs.«01_k».proof.Proof.Ffn.Ref
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe
open Cert.Row
open Cert.Reference2Ideal.Hand (out flat out_apply flat_apply)

section Value
variable (m : (ℓ : Loc nD τ sig) → Buf (Elt Ideal) ℓ) (c : Dev nD)

/-! ## The arrays the call is given -/

theorem V0 : V m c main_v0 = shapeCast S32768x1024 (m ((c : Thread nD τ).loc main_arg0) : FVec Ideal S4x8192x1024 .f32) shapeCasts_S4x8192x1024_S32768x1024 := by
  show StableHlo.after hostOps0 _ (Proc.devRef .tc main_v0) = _
  after_results
  rfl

theorem V1 : V m c main_v1 = shapeCast S1x1024 (m ((c : Thread nD τ).loc main_arg1) : FVec Ideal S1024 .f32) shapeCasts_S1024_S1x1024 := by
  show StableHlo.after hostOps0 _ (Proc.devRef .tc main_v1) = _
  after_results
  rfl

theorem V3 : V m c main_v3 = truncf (F := Ideal) .bf16 (extractStridedSlice S1024x2816 ![0, 0] (m ((c : Thread nD τ).loc main_arg2) : FVec Ideal S1024x5632 .f32)
    slices_S1024x5632_S1024x2816_0_0) bitsLt_bf16_f32 := by
  show StableHlo.after hostOps0 _ (Proc.devRef .tc main_v3) = _
  after_results
  all_goals rfl

theorem V5 : V m c main_v5 = truncf (F := Ideal) .bf16 (extractStridedSlice S1024x2816 ![0, 2816] (m ((c : Thread nD τ).loc main_arg2) : FVec Ideal S1024x5632 .f32)
    slices_S1024x5632_S1024x2816_0_2816) bitsLt_bf16_f32 := by
  show StableHlo.after hostOps0 _ (Proc.devRef .tc main_v5) = _
  after_results
  all_goals rfl

theorem V6 : V m c main_v6 = truncf (F := Ideal) .bf16 (m ((c : Thread nD τ).loc main_arg3) : FVec Ideal S2816x1024 .f32) bitsLt_bf16_f32 := by
  show StableHlo.after hostOps0 _ (Proc.devRef .tc main_v6) = _
  after_results
  all_goals rfl

/-! ## The blocks -/

/-- The windows' block positions. -/
theorem idx : ∀ t : Fin cfg0.N, win0_0.index t = ![t.val, 0] ∧ win0_1.index t = ![0, 0] ∧ win0_2.index t = ![0, 0] ∧ win0_3.index t = ![0, 0]
   ∧ win0_4.index t = ![0, 0] ∧ win0_5.index t = ![t.val, 0] := by decide +kernel

/-- Row `r` of a grid point's 512. -/
def rowOf (t : Fin cfg0.N) (r : Fin 512) : Fin 32768 := ⟨512 * t.val + r.val, by have h : t.val < 64 := t.isLt; omega⟩

theorem blk0 (t : Fin cfg0.N) (r : Fin 512) (d : Fin 1024) : iblk m c 0 t (ix2 r d) = V m c main_v0 (ix2 (rowOf t r) d) := by
  blk_ext [iblk, (idx t).1, rowOf]

theorem blk1 (t : Fin cfg0.N) (d : Fin 1024) : iblk m c 1 t (ix2 0 d) = V m c main_v1 (ix2 0 d) := by
  blk_ext [iblk, (idx t).2.1]

theorem blk2 (t : Fin cfg0.N) (d : Fin 1024) (f : Fin 2816) : iblk m c 2 t (ix2 d f) = V m c main_v3 (ix2 d f) := by
  blk_ext [iblk, (idx t).2.2.1]

theorem blk3 (t : Fin cfg0.N) (d : Fin 1024) (f : Fin 2816) : iblk m c 3 t (ix2 d f) = V m c main_v5 (ix2 d f) := by
  blk_ext [iblk, (idx t).2.2.2.1]

theorem blk4 (t : Fin cfg0.N) (f : Fin 2816) (d : Fin 1024) : iblk m c 4 t (ix2 f d) = V m c main_v6 (ix2 f d) := by
  blk_ext [iblk, (idx t).2.2.2.2.1]

theorem emb5 (t : Fin cfg0.N) (r : Fin 512) (d : Fin 1024) : ((cfg0.win 5).blk t).view.emb (ix2 r d) = (ix2 (rowOf t r) d : S32768x1024.Idx) := by
  blk_ext [(idx t).2.2.2.2.2, rowOf]

theorem v0 (n : Fin 32768) (d : Fin 1024) : V m c main_v0 (ix2 n d)
    = m ((c : Thread nD τ).loc main_arg0) (ix3 ⟨n.val / 8192, by omega⟩ ⟨n.val % 8192, Nat.mod_lt _ (by decide)⟩ d) := by
  rw [V0]; exact flat_apply _ n d

theorem v1 (d : Fin 1024) : V m c main_v1 (ix2 0 d) = m ((c : Thread nD τ).loc main_arg1) (ix1 d) := by
  rw [V1]; pointwise []

theorem v3 (d : Fin 1024) (f : Fin 2816) : V m c main_v3 (ix2 d f) = m ((c : Thread nD τ).loc main_arg2) (ix2 d ⟨f.val, by omega⟩) := by
  rw [V3]; pointwise []

theorem v5 (d : Fin 1024) (f : Fin 2816) : V m c main_v5 (ix2 d f) = m ((c : Thread nD τ).loc main_arg2) (ix2 d ⟨2816 + f.val, by omega⟩) := by
  rw [V5]; pointwise []

theorem v6 (f : Fin 2816) (d : Fin 1024) : V m c main_v6 (ix2 f d) = m ((c : Thread nD τ).loc main_arg3) (ix2 f d) := by
  rw [V6]; pointwise []

theorem hz : (![0, 0] : Fin 2 → Nat) = fun _ => 0 := funext fun a => by fin_cases a <;> rfl

/-- What a grid point writes is its rows of the reference's result. -/
theorem out_eq (t : Fin cfg0.N) (r : Fin 512) (d : Fin 1024) :
    out0_5 (iblk m c 0 t) (iblk m c 1 t) (iblk m c 2 t) (iblk m c 3 t) (iblk m c 4 t) (ix2 r d)
      = flat (out (m ((c : Thread nD τ).loc main_arg0)) (m ((c : Thread nD τ).loc main_arg1)) (m ((c : Thread nD τ).loc main_arg2))
          (m ((c : Thread nD τ).loc main_arg3))) (ix2 (rowOf t r) d) := by
  unfold out0_5
  rw [View.canon_unit_zero hz, View.ld_unit_zero hz, View.ld_unit_zero hz, View.ld_unit_zero hz, View.ld_unit_zero hz, View.ld_unit_zero hz,
    pay_apply, flat_apply, out_apply]
  have e0 : (fun d => iblk m c 0 t (ix2 r d)) = fun d => m ((c : Thread nD τ).loc main_arg0)
      (ix3 ⟨(rowOf t r).val / 8192, by omega⟩ ⟨(rowOf t r).val % 8192, Nat.mod_lt _ (by decide)⟩ d) :=
    funext fun d => (blk0 m c t r d).trans (v0 m c _ d)
  have e1 : (fun d => iblk m c 1 t (ix2 0 d)) = fun d => m ((c : Thread nD τ).loc main_arg1) (ix1 d) :=
    funext fun d => (blk1 m c t d).trans (v1 m c d)
  have e2 : (fun d f => iblk m c 2 t (ix2 d f)) = fun d (f : Fin 2816) => m ((c : Thread nD τ).loc main_arg2) (ix2 d ⟨f.val, by omega⟩) :=
    funext fun d => funext fun f => (blk2 m c t d f).trans (v3 m c d f)
  have e3 : (fun d f => iblk m c 3 t (ix2 d f)) = fun d (f : Fin 2816) => m ((c : Thread nD τ).loc main_arg2) (ix2 d ⟨2816 + f.val, by omega⟩) :=
    funext fun d => funext fun f => (blk3 m c t d f).trans (v5 m c d f)
  have e4 : (fun f d => iblk m c 4 t (ix2 f d)) = fun f d => m ((c : Thread nD τ).loc main_arg3) (ix2 f d) :=
    funext fun f => funext fun d => (blk4 m c t f d).trans (v6 m c f d)
  exact congrFun (congr (congr (congr (congr (congrArg ffn e0) e1) e2) e3) e4) d

end Value

section Run
variable (m : (ℓ : Loc nD τ sig) → Buf (Elt Ideal) ℓ) (ρ : Dev nD → PrngReg)

/-- The kernel's run: its result is the reference's, its arguments unchanged. -/
theorem run_value : θ_run (defs (F := Ideal)) (onTc (τ := τ) (main (F := Ideal))) ⟨m, fun _ => 0, ρ⟩ fun r => ∀ c : Dev nD,
      r.2.mem ((c.tc : Thread nD τ).loc main_v7)
        = flat (out (m ((c.tc : Thread nD τ).loc main_arg0)) (m ((c.tc : Thread nD τ).loc main_arg1)) (m ((c.tc : Thread nD τ).loc main_arg2))
            (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans
    (Pipeline.Dat.arrAt_eq_of_covers _ 5 _ (by decide +kernel) fun t hf y => by
      obtain ⟨r, d, rfl⟩ : ∃ (r : Fin 512) (d : Fin 1024), y = ix2 r d := ⟨y 0, y 1, funext fun a => by fin_cases a <;> rfl⟩
      refine ((congrFun (after0_5 m c t) _).trans (out_eq m c t r d)).trans (congrArg (flat (out _ _ _ _)) (emb5 t r d).symm)), (h c).2⟩)
    (Cert.Kernel2Ideal.Value.run_blocks m ρ)

end Run

end Cert.Kernel2Ideal.Hand

end
-- ==== Proof.Tail.Row.lean ====
module

public import proofs.«01_k».proof.Proof.Row
public import proofs.«01_k».proof.Proof.KI.Math

@[expose] public section

noncomputable section

namespace Cert.Row

open Idealize.ShloMosaic Cert.Math

/-! ## The end of the layer for one token -/

/-- The length 512 as its float word. -/
def n512 : EReal := Ideal.ofBits FTy.f32 1140850688#32
/-- The length 64 as its float word. -/
def n64 : EReal := Ideal.ofBits FTy.f32 1115684864#32
/-- 1/8 as its float word. -/
def eighth : EReal := Ideal.ofBits FTy.f32 1040187392#32
/-- 1/64 as its float word. -/
def inv64 : EReal := Ideal.ofBits FTy.f32 1015021568#32

/-- Lane `d` of head `h`. -/
def lane (h : Fin 4) (d : Fin 64) : Fin 256 := ⟨64 * h.val + d.val, by omega⟩
/-- A lane's head, -/
def hd (l : Fin 256) : Fin 4 := ⟨l.val / 64, by omega⟩
/-- and its place in the head. -/
def pl (l : Fin 256) : Fin 64 := ⟨l.val % 64, Nat.mod_lt _ (by decide)⟩

theorem lane_hd_pl (l : Fin 256) : lane (hd l) (pl l) = l := Fin.ext (Nat.div_add_mod _ _)

/-- The three branches side by side. -/
def cat (a : Fin 512 → EReal) (b c : Fin 256 → EReal) (e : Fin 1024) : EReal :=
  if h : e.val < 512 then a ⟨e.val, h⟩ else if h' : e.val - 512 < 256 then b ⟨e.val - 512, h'⟩ else c ⟨e.val - 512 - 256, by omega⟩

/-- The token plus the projected branches. -/
def mix (x : Fin 1024 → EReal) (om gm : Fin 512 → EReal) (os on : Fin 256 → EReal) (w : Fin 1024 → Fin 1024 → EReal) (c : Fin 1024) : EReal :=
  x c + lin (cat (rms n512 om gm) os on) w c

/-- The greatest score. -/
def top (s : Fin 256 → EReal) : EReal := Finset.fold max (⊥ : EReal) s Finset.univ

/-- The values under the weights of the scores. -/
def soft (s v : Fin 256 → EReal) : EReal := ∑ n, v n * Ideal.div (Ideal.exp (s n - top s)) (∑ j, Ideal.exp (s j - top s))

/-- A head's scores. -/
def score (q : Fin 64 → EReal) (k : Fin 256 → Fin 64 → EReal) (n : Fin 256) : EReal := (∑ d, q d * k n d) * eighth

/-- The attention over the memory, from the projected token. -/
def mem (y : Fin 256 → EReal) (g : Fin 64 → EReal) (k v : Fin 256 → Fin 4 → Fin 64 → EReal) (l : Fin 256) : EReal :=
  soft (score (rms n64 (fun d => y (lane (hd l) d)) g) fun n d => k n (hd l) d) fun n => v n (hd l) (pl l)

/-- The same, the exponentials summed first and divided after; scores and values over all lanes. -/
def softK (s v : Fin 256 → EReal) : EReal :=
  (∑ n, Ideal.exp (s n - top s) * v n) * Ideal.div (Ideal.ofBits FTy.f32 1065353216#32) (∑ j, Ideal.exp (s j - top s))

def qK (y : Fin 256 → EReal) (bd : Fin 256 → Fin 256 → EReal) (g : Fin 256 → EReal) (l : Fin 256) : EReal :=
  y l * Ideal.rsqrt ((∑ l', (y l' * y l') * bd l' l) * inv64 + eps) * g l * eighth

def scoreK (q : Fin 256 → EReal) (k : Fin 256 → Fin 256 → EReal) (n : Fin 256) : EReal := ∑ l, q l * k n l

def memK (q : Fin 256 → EReal) (k v : Fin 4 → Fin 256 → Fin 256 → EReal) (l : Fin 256) : EReal :=
  Ideal.ofBits FTy.f32 0#32 + softK (scoreK q (k 0)) (fun n => v 0 n l) + softK (scoreK q (k 1)) (fun n => v 1 n l)
    + softK (scoreK q (k 2)) (fun n => v 2 n l) + softK (scoreK q (k 3)) (fun n => v 3 n l)

/-- The end of the layer: `x` after the mixing, its attention over the memory `o`. -/
def fin (x : Fin 1024 → EReal) (o : Fin 256 → EReal) (wmo : Fin 256 → Fin 1024 → EReal) (g : Fin 1024 → EReal) (wg wu : Fin 1024 → Fin 2816 → EReal)
    (wo : Fin 2816 → Fin 1024 → EReal) (bg : Fin 1024 → EReal) (c : Fin 1024) : EReal :=
  rms n1024 (ffn (fun c => x c + lin o wmo c) g wg wu wo) bg c

/-! ## Numbers -/

theorem eps_real : ∃ e : ℝ, 0 < e ∧ eps = (e : EReal) := by
  refine ⟨8796093 / 8796093022208, by norm_num, ?_⟩
  simp [eps, Ideal.ofBits, Ideal.ieee, -EReal.coe_mul]; norm_num

theorem n64_eq : n64 = ((64 : ℝ) : EReal) := by
  simp [n64, Ideal.ofBits, Ideal.ieee, -EReal.coe_mul]; norm_num

theorem eighth_eq : eighth = ((1 / 8 : ℝ) : EReal) := by
  simp [eighth, Ideal.ofBits, Ideal.ieee, -EReal.coe_mul]; norm_num

theorem inv64_eq : inv64 = ((1 / 64 : ℝ) : EReal) := by
  simp [inv64, Ideal.ofBits, Ideal.ieee, -EReal.coe_mul]; norm_num

theorem one_eq : Ideal.ofBits FTy.f32 1065353216#32 = ((1 : ℝ) : EReal) := by
  simp [Ideal.ofBits, Ideal.ieee, -EReal.coe_mul]; norm_num

theorem zero_eq : Ideal.ofBits FTy.f32 0#32 = (0 : EReal) := by
  simp [Ideal.ofBits, Ideal.ieee, -EReal.coe_mul]

/-! ## Real values -/

theorem sum_real {ι : Type} (s : Finset ι) (f : ι → EReal) (h : ∀ i, ∃ r : ℝ, f i = (r : EReal)) : ∃ r : ℝ, ∑ i ∈ s, f i = (r : EReal) := by
  choose g hg using h
  exact ⟨∑ i ∈ s, g i, by rw [coe_sum]; exact Finset.sum_congr rfl fun i _ => hg i⟩

theorem mul_real {a b : EReal} (ha : ∃ r : ℝ, a = (r : EReal)) (hb : ∃ r : ℝ, b = (r : EReal)) : ∃ r : ℝ, a * b = (r : EReal) := by
  obtain ⟨r, rfl⟩ := ha
  obtain ⟨t, rfl⟩ := hb
  exact ⟨r * t, (EReal.coe_mul r t).symm⟩

/-- A square is not negative. -/
theorem sq_nonneg' (x : EReal) : 0 ≤ x * x := by
  induction x using EReal.rec with
  | coe r => rw [← EReal.coe_mul]; exact_mod_cast mul_self_nonneg r
  | bot => simp
  | top => simp

/-- A normalized value is real when its gain is, whatever the row: an infinite row has an infinite mean square, whose root's inverse is zero. -/
theorem rms_real (x g : Fin 64 → EReal) (c : Fin 64) (hg : ∃ r : ℝ, g c = (r : EReal)) : ∃ r : ℝ, rms n64 x g c = (r : EReal) := by
  unfold rms
  refine mul_real ?_ hg
  obtain ⟨e, he, hee⟩ := eps_real
  rw [n64_eq, hee, Ideal.div_coe (by norm_num)]
  by_cases h : ∀ d, ∃ r : ℝ, x d = (r : EReal)
  · choose y hy using h
    have hs : ∑ d, x d * x d = ((∑ d, y d * y d : ℝ) : EReal) := by
      rw [coe_sum]; exact Finset.sum_congr rfl fun d _ => by rw [hy, EReal.coe_mul]
    have hp : 0 < (∑ d, y d * y d) * (1 / 64) + e :=
      add_pos_of_nonneg_of_pos (mul_nonneg (Finset.sum_nonneg fun d _ => mul_self_nonneg _) (by norm_num)) he
    rw [hs, hy, ← EReal.coe_mul, ← EReal.coe_add]
    refine ⟨y c * (Real.sqrt ((∑ d, y d * y d) * (1 / 64) + e))⁻¹, ?_⟩
    rw [EReal.coe_mul]
    congr 1
    show (if _ then _ else if _ then _ else _) = _
    rw [if_neg (not_lt.mpr hp.le), if_neg hp.ne']
  · push Not at h
    obtain ⟨d, hd⟩ := h
    have ht : x d * x d = ⊤ := by
      induction hx : x d using EReal.rec with
      | coe r => exact absurd hx (hd r)
      | bot => simp
      | top => simp
    have hs : ∑ d, x d * x d = ⊤ :=
      top_le_iff.mp (ht ▸ Finset.single_le_sum (f := fun d => x d * x d) (fun i _ => sq_nonneg' (x i)) (Finset.mem_univ d))
    rw [hs, EReal.top_mul_coe_of_pos (by norm_num), EReal.top_add_coe]
    refine ⟨0, ?_⟩
    show x c * 0 = _
    simp

theorem score_real (q : Fin 64 → EReal) (k : Fin 256 → Fin 64 → EReal) (hq : ∀ d, ∃ r : ℝ, q d = (r : EReal)) (hk : ∀ n d, ∃ r : ℝ, k n d = (r : EReal))
    (n : Fin 256) : ∃ r : ℝ, score q k n = (r : EReal) :=
  mul_real (sum_real _ _ fun d => mul_real (hq d) (hk n d)) ⟨_, eighth_eq⟩

/-- Over real scores, to divide after the sum is to divide before it. -/
theorem softK_eq (s v : Fin 256 → EReal) (hs : ∀ n, ∃ r : ℝ, s n = (r : EReal)) : softK s v = soft s v := by
  unfold softK soft
  obtain ⟨M, hM⟩ := fold_max_real (by decide) s hs
  rw [show top s = (M : EReal) from hM]
  choose t ht using hs
  have he : ∀ n, Ideal.exp (s n - (M : EReal)) = ((Real.exp (t n - M) : ℝ) : EReal) := fun n => by
    rw [ht, ← EReal.coe_sub, Ideal.exp_coe]
  have hL : ∑ j, Ideal.exp (s j - (M : EReal)) = ((∑ j, Real.exp (t j - M) : ℝ) : EReal) := by
    rw [coe_sum]; exact Finset.sum_congr rfl fun j _ => he j
  have hp : 0 < ∑ j, Real.exp (t j - M) := Finset.sum_pos (fun j _ => Real.exp_pos _) ⟨0, Finset.mem_univ _⟩
  rw [hL, one_eq, div_real _ _ hp.ne', mul_comm, mul_sum _ _ (one_div_nonneg.mpr hp.le)]
  refine Finset.sum_congr rfl fun n _ => ?_
  rw [he, div_real _ _ hp.ne', mul_left_comm, mul_comm _ (v n), mul_left_comm, ← EReal.coe_mul]
  congr 2
  ring

/-! ## Sums over the lanes -/

theorem sum_lane (f : Fin 256 → EReal) : ∑ l, f l = ∑ h : Fin 4, ∑ d : Fin 64, f (lane h d) := by
  rw [← Fintype.sum_prod_type' (f := fun h d => f (lane h d))]
  refine (Fintype.sum_equiv (finProdFinEquiv (m := 4) (n := 64)) _ _ fun p => ?_).symm
  congr 1
  refine Fin.ext ?_
  show 64 * p.1.val + p.2.val = p.2.val + 64 * p.1.val
  omega

/-- A sum over the lanes whose terms vanish outside a head. -/
theorem sum_head (f : Fin 256 → EReal) (h : Fin 4) (h0 : ∀ h' d, h' ≠ h → f (lane h' d) = 0) : ∑ l, f l = ∑ d : Fin 64, f (lane h d) := by
  rw [sum_lane]
  exact Finset.sum_eq_single h (fun h' _ hne => Finset.sum_eq_zero fun d _ => h0 h' d hne) fun hn => absurd (Finset.mem_univ h) hn

theorem hd_lane (h : Fin 4) (d : Fin 64) : hd (lane h d) = h := Fin.ext (by show (64 * h.val + d.val) / 64 = h.val; omega)
theorem pl_lane (h : Fin 4) (d : Fin 64) : pl (lane h d) = d := Fin.ext (by show (64 * h.val + d.val) % 64 = d.val; omega)

/-- The queries over the lanes are the heads' normalized queries, scaled. -/
theorem qK_eq (y : Fin 256 → EReal) (bd : Fin 256 → Fin 256 → EReal) (g : Fin 256 → EReal) (g' : Fin 64 → EReal)
    (hb : ∀ l l', bd l l' = if hd l = hd l' then 1 else 0) (hg : ∀ l, g l = g' (pl l)) (h : Fin 4) (d : Fin 64) :
    qK y bd g (lane h d) = rms n64 (fun d => y (lane h d)) g' d * eighth := by
  unfold qK rms
  rw [sum_head _ h fun h' d' hne => by rw [hb, hd_lane, hd_lane, if_neg hne, mul_zero]]
  rw [hg, pl_lane, inv64_eq, n64_eq, Ideal.div_coe (by norm_num)]
  simp only [hb, hd_lane, if_true, mul_one]

/-- A head's scores over the lanes are its scores. -/
theorem scoreK_eq (y : Fin 256 → EReal) (bd : Fin 256 → Fin 256 → EReal) (g : Fin 256 → EReal) (g' : Fin 64 → EReal)
    (hb : ∀ l l', bd l l' = if hd l = hd l' then 1 else 0) (hg : ∀ l, g l = g' (pl l)) (h : Fin 4) (k : Fin 256 → Fin 256 → EReal)
    (k' : Fin 256 → Fin 4 → Fin 64 → EReal) (hk : ∀ n l, k n l = if h = hd l then k' n (hd l) (pl l) else 0) :
    scoreK (qK y bd g) k = score (rms n64 (fun d => y (lane h d)) g') fun n d => k' n h d := by
  funext n
  unfold scoreK score
  rw [sum_head _ h fun h' d' hne => by rw [hk, hd_lane, if_neg hne.symm, mul_zero]]
  rw [eighth_eq, mul_comm, mul_sum _ _ (by norm_num)]
  refine Finset.sum_congr rfl fun d _ => ?_
  rw [qK_eq y bd g g' hb hg, hk, hd_lane, pl_lane, if_pos rfl, eighth_eq, mul_comm _ (((1 / 8 : ℝ)) : EReal), mul_assoc]

/-- The kernel's attention over the memory is the reference's. -/
theorem memK_eq (y : Fin 256 → EReal) (bd : Fin 256 → Fin 256 → EReal) (g : Fin 256 → EReal) (g' : Fin 64 → EReal)
    (hb : ∀ l l', bd l l' = if hd l = hd l' then 1 else 0) (hg : ∀ l, g l = g' (pl l)) (k v : Fin 4 → Fin 256 → Fin 256 → EReal)
    (k' v' : Fin 256 → Fin 4 → Fin 64 → EReal) (hk : ∀ h n l, k h n l = if h = hd l then k' n (hd l) (pl l) else 0)
    (hv : ∀ h n l, v h n l = if h = hd l then v' n (hd l) (pl l) else 0) (rg : ∀ d, ∃ r : ℝ, g' d = (r : EReal))
    (rk : ∀ n h d, ∃ r : ℝ, k' n h d = (r : EReal)) (l : Fin 256) :
    memK (qK y bd g) k v l = mem y g' k' v' l := by
  have e : ∀ h, scoreK (qK y bd g) (k h) = score (rms n64 (fun d => y (lane h d)) g') fun n d => k' n h d := fun h =>
    scoreK_eq y bd g g' hb hg h (k h) k' (hk h)
  have z : ∀ h, h ≠ hd l → ∀ s, softK s (fun n => v h n l) = 0 := fun h hne s => by
    unfold softK
    rw [Finset.sum_eq_zero fun n _ => by dsimp only; rw [hv, if_neg hne, mul_zero], zero_mul]
  have o : ∀ h, h = hd l → softK (scoreK (qK y bd g) (k h)) (fun n => v h n l) = mem y g' k' v' l := fun h hh => by
    subst hh
    rw [e, softK_eq _ _ fun n => score_real _ _ (fun d => rms_real _ _ _ (rg d)) (fun n d => rk n _ d) n]
    unfold mem
    congr 1
    funext n
    rw [hv, if_pos rfl]
  unfold memK
  rw [zero_eq]
  by_cases h0 : (0 : Fin 4) = hd l
  · rw [o 0 h0, z 1 (h0 ▸ by decide), z 2 (h0 ▸ by decide), z 3 (h0 ▸ by decide)]; simp
  by_cases h1 : (1 : Fin 4) = hd l
  · rw [o 1 h1, z 0 (h1 ▸ by decide), z 2 (h1 ▸ by decide), z 3 (h1 ▸ by decide)]; simp
  by_cases h2 : (2 : Fin 4) = hd l
  · rw [o 2 h2, z 0 (h2 ▸ by decide), z 1 (h2 ▸ by decide), z 3 (h2 ▸ by decide)]; simp
  · have h3 : (3 : Fin 4) = hd l := by
      have := (hd l).isLt
      refine Fin.ext ?_
      have a0 : (hd l).val ≠ 0 := fun h => h0 (Fin.ext h.symm)
      have a1 : (hd l).val ≠ 1 := fun h => h1 (Fin.ext h.symm)
      have a2 : (hd l).val ≠ 2 := fun h => h2 (Fin.ext h.symm)
      show 3 = (hd l).val
      omega
    rw [o 3 h3, z 0 h0, z 1 h1, z 2 h2]; simp

end Cert.Row

end
-- ==== Proof.Tail.Pay.lean ====
module

public import proofs.«01_k».proof.Proof.Tail.Row
public import proofs.«01_k».proof.Proof.Gen.Kernel3Ideal.Value
public import Idealize.ShloMosaic.Lib.Pipeline.Value
public import Idealize.ShloMosaic.Lib.Pipeline.ValueKit

@[expose] public section

set_option maxRecDepth 16384

noncomputable section

namespace Cert.Kernel3Ideal.Hand

open Cert.Kernel3Ideal Cert.Kernel3Ideal.Gen
open Idealize.ShloMosaic
open Cert.Row

/-! ## The tail's body at one index -/

/-- A normalized block. -/
def nrm (x : FVec Ideal S512x1024 .f32) (g : FVec Ideal S1x1024 .f32) : FVec Ideal S512x1024 .f32 :=
  mulf (mulf x (broadcastTo S512x1024 (rsqrt (addf (divf (shapeCast S512x1
      (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 g broadcasts_S1x1024_S512x1024)

/-- The attention's normalized block. -/
def nrm' (x : FVec Ideal S512x512 .f32) (g : FVec Ideal S1x512 .f32) : FVec Ideal S512x512 .f32 :=
  mulf (mulf x (broadcastTo S512x512 (rsqrt (addf (divf (shapeCast S512x1
      (multiReduction .add [1] S512 (mulf x x) 0x00000000#32 reduces_S512x512_S512 (.inl rfl) rfl) shapeCasts_S512_S512x1)
      (broadcast S512x1 (Scalar.ofBits .f32 0x44000000#32))) (broadcast S512x1 (Scalar.ofBits .f32 0x358637BD#32)))) broadcasts_S512x1_S512x512))
    (broadcastTo S512x512 g broadcasts_S1x512_S512x512)

/-- The branches side by side. -/
def side (a : FVec Ideal S512x512 .f32) (b c : FVec Ideal S512x256 .bf16) : FVec Ideal S512x1024 .bf16 :=
  concatenate S512x1024 1 [⟨S512x512, truncf .bf16 a bitsLt_bf16_f32⟩, ⟨S512x256, b⟩, ⟨S512x256, c⟩] concatenates_S512x512_S512x256_S512x256_S512x1024_d1

/-- The block plus the projected branches. -/
def mixed (x : FVec Ideal S512x1024 .f32) (a : FVec Ideal S512x1024 .bf16) (w : FVec Ideal S1024x1024 .bf16) : FVec Ideal S512x1024 .f32 :=
  addf x (matmul dot_S512x1024_S1024x1024_S512x1024_1_0_0_1_n_n none a w (constant S512x1024 .f32 0x00000000#32))

/-- The projected queries. -/
def proj (x : FVec Ideal S512x1024 .f32) (w : FVec Ideal S1024x256 .bf16) : FVec Ideal S512x256 .f32 :=
  matmul dot_S512x1024_S1024x256_S512x256_1_0_0_1_n_n none (truncf .bf16 x bitsLt_bf16_f32) w (constant S512x256 .f32 0x00000000#32)

/-- The normalized, scaled queries. -/
def qn (y : FVec Ideal S512x256 .f32) (bd : FVec Ideal S256x256 .bf16) (g : FVec Ideal S1x256 .f32) : FVec Ideal S512x256 .bf16 :=
  truncf .bf16 (mulf (mulf (mulf y (rsqrt (addf (mulf
      (matmul dot_S512x256_S256x256_S512x256_1_0_0_1_n_n none (truncf .bf16 (mulf y y) bitsLt_bf16_f32) bd (constant S512x256 .f32 0x00000000#32))
      (broadcast S512x256 (Scalar.ofBits .f32 0x3C800000#32))) (broadcast S512x256 (Scalar.ofBits .f32 0x358637BD#32)))))
    (broadcastTo S512x256 g broadcasts_S1x256_S512x256)) (broadcast S512x256 (Scalar.ofBits .f32 0x3E000000#32))) bitsLt_bf16_f32

/-- A head's scores. -/
def sc (q : FVec Ideal S512x256 .bf16) (k : FVec Ideal S256x256 .bf16) : FVec Ideal S512x256 .f32 :=
  matmul dot_S512x256_S256x256_S512x256_1_1_0_0_n_n none q k (constant S512x256 .f32 0x00000000#32)

/-- The scores' exponentials, less the greatest. -/
def ex (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- The values under the exponentials, divided by their sum. -/
def av (e : FVec Ideal S512x256 .f32) (v : FVec Ideal S256x256 .bf16) : FVec Ideal S512x256 .f32 :=
  mulf (matmul dot_S512x256_S256x256_S512x256_1_0_0_1_n_n none (truncf .bf16 e bitsLt_bf16_f32) v (constant S512x256 .f32 0x00000000#32))
    (broadcastTo S512x256 (divf (broadcast S512x1 (Scalar.ofBits .f32 0x3F800000#32)) (shapeCast S512x1
      (multiReduction .add [1] S512 e 0x00000000#32 reduces_S512x256_S512 (.inl rfl) rfl) shapeCasts_S512_S512x1)) broadcasts_S512x1_S512x256)

/-- The four heads' results, added. -/
def heads (q : FVec Ideal S512x256 .bf16) (k0 k1 k2 k3 v0 v1 v2 v3 : FVec Ideal S256x256 .bf16) : FVec Ideal S512x256 .f32 :=
  addf (addf (addf (addf (broadcast S512x256 (Scalar.ofBits .f32 0x00000000#32)) (av (ex (sc q k0)) v0)) (av (ex (sc q k1)) v1)) (av (ex (sc q k2)) v2))
    (av (ex (sc q k3)) v3)

/-- The block plus the memory's projected result. -/
def attd (x : FVec Ideal S512x1024 .f32) (o : FVec Ideal S512x256 .f32) (w : FVec Ideal S256x1024 .bf16) : FVec Ideal S512x1024 .f32 :=
  addf x (matmul dot_S512x256_S256x1024_S512x1024_1_0_0_1_n_n none (truncf .bf16 o bitsLt_bf16_f32) w (constant S512x1024 .f32 0x00000000#32))

/-- The block times a matrix of the first layer. -/
def up (x : FVec Ideal S512x1024 .f32) (w : FVec Ideal S1024x2816 .bf16) : FVec Ideal S512x2816 .f32 :=
  matmul dot_S512x1024_S1024x2816_S512x2816_1_0_0_1_n_n none (truncf .bf16 x bitsLt_bf16_f32) w (constant S512x2816 .f32 0x00000000#32)

/-- The gated block. -/
def gate (g u : FVec Ideal S512x2816 .f32) : FVec Ideal S512x2816 .bf16 := truncf .bf16 (mulf (mulf g (logistic g)) u) bitsLt_bf16_f32

/-- The block plus half of the second layer's product. -/
def down (x : FVec Ideal S512x1024 .f32) (a : FVec Ideal S512x2816 .bf16) (w : FVec Ideal S2816x1024 .bf16) : FVec Ideal S512x1024 .f32 :=
  addf x (mulf (broadcast S512x1024 (Scalar.ofBits .f32 0x3F000000#32))
    (matmul dot_S512x2816_S2816x1024_S512x1024_1_0_0_1_n_n none a w (constant S512x1024 .f32 0x00000000#32)))

theorem nrm_apply (x : FVec Ideal S512x1024 .f32) (g : FVec Ideal S1x1024 .f32) (r : Fin 512) (c : Fin 1024) :
    nrm x g (ix2 r c) = rms n1024 (fun d => x (ix2 r d)) (fun d => g (ix2 0 d)) c := by
  pointwise [nrm, rms, n1024, eps]

theorem nrm'_apply (x : FVec Ideal S512x512 .f32) (g : FVec Ideal S1x512 .f32) (r : Fin 512) (c : Fin 512) :
    nrm' x g (ix2 r c) = rms n512 (fun d => x (ix2 r d)) (fun d => g (ix2 0 d)) c := by
  pointwise [nrm', rms, n512, eps]

theorem side_apply (a : FVec Ideal S512x512 .f32) (b c : FVec Ideal S512x256 .bf16) (r : Fin 512) (e : Fin 1024) :
    side a b c (ix2 r e) = cat (fun d => a (ix2 r d)) (fun d => b (ix2 r d)) (fun d => c (ix2 r d)) e := by
  pointwise [side, cat]

theorem mixed_apply (x : FVec Ideal S512x1024 .f32) (a : FVec Ideal S512x1024 .bf16) (w : FVec Ideal S1024x1024 .bf16) (r : Fin 512) (c : Fin 1024) :
    mixed x a w (ix2 r c) = x (ix2 r c) + lin (fun d => a (ix2 r d)) (fun d c => w (ix2 d c)) c := by
  pointwise [mixed, lin]

theorem proj_apply (x : FVec Ideal S512x1024 .f32) (w : FVec Ideal S1024x256 .bf16) (r : Fin 512) (l : Fin 256) :
    proj x w (ix2 r l) = lin (fun d => x (ix2 r d)) (fun d l => w (ix2 d l)) l := by
  pointwise [proj, lin]

theorem qn_apply (y : FVec Ideal S512x256 .f32) (bd : FVec Ideal S256x256 .bf16) (g : FVec Ideal S1x256 .f32) (r : Fin 512) (l : Fin 256) :
    qn y bd g (ix2 r l) = qK (fun l => y (ix2 r l)) (fun l' l => bd (ix2 l' l)) (fun l => g (ix2 0 l)) l := by
  pointwise [qn, qK, inv64, eps, eighth]

theorem sc_apply (q : FVec Ideal S512x256 .bf16) (k : FVec Ideal S256x256 .bf16) (r : Fin 512) (n : Fin 256) :
    sc q k (ix2 r n) = scoreK (fun l => q (ix2 r l)) (fun n l => k (ix2 n l)) n := by
  pointwise [sc, scoreK]

theorem bot_word : Ideal.ofBits FTy.f32 4286578688#32 = (⊥ : EReal) := by simp [Ideal.ofBits, Ideal.ieee]

theorem ex_apply (s : FVec Ideal S512x256 .f32) (r : Fin 512) (n : Fin 256) :
    ex s (ix2 r n) = Ideal.exp (s (ix2 r n) - top fun n => s (ix2 r n)) := by
  pointwise [ex, top, bot_word]

theorem av_apply (e : FVec Ideal S512x256 .f32) (v : FVec Ideal S256x256 .bf16) (r : Fin 512) (l : Fin 256) :
    av e v (ix2 r l) = (∑ n, e (ix2 r n) * v (ix2 n l)) * Ideal.div (Ideal.ofBits FTy.f32 1065353216#32) (∑ j, e (ix2 r j)) := by
  pointwise [av]

theorem head_apply (q : FVec Ideal S512x256 .bf16) (k v : FVec Ideal S256x256 .bf16) (r : Fin 512) (l : Fin 256) :
    av (ex (sc q k)) v (ix2 r l) = softK (scoreK (fun l => q (ix2 r l)) (fun n l => k (ix2 n l))) fun n => v (ix2 n l) := by
  rw [av_apply]
  simp only [ex_apply, sc_apply]
  rfl

theorem heads_apply (q : FVec Ideal S512x256 .bf16) (k0 k1 k2 k3 v0 v1 v2 v3 : FVec Ideal S256x256 .bf16) (r : Fin 512) (l : Fin 256) :
    heads q k0 k1 k2 k3 v0 v1 v2 v3 (ix2 r l)
      = memK (fun l => q (ix2 r l)) (fun h n l => (![k0, k1, k2, k3] h : FVec Ideal S256x256 .bf16) (ix2 n l))
          (fun h n l => (![v0, v1, v2, v3] h : FVec Ideal S256x256 .bf16) (ix2 n l)) l := by
  show _ + av (ex (sc q k0)) v0 (ix2 r l) + av (ex (sc q k1)) v1 (ix2 r l) + av (ex (sc q k2)) v2 (ix2 r l) + av (ex (sc q k3)) v3 (ix2 r l) = _
  simp only [head_apply]
  rfl

theorem attd_apply (x : FVec Ideal S512x1024 .f32) (o : FVec Ideal S512x256 .f32) (w : FVec Ideal S256x1024 .bf16) (r : Fin 512) (c : Fin 1024) :
    attd x o w (ix2 r c) = x (ix2 r c) + lin (fun l => o (ix2 r l)) (fun l c => w (ix2 l c)) c := by
  pointwise [attd, lin]

theorem up_apply (x : FVec Ideal S512x1024 .f32) (w : FVec Ideal S1024x2816 .bf16) (r : Fin 512) (f : Fin 2816) :
    up x w (ix2 r f) = lin (fun d => x (ix2 r d)) (fun d f => w (ix2 d f)) f := by
  pointwise [up, lin]

theorem gate_apply (g u : FVec Ideal S512x2816 .f32) (r : Fin 512) (f : Fin 2816) : gate g u (ix2 r f) = act (g (ix2 r f)) (u (ix2 r f)) := by
  pointwise [gate, act]

theorem down_apply (x : FVec Ideal S512x1024 .f32) (a : FVec Ideal S512x2816 .bf16) (w : FVec Ideal S2816x1024 .bf16) (r : Fin 512) (c : Fin 1024) :
    down x a w (ix2 r c) = x (ix2 r c) + half * lin (fun f => a (ix2 r f)) (fun f c => w (ix2 f c)) c := by
  pointwise [down, half, lin]

/-- A block without its leading axis. -/
theorem sq3 {n : ℕ} {t : FTy} (v : FVec Ideal ⟨3, ![1, 512, n]⟩ t) (h : Shape.ShapeCasts ⟨3, ![1, 512, n]⟩ ⟨2, ![512, n]⟩) (r : Fin 512) (c : Fin n) :
    shapeCast ⟨2, ![512, n]⟩ v h (ix2 r c) = v (ix3 0 r c) := by
  refine shapeCast_apply _ _ _ _ ?_
  rw [Shape.rowMajor_val_three, Shape.rowMajor_val_two]
  show (0 * 512 + r.val) * n + c.val = r.val * n + c.val
  rw [Nat.zero_mul, Nat.zero_add]

/-- A head's block of the memory. -/
def hk (k : FVec Ideal S1x1x256x256 .bf16) : FVec Ideal S256x256 .bf16 := shapeCast S256x256 k shapeCasts_S1x1x256x256_S256x256

theorem hk_apply (k : FVec Ideal S1x1x256x256 .bf16) (n l : Fin 256) : hk k (ix2 n l) = k (ix4 0 0 n l) := by
  refine shapeCast_apply _ _ _ _ ?_
  rw [Shape.rowMajor_val_four, Shape.rowMajor_val_two]
  show ((0 * 1 + 0) * 256 + n.val) * 256 + l.val = n.val * 256 + l.val
  omega

/-- The token after the mixing. -/
theorem pay2_apply (om : Vec Ideal S1x512x512 .f32) (gm : Vec Ideal S1x512 .f32) (os on : Vec Ideal S1x512x256 .bf16) (x : Vec Ideal S1x512x1024 .f32)
    (w : Vec Ideal S1024x1024 .bf16) (r : Fin 512) (c : Fin 1024) :
    k0_pay2 (F := Ideal) om gm os on x w (ix2 r c)
      = mix (fun d => x (ix3 0 r d)) (fun d => om (ix3 0 r d)) (fun d => gm (ix2 0 d)) (fun d => os (ix3 0 r d)) (fun d => on (ix3 0 r d))
          (fun d c => w (ix2 d c)) c := by
  have e : k0_pay2 (F := Ideal) om gm os on x w = mixed (shapeCast S512x1024 x shapeCasts_S1x512x1024_S512x1024)
      (side (nrm' (shapeCast S512x512 om shapeCasts_S1x512x512_S512x512) gm) (shapeCast S512x256 os shapeCasts_S1x512x256_S512x256)
        (shapeCast S512x256 on shapeCasts_S1x512x256_S512x256)) w := by
    have hg : shapeCast S1x512 gm shapeCasts_S1x512_S1x512 = gm := shapeCast_self _ _
    unfold k0_pay2 mixed side nrm'
    simp only [shapeCast_self]
    rw [hg]
  rw [e, mixed_apply]
  simp only [side_apply, nrm'_apply]
  have e1 : ∀ d, shapeCast S512x1024 x shapeCasts_S1x512x1024_S512x1024 (ix2 r d) = x (ix3 0 r d) := fun d => sq3 (t := .f32) x _ r d
  have e2 : ∀ d, shapeCast S512x512 om shapeCasts_S1x512x512_S512x512 (ix2 r d) = om (ix3 0 r d) := fun d => sq3 (t := .f32) om _ r d
  have e3 : ∀ d, shapeCast S512x256 os shapeCasts_S1x512x256_S512x256 (ix2 r d) = os (ix3 0 r d) := fun d => sq3 (t := .bf16) os _ r d
  have e4 : ∀ d, shapeCast S512x256 on shapeCasts_S1x512x256_S512x256 (ix2 r d) = on (ix3 0 r d) := fun d => sq3 (t := .bf16) on _ r d
  simp only [e1, e2, e3, e4]
  rfl

/-- The scaled queries. -/
def qb (x : FVec Ideal S512x1024 .f32) (mg : FVec Ideal S1x1024 .f32) (wq : FVec Ideal S1024x256 .bf16) (bd : FVec Ideal S256x256 .bf16)
    (qg : FVec Ideal S1x256 .f32) : FVec Ideal S512x256 .bf16 := qn (proj (nrm x mg) wq) bd qg

/-- The block after the attention over the memory. -/
def x2 (x : FVec Ideal S512x1024 .f32) (q : FVec Ideal S512x256 .bf16) (k0 k1 k2 k3 v0 v1 v2 v3 : FVec Ideal S1x1x256x256 .bf16)
    (wo : FVec Ideal S256x1024 .bf16) : FVec Ideal S512x1024 .f32 :=
  attd x (heads q (hk k0) (hk k1) (hk k2) (hk k3) (hk v0) (hk v1) (hk v2) (hk v3)) wo

/-- The feed-forward half-step on a block. -/
def x3 (x : FVec Ideal S512x1024 .f32) (g : FVec Ideal S1x1024 .f32) (wg wu : FVec Ideal S1024x2816 .bf16) (wo : FVec Ideal S2816x1024 .bf16) :
    FVec Ideal S512x1024 .f32 := down x (gate (up (nrm x g) wg) (up (nrm x g) wu)) wo

theorem pay13_eq (x : FVec Ideal S512x1024 .f32) (g : Vec Ideal S1x1024 .f32) (wg wu : Vec Ideal S1024x2816 .bf16) (wo : Vec Ideal S2816x1024 .bf16) :
    k0_pay13 (F := Ideal) x g wg wu wo = x3 x g wg wu wo := by
  unfold k0_pay13
  simp only [shapeCast_self]
  rfl

theorem pay6_eq (om : Vec Ideal S1x512x512 .f32) (gm : Vec Ideal S1x512 .f32) (os on : Vec Ideal S1x512x256 .bf16) (x : Vec Ideal S1x512x1024 .f32)
    (w : Vec Ideal S1024x1024 .bf16) (mg : Vec Ideal S1x1024 .f32) (wq : Vec Ideal S1024x256 .bf16) (bd : Vec Ideal S256x256 .bf16) (qg : Vec Ideal S1x256 .f32) :
    k0_pay6 (F := Ideal) (k0_pay2 om gm os on x w) (k0_pay3 mg) (k0_pay4 om gm os on x w) (k0_pay5 (F := Ideal)) wq bd qg
      = qb (k0_pay2 om gm os on x w) mg wq bd qg := by
  unfold k0_pay6 k0_pay3 k0_pay4 k0_pay5
  generalize k0_pay2 (F := Ideal) om gm os on x w = y
  simp only [shapeCast_self]
  rfl

theorem pay8_eq (v27 : FVec Ideal S512x1024 .f32) (v29 : FVec Ideal S1x1024 .f32) (v32 v33 : FVec Ideal S512x1 .f32) (v43 : Vec Ideal S1024x256 .bf16)
    (v48 : Vec Ideal S256x256 .bf16) (v57 : Vec Ideal S1x256 .f32) (k : Vec Ideal S1x1x256x256 .bf16) :
    k0_pay8 (F := Ideal) v27 v29 v32 v33 v43 v48 v57 k = sc (k0_pay6 v27 v29 v32 v33 v43 v48 v57) (hk k) := by
  unfold k0_pay8 sc hk
  rfl

theorem pay9_eq (v27 : FVec Ideal S512x1024 .f32) (v29 : FVec Ideal S1x1024 .f32) (v32 v33 : FVec Ideal S512x1 .f32) (v43 : Vec Ideal S1024x256 .bf16)
    (v48 : Vec Ideal S256x256 .bf16) (v57 : Vec Ideal S1x256 .f32) (k : Vec Ideal S1x1x256x256 .bf16) :
    k0_pay9 (F := Ideal) v27 v29 v32 v33 v43 v48 v57 k = sc (k0_pay6 v27 v29 v32 v33 v43 v48 v57) (hk k) := by
  unfold k0_pay9 sc hk
  rfl

theorem pay12_eq (x : FVec Ideal S512x1024 .f32) (q : FVec Ideal S512x256 .bf16) (k0 k1 k2 k3 v0 v1 v2 v3 : Vec Ideal S1x1x256x256 .bf16)
    (wo : Vec Ideal S256x1024 .bf16) :
    k0_pay12 (F := Ideal) x q (k0_pay10 q k2) (k0_pay11 (k0_pay7 (F := Ideal)) (sc q (hk k0)) (sc q (hk k1)) v0 v1) k3 v2 v3 wo
      = x2 x q k0 k1 k2 k3 v0 v1 v2 v3 wo := by
  unfold k0_pay12 k0_pay10 k0_pay11 k0_pay7
  simp only [shapeCast_self]
  rfl

theorem pay1_eq (x : FVec Ideal S512x1024 .f32) (bg : Vec Ideal S1x1024 .f32) (g : Vec Ideal S1x1024 .f32) (wg wu : Vec Ideal S1024x2816 .bf16)
    (wo : Vec Ideal S2816x1024 .bf16) :
    k0_pay1 (F := Ideal) (k0_pay13 x g wg wu wo) (k0_pay14 bg) (k0_pay15 x g wg wu wo)
      = shapeCast S1x512x1024 (nrm (x3 x g wg wu wo) bg) shapeCasts_S512x1024_S1x512x1024 := by
  unfold k0_pay1 k0_pay14 k0_pay15
  rw [pay13_eq]
  simp only [shapeCast_self]
  rfl

/-- A block with a leading axis. -/
theorem un3 (v : FVec Ideal S512x1024 .f32) (r : Fin 512) (c : Fin 1024) :
    shapeCast S1x512x1024 v shapeCasts_S512x1024_S1x512x1024 (ix3 0 r c) = v (ix2 r c) := by
  refine shapeCast_apply _ _ _ _ ?_
  rw [Shape.rowMajor_val_three, Shape.rowMajor_val_two]
  show r.val * 1024 + c.val = (0 * 512 + r.val) * 1024 + c.val
  omega

theorem qb_apply (x : FVec Ideal S512x1024 .f32) (mg : FVec Ideal S1x1024 .f32) (wq : FVec Ideal S1024x256 .bf16) (bd : FVec Ideal S256x256 .bf16)
    (qg : FVec Ideal S1x256 .f32) (r : Fin 512) (l : Fin 256) :
    qb x mg wq bd qg (ix2 r l) = qK (lin (rms n1024 (fun d => x (ix2 r d)) fun d => mg (ix2 0 d)) fun d l => wq (ix2 d l)) (fun l' l => bd (ix2 l' l))
      (fun l => qg (ix2 0 l)) l := by
  rw [qb, qn_apply]
  simp only [proj_apply, nrm_apply]

theorem x2_apply (x : FVec Ideal S512x1024 .f32) (q : FVec Ideal S512x256 .bf16) (k0 k1 k2 k3 v0 v1 v2 v3 : FVec Ideal S1x1x256x256 .bf16)
    (wo : FVec Ideal S256x1024 .bf16) (r : Fin 512) (c : Fin 1024) :
    x2 x q k0 k1 k2 k3 v0 v1 v2 v3 wo (ix2 r c) = x (ix2 r c) + lin (memK (fun l => q (ix2 r l))
      (fun h n l => (![k0, k1, k2, k3] h : FVec Ideal S1x1x256x256 .bf16) (ix4 0 0 n l))
      (fun h n l => (![v0, v1, v2, v3] h : FVec Ideal S1x1x256x256 .bf16) (ix4 0 0 n l))) (fun l c => wo (ix2 l c)) c := by
  rw [x2, attd_apply]
  simp only [heads_apply]
  have e : ∀ (k0 k1 k2 k3 : FVec Ideal S1x1x256x256 .bf16) (h : Fin 4) (n l : Fin 256), (![hk k0, hk k1, hk k2, hk k3] h : FVec Ideal S256x256 .bf16) (ix2 n l)
      = (![k0, k1, k2, k3] h : FVec Ideal S1x1x256x256 .bf16) (ix4 0 0 n l) := fun k0 k1 k2 k3 h n l => by
    fin_cases h <;> exact hk_apply _ n l
  simp only [e]

theorem x3_apply (x : FVec Ideal S512x1024 .f32) (g : FVec Ideal S1x1024 .f32) (wg wu : FVec Ideal S1024x2816 .bf16) (wo : FVec Ideal S2816x1024 .bf16)
    (r : Fin 512) (c : Fin 1024) :
    x3 x g wg wu wo (ix2 r c)
      = ffn (fun d => x (ix2 r d)) (fun d => g (ix2 0 d)) (fun d f => wg (ix2 d f)) (fun d f => wu (ix2 d f)) (fun f c => wo (ix2 f c)) c := by
  rw [x3, down_apply]
  simp only [gate_apply, up_apply, nrm_apply]
  rfl

theorem hz2 : (![0, 0] : Fin 2 → Nat) = fun _ => 0 := funext fun a => by fin_cases a <;> rfl
theorem hz3 : (![0, 0, 0] : Fin 3 → Nat) = fun _ => 0 := funext fun a => by fin_cases a <;> rfl

theorem ld9 (k : Vec Ideal S1x4x256x256 .bf16) (n l : Fin 256) : View.ld k r0_9 (ix4 0 0 n l) = k (ix4 0 0 n l) := by
  pointwise []
theorem ld10 (k : Vec Ideal S1x4x256x256 .bf16) (n l : Fin 256) : View.ld k r0_10 (ix4 0 0 n l) = k (ix4 0 1 n l) := by
  pointwise []
theorem ld11 (k : Vec Ideal S1x4x256x256 .bf16) (n l : Fin 256) : View.ld k r0_11 (ix4 0 0 n l) = k (ix4 0 2 n l) := by
  pointwise []
theorem ld12 (k : Vec Ideal S1x4x256x256 .bf16) (n l : Fin 256) : View.ld k r0_12 (ix4 0 0 n l) = k (ix4 0 3 n l) := by
  pointwise []

/-- The four heads' blocks of the memory. -/
theorem ldh (k : Vec Ideal S1x4x256x256 .bf16) (h : Fin 4) (n l : Fin 256) :
    (![View.ld k r0_9, View.ld k r0_10, View.ld k r0_11, View.ld k r0_12] h : FVec Ideal S1x1x256x256 .bf16) (ix4 0 0 n l) = k (ix4 0 h n l) := by
  fin_cases h
  · exact ld9 k n l
  · exact ld10 k n l
  · exact ld11 k n l
  · exact ld12 k n l

/-- The block after the attention over the memory's blocks. -/
theorem x2_ld (x : FVec Ideal S512x1024 .f32) (q : FVec Ideal S512x256 .bf16) (k v : Vec Ideal S1x4x256x256 .bf16) (wo : Vec Ideal S256x1024 .bf16)
    (r : Fin 512) (c : Fin 1024) :
    x2 x q (View.ld k r0_9) (View.ld k r0_10) (View.ld k r0_11) (View.ld k r0_12) (View.ld v r0_9) (View.ld v r0_10) (View.ld v r0_11) (View.ld v r0_12)
        wo (ix2 r c)
      = x (ix2 r c) + lin (memK (fun l => q (ix2 r l)) (fun h n l => k (ix4 0 h n l)) fun h n l => v (ix4 0 h n l)) (fun l c => wo (ix2 l c)) c :=
  (x2_apply x q _ _ _ _ _ _ _ _ wo r c).trans
    (congrArg₂ (fun K V => x (ix2 r c) + lin (memK (fun l => q (ix2 r l)) K V) (fun l c => wo (ix2 l c)) c)
      (funext fun h => funext fun n => funext fun l => ldh k h n l) (funext fun h => funext fun n => funext fun l => ldh v h n l))

/-- What the body writes, at one index. -/
theorem out_apply (x0 : Vec Ideal S1x512x1024 .f32) (x1 : Vec Ideal S1x512x512 .f32) (x2 : Vec Ideal S1x512x256 .bf16) (x3 : Vec Ideal S1x512x256 .bf16)
    (x4 : Vec Ideal S1x512 .f32) (x5 : Vec Ideal S1024x1024 .bf16) (x6 : Vec Ideal S1x1024 .f32) (x7 : Vec Ideal S1024x256 .bf16) (x8 : Vec Ideal S1x256 .f32)
    (x9 : Vec Ideal S256x256 .bf16) (x10 x11 : Vec Ideal S1x4x256x256 .bf16) (x12 : Vec Ideal S256x1024 .bf16) (x13 : Vec Ideal S1x1024 .f32)
    (x14 x15 : Vec Ideal S1024x2816 .bf16) (x16 : Vec Ideal S2816x1024 .bf16) (x17 : Vec Ideal S1x1024 .f32) (r : Fin 512) (c : Fin 1024) :
    out0_18 (F := Ideal) x0 x1 x2 x3 x4 x5 x6 x7 x8 x9 x10 x11 x12 x13 x14 x15 x16 x17 (ix3 0 r c)
      = fin (mix (fun d => x0 (ix3 0 r d)) (fun d => x1 (ix3 0 r d)) (fun d => x4 (ix2 0 d)) (fun d => x2 (ix3 0 r d)) (fun d => x3 (ix3 0 r d))
            (fun d c => x5 (ix2 d c)))
          (memK (qK (lin (rms n1024 (mix (fun d => x0 (ix3 0 r d)) (fun d => x1 (ix3 0 r d)) (fun d => x4 (ix2 0 d)) (fun d => x2 (ix3 0 r d))
              (fun d => x3 (ix3 0 r d)) (fun d c => x5 (ix2 d c))) fun d => x6 (ix2 0 d)) fun d l => x7 (ix2 d l)) (fun l' l => x9 (ix2 l' l))
              (fun l => x8 (ix2 0 l)))
            (fun h n l => x10 (ix4 0 h n l)) (fun h n l => x11 (ix4 0 h n l)))
          (fun l c => x12 (ix2 l c)) (fun d => x13 (ix2 0 d)) (fun d f => x14 (ix2 d f)) (fun d f => x15 (ix2 d f)) (fun f c => x16 (ix2 f c))
          (fun d => x17 (ix2 0 d)) c := by
  unfold out0_18 k0_pay21 k0_pay20 k0_pay19 k0_pay18 k0_pay17 k0_pay16
  simp only [View.canon_unit_zero (S := S1x512x1024) hz3, View.ld_unit_zero (S := S1x512x1024) hz3, View.ld_unit_zero (S := S1x512x512) hz3, View.ld_unit_zero (S := S1x512x256) hz3,
    View.ld_unit_zero (S := S1x512) hz2, View.ld_unit_zero (S := S1024x1024) hz2, View.ld_unit_zero (S := S1x1024) hz2, View.ld_unit_zero (S := S1024x256) hz2, View.ld_unit_zero (S := S256x256) hz2, View.ld_unit_zero (S := S1x256) hz2, View.ld_unit_zero (S := S256x1024) hz2, View.ld_unit_zero (S := S1024x2816) hz2, View.ld_unit_zero (S := S2816x1024) hz2]
  rw [pay1_eq, un3, nrm_apply, pay8_eq, pay9_eq, pay6_eq, pay12_eq]
  simp only [x3_apply, x2_ld, qb_apply, pay2_apply]
  rfl

end Cert.Kernel3Ideal.Hand

end
-- ==== Proof.Tail.Ref.lean ====
module

public import proofs.«01_k».proof.Proof.Tail.Row
public import proofs.«01_k».proof.Proof.Gen.Reference3Ideal
public import proofs.«01_k».proof.Proof.Gen.Reference3Ideal.Run
public import Idealize.ShloMosaic.Lib.Pipeline.Value

@[expose] public section

set_option maxRecDepth 16384

noncomputable section

namespace Cert.Reference3Ideal.Hand

open Cert.Reference3Ideal Cert.Reference3Ideal.Gen
open Idealize.ShloMosaic
open Cert.Row

/-! ## The reference of the layer's end at one index -/

/-- The normalized tokens. -/
def nrm (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf
      (broadcastInDim S4x8192x1 ![0, 1] bcast_S4x8192_S4x8192x1_0_1
        (Host.reduceAdd (mulf x x) (constant S_ .f32 0x00000000#32) reducesTo_S4x8192x1024_S4x8192_d2 h_S_))
      (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The first branch's normalized result. -/
def nrm' (x : FVec Ideal S4x8192x512 .f32) (g : FVec Ideal S512 .f32) : FVec Ideal S4x8192x512 .f32 :=
  mulf (mulf x (broadcastInDim S4x8192x512 ![0, 1, 2] bcast_S4x8192x1_S4x8192x512_0_1_2 (Host.rsqrt (addf (Host.divf
      (broadcastInDim S4x8192x1 ![0, 1] bcast_S4x8192_S4x8192x1_0_1
        (Host.reduceAdd (mulf x x) (constant S_ .f32 0x00000000#32) reducesTo_S4x8192x512_S4x8192_d2 h_S_))
      (broadcastInDim S4x8192x1 ![] bcast_S_S4x8192x1 (constant S_ .f32 0x44000000#32)))
      (broadcastInDim S4x8192x1 ![] bcast_S_S4x8192x1 (constant S_ .f32 0x358637BD#32))))))
    (broadcastInDim S4x8192x512 ![0, 1, 2] bcast_S1x1x512_S4x8192x512_0_1_2 (broadcastInDim S1x1x512 ![2] bcast_S512_S1x1x512_2 g))

/-- The branches side by side. -/
def side (a : FVec Ideal S4x8192x512 .f32) (b c : FVec Ideal S4x8192x256 .f32) : FVec Ideal S4x8192x1024 .f32 :=
  concatenate S4x8192x1024 2 [⟨S4x8192x512, a⟩, ⟨S4x8192x256, b⟩, ⟨S4x8192x256, c⟩]
    concatenates_S4x8192x512_S4x8192x256_S4x8192x256_S4x8192x1024_d2

/-- The tokens plus their projected branches. -/
def mixed (x a : FVec Ideal S4x8192x1024 .f32) (w : FVec Ideal S1024x1024 .f32) : FVec Ideal S4x8192x1024 .f32 :=
  addf x (Host.dotGeneral dot_S4x8192x1024_S1024x1024_S4x8192x1024_2_0_01_1_n_n none a w)

/-- The queries before their normalization, head by head. -/
def proj (y : FVec Ideal S4x8192x1024 .f32) (w : FVec Ideal S1024x256 .f32) : FVec Ideal S4x8192x4x64 .f32 :=
  shapeCast _ (Host.dotGeneral dot_S4x8192x1024_S1024x256_S4x8192x256_2_0_01_1_n_n none y w) shapeCasts_S4x8192x256_S4x8192x4x64

/-- The normalized queries. -/
def hn (y : FVec Ideal S4x8192x4x64 .f32) (g : FVec Ideal S64 .f32) : FVec Ideal S4x8192x4x64 .f32 :=
  mulf (mulf y (broadcastInDim S4x8192x4x64 ![0, 1, 2, 3] bcast_S4x8192x4x1_S4x8192x4x64_0_1_2_3 (Host.rsqrt (addf (Host.divf
      (broadcastInDim S4x8192x4x1 ![0, 1, 2] bcast_S4x8192x4_S4x8192x4x1_0_1_2
        (Host.reduceAdd (mulf y y) (constant S_ .f32 0x00000000#32) reducesTo_S4x8192x4x64_S4x8192x4_d3 h_S_))
      (broadcastInDim S4x8192x4x1 ![] bcast_S_S4x8192x4x1 (constant S_ .f32 0x42800000#32)))
      (broadcastInDim S4x8192x4x1 ![] bcast_S_S4x8192x4x1 (constant S_ .f32 0x358637BD#32))))))
    (broadcastInDim S4x8192x4x64 ![0, 1, 2, 3] bcast_S1x1x1x64_S4x8192x4x64_0_1_2_3 (broadcastInDim S1x1x1x64 ![3] bcast_S64_S1x1x1x64_3 g))

/-- The scaled scores. -/
def sc (q : FVec Ideal S4x8192x4x64 .f32) (k : FVec Ideal S4x256x4x64 .f32) : FVec Ideal S4x4x8192x256 .f32 :=
  mulf (Host.dotGeneral dot_S4x8192x4x64_S4x256x4x64_S4x4x8192x256_3_3_1_1_02_02 none q k)
    (broadcastInDim S4x4x8192x256 ![] bcast_S_S4x4x8192x256 (constant S_ .f32 0x3E000000#32))

/-- Each row's greatest. -/
def mx (s : FVec Ideal S4x4x8192x256 .f32) : FVec Ideal S4x4x8192 .f32 :=
  Host.reduce FloatOps.maximumf s (constant S_ .f32 0xFF800000#32) reducesTo_S4x4x8192x256_S4x4x8192_d3 h_S_

/-- The exponentials of the scores less `m`, row by row. -/
def ex (s : FVec Ideal S4x4x8192x256 .f32) (m : FVec Ideal S4x4x8192 .f32) : FVec Ideal S4x4x8192x256 .f32 :=
  Host.exp (subf s (broadcastInDim S4x4x8192x256 ![0, 1, 2, 3] bcast_S4x4x8192x1_S4x4x8192x256_0_1_2_3
    (broadcastInDim S4x4x8192x1 ![0, 1, 2] bcast_S4x4x8192_S4x4x8192x1_0_1_2
      (maximumf (broadcastInDim S4x4x8192 ![] bcast_S_S4x4x8192 (constant S_ .f32 0xFF800000#32)) m))))

/-- Each row over its sum. -/
def pr (e : FVec Ideal S4x4x8192x256 .f32) : FVec Ideal S4x4x8192x256 .f32 :=
  Host.divf e (broadcastInDim S4x4x8192x256 ![0, 1, 2, 3] bcast_S4x4x8192x1_S4x4x8192x256_0_1_2_3
    (broadcastInDim S4x4x8192x1 ![0, 1, 2] bcast_S4x4x8192_S4x4x8192x1_0_1_2
      (Host.reduceAdd e (constant S_ .f32 0x00000000#32) reducesTo_S4x4x8192x256_S4x4x8192_d3 h_S_)))

/-- The memory's values under the weights, heads side by side. -/
def ov (v : FVec Ideal S4x256x4x64 .f32) (p : FVec Ideal S4x4x8192x256 .f32) : FVec Ideal S4x8192x256 .f32 :=
  shapeCast _ (transpose S4x8192x4x64 [0, 3, 1, 2]
    (Host.dotGeneral dot_S4x256x4x64_S4x4x8192x256_S4x4x64x8192_1_3_3_2_02_01 none v p)
    transposes_S4x4x64x8192_S4x8192x4x64_0_3_1_2) shapeCasts_S4x8192x4x64_S4x8192x256

/-- The tokens plus their projected attention. -/
def attd (x : FVec Ideal S4x8192x1024 .f32) (o : FVec Ideal S4x8192x256 .f32) (w : FVec Ideal S256x1024 .f32) : FVec Ideal S4x8192x1024 .f32 :=
  addf x (Host.dotGeneral dot_S4x8192x256_S256x1024_S4x8192x1024_2_0_01_1_n_n none o w)

/-- The tokens times the first layer's matrix. -/
def up (x : FVec Ideal S4x8192x1024 .f32) (w : FVec Ideal S1024x5632 .f32) : FVec Ideal S4x8192x5632 .f32 :=
  Host.dotGeneral dot_S4x8192x1024_S1024x5632_S4x8192x5632_2_0_01_1_n_n none x w

/-- The gate times its logistic. -/
def silu (g : FVec Ideal S4x8192x2816 .f32) : FVec Ideal S4x8192x2816 .f32 :=
  mulf g (Host.divf (broadcastInDim S4x8192x2816 ![] bcast_S_S4x8192x2816 (constant S_ .f32 0x3F800000#32))
    (addf (broadcastInDim S4x8192x2816 ![] bcast_S_S4x8192x2816 (constant S_ .f32 0x3F800000#32)) (Host.exp (Host.negf g))))

/-- The gated values. -/
def gate (y : FVec Ideal S4x8192x5632 .f32) : FVec Ideal S4x8192x2816 .f32 :=
  mulf (silu (extractStridedSlice S4x8192x2816 ![0, 0, 0] y slices_S4x8192x5632_S4x8192x2816_0_0_0))
    (extractStridedSlice S4x8192x2816 ![0, 0, 2816] y slices_S4x8192x5632_S4x8192x2816_0_0_2816)

/-- The tokens plus half of the second layer's product. -/
def down (x : FVec Ideal S4x8192x1024 .f32) (a : FVec Ideal S4x8192x2816 .f32) (w : FVec Ideal S2816x1024 .f32) : FVec Ideal S4x8192x1024 .f32 :=
  addf x (mulf (broadcastInDim S4x8192x1024 ![] bcast_S_S4x8192x1024 (constant S_ .f32 0x3F000000#32))
    (Host.dotGeneral dot_S4x8192x2816_S2816x1024_S4x8192x1024_2_0_01_1_n_n none a w))

theorem nrm_apply (x : FVec Ideal S4x8192x1024 .f32) (g : FVec Ideal S1024 .f32) (b : Fin 4) (s : Fin 8192) (c : Fin 1024) :
    nrm x g (ix3 b s c) = rms n1024 (fun d => x (ix3 b s d)) (fun d => g (ix1 d)) c := by
  pointwise [nrm, rms, n1024, eps]

theorem nrm'_apply (x : FVec Ideal S4x8192x512 .f32) (g : FVec Ideal S512 .f32) (b : Fin 4) (s : Fin 8192) (c : Fin 512) :
    nrm' x g (ix3 b s c) = rms n512 (fun d => x (ix3 b s d)) (fun d => g (ix1 d)) c := by
  pointwise [nrm', rms, n512, eps]

theorem side_apply (x : FVec Ideal S4x8192x512 .f32) (y z : FVec Ideal S4x8192x256 .f32) (b : Fin 4) (s : Fin 8192) (e : Fin 1024) :
    side x y z (ix3 b s e) = cat (fun d => x (ix3 b s d)) (fun d => y (ix3 b s d)) (fun d => z (ix3 b s d)) e := by
  pointwise [side, cat]

theorem mixed_apply (x a : FVec Ideal S4x8192x1024 .f32) (w : FVec Ideal S1024x1024 .f32) (b : Fin 4) (s : Fin 8192) (c : Fin 1024) :
    mixed x a w (ix3 b s c) = x (ix3 b s c) + lin (fun d => a (ix3 b s d)) (fun d c => w (ix2 d c)) c := by
  pointwise [mixed, lin]

theorem proj_apply (y : FVec Ideal S4x8192x1024 .f32) (w : FVec Ideal S1024x256 .f32) (b : Fin 4) (s : Fin 8192) (h : Fin 4) (d : Fin 64) :
    proj y w (ix4 b s h d) = lin (fun e => y (ix3 b s e)) (fun e l => w (ix2 e l)) (lane h d) := by
  refine (shapeCast_apply _ _ _ (ix3 b s (lane h d)) ?_).trans ?_
  · rw [Shape.rowMajor_val_four, Shape.rowMajor_val_three]
    show (b.val * 8192 + s.val) * 256 + (64 * h.val + d.val) = ((b.val * 8192 + s.val) * 4 + h.val) * 64 + d.val
    omega
  · pointwise [lin]

theorem hn_apply (y : FVec Ideal S4x8192x4x64 .f32) (g : FVec Ideal S64 .f32) (b : Fin 4) (s : Fin 8192) (h : Fin 4) (d : Fin 64) :
    hn y g (ix4 b s h d) = rms n64 (fun d => y (ix4 b s h d)) (fun d => g (ix1 d)) d := by
  pointwise [hn, rms, n64, eps]

theorem sc_apply (q : FVec Ideal S4x8192x4x64 .f32) (k : FVec Ideal S4x256x4x64 .f32) (b h : Fin 4) (s : Fin 8192) (n : Fin 256) :
    sc q k (ix4 b h s n) = score (fun d => q (ix4 b s h d)) (fun n d => k (ix4 b n h d)) n := by
  pointwise [sc, score, eighth]

/-- The word of −∞. -/
theorem bot_word : Ideal.ofBits FTy.f32 4286578688#32 = (⊥ : EReal) := by simp [Ideal.ofBits, Ideal.ieee]

theorem mx_apply (s : FVec Ideal S4x4x8192x256 .f32) (b h : Fin 4) (i : Fin 8192) : mx s (ix3 b h i) = top fun n => s (ix4 b h i n) := by
  unfold mx
  rw [Host.reduce_eq_fold]
  refine (Shape.ReducesTo.fold_fiber_r4_a3 _ _ _ _ _).trans ?_
  rw [top, ← bot_word]
  rfl

theorem ex_apply (s : FVec Ideal S4x4x8192x256 .f32) (m : FVec Ideal S4x4x8192 .f32) (b h : Fin 4) (i : Fin 8192) (n : Fin 256) :
    ex s m (ix4 b h i n) = Ideal.exp (s (ix4 b h i n) - m (ix3 b h i)) := by
  pointwise [ex]
  rw [bot_word]
  simp

theorem pr_apply (e : FVec Ideal S4x4x8192x256 .f32) (b h : Fin 4) (i : Fin 8192) (n : Fin 256) :
    pr e (ix4 b h i n) = Ideal.div (e (ix4 b h i n)) (∑ j, e (ix4 b h i j)) := by
  pointwise [pr]

theorem ov_apply (v : FVec Ideal S4x256x4x64 .f32) (p : FVec Ideal S4x4x8192x256 .f32) (b : Fin 4) (s : Fin 8192) (l : Fin 256) :
    ov v p (ix3 b s l) = ∑ n : Fin 256, v (ix4 b n (hd l) (pl l)) * p (ix4 b (hd l) s n) := by
  refine (shapeCast_apply _ _ _ (ix4 b s (hd l) (pl l)) ?_).trans
    ((transpose_apply _ _ _ _ (ix4 b (hd l) (pl l) s) (fun a => by fin_cases a <;> rfl)).trans ?_)
  · rw [Shape.rowMajor_val_four, Shape.rowMajor_val_three]
    show ((b.val * 8192 + s.val) * 4 + l.val / 64) * 64 + l.val % 64 = (b.val * 8192 + s.val) * 256 + l.val
    omega
  · pointwise []

theorem attd_apply (x : FVec Ideal S4x8192x1024 .f32) (o : FVec Ideal S4x8192x256 .f32) (w : FVec Ideal S256x1024 .f32)
    (b : Fin 4) (s : Fin 8192) (c : Fin 1024) :
    attd x o w (ix3 b s c) = x (ix3 b s c) + lin (fun l => o (ix3 b s l)) (fun l c => w (ix2 l c)) c := by
  pointwise [attd, lin]

theorem up_apply (x : FVec Ideal S4x8192x1024 .f32) (w : FVec Ideal S1024x5632 .f32) (b : Fin 4) (s : Fin 8192) (f : Fin 5632) :
    up x w (ix3 b s f) = lin (fun d => x (ix3 b s d)) (fun d f => w (ix2 d f)) f := by
  pointwise [up, lin]

/-- The word of one. -/
theorem one_word : Ideal.ofBits FTy.f32 1065353216#32 = (1 : EReal) := by
  simp [Ideal.ofBits, Ideal.ieee, -EReal.coe_mul]; norm_num

theorem silu_apply (g : FVec Ideal S4x8192x2816 .f32) (i : S4x8192x2816.Idx) : silu g i = g i * Ideal.logistic (g i) := by
  pointwise [silu, one_word]
  rfl

theorem gate_apply (y : FVec Ideal S4x8192x5632 .f32) (b : Fin 4) (s : Fin 8192) (f : Fin 2816) :
    gate y (ix3 b s f) = act (y (ix3 b s ⟨f.val, by omega⟩)) (y (ix3 b s ⟨2816 + f.val, by omega⟩)) := by
  pointwise [gate, silu_apply, act]

theorem down_apply (x : FVec Ideal S4x8192x1024 .f32) (a : FVec Ideal S4x8192x2816 .f32) (w : FVec Ideal S2816x1024 .f32)
    (b : Fin 4) (s : Fin 8192) (c : Fin 1024) :
    down x a w (ix3 b s c) = x (ix3 b s c) + half * lin (fun f => a (ix3 b s f)) (fun f c => w (ix2 f c)) c := by
  pointwise [down, half, lin]

/-! ## The whole -/

/-- The tokens after the mixing. -/
def x1 (x : FVec Ideal S4x8192x1024 .f32) (om : FVec Ideal S4x8192x512 .f32) (os on : FVec Ideal S4x8192x256 .f32) (gm : FVec Ideal S512 .f32)
    (w : FVec Ideal S1024x1024 .f32) : FVec Ideal S4x8192x1024 .f32 := mixed x (side (nrm' om gm) os on) w

/-- The attention over the memory. -/
def att (x : FVec Ideal S4x8192x1024 .f32) (mg : FVec Ideal S1024 .f32) (wq : FVec Ideal S1024x256 .f32) (qg : FVec Ideal S64 .f32)
    (k v : FVec Ideal S4x256x4x64 .f32) : FVec Ideal S4x8192x256 .f32 :=
  ov v (pr (ex (sc (hn (proj (nrm x mg) wq) qg) k) (mx (sc (hn (proj (nrm x mg) wq) qg) k))))

/-- The half-step. -/
def step (x : FVec Ideal S4x8192x1024 .f32) (g : FVec Ideal S1024 .f32) (wi : FVec Ideal S1024x5632 .f32) (wo : FVec Ideal S2816x1024 .f32) :
    FVec Ideal S4x8192x1024 .f32 := down x (gate (up (nrm x g) wi)) wo

/-- The layer's result. -/
def out (x : FVec Ideal S4x8192x1024 .f32) (om : FVec Ideal S4x8192x512 .f32) (os on : FVec Ideal S4x8192x256 .f32) (gm : FVec Ideal S512 .f32)
    (w : FVec Ideal S1024x1024 .f32) (mg : FVec Ideal S1024 .f32) (wq : FVec Ideal S1024x256 .f32) (qg : FVec Ideal S64 .f32)
    (k v : FVec Ideal S4x256x4x64 .f32) (wmo : FVec Ideal S256x1024 .f32) (g : FVec Ideal S1024 .f32) (wi : FVec Ideal S1024x5632 .f32)
    (wo : FVec Ideal S2816x1024 .f32) (bg : FVec Ideal S1024 .f32) : FVec Ideal S4x8192x1024 .f32 :=
  nrm (step (attd (x1 x om os on gm w) (att (x1 x om os on gm w) mg wq qg k v) wmo) g wi wo) bg

theorem x1_apply (x : FVec Ideal S4x8192x1024 .f32) (om : FVec Ideal S4x8192x512 .f32) (os on : FVec Ideal S4x8192x256 .f32) (gm : FVec Ideal S512 .f32)
    (w : FVec Ideal S1024x1024 .f32) (b : Fin 4) (s : Fin 8192) (c : Fin 1024) :
    x1 x om os on gm w (ix3 b s c) = mix (fun d => x (ix3 b s d)) (fun d => om (ix3 b s d)) (fun d => gm (ix1 d)) (fun d => os (ix3 b s d))
      (fun d => on (ix3 b s d)) (fun d c => w (ix2 d c)) c := by
  rw [x1, mixed_apply]
  simp only [side_apply, nrm'_apply]
  rfl

theorem att_apply (x : FVec Ideal S4x8192x1024 .f32) (mg : FVec Ideal S1024 .f32) (wq : FVec Ideal S1024x256 .f32) (qg : FVec Ideal S64 .f32)
    (k v : FVec Ideal S4x256x4x64 .f32) (b : Fin 4) (s : Fin 8192) (l : Fin 256) :
    att x mg wq qg k v (ix3 b s l) = mem (lin (rms n1024 (fun d => x (ix3 b s d)) fun d => mg (ix1 d)) fun d l => wq (ix2 d l)) (fun d => qg (ix1 d))
      (fun n h d => k (ix4 b n h d)) (fun n h d => v (ix4 b n h d)) l := by
  rw [att, ov_apply]
  simp only [pr_apply, ex_apply, mx_apply, sc_apply, hn_apply, proj_apply, nrm_apply]
  rfl

theorem step_apply (x : FVec Ideal S4x8192x1024 .f32) (g : FVec Ideal S1024 .f32) (wi : FVec Ideal S1024x5632 .f32) (wo : FVec Ideal S2816x1024 .f32)
    (b : Fin 4) (s : Fin 8192) (c : Fin 1024) :
    step x g wi wo (ix3 b s c) = ffn (fun d => x (ix3 b s d)) (fun d => g (ix1 d)) (fun d f => wi (ix2 d ⟨f.val, by omega⟩))
      (fun d f => wi (ix2 d ⟨2816 + f.val, by omega⟩)) (fun f c => wo (ix2 f c)) c := by
  rw [step, down_apply]
  simp only [gate_apply, up_apply, nrm_apply]
  rfl

theorem out_apply (x : FVec Ideal S4x8192x1024 .f32) (om : FVec Ideal S4x8192x512 .f32) (os on : FVec Ideal S4x8192x256 .f32) (gm : FVec Ideal S512 .f32)
    (w : FVec Ideal S1024x1024 .f32) (mg : FVec Ideal S1024 .f32) (wq : FVec Ideal S1024x256 .f32) (qg : FVec Ideal S64 .f32)
    (k v : FVec Ideal S4x256x4x64 .f32) (wmo : FVec Ideal S256x1024 .f32) (g : FVec Ideal S1024 .f32) (wi : FVec Ideal S1024x5632 .f32)
    (wo : FVec Ideal S2816x1024 .f32) (bg : FVec Ideal S1024 .f32) (b : Fin 4) (s : Fin 8192) (c : Fin 1024) :
    out x om os on gm w mg wq qg k v wmo g wi wo bg (ix3 b s c)
      = fin (mix (fun d => x (ix3 b s d)) (fun d => om (ix3 b s d)) (fun d => gm (ix1 d)) (fun d => os (ix3 b s d)) (fun d => on (ix3 b s d))
            (fun d c => w (ix2 d c)))
          (mem (lin (rms n1024 (mix (fun d => x (ix3 b s d)) (fun d => om (ix3 b s d)) (fun d => gm (ix1 d)) (fun d => os (ix3 b s d))
              (fun d => on (ix3 b s d)) (fun d c => w (ix2 d c))) fun d => mg (ix1 d)) fun d l => wq (ix2 d l)) (fun d => qg (ix1 d))
            (fun n h d => k (ix4 b n h d)) (fun n h d => v (ix4 b n h d)))
          (fun l c => wmo (ix2 l c)) (fun d => g (ix1 d)) (fun d f => wi (ix2 d ⟨f.val, by omega⟩)) (fun d f => wi (ix2 d ⟨2816 + f.val, by omega⟩))
          (fun f c => wo (ix2 f c)) (fun d => bg (ix1 d)) c := by
  rw [out, nrm_apply]
  simp only [step_apply, attd_apply, att_apply, x1_apply]
  rfl

open TcCoe in
/-- The reference's run, its result by its parts. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14))
            (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨(h c).1.trans rfl, (h c).2⟩) (Cert.Reference3Ideal.Value.run m ρ)

end Cert.Reference3Ideal.Hand

end
-- ==== Proof.Tail.Host.lean ====
module

public import proofs.«01_k».proof.Proof.Tail.Row
public import proofs.«01_k».proof.Proof.Gen.Kernel3Ideal.Value
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe
open Cert.Row

/-! ## The arrays laid out before the call -/

/-- The heads' gains over all lanes. -/
def gains (g : FVec Ideal S64 .f32) : FVec Ideal S1x256 .f32 :=
  shapeCast S1x256 (broadcastInDim S1x1x4x64 ![0, 1, 2, 3] bcast_S1x1x1x64_S1x1x4x64_0_1_2_3
    (shapeCast S1x1x1x64 (shapeCast S1x64 g shapeCasts_S64_S1x64) shapeCasts_S1x64_S1x1x1x64)) shapeCasts_S1x1x4x64_S1x256

/-- Where two lanes are of one head. -/
def alike : IVec S256x256 1 :=
  shapeCast S256x256 (broadcastInDim S4x64x4x64 ![0, 1, 2, 3] bcast_S4x1x4x1_S4x64x4x64_0_1_2_3
    (cmpi .eq (iotaInDim S4x1x4x1 32 0) (iotaInDim S4x1x4x1 32 2))) shapeCasts_S4x64x4x64_S256x256

/-- Ones there. -/
def ones : FVec Ideal S256x256 .bf16 := truncf .bf16 (uitofp (F := Ideal) .f32 alike) bitsLt_bf16_f32

/-- A head's memory in its own lanes of all, zeros in the others'. -/
def wide (a : FVec Ideal S4x256x4x64 .f32) : FVec Ideal S4x4x256x256 .f32 :=
  shapeCast S4x4x256x256 (select (broadcastInDim S4x4x256x4x64 ![0, 1, 2, 3, 4] bcast_S1x4x1x4x1_S4x4x256x4x64_0_1_2_3_4
      (cmpi .eq (iotaInDim S1x4x1x4x1 32 1) (iotaInDim S1x4x1x4x1 32 3)))
    (broadcastInDim S4x4x256x4x64 ![0, 1, 2, 3, 4] bcast_S4x1x256x4x64_S4x4x256x4x64_0_1_2_3_4
      (broadcastInDim S4x1x256x4x64 ![0, 2, 3, 4] bcast_S4x256x4x64_S4x1x256x4x64_0_2_3_4 a))
    (broadcastInDim S4x4x256x4x64 ![] bcast_S_S4x4x256x4x64 (constant (F := Ideal) S_ .f32 0x00000000#32)))
    shapeCasts_S4x4x256x4x64_S4x4x256x256

/-- The same, narrowed. -/
def spread (a : FVec Ideal S4x256x4x64 .f32) : FVec Ideal S4x4x256x256 .bf16 := truncf .bf16 (wide a) bitsLt_bf16_f32

theorem gains_apply (g : FVec Ideal S64 .f32) (l : Fin 256) : gains g (ix2 0 l) = g (ix1 (pl l)) := by
  refine (shapeCast_apply _ _ _ (ix4 0 0 (hd l) (pl l)) ?_).trans ?_
  · rw [Shape.rowMajor_val_four, Shape.rowMajor_val_two]
    show ((0 * 1 + 0) * 4 + l.val / 64) * 64 + l.val % 64 = 0 * 256 + l.val
    omega
  · pointwise []

theorem same (a b : Fin 4) : cmpi .eq (iotaInDim S4x1x4x1 32 0) (iotaInDim S4x1x4x1 32 2) (ix4 a 0 b 0) = if a = b then 1#1 else 0#1 := by
  fin_cases a <;> fin_cases b <;> rfl

theorem same' (a b : Fin 4) : cmpi .eq (iotaInDim S1x4x1x4x1 32 1) (iotaInDim S1x4x1x4x1 32 3) (ix5 0 a 0 b 0) = if a = b then 1#1 else 0#1 := by
  fin_cases a <;> fin_cases b <;> rfl

theorem alike_apply (l l' : Fin 256) : alike (ix2 l l') = if hd l = hd l' then 1#1 else 0#1 := by
  refine (shapeCast_apply _ _ _ (ix4 (hd l) (pl l) (hd l') (pl l')) ?_).trans ((show _ = _ from ?_).trans (same (hd l) (hd l')))
  · rw [Shape.rowMajor_val_four, Shape.rowMajor_val_two]
    show ((l.val / 64 * 64 + l.val % 64) * 4 + l'.val / 64) * 64 + l'.val % 64 = l.val * 256 + l'.val
    omega
  · pointwise []

theorem ones_apply (l l' : Fin 256) : ones (ix2 l l') = if hd l = hd l' then 1 else 0 := by
  show (((alike (ix2 l l')).toNat : ℝ) : EReal) = _
  rw [alike_apply]
  split <;> simp

theorem wide_apply (a : FVec Ideal S4x256x4x64 .f32) (b h : Fin 4) (n l : Fin 256) :
    wide a (ix4 b h n l) = if h = hd l then a (ix4 b n (hd l) (pl l)) else 0 := by
  refine (shapeCast_apply _ _ _ (ix5 b h n (hd l) (pl l)) ?_).trans ?_
  · rw [Shape.rowMajor_val_five, Shape.rowMajor_val_four]
    show (((b.val * 4 + h.val) * 256 + n.val) * 4 + l.val / 64) * 64 + l.val % 64 = ((b.val * 4 + h.val) * 256 + n.val) * 256 + l.val
    omega
  · have e : broadcastInDim S4x4x256x4x64 ![0, 1, 2, 3, 4] bcast_S1x4x1x4x1_S4x4x256x4x64_0_1_2_3_4
        (cmpi .eq (iotaInDim S1x4x1x4x1 32 1) (iotaInDim S1x4x1x4x1 32 3)) (ix5 b h n (hd l) (pl l)) = if h = hd l then 1#1 else 0#1 :=
      (show _ = _ by pointwise []).trans (same' h (hd l))
    have e1 : broadcastInDim S4x4x256x4x64 ![0, 1, 2, 3, 4] bcast_S4x1x256x4x64_S4x4x256x4x64_0_1_2_3_4
        (broadcastInDim S4x1x256x4x64 ![0, 2, 3, 4] bcast_S4x256x4x64_S4x1x256x4x64_0_2_3_4 a) (ix5 b h n (hd l) (pl l)) = a (ix4 b n (hd l) (pl l)) := by
      pointwise []
    have e2 : broadcastInDim S4x4x256x4x64 ![] bcast_S_S4x4x256x4x64 (constant (F := Ideal) S_ .f32 0x00000000#32) (ix5 b h n (hd l) (pl l)) = 0 := by
      pointwise []
    refine (congr (congr (congrArg Scalar.select e) e1) e2).trans ?_
    split <;> rfl

theorem spread_apply (a : FVec Ideal S4x256x4x64 .f32) (b h : Fin 4) (n l : Fin 256) :
    spread a (ix4 b h n l) = if h = hd l then a (ix4 b n (hd l) (pl l)) else 0 := wide_apply a b h n l

end Cert.Kernel3Ideal.Hand

end
-- ==== Proof.Tail.Val.lean ====
module

public import proofs.«01_k».proof.Proof.Tail.Pay
public import proofs.«01_k».proof.Proof.Tail.Ref
public import proofs.«01_k».proof.Proof.Tail.Host
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe
open Cert.Row
open Cert.Reference3Ideal.Hand (out)

section Value
variable (m : (ℓ : Loc nD τ sig) → Buf (Elt Ideal) ℓ) (c : Dev nD)

/-! ## The arrays the call is given -/

theorem V0 : V m c main_v0 = shapeCast S1x1024 (m ((c : Thread nD τ).loc main_arg12) : FVec Ideal S1024 .f32) shapeCasts_S1024_S1x1024 := by
  show StableHlo.after hostOps0 _ (Proc.devRef .tc main_v0) = _
  after_results
  all_goals rfl

theorem V2 : V m c main_v2 = truncf (F := Ideal) .bf16 (extractStridedSlice S1024x2816 ![0, 0] (m ((c : Thread nD τ).loc main_arg13) : FVec Ideal S1024x5632 .f32)
    slices_S1024x5632_S1024x2816_0_0) bitsLt_bf16_f32 := by
  show StableHlo.after hostOps0 _ (Proc.devRef .tc main_v2) = _
  after_results
  all_goals rfl

theorem V4 : V m c main_v4 = truncf (F := Ideal) .bf16 (extractStridedSlice S1024x2816 ![0, 2816] (m ((c : Thread nD τ).loc main_arg13) : FVec Ideal S1024x5632 .f32)
    slices_S1024x5632_S1024x2816_0_2816) bitsLt_bf16_f32 := by
  show StableHlo.after hostOps0 _ (Proc.devRef .tc main_v4) = _
  after_results
  all_goals rfl

theorem V5 : V m c main_v5 = truncf (F := Ideal) .bf16 (m ((c : Thread nD τ).loc main_arg14) : FVec Ideal S2816x1024 .f32) bitsLt_bf16_f32 := by
  show StableHlo.after hostOps0 _ (Proc.devRef .tc main_v5) = _
  after_results
  all_goals rfl

theorem V6 : V m c main_v6 = shapeCast S1x512 (m ((c : Thread nD τ).loc main_arg4) : FVec Ideal S512 .f32) shapeCasts_S512_S1x512 := by
  show StableHlo.after hostOps0 _ (Proc.devRef .tc main_v6) = _
  after_results
  all_goals rfl

theorem V7 : V m c main_v7 = truncf (F := Ideal) .bf16 (m ((c : Thread nD τ).loc main_arg5) : FVec Ideal S1024x1024 .f32) bitsLt_bf16_f32 := by
  show StableHlo.after hostOps0 _ (Proc.devRef .tc main_v7) = _
  after_results
  all_goals rfl

theorem V8 : V m c main_v8 = shapeCast S1x1024 (m ((c : Thread nD τ).loc main_arg6) : FVec Ideal S1024 .f32) shapeCasts_S1024_S1x1024 := by
  show StableHlo.after hostOps0 _ (Proc.devRef .tc main_v8) = _
  after_results
  all_goals rfl

theorem V9 : V m c main_v9 = truncf (F := Ideal) .bf16 (m ((c : Thread nD τ).loc main_arg7) : FVec Ideal S1024x256 .f32) bitsLt_bf16_f32 := by
  show StableHlo.after hostOps0 _ (Proc.devRef .tc main_v9) = _
  after_results
  all_goals rfl

set_option maxHeartbeats 1600000 in
theorem V13 : V m c main_v13 = gains (m ((c : Thread nD τ).loc main_arg8)) := by
  show StableHlo.after hostOps0 _ (Proc.devRef .tc main_v13) = _
  after_results
  all_goals rfl

theorem V14 : V m c main_v14 = truncf (F := Ideal) .bf16 (m ((c : Thread nD τ).loc main_arg11) : FVec Ideal S256x1024 .f32) bitsLt_bf16_f32 := by
  show StableHlo.after hostOps0 _ (Proc.devRef .tc main_v14) = _
  after_results
  all_goals rfl

theorem V15 : V m c main_v15 = shapeCast S1x1024 (m ((c : Thread nD τ).loc main_arg15) : FVec Ideal S1024 .f32) shapeCasts_S1024_S1x1024 := by
  show StableHlo.after hostOps0 _ (Proc.devRef .tc main_v15) = _
  after_results
  all_goals rfl

set_option maxHeartbeats 1600000 in
theorem V22 : V m c main_v22 = ones := by
  show StableHlo.after hostOps0 _ (Proc.devRef .tc main_v22) = _
  after_results
  all_goals rfl

theorem V23 : V m c main_v23 = truncf (F := Ideal) .bf16 (m ((c : Thread nD τ).loc main_arg2) : FVec Ideal S4x8192x256 .f32) bitsLt_bf16_f32 := by
  show StableHlo.after hostOps0 _ (Proc.devRef .tc main_v23) = _
  after_results
  all_goals rfl

theorem V24 : V m c main_v24 = truncf (F := Ideal) .bf16 (m ((c : Thread nD τ).loc main_arg3) : FVec Ideal S4x8192x256 .f32) bitsLt_bf16_f32 := by
  show StableHlo.after hostOps0 _ (Proc.devRef .tc main_v24) = _
  after_results
  all_goals rfl

set_option maxHeartbeats 1600000 in
theorem V34 : V m c main_v34 = spread (m ((c : Thread nD τ).loc main_arg9)) := by
  show StableHlo.after hostOps0 _ (Proc.devRef .tc main_v34) = _
  after_results
  all_goals rfl

set_option maxHeartbeats 1600000 in
theorem V44 : V m c main_v44 = spread (m ((c : Thread nD τ).loc main_arg10)) := by
  show StableHlo.after hostOps0 _ (Proc.devRef .tc main_v44) = _
  after_results
  all_goals rfl

/-! ## The blocks -/

/-- The windows' block positions. -/
theorem idx : ∀ t : Fin cfg0.N, win0_0.index t = ![t.val / 16, t.val % 16, 0]
    ∧ win0_1.index t = ![t.val / 16, t.val % 16, 0]
    ∧ win0_2.index t = ![t.val / 16, t.val % 16, 0]
    ∧ win0_3.index t = ![t.val / 16, t.val % 16, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val / 16, 0, 0, 0]
    ∧ win0_11.index t = ![t.val / 16, 0, 0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![t.val / 16, t.val % 16, 0] := by decide +kernel

/-- A grid point's batch, -/
def bOf (t : Fin cfg0.N) : Fin 4 := ⟨t.val / 16, by have h : t.val < 64 := t.isLt; omega⟩
/-- and row `r` of its 512. -/
def sOf (t : Fin cfg0.N) (r : Fin 512) : Fin 8192 := ⟨512 * (t.val % 16) + r.val, by omega⟩

theorem blk0 (t : Fin cfg0.N) (r : Fin 512) (d : Fin 1024) : iblk m c 0 t (ix3 0 r d) = V m c main_arg0 (ix3 (bOf t) (sOf t r) d) := by
  blk_ext [iblk, (idx t).1, bOf, sOf]

theorem blk1 (t : Fin cfg0.N) (r : Fin 512) (d : Fin 512) : iblk m c 1 t (ix3 0 r d) = V m c main_arg1 (ix3 (bOf t) (sOf t r) d) := by
  blk_ext [iblk, (idx t).2.1, bOf, sOf]

theorem blk2 (t : Fin cfg0.N) (r : Fin 512) (d : Fin 256) : iblk m c 2 t (ix3 0 r d) = V m c main_v23 (ix3 (bOf t) (sOf t r) d) := by
  blk_ext [iblk, (idx t).2.2.1, bOf, sOf]

theorem blk3 (t : Fin cfg0.N) (r : Fin 512) (d : Fin 256) : iblk m c 3 t (ix3 0 r d) = V m c main_v24 (ix3 (bOf t) (sOf t r) d) := by
  blk_ext [iblk, (idx t).2.2.2.1, bOf, sOf]

theorem blk4 (t : Fin cfg0.N) (d : Fin 512) : iblk m c 4 t (ix2 0 d) = V m c main_v6 (ix2 0 d) := by
  blk_ext [iblk, (idx t).2.2.2.2.1]

theorem blk5 (t : Fin cfg0.N) (d : Fin 1024) (f : Fin 1024) : iblk m c 5 t (ix2 d f) = V m c main_v7 (ix2 d f) := by
  blk_ext [iblk, (idx t).2.2.2.2.2.1]

theorem blk6 (t : Fin cfg0.N) (d : Fin 1024) : iblk m c 6 t (ix2 0 d) = V m c main_v8 (ix2 0 d) := by
  blk_ext [iblk, (idx t).2.2.2.2.2.2.1]

theorem blk7 (t : Fin cfg0.N) (d : Fin 1024) (f : Fin 256) : iblk m c 7 t (ix2 d f) = V m c main_v9 (ix2 d f) := by
  blk_ext [iblk, (idx t).2.2.2.2.2.2.2.1]

theorem blk8 (t : Fin cfg0.N) (d : Fin 256) : iblk m c 8 t (ix2 0 d) = V m c main_v13 (ix2 0 d) := by
  blk_ext [iblk, (idx t).2.2.2.2.2.2.2.2.1]

theorem blk9 (t : Fin cfg0.N) (d : Fin 256) (f : Fin 256) : iblk m c 9 t (ix2 d f) = V m c main_v22 (ix2 d f) := by
  blk_ext [iblk, (idx t).2.2.2.2.2.2.2.2.2.1]

theorem blk10 (t : Fin cfg0.N) (h : Fin 4) (n l : Fin 256) : iblk m c 10 t (ix4 0 h n l) = V m c main_v34 (ix4 (bOf t) h n l) := by
  blk_ext [iblk, (idx t).2.2.2.2.2.2.2.2.2.2.1, bOf]

theorem blk11 (t : Fin cfg0.N) (h : Fin 4) (n l : Fin 256) : iblk m c 11 t (ix4 0 h n l) = V m c main_v44 (ix4 (bOf t) h n l) := by
  blk_ext [iblk, (idx t).2.2.2.2.2.2.2.2.2.2.2.1, bOf]

theorem blk12 (t : Fin cfg0.N) (d : Fin 256) (f : Fin 1024) : iblk m c 12 t (ix2 d f) = V m c main_v14 (ix2 d f) := by
  blk_ext [iblk, (idx t).2.2.2.2.2.2.2.2.2.2.2.2.1]

theorem blk13 (t : Fin cfg0.N) (d : Fin 1024) : iblk m c 13 t (ix2 0 d) = V m c main_v0 (ix2 0 d) := by
  blk_ext [iblk, (idx t).2.2.2.2.2.2.2.2.2.2.2.2.2.1]

theorem blk14 (t : Fin cfg0.N) (d : Fin 1024) (f : Fin 2816) : iblk m c 14 t (ix2 d f) = V m c main_v2 (ix2 d f) := by
  blk_ext [iblk, (idx t).2.2.2.2.2.2.2.2.2.2.2.2.2.2.1]

theorem blk15 (t : Fin cfg0.N) (d : Fin 1024) (f : Fin 2816) : iblk m c 15 t (ix2 d f) = V m c main_v4 (ix2 d f) := by
  blk_ext [iblk, (idx t).2.2.2.2.2.2.2.2.2.2.2.2.2.2.2.1]

theorem blk16 (t : Fin cfg0.N) (d : Fin 2816) (f : Fin 1024) : iblk m c 16 t (ix2 d f) = V m c main_v5 (ix2 d f) := by
  blk_ext [iblk, (idx t).2.2.2.2.2.2.2.2.2.2.2.2.2.2.2.2.1]

theorem blk17 (t : Fin cfg0.N) (d : Fin 1024) : iblk m c 17 t (ix2 0 d) = V m c main_v15 (ix2 0 d) := by
  blk_ext [iblk, (idx t).2.2.2.2.2.2.2.2.2.2.2.2.2.2.2.2.2.1]

theorem emb18 (t : Fin cfg0.N) (r : Fin 512) (d : Fin 1024) : ((cfg0.win 18).blk t).view.emb (ix3 0 r d) = (ix3 (bOf t) (sOf t r) d : S4x8192x1024.Idx) := by
  blk_ext [(idx t).2.2.2.2.2.2.2.2.2.2.2.2.2.2.2.2.2.2, bOf, sOf]

/-! ## The arrays at one index -/

theorem v0 (d : Fin 1024) : V m c main_v0 (ix2 0 d) = m ((c : Thread nD τ).loc main_arg12) (ix1 d) := by
  rw [V0]; pointwise []

theorem v6 (d : Fin 512) : V m c main_v6 (ix2 0 d) = m ((c : Thread nD τ).loc main_arg4) (ix1 d) := by
  rw [V6]; pointwise []

theorem v8 (d : Fin 1024) : V m c main_v8 (ix2 0 d) = m ((c : Thread nD τ).loc main_arg6) (ix1 d) := by
  rw [V8]; pointwise []

theorem v15 (d : Fin 1024) : V m c main_v15 (ix2 0 d) = m ((c : Thread nD τ).loc main_arg15) (ix1 d) := by
  rw [V15]; pointwise []

theorem v5 (d : Fin 2816) (f : Fin 1024) : V m c main_v5 (ix2 d f) = m ((c : Thread nD τ).loc main_arg14) (ix2 d f) := by
  rw [V5]; pointwise []

theorem v7 (d : Fin 1024) (f : Fin 1024) : V m c main_v7 (ix2 d f) = m ((c : Thread nD τ).loc main_arg5) (ix2 d f) := by
  rw [V7]; pointwise []

theorem v9 (d : Fin 1024) (f : Fin 256) : V m c main_v9 (ix2 d f) = m ((c : Thread nD τ).loc main_arg7) (ix2 d f) := by
  rw [V9]; pointwise []

theorem v14 (d : Fin 256) (f : Fin 1024) : V m c main_v14 (ix2 d f) = m ((c : Thread nD τ).loc main_arg11) (ix2 d f) := by
  rw [V14]; pointwise []

theorem v2 (d : Fin 1024) (f : Fin 2816) : V m c main_v2 (ix2 d f) = m ((c : Thread nD τ).loc main_arg13) (ix2 d ⟨f.val, by omega⟩) := by
  rw [V2]; pointwise []

theorem v4 (d : Fin 1024) (f : Fin 2816) : V m c main_v4 (ix2 d f) = m ((c : Thread nD τ).loc main_arg13) (ix2 d ⟨2816 + f.val, by omega⟩) := by
  rw [V4]; pointwise []

theorem v23 (b : Fin 4) (s : Fin 8192) (d : Fin 256) : V m c main_v23 (ix3 b s d) = m ((c : Thread nD τ).loc main_arg2) (ix3 b s d) := by
  rw [V23]; pointwise []

theorem v24 (b : Fin 4) (s : Fin 8192) (d : Fin 256) : V m c main_v24 (ix3 b s d) = m ((c : Thread nD τ).loc main_arg3) (ix3 b s d) := by
  rw [V24]; pointwise []

theorem v13 (l : Fin 256) : V m c main_v13 (ix2 0 l) = m ((c : Thread nD τ).loc main_arg8) (ix1 (pl l)) := by
  rw [V13]; exact gains_apply _ l

theorem v22 (l l' : Fin 256) : V m c main_v22 (ix2 l l') = if hd l = hd l' then (1 : EReal) else 0 := by
  rw [V22]; exact ones_apply l l'

theorem v34 (b h : Fin 4) (n l : Fin 256) : V m c main_v34 (ix4 b h n l) = if h = hd l then m ((c : Thread nD τ).loc main_arg9) (ix4 b n (hd l) (pl l)) else (0 : EReal) := by
  rw [V34]; exact spread_apply _ b h n l

theorem v44 (b h : Fin 4) (n l : Fin 256) : V m c main_v44 (ix4 b h n l) = if h = hd l then m ((c : Thread nD τ).loc main_arg10) (ix4 b n (hd l) (pl l)) else (0 : EReal) := by
  rw [V44]; exact spread_apply _ b h n l

/-- Equal parts make equal rows at the layer's end. -/
theorem fin_congr {x x' : Fin 1024 → EReal} {o o' : Fin 256 → EReal} {wmo wmo' : Fin 256 → Fin 1024 → EReal} {g g' : Fin 1024 → EReal}
    {wg wg' wu wu' : Fin 1024 → Fin 2816 → EReal} {wo wo' : Fin 2816 → Fin 1024 → EReal} {bg bg' : Fin 1024 → EReal} (c : Fin 1024)
    (h0 : x = x') (h1 : o = o') (h2 : wmo = wmo') (h3 : g = g') (h4 : wg = wg') (h5 : wu = wu') (h6 : wo = wo') (h7 : bg = bg') :
    fin x o wmo g wg wu wo bg c = fin x' o' wmo' g' wg' wu' wo' bg' c := by
  subst h0 h1 h2 h3 h4 h5 h6 h7; rfl

theorem mix_congr {x x' : Fin 1024 → EReal} {om om' gm gm' : Fin 512 → EReal} {os os' on on' : Fin 256 → EReal} {w w' : Fin 1024 → Fin 1024 → EReal}
    (h0 : x = x') (h1 : om = om') (h2 : gm = gm') (h3 : os = os') (h4 : on = on') (h5 : w = w') :
    mix x om gm os on w = mix x' om' gm' os' on' w' := by
  subst h0 h1 h2 h3 h4 h5; rfl

/-- What a grid point writes is its rows of the reference's result, the queries' gains and the memory's keys finite. -/
theorem out_eq (rg : ∀ i, ∃ r : ℝ, (m ((c : Thread nD τ).loc main_arg8) : FVec Ideal S64 .f32) i = (r : EReal))
    (rk : ∀ i, ∃ r : ℝ, (m ((c : Thread nD τ).loc main_arg9) : FVec Ideal S4x256x4x64 .f32) i = (r : EReal)) (t : Fin cfg0.N) (r : Fin 512) (d : Fin 1024) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 r d)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (ix3 (bOf t) (sOf t r) d) := by
  rw [out_apply, Cert.Reference3Ideal.Hand.out_apply]
  have hm := mix_congr (funext fun d => blk0 m c t r d) (funext fun d => blk1 m c t r d) (funext fun d => (blk4 m c t d).trans (v6 m c d))
    (funext fun d => (blk2 m c t r d).trans (v23 m c _ _ d)) (funext fun d => (blk3 m c t r d).trans (v24 m c _ _ d))
    (funext fun d => funext fun f => (blk5 m c t d f).trans (v7 m c d f))
  have hy : lin (rms n1024 _ fun d => iblk m c 6 t (ix2 0 d)) (fun d l => iblk m c 7 t (ix2 d l)) = _ :=
    congr (congrArg (fun y => lin y) (congr (congrArg (fun y => rms n1024 y) hm) (funext fun d => (blk6 m c t d).trans (v8 m c d))))
      (funext fun d => funext fun l => (blk7 m c t d l).trans (v9 m c d l))
  refine fin_congr d hm (funext fun l => ?_) (funext fun l => funext fun d => (blk12 m c t l d).trans (v14 m c l d))
    (funext fun d => (blk13 m c t d).trans (v0 m c d)) (funext fun d => funext fun f => (blk14 m c t d f).trans (v2 m c d f))
    (funext fun d => funext fun f => (blk15 m c t d f).trans (v4 m c d f)) (funext fun f => funext fun d => (blk16 m c t f d).trans (v5 m c f d))
    (funext fun d => (blk17 m c t d).trans (v15 m c d))
  refine (congrArg (fun y => memK (qK y _ _) _ _ l) hy).trans ?_
  exact memK_eq _ _ _ _ (fun l l' => (blk9 m c t l l').trans (v22 m c l l')) (fun l => (blk8 m c t l).trans (v13 m c l)) _ _
    (fun n h d => m ((c : Thread nD τ).loc main_arg9) (ix4 (bOf t) n h d)) (fun n h d => m ((c : Thread nD τ).loc main_arg10) (ix4 (bOf t) n h d))
    (fun h n l => (blk10 m c t h n l).trans (v34 m c _ h n l)) (fun h n l => (blk11 m c t h n l).trans (v44 m c _ h n l))
    (fun d => rg _) (fun n h d => rk _) l

end Value

section Run
variable (m : (ℓ : Loc nD τ sig) → Buf (Elt Ideal) ℓ) (ρ : Dev nD → PrngReg)

/-- The kernel's run: its result is the reference's, its arguments unchanged. -/
theorem run_value (rg : ∀ (c : Dev nD) i, ∃ r : ℝ, (m ((c.tc : Thread nD τ).loc main_arg8) : FVec Ideal S64 .f32) i = (r : EReal))
    (rk : ∀ (c : Dev nD) i, ∃ r : ℝ, (m ((c.tc : Thread nD τ).loc main_arg9) : FVec Ideal S4x256x4x64 .f32) i = (r : EReal)) :
    θ_run (defs (F := Ideal)) (onTc (τ := τ) (main (F := Ideal))) ⟨m, fun _ => 0, ρ⟩ fun r => ∀ c : Dev nD,
      r.2.mem ((c.tc : Thread nD τ).loc main_v45)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13)) (m ((c.tc : Thread nD τ).loc main_arg14))
            (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨(h c).1.trans
    (Pipeline.Dat.arrAt_eq_of_covers _ 18 _ (by decide +kernel) fun t hf y => by
      obtain ⟨a, r, d, rfl⟩ : ∃ (a : Fin 1) (r : Fin 512) (d : Fin 1024), y = ix3 a r d := ⟨y 0, y 1, y 2, funext fun a => by fin_cases a <;> rfl⟩
      obtain rfl : a = 0 := Subsingleton.elim _ _
      refine ((congrFun (after0_18 m c t) _).trans (out_eq m c (rg c) (rk c) t r d)).trans (congrArg (out _ _ _ _ _ _ _ _ _ _ _ _ _ _ _ _) (emb18 t r d).symm)), (h c).2⟩)
    (Cert.Kernel3Ideal.Value.run_blocks m ρ)

end Run

end Cert.Kernel3Ideal.Hand

end
-- ==== Proof.Prep.Row.lean ====
module

public import proofs.«01_k».proof.Proof.Tail.Row

@[expose] public section

noncomputable section

namespace Cert.Row

open Idealize.ShloMosaic

/-! ## What goes into the branches, for one token, over the extended reals -/

/-- The lengths as their float words, and the reciprocal of 96. -/
def n256 : EReal := Ideal.ofBits FTy.f32 1132462080#32
def n128 : EReal := Ideal.ofBits FTy.f32 1124073472#32
def n96 : EReal := Ideal.ofBits FTy.f32 1119879168#32
def inv96 : EReal := ((1 / 96 : ℝ) : EReal)

theorem n96_eq : n96 = ((96 : ℝ) : EReal) := by
  simp [n96, Ideal.ofBits, Ideal.ieee, -EReal.coe_mul]; norm_num

/-- The feature that a lane of a head holds, of the lanes that hold one, -/
def src (l : Fin 128) : Fin 96 :=
  ⟨if l.val < 16 then 80 + l.val else if l.val < 64 then l.val - 16 else if l.val < 80 then l.val else if l.val < 96 then l.val - 32 else 0, by
    split_ifs <;> omega⟩

/-- and a head's 96 features in its 128 lanes. -/
def spread (f : Fin 96 → EReal) (l : Fin 128) : EReal := if l.val < 96 then f (src l) else 0

theorem spread_a (f : Fin 96 → EReal) (l : Fin 128) (h : l.val < 16) : spread f l = f ⟨80 + l.val, by omega⟩ := by
  unfold spread
  rw [if_pos (by omega)]
  exact congrArg f (Fin.ext (by show (if _ then _ else _) = _; rw [if_pos h]))

theorem spread_b (f : Fin 96 → EReal) (l : Fin 128) (h : 16 ≤ l.val) (h' : l.val < 64) : spread f l = f ⟨l.val - 16, by omega⟩ := by
  unfold spread
  rw [if_pos (by omega)]
  exact congrArg f (Fin.ext (by show (if _ then _ else _) = _; rw [if_neg (by omega), if_pos h']))

theorem spread_c (f : Fin 96 → EReal) (l : Fin 128) (h : 64 ≤ l.val) (h' : l.val < 80) : spread f l = f ⟨l.val, by omega⟩ := by
  unfold spread
  rw [if_pos (by omega)]
  exact congrArg f (Fin.ext (by show (if _ then _ else _) = _; rw [if_neg (by omega), if_neg (by omega), if_pos h']))

theorem spread_d (f : Fin 96 → EReal) (l : Fin 128) (h : 80 ≤ l.val) (h' : l.val < 96) : spread f l = f ⟨l.val - 32, by omega⟩ := by
  unfold spread
  rw [if_pos (by omega)]
  exact congrArg f (Fin.ext (by show (if _ then _ else _) = _; rw [if_neg (by omega), if_neg (by omega), if_neg (by omega), if_pos h']))

theorem spread_e (f : Fin 96 → EReal) (l : Fin 128) (h : 96 ≤ l.val) : spread f l = 0 := if_neg (by omega)

/-- The five runs of lanes. -/
theorem spread_eq (f : Fin 96 → EReal) (g : Fin 128 → EReal) (ha : ∀ l (h : l.val < 16), g l = f ⟨80 + l.val, by omega⟩)
    (hb : ∀ l (h : 16 ≤ l.val) (h' : l.val < 64), g l = f ⟨l.val - 16, by omega⟩)
    (hc : ∀ l (h : 64 ≤ l.val) (h' : l.val < 80), g l = f ⟨l.val, by omega⟩)
    (hd : ∀ l (h : 80 ≤ l.val) (h' : l.val < 96), g l = f ⟨l.val - 32, by omega⟩)
    (he : ∀ l : Fin 128, 96 ≤ l.val → g l = 0) : g = spread f := by
  funext l
  rcases Nat.lt_or_ge l.val 16 with h | h
  · rw [ha l h, spread_a f l h]
  rcases Nat.lt_or_ge l.val 64 with h1 | h1
  · rw [hb l h h1, spread_b f l h h1]
  rcases Nat.lt_or_ge l.val 80 with h2 | h2
  · rw [hc l h1 h2, spread_c f l h1 h2]
  rcases Nat.lt_or_ge l.val 96 with h3 | h3
  · rw [hd l h2 h3, spread_d f l h2 h3]
  · rw [he l h3, spread_e f l h3]

/-- The same lanes, laid side by side. -/
def laid (f : Fin 96 → EReal) (l : Fin 128) : EReal :=
  if h : l.val < 16 then f ⟨80 + l.val, by omega⟩
  else if h2 : l.val - 16 < 48 then f ⟨l.val - 16, by omega⟩
  else if h3 : l.val - 16 - 48 < 16 then f ⟨64 + (l.val - 16 - 48), by omega⟩
  else if h4 : l.val - 16 - 48 - 16 < 16 then f ⟨48 + (l.val - 16 - 48 - 16), by omega⟩
  else 0

theorem laid_eq (f : Fin 96 → EReal) : laid f = spread f := by
  funext l
  unfold laid
  split_ifs with h h2 h3 h4
  · exact (spread_a f l h).symm
  · exact (spread_b f l (by omega) (by omega)).symm
  · rw [spread_c f l (by omega) (by omega)]
    exact congrArg f (Fin.ext (by show 64 + (l.val - 16 - 48) = l.val; omega))
  · rw [spread_d f l (by omega) (by omega)]
    exact congrArg f (Fin.ext (by show 48 + (l.val - 16 - 48 - 16) = l.val - 32; omega))
  · exact (spread_e f l (by omega)).symm

theorem src_inj : Function.Injective fun i : Fin 96 => src (Fin.castAdd 32 i) := by
  intro a b h
  have h : (if a.val < 16 then 80 + a.val else if a.val < 64 then a.val - 16 else if a.val < 80 then a.val else if a.val < 96 then a.val - 32 else 0)
      = (if b.val < 16 then 80 + b.val else if b.val < 64 then b.val - 16 else if b.val < 80 then b.val else if b.val < 96 then b.val - 32 else 0) :=
    congrArg Fin.val h
  refine Fin.ext ?_
  split_ifs at h <;> omega

/-- The lanes' sum is the features'. -/
theorem sum_spread (f : Fin 96 → EReal) : ∑ l, spread f l = ∑ e, f e := by
  refine (Fin.sum_univ_add (a := 96) (b := 32) fun l => spread f l).trans ?_
  rw [Finset.sum_eq_zero fun (i : Fin 32) _ => spread_e f (Fin.natAdd 96 i) (Nat.le_add_right _ _), add_zero]
  refine Eq.trans ?_ ((Equiv.ofBijective _ (Finite.injective_iff_bijective.mp src_inj)).sum_comp f)
  exact Finset.sum_congr rfl fun i _ => if_pos i.isLt

theorem spread_mul (f g : Fin 96 → EReal) (l : Fin 128) : spread f l * spread g l = spread (fun e => f e * g e) l := by
  unfold spread; split_ifs
  · rfl
  · exact mul_zero _

theorem spread_add (f g : Fin 96 → EReal) (l : Fin 128) : spread f l + spread g l = spread (fun e => f e + g e) l := by
  unfold spread; split_ifs
  · rfl
  · exact add_zero _

theorem lin_spread {N : ℕ} (x : Fin N → EReal) (w : Fin N → Fin 96 → EReal) (l : Fin 128) :
    ∑ d, x d * spread (w d) l = spread (lin x w) l := by
  unfold spread; split_ifs
  · rfl
  · simp

/-- A head's lanes normalized, the mean taken over its 96 features. -/
def nL (t g : Fin 128 → EReal) (l : Fin 128) : EReal := t l * Ideal.rsqrt ((∑ l, t l * t l) * inv96 + eps) * g l

theorem nL_eq (f g : Fin 96 → EReal) : nL (spread f) (spread g) = spread (rms n96 f g) := by
  funext l
  unfold nL
  simp only [spread_mul]
  rw [sum_spread]
  unfold rms
  rw [n96_eq, Ideal.div_coe (by norm_num)]
  unfold spread inv96; split_ifs
  · rfl
  · exact mul_zero _

/-- The lane half a head away. -/
def other (l : Fin 128) : Fin 128 := ⟨(l.val + 64) % 128, Nat.mod_lt _ (by decide)⟩

/-- A head's lanes turned by its position. -/
def turnL (t rc rs : Fin 128 → EReal) (l : Fin 128) : EReal := t l * rc l + t (other l) * rs l

/-- A head's features turned by its position: features 64-79 against 80-95. -/
def turn (c s : Fin 16 → EReal) (f : Fin 96 → EReal) (e : Fin 96) : EReal :=
  if h : e.val < 64 then f e
  else if h' : e.val - 64 < 16 then f ⟨e.val, e.isLt⟩ * c ⟨e.val - 64, h'⟩ - f ⟨e.val + 16, by omega⟩ * s ⟨e.val - 64, h'⟩
  else f ⟨e.val - 16, by omega⟩ * s ⟨e.val - 64 - 16, by omega⟩ + f ⟨e.val, e.isLt⟩ * c ⟨e.val - 64 - 16, by omega⟩

/-- The cosines and the signed sines as features. -/
def cosF (c : Fin 16 → EReal) (e : Fin 96) : EReal :=
  if e.val < 64 then 1 else if h' : e.val - 64 < 16 then c ⟨e.val - 64, h'⟩ else c ⟨e.val - 64 - 16, by omega⟩
def sinF (s : Fin 16 → EReal) (e : Fin 96) : EReal :=
  if e.val < 64 then 0 else if h' : e.val - 64 < 16 then -s ⟨e.val - 64, h'⟩ else s ⟨e.val - 64 - 16, by omega⟩

theorem turnL_eq (c s : Fin 16 → EReal) (f : Fin 96 → EReal) :
    turnL (spread f) (spread (cosF c)) (spread (sinF s)) = spread (turn c s f) := by
  refine spread_eq _ _ (fun l h => ?_) (fun l h h' => ?_) (fun l h h' => ?_) (fun l h h' => ?_) fun l h => ?_
  · have ho : (other l).val = l.val + 64 := Nat.mod_eq_of_lt (by omega)
    unfold turnL
    rw [spread_a _ l h, spread_a _ l h, spread_a _ l h, spread_c _ (other l) (by omega) (by omega)]
    unfold cosF sinF turn
    have h0 : ¬80 + l.val < 64 := by omega
    have h1 : ¬80 + l.val - 64 < 16 := by omega
    simp only [h0, h1, if_false, dite_false]
    rw [add_comm]
    congr 3
    exact Fin.ext (by show (other l).val = 80 + l.val - 16; omega)
  · unfold turnL
    rw [spread_b _ l h h', spread_b _ l h h', spread_b _ l h h']
    unfold cosF sinF turn
    rw [if_pos (by show l.val - 16 < 64; omega), if_pos (by show l.val - 16 < 64; omega), dif_pos (by show l.val - 16 < 64; omega), mul_one, mul_zero, add_zero]
  · have ho : (other l).val = l.val - 64 := by show (l.val + 64) % 128 = _; omega
    unfold turnL
    rw [spread_c _ l h h', spread_c _ l h h', spread_c _ l h h', spread_a _ (other l) (by omega)]
    unfold cosF sinF turn
    have h0 : ¬l.val < 64 := by omega
    have h1 : l.val - 64 < 16 := by omega
    simp only [h0, h1, if_false, dite_false, dite_true]
    rw [mul_neg, ← sub_eq_add_neg]
    congr 3
    exact Fin.ext (by show 80 + (other l).val = l.val + 16; omega)
  · unfold turnL
    rw [spread_d _ l h h', spread_d _ l h h', spread_d _ l h h']
    unfold cosF sinF turn
    rw [if_pos (by show l.val - 32 < 64; omega), if_pos (by show l.val - 32 < 64; omega), dif_pos (by show l.val - 32 < 64; omega), mul_one, mul_zero, add_zero]
  · unfold turnL
    rw [spread_e _ l h, spread_e _ l h, spread_e _ l h, mul_zero, mul_zero, add_zero]

/-- A head's lanes normalized and turned are its features normalized and turned. -/
theorem headL_eq (c s : Fin 16 → EReal) (f g : Fin 96 → EReal) :
    turnL (nL (spread f) (spread g)) (spread (cosF c)) (spread (sinF s)) = spread (turn c s (rms n96 f g)) := by
  rw [nL_eq, turnL_eq]

/-- The normalized heads of 64 features over all lanes. -/
def hK (y : Fin 256 → EReal) (bd : Fin 256 → Fin 256 → EReal) (g : Fin 256 → EReal) (l : Fin 256) : EReal :=
  y l * Ideal.rsqrt ((∑ l', (y l' * y l') * bd l' l) * inv64 + eps) * g l

theorem hK_eq (y : Fin 256 → EReal) (bd : Fin 256 → Fin 256 → EReal) (g : Fin 256 → EReal) (g' : Fin 64 → EReal)
    (hb : ∀ l l', bd l l' = if hd l = hd l' then 1 else 0) (hg : ∀ l, g l = g' (pl l)) (l : Fin 256) :
    hK y bd g l = rms n64 (fun d => y (lane (hd l) d)) g' (pl l) := by
  obtain ⟨h, d, rfl⟩ : ∃ h d, l = lane h d := ⟨hd l, pl l, (lane_hd_pl l).symm⟩
  unfold hK rms
  rw [sum_head _ h fun h' d' hne => by rw [hb, hd_lane, hd_lane, if_neg hne, mul_zero]]
  rw [hg, pl_lane, hd_lane, inv64_eq, n64_eq, Ideal.div_coe (by norm_num)]
  simp only [hb, hd_lane, if_true, mul_one]

/-! ## The token's parts -/

/-- The compressed queries, keys and values, normalized; `z` the projected token. -/
def cq (z : Fin 1696 → EReal) (g : Fin 256 → EReal) : Fin 256 → EReal := rms n256 (fun c => z ⟨c.val, by omega⟩) g
def ckv (z : Fin 1696 → EReal) (g : Fin 128 → EReal) : Fin 128 → EReal := rms n128 (fun c => z ⟨256 + c.val, by omega⟩) g

/-- A head's query, key and value. -/
def qF (z : Fin 1696 → EReal) (g : Fin 256 → EReal) (w : Fin 256 → Fin 768 → EReal) (h : Fin 8) (e : Fin 96) : EReal :=
  lin (cq z g) w ⟨96 * h.val + e.val, by omega⟩
def kvF (z : Fin 1696 → EReal) (g : Fin 128 → EReal) (w : Fin 128 → Fin 1024 → EReal) (h : Fin 8) (e : Fin 128) : EReal :=
  lin (ckv z g) w ⟨128 * h.val + e.val, by omega⟩
def kF (z : Fin 1696 → EReal) (g : Fin 128 → EReal) (w : Fin 128 → Fin 1024 → EReal) (h : Fin 8) (e : Fin 96) : EReal :=
  if h' : e.val < 64 then kvF z g w h ⟨e.val, by omega⟩ else z ⟨384 + (e.val - 64), by omega⟩

/-- A head's 64 features from the projected token, from `o` on. -/
def seg (z : Fin 1696 → EReal) (o : ℕ) (ho : o + 64 ≤ 1696) (d : Fin 64) : EReal := z ⟨o + d.val, by omega⟩

/-- A head's lanes of the queries and of the keys, the values' lanes, and a head of 64 features, each from the projected token. -/
def qOut (c s : Fin 16 → EReal) (z : Fin 1696 → EReal) (g : Fin 256 → EReal) (w : Fin 256 → Fin 768 → EReal) (g' : Fin 96 → EReal)
    (h : Fin 8) (l : Fin 128) : EReal := spread (turn c s (rms n96 (qF z g w h) g')) l
def kOut (c s : Fin 16 → EReal) (z : Fin 1696 → EReal) (g : Fin 128 → EReal) (w : Fin 128 → Fin 1024 → EReal) (g' : Fin 96 → EReal)
    (h : Fin 8) (l : Fin 128) : EReal := spread (turn c s (rms n96 (kF z g w h) g')) l
def vOut (z : Fin 1696 → EReal) (g : Fin 128 → EReal) (w : Fin 128 → Fin 1024 → EReal) (e : Fin 512) : EReal :=
  kvF z g w ⟨e.val / 64, by omega⟩ ⟨64 + e.val % 64, by omega⟩
def nOut (z : Fin 1696 → EReal) (o : ℕ) (ho : o + 64 ≤ 1696) (g : Fin 64 → EReal) (d : Fin 64) : EReal := rms n64 (seg z o ho) g d

end Cert.Row

end
-- ==== Proof.Prep.Pay.lean ====
module

public import proofs.«01_k».proof.Proof.Prep.Row
public import proofs.«01_k».proof.Proof.Gen.Kernel4Ideal.Skeleton
public import Idealize.ShloMosaic.Lib.Pipeline.Value
public import Idealize.ShloMosaic.Lib.Pipeline.ValueKit
public import Idealize.ShloMosaic.Lib.KernelVsHost

@[expose] public section

set_option maxRecDepth 16384

noncomputable section

namespace Cert.Kernel4Ideal.Hand

open Cert.Kernel4Ideal Cert.Kernel4Ideal.Gen
open Idealize.ShloMosaic
open Cert.Row

/-! ## The body's values at one index -/

theorem inv96_named : (Named.named (F := Ideal) κ "inv96" (φ := .f32) 0x3C2AAAAB#32 : EReal) = inv96 := rfl

/-- A normalized block. -/
def nrm (x : FVec Ideal S512x1024 .f32) (g : FVec Ideal S1x1024 .f32) : FVec Ideal S512x1024 .bf16 :=
  truncf .bf16 (mulf (mulf x (broadcastTo S512x1024 (rsqrt (addf (divf (shapeCast S512x1
      (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 g broadcasts_S1x1024_S512x1024)) bitsLt_bf16_f32

/-- The normalized compressed queries, -/
def nrmQ (x : FVec Ideal S512x256 .f32) (g : FVec Ideal S1x256 .f32) : FVec Ideal S512x256 .bf16 :=
  truncf .bf16 (mulf (mulf x (broadcastTo S512x256 (rsqrt (addf (divf (shapeCast S512x1
      (multiReduction .add [1] S512 (mulf x x) 0x00000000#32 reduces_S512x256_S512 (.inl rfl) rfl) shapeCasts_S512_S512x1)
      (broadcast S512x1 (Scalar.ofBits .f32 0x43800000#32))) (broadcast S512x1 (Scalar.ofBits .f32 0x358637BD#32)))) broadcasts_S512x1_S512x256))
    (broadcastTo S512x256 g broadcasts_S1x256_S512x256)) bitsLt_bf16_f32

/-- and keys and values. -/
def nrmK (x : FVec Ideal S512x128 .f32) (g : FVec Ideal S1x128 .f32) : FVec Ideal S512x128 .bf16 :=
  truncf .bf16 (mulf (mulf x (broadcastTo S512x128 (rsqrt (addf (divf (shapeCast S512x1
      (multiReduction .add [1] S512 (mulf x x) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 g broadcasts_S1x128_S512x128)) bitsLt_bf16_f32

/-- The products of the block with each matrix. -/
def zm (x : FVec Ideal S512x1024 .bf16) (w : FVec Ideal S1024x512 .bf16) : FVec Ideal S512x512 .f32 :=
  matmul dot_S512x1024_S1024x512_S512x512_1_0_0_1_n_n none x w (constant S512x512 .f32 0x00000000#32)
def zs (x : FVec Ideal S512x1024 .bf16) (w : FVec Ideal S1024x768 .bf16) : FVec Ideal S512x768 .f32 :=
  matmul dot_S512x1024_S1024x768_S512x768_1_0_0_1_n_n none x w (constant S512x768 .f32 0x00000000#32)
def uq (c : FVec Ideal S512x256 .bf16) (w : FVec Ideal S1024x256 .bf16) : FVec Ideal S1024x512 .f32 :=
  matmul dot_S1024x256_S512x256_S1024x512_1_1_0_0_n_n none w c (constant S1024x512 .f32 0x00000000#32)
def uk (c : FVec Ideal S512x128 .bf16) (w : FVec Ideal S128x1024 .bf16) : FVec Ideal S512x1024 .f32 :=
  matmul dot_S512x128_S128x1024_S512x1024_1_0_0_1_n_n none c w (constant S512x1024 .f32 0x00000000#32)
def uv (c : FVec Ideal S512x128 .bf16) (w : FVec Ideal S512x128 .bf16) : FVec Ideal S512x512 .bf16 :=
  truncf .bf16 (matmul dot_S512x128_S512x128_S512x512_1_1_0_0_n_n none w c (constant S512x512 .f32 0x00000000#32)) bitsLt_bf16_f32

/-- A head's lanes of the keys, normalized, -/
def kn (t : FVec Ideal S512x128 .f32) (g : FVec Ideal S1x128 .f32) : FVec Ideal S512x128 .f32 :=
  mulf (mulf t (broadcastTo S512x128 (rsqrt (addf (mulf (shapeCast S512x1
      (multiReduction .add [1] S512 (mulf t t) 0x00000000#32 reduces_S512x128_S512 (.inl rfl) rfl) shapeCasts_S512_S512x1)
      (broadcast S512x1 (Named.named κ "inv96" 0x3C2AAAAB#32))) (broadcast S512x1 (Scalar.ofBits .f32 0x358637BD#32)))) broadcasts_S512x1_S512x128))
    (broadcastTo S512x128 g broadcasts_S1x128_S512x128)

/-- and turned. -/
def kt (n rc rs : FVec Ideal S512x128 .f32) : FVec Ideal S512x128 .bf16 :=
  truncf .bf16 (addf (mulf n rc) (mulf (dynamicRotate 1 64#32 none n rotates_S512x128_d1) rs)) bitsLt_bf16_f32

/-- A head's lanes of the queries, normalized, each token a column, -/
def qn (t : FVec Ideal S128x512 .f32) (g : FVec Ideal S128x1 .f32) : FVec Ideal S128x512 .f32 :=
  mulf (mulf t (broadcastTo S128x512 (rsqrt (addf (mulf (shapeCast S1x512
      (multiReduction .add [0] S512 (mulf t t) 0x00000000#32 reduces_S128x512_S512 (.inl rfl) rfl) shapeCasts_S512_S1x512)
      (broadcast S1x512 (Named.named κ "inv96" 0x3C2AAAAB#32))) (broadcast S1x512 (Scalar.ofBits .f32 0x358637BD#32)))) broadcasts_S1x512_S128x512))
    (broadcastTo S128x512 g broadcasts_S128x1_S128x512)

/-- the halves exchanged, -/
def swp (n : FVec Ideal S128x512 .f32) : FVec Ideal S128x512 .f32 :=
  concatenate S128x512 0 [⟨S64x512, extractStridedSlice S64x512 ![64, 0] n slices_S128x512_o64_0_S64x512⟩,
    ⟨S64x512, extractStridedSlice S64x512 ![0, 0] n slices_S128x512_o0_0_S64x512⟩] concatenates_S64x512_S64x512_S128x512_d0

/-- and turned. -/
def qt (n rc rs : FVec Ideal S128x512 .f32) : FVec Ideal S128x512 .f32 := addf (mulf n rc) (mulf (swp n) rs)

/-- The heads of 64 lanes, normalized. -/
def hn (y : FVec Ideal S512x256 .f32) (bd : FVec Ideal S256x256 .bf16) (g : FVec Ideal S1x256 .f32) : FVec Ideal S512x256 .f32 :=
  mulf (mulf y (rsqrt (addf (mulf
      (matmul dot_S512x256_S256x256_S512x256_1_0_0_1_n_n none (truncf .bf16 (mulf y y) bitsLt_bf16_f32) bd (constant S512x256 .f32 0x00000000#32))
      (broadcast S512x256 (Scalar.ofBits .f32 0x3C800000#32))) (broadcast S512x256 (Scalar.ofBits .f32 0x358637BD#32)))))
    (broadcastTo S512x256 g broadcasts_S1x256_S512x256)
/-- The same, scaled. -/
def hs (y : FVec Ideal S512x256 .f32) (bd : FVec Ideal S256x256 .bf16) (g : FVec Ideal S1x256 .f32) : FVec Ideal S512x256 .f32 :=
  mulf (hn y bd g) (broadcast S512x256 (Scalar.ofBits .f32 0x3E000000#32))

theorem nrm_apply (x : FVec Ideal S512x1024 .f32) (g : FVec Ideal S1x1024 .f32) (r : Fin 512) (c : Fin 1024) :
    nrm x g (ix2 r c) = rms n1024 (fun d => x (ix2 r d)) (fun d => g (ix2 0 d)) c := by
  pointwise [nrm, rms, n1024, eps]

theorem nrmQ_apply (x : FVec Ideal S512x256 .f32) (g : FVec Ideal S1x256 .f32) (r : Fin 512) (c : Fin 256) :
    nrmQ x g (ix2 r c) = rms n256 (fun d => x (ix2 r d)) (fun d => g (ix2 0 d)) c := by
  pointwise [nrmQ, rms, n256, eps]

theorem nrmK_apply (x : FVec Ideal S512x128 .f32) (g : FVec Ideal S1x128 .f32) (r : Fin 512) (c : Fin 128) :
    nrmK x g (ix2 r c) = rms n128 (fun d => x (ix2 r d)) (fun d => g (ix2 0 d)) c := by
  pointwise [nrmK, rms, n128, eps]

theorem zm_apply (x : FVec Ideal S512x1024 .bf16) (w : FVec Ideal S1024x512 .bf16) (r : Fin 512) (c : Fin 512) :
    zm x w (ix2 r c) = lin (fun d => x (ix2 r d)) (fun d c => w (ix2 d c)) c := by
  pointwise [zm, lin]

theorem zs_apply (x : FVec Ideal S512x1024 .bf16) (w : FVec Ideal S1024x768 .bf16) (r : Fin 512) (c : Fin 768) :
    zs x w (ix2 r c) = lin (fun d => x (ix2 r d)) (fun d c => w (ix2 d c)) c := by
  pointwise [zs, lin]

theorem uq_apply (c : FVec Ideal S512x256 .bf16) (w : FVec Ideal S1024x256 .bf16) (r : Fin 512) (e : Fin 1024) :
    uq c w (ix2 e r) = ∑ d, w (ix2 e d) * c (ix2 r d) := by
  pointwise [uq]

theorem uk_apply (c : FVec Ideal S512x128 .bf16) (w : FVec Ideal S128x1024 .bf16) (r : Fin 512) (e : Fin 1024) :
    uk c w (ix2 r e) = ∑ d, c (ix2 r d) * w (ix2 d e) := by
  pointwise [uk]

theorem uv_apply (c : FVec Ideal S512x128 .bf16) (w : FVec Ideal S512x128 .bf16) (r : Fin 512) (e : Fin 512) :
    uv c w (ix2 e r) = ∑ d, w (ix2 e d) * c (ix2 r d) := by
  pointwise [uv]

theorem kn_apply (t : FVec Ideal S512x128 .f32) (g : FVec Ideal S1x128 .f32) (r : Fin 512) (l : Fin 128) :
    kn t g (ix2 r l) = nL (fun l => t (ix2 r l)) (fun l => g (ix2 0 l)) l := by
  pointwise [kn, nL, inv96_named, eps]

theorem rot_apply (n : FVec Ideal S512x128 .f32) (r : Fin 512) (l : Fin 128) :
    dynamicRotate 1 64#32 none n rotates_S512x128_d1 (ix2 r l) = n (ix2 r (other l)) :=
  dynamicRotate_apply _ _ _ _ _ (ix2 r (other l)) fun b => by
    fin_cases b
    · rfl
    · exact (by show (l.val + 64) % 128 = (l.val + 128 - 64) % 128; omega)

theorem kt_apply (n rc rs : FVec Ideal S512x128 .f32) (r : Fin 512) (l : Fin 128) :
    kt n rc rs (ix2 r l) = turnL (fun l => n (ix2 r l)) (fun l => rc (ix2 r l)) (fun l => rs (ix2 r l)) l := by
  show n (ix2 r l) * rc (ix2 r l) + dynamicRotate 1 64#32 none n rotates_S512x128_d1 (ix2 r l) * rs (ix2 r l) = _
  rw [rot_apply]
  rfl

theorem qn_apply (t : FVec Ideal S128x512 .f32) (g : FVec Ideal S128x1 .f32) (r : Fin 512) (l : Fin 128) :
    qn t g (ix2 l r) = nL (fun l => t (ix2 l r)) (fun l => g (ix2 l 0)) l := by
  pointwise [qn, nL, inv96_named, eps]

theorem swp_apply (n : FVec Ideal S128x512 .f32) (r : Fin 512) (l : Fin 128) : swp n (ix2 l r) = n (ix2 (other l) r) := by
  have h : swp n (ix2 l r) = if h : l.val < 64 then n (ix2 ⟨64 + l.val, by omega⟩ r) else n (ix2 ⟨l.val - 64, by omega⟩ r) := by
    pointwise [swp]
  rw [h]
  split_ifs with h'
  · exact congrArg (fun i => n (ix2 i r)) (Fin.ext (by show 64 + l.val = (l.val + 64) % 128; omega))
  · exact congrArg (fun i => n (ix2 i r)) (Fin.ext (by show l.val - 64 = (l.val + 64) % 128; omega))

theorem qt_apply (n rc rs : FVec Ideal S128x512 .f32) (r : Fin 512) (l : Fin 128) :
    qt n rc rs (ix2 l r) = turnL (fun l => n (ix2 l r)) (fun l => rc (ix2 l r)) (fun l => rs (ix2 l r)) l := by
  show n (ix2 l r) * rc (ix2 l r) + swp n (ix2 l r) * rs (ix2 l r) = _
  rw [swp_apply]
  rfl

theorem hn_apply (y : FVec Ideal S512x256 .f32) (bd : FVec Ideal S256x256 .bf16) (g : FVec Ideal S1x256 .f32) (r : Fin 512) (l : Fin 256) :
    hn y bd g (ix2 r l) = hK (fun l => y (ix2 r l)) (fun l' l => bd (ix2 l' l)) (fun l => g (ix2 0 l)) l := by
  pointwise [hn, hK, inv64, eps]

theorem hs_apply (y : FVec Ideal S512x256 .f32) (bd : FVec Ideal S256x256 .bf16) (g : FVec Ideal S1x256 .f32) (r : Fin 512) (l : Fin 256) :
    hs y bd g (ix2 r l) = hK (fun l => y (ix2 r l)) (fun l' l => bd (ix2 l' l)) (fun l => g (ix2 0 l)) l * eighth :=
  congrArg (· * eighth) (hn_apply y bd g r l)

theorem cut0 (z : FVec Ideal S512x768 .f32) (r : Fin 512) (l : Fin 256) :
    extractStridedSlice S512x256 ![0, 0] z slices_S512x768_o0_0_S512x256 (ix2 r l) = z (ix2 r ⟨l.val, by omega⟩) := by pointwise []
theorem cut1 (z : FVec Ideal S512x768 .f32) (r : Fin 512) (l : Fin 256) :
    extractStridedSlice S512x256 ![0, 256] z slices_S512x768_o0_256_S512x256 (ix2 r l) = z (ix2 r ⟨256 + l.val, by omega⟩) := by pointwise []
theorem cut2 (z : FVec Ideal S512x768 .f32) (r : Fin 512) (l : Fin 256) :
    extractStridedSlice S512x256 ![0, 512] z slices_S512x768_o0_512_S512x256 (ix2 r l) = z (ix2 r ⟨512 + l.val, by omega⟩) := by pointwise []

/-- The three parts of the projected block. -/
def zq (z : FVec Ideal S512x512 .f32) : FVec Ideal S512x256 .f32 := extractStridedSlice S512x256 ![0, 0] z slices_S512x512_o0_0_S512x256
def zk (z : FVec Ideal S512x512 .f32) : FVec Ideal S512x128 .f32 := extractStridedSlice S512x128 ![0, 256] z slices_S512x512_o0_256_S512x128
def zr (z : FVec Ideal S512x512 .f32) : FVec Ideal S512x128 .f32 := extractStridedSlice S512x128 ![0, 384] z slices_S512x512_o0_384_S512x128

theorem zq_apply (z : FVec Ideal S512x512 .f32) (r : Fin 512) (l : Fin 256) : zq z (ix2 r l) = z (ix2 r ⟨l.val, by omega⟩) := by pointwise [zq]
theorem zk_apply (z : FVec Ideal S512x512 .f32) (r : Fin 512) (l : Fin 128) : zk z (ix2 r l) = z (ix2 r ⟨256 + l.val, by omega⟩) := by pointwise [zk]
theorem zr_apply (z : FVec Ideal S512x512 .f32) (r : Fin 512) (l : Fin 128) : zr z (ix2 r l) = z (ix2 r ⟨384 + l.val, by omega⟩) := by pointwise [zr]

/-- A head's rows of the queries and columns of the keys. -/
theorem slices_q (h : Fin 8) : Shape.Slices S1024x512 ![128 * h.val, 0] S128x512 := by fin_cases h <;> decide
theorem slices_k (h : Fin 8) : Shape.Slices S512x1024 ![0, 128 * h.val] S512x128 := by fin_cases h <;> decide
def qs (y : FVec Ideal S1024x512 .f32) (h : Fin 8) : FVec Ideal S128x512 .f32 := extractStridedSlice S128x512 ![128 * h.val, 0] y (slices_q h)
def ks (y : FVec Ideal S512x1024 .f32) (h : Fin 8) : FVec Ideal S512x128 .f32 := extractStridedSlice S512x128 ![0, 128 * h.val] y (slices_k h)

theorem qs_apply (y : FVec Ideal S1024x512 .f32) (h : Fin 8) (r : Fin 512) (l : Fin 128) : qs y h (ix2 l r) = y (ix2 ⟨128 * h.val + l.val, by omega⟩ r) := by
  unfold qs extractStridedSlice
  exact congrArg y (funext fun a => Fin.ext (by fin_cases a <;> simp))
theorem ks_apply (y : FVec Ideal S512x1024 .f32) (h : Fin 8) (r : Fin 512) (l : Fin 128) : ks y h (ix2 r l) = y (ix2 r ⟨128 * h.val + l.val, by omega⟩) := by
  unfold ks extractStridedSlice
  exact congrArg y (funext fun a => Fin.ext (by fin_cases a <;> simp))

/-- A head's block of the queries and of the keys. -/
def qh (y : FVec Ideal S1024x512 .f32) (rc rs : FVec Ideal S128x512 .f32) (g : FVec Ideal S128x1 .f32) (h : Fin 8) : FVec Ideal S1x1x1x128x512 .f32 :=
  shapeCast S1x1x1x128x512 (qt (qn (qs y h) g) rc rs) shapeCasts_S128x512_S1x1x1x128x512
def kh (y : FVec Ideal S512x1024 .f32) (z rc rs : FVec Ideal S512x128 .f32) (g : FVec Ideal S1x128 .f32) (h : Fin 8) : FVec Ideal S1x1x512x128 .bf16 :=
  shapeCast S1x1x512x128 (kt (kn (addf (ks y h) z) g) rc rs) shapeCasts_S512x128_S1x1x512x128

theorem qh_apply (y : FVec Ideal S1024x512 .f32) (rc rs : FVec Ideal S128x512 .f32) (g : FVec Ideal S128x1 .f32) (h : Fin 8) (r : Fin 512) (l : Fin 128) :
    qh y rc rs g h (ix5 0 0 0 l r) = turnL (nL (fun l => y (ix2 ⟨128 * h.val + l.val, by omega⟩ r)) fun l => g (ix2 l 0))
      (fun l => rc (ix2 l r)) (fun l => rs (ix2 l r)) l := by
  refine (shapeCast_apply _ _ _ (ix2 l r) ?_).trans ?_
  · rw [Shape.rowMajor_val_two, Shape.rowMajor_val_five]
    show l.val * 512 + r.val = ((((0 * 1 + 0) * 1 + 0) * 128 + l.val) * 512 + r.val)
    omega
  · rw [qt_apply]
    simp only [qn_apply, qs_apply]

theorem kh_apply (y : FVec Ideal S512x1024 .f32) (z rc rs : FVec Ideal S512x128 .f32) (g : FVec Ideal S1x128 .f32) (h : Fin 8) (r : Fin 512) (l : Fin 128) :
    kh y z rc rs g h (ix4 0 0 r l)
      = turnL (nL (fun l => y (ix2 r ⟨128 * h.val + l.val, by omega⟩) + z (ix2 r l)) fun l => g (ix2 0 l))
          (fun l => rc (ix2 r l)) (fun l => rs (ix2 r l)) l := by
  refine (shapeCast_apply _ _ _ (ix2 r l) ?_).trans ?_
  · rw [Shape.rowMajor_val_two, Shape.rowMajor_val_four]
    show r.val * 128 + l.val = (((0 * 1 + 0) * 512 + r.val) * 128 + l.val)
    omega
  · rw [kt_apply]
    have e : ∀ l : Fin 128, addf (ks y h) z (ix2 r l) = y (ix2 r ⟨128 * h.val + l.val, by omega⟩) + z (ix2 r l) := fun l =>
      congrArg (· + z (ix2 r l)) (ks_apply y h r l)
    simp only [kn_apply, e]

end Cert.Kernel4Ideal.Hand

end
-- ==== Proof.Prep.Frame.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel4Ideal.Prep

open Cert.Kernel4Ideal Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The program up to the call -/

/-- Core `c`'s buffers when the kernel call starts: after the host operations before it. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- The program is the host operations and then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes an argument: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, for proof data whose arrays are `V`'s and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1800000 in
/-- Every weakly fair execution terminates, with the arguments as launched and every counter at zero. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's accesses -/

abbrev r0_0 : Rect S1x512x1024 := Rect.unit (s := S1x512x1024) ![0, 0, 0] S1x512x1024.size inb_S1x512x1024_S1x512x1024_0_0_0
abbrev r0_1 : Rect S1x1024 := Rect.unit (s := S1x1024) ![0, 0] S1x1024.size inb_S1x1024_S1x1024_0_0
abbrev r0_2 : Rect S1024x512 := Rect.unit (s := S1024x512) ![0, 0] S1024x512.size inb_S1024x512_S1024x512_0_0
abbrev r0_3 : Rect S1x256 := Rect.unit (s := S1x256) ![0, 0] S1x256.size inb_S1x256_S1x256_0_0
abbrev r0_4 : Rect S1x128 := Rect.unit (s := S1x128) ![0, 0] S1x128.size inb_S1x128_S1x128_0_0
abbrev r0_5 : Rect S1024x256 := Rect.unit (s := S1024x256) ![0, 0] S1024x256.size inb_S1024x256_S1024x256_0_0
abbrev r0_6 : Rect S128x1024 := Rect.unit (s := S128x1024) ![0, 0] S128x1024.size inb_S128x1024_S128x1024_0_0
abbrev r0_7 : Rect S512x128 := Rect.unit (s := S512x128) ![0, 0] S512x128.size inb_S512x128_S512x128_0_0
abbrev r0_8 : Rect S1x1x512x512 := Rect.unit (s := S1x1x512x512) ![0, 0, 0, 0] S1x1x512x512.size inb_S1x1x512x512_S1x1x512x512_0_0_0_0
abbrev r0_9 : Rect S1x8x512x128 := Rect.unit (s := S1x8x512x128) ![0, 0, 0, 0] S1x1x512x128.size inb_S1x8x512x128_S1x1x512x128_0_0_0_0
abbrev r0_10 : Rect S1x8x512x128 := Rect.unit (s := S1x8x512x128) ![0, 1, 0, 0] S1x1x512x128.size inb_S1x8x512x128_S1x1x512x128_0_1_0_0
abbrev r0_11 : Rect S1x8x512x128 := Rect.unit (s := S1x8x512x128) ![0, 2, 0, 0] S1x1x512x128.size inb_S1x8x512x128_S1x1x512x128_0_2_0_0
abbrev r0_12 : Rect S1x8x512x128 := Rect.unit (s := S1x8x512x128) ![0, 3, 0, 0] S1x1x512x128.size inb_S1x8x512x128_S1x1x512x128_0_3_0_0
abbrev r0_13 : Rect S1x8x512x128 := Rect.unit (s := S1x8x512x128) ![0, 4, 0, 0] S1x1x512x128.size inb_S1x8x512x128_S1x1x512x128_0_4_0_0
abbrev r0_14 : Rect S1x8x512x128 := Rect.unit (s := S1x8x512x128) ![0, 5, 0, 0] S1x1x512x128.size inb_S1x8x512x128_S1x1x512x128_0_5_0_0
abbrev r0_15 : Rect S1x8x512x128 := Rect.unit (s := S1x8x512x128) ![0, 6, 0, 0] S1x1x512x128.size inb_S1x8x512x128_S1x1x512x128_0_6_0_0
abbrev r0_16 : Rect S1x8x512x128 := Rect.unit (s := S1x8x512x128) ![0, 7, 0, 0] S1x1x512x128.size inb_S1x8x512x128_S1x1x512x128_0_7_0_0
abbrev r0_17 : Rect S128x512 := Rect.unit (s := S128x512) ![0, 0] S128x512.size inb_S128x512_S128x512_0_0
abbrev r0_18 : Rect S128x1 := Rect.unit (s := S128x1) ![0, 0] S128x1.size inb_S128x1_S128x1_0_0
abbrev r0_19 : Rect S1x1x8x128x512 := Rect.unit (s := S1x1x8x128x512) ![0, 0, 0, 0, 0] S1x1x1x128x512.size inb_S1x1x8x128x512_S1x1x1x128x512_0_0_0_0_0
abbrev r0_20 : Rect S1x1x8x128x512 := Rect.unit (s := S1x1x8x128x512) ![0, 0, 1, 0, 0] S1x1x1x128x512.size inb_S1x1x8x128x512_S1x1x1x128x512_0_0_1_0_0
abbrev r0_21 : Rect S1x1x8x128x512 := Rect.unit (s := S1x1x8x128x512) ![0, 0, 2, 0, 0] S1x1x1x128x512.size inb_S1x1x8x128x512_S1x1x1x128x512_0_0_2_0_0
abbrev r0_22 : Rect S1x1x8x128x512 := Rect.unit (s := S1x1x8x128x512) ![0, 0, 3, 0, 0] S1x1x1x128x512.size inb_S1x1x8x128x512_S1x1x1x128x512_0_0_3_0_0
abbrev r0_23 : Rect S1x1x8x128x512 := Rect.unit (s := S1x1x8x128x512) ![0, 0, 4, 0, 0] S1x1x1x128x512.size inb_S1x1x8x128x512_S1x1x1x128x512_0_0_4_0_0
abbrev r0_24 : Rect S1x1x8x128x512 := Rect.unit (s := S1x1x8x128x512) ![0, 0, 5, 0, 0] S1x1x1x128x512.size inb_S1x1x8x128x512_S1x1x1x128x512_0_0_5_0_0
abbrev r0_25 : Rect S1x1x8x128x512 := Rect.unit (s := S1x1x8x128x512) ![0, 0, 6, 0, 0] S1x1x1x128x512.size inb_S1x1x8x128x512_S1x1x1x128x512_0_0_6_0_0
abbrev r0_26 : Rect S1x1x8x128x512 := Rect.unit (s := S1x1x8x128x512) ![0, 0, 7, 0, 0] S1x1x1x128x512.size inb_S1x1x8x128x512_S1x1x1x128x512_0_0_7_0_0
abbrev r0_27 : Rect S256x256 := Rect.unit (s := S256x256) ![0, 0] S256x256.size inb_S256x256_S256x256_0_0
abbrev r0_28 : Rect S1024x768 := Rect.unit (s := S1024x768) ![0, 0] S1024x768.size inb_S1024x768_S1024x768_0_0
abbrev r0_29 : Rect S1x512x256 := Rect.unit (s := S1x512x256) ![0, 0, 0] S1x512x256.size inb_S1x512x256_S1x512x256_0_0_0

/-! ## What the body leaves in each output window's buffer -/

/-! ### Values of the body that more than one output reads, from the blocks they depend on -/

def k0_pay62 (x0 : Vec F S1x512x1024 .f32) (x1 : Vec F S1x1024 .f32) : FVec F S512x1024 .bf16 :=
  k0_pay2 (View.ld x0 r0_0) (View.ld x1 r0_1)
def k0_pay63 (x0 : Vec F S1x512x1024 .f32) (x1 : Vec F S1x1024 .f32) (x2 : Vec F S1024x512 .bf16) : FVec F S512x512 .f32 :=
  k0_pay3 (View.ld x0 r0_0) (View.ld x1 r0_1) (View.ld x2 r0_2)
def k0_pay64 (x0 : Vec F S1x512x1024 .f32) (x1 : Vec F S1x1024 .f32) (x2 : Vec F S1024x512 .bf16) : FVec F S512x128 .f32 :=
  k0_pay5 (View.ld x0 r0_0) (View.ld x1 r0_1) (View.ld x2 r0_2)
def k0_pay65 (x4 : Vec F S1x128 .f32) : FVec F S1x128 .f32 :=
  k0_pay6 (View.ld x4 r0_4)
def k0_pay66 (x0 : Vec F S1x512x1024 .f32) (x1 : Vec F S1x1024 .f32) (x2 : Vec F S1024x512 .bf16) : FVec F S512x128 .f32 :=
  k0_pay7 (View.ld x0 r0_0) (View.ld x1 r0_1) (View.ld x2 r0_2)
def k0_pay67 (x0 : Vec F S1x512x1024 .f32) (x1 : Vec F S1x1024 .f32) (x2 : Vec F S1024x512 .bf16) : FVec F S512x128 .f32 :=
  k0_pay9 (k0_pay63 x0 x1 x2)
def k0_pay68 (x0 : Vec F S1x512x1024 .f32) (x1 : Vec F S1x1024 .f32) (x2 : Vec F S1024x512 .bf16) (x3 : Vec F S1x256 .f32) (x5 : Vec F S1024x256 .bf16) : FVec F S1024x512 .f32 :=
  k0_pay10 (k0_pay4 (View.ld x0 r0_0) (View.ld x1 r0_1) (View.ld x2 r0_2) (View.ld x3 r0_3)) (View.ld x5 r0_5)
def k0_pay69 (x0 : Vec F S1x512x1024 .f32) (x1 : Vec F S1x1024 .f32) (x2 : Vec F S1024x512 .bf16) (x4 : Vec F S1x128 .f32) (x6 : Vec F S128x1024 .bf16) : FVec F S512x1024 .f32 :=
  k0_pay11 (k0_pay64 x0 x1 x2) (k0_pay65 x4) (k0_pay66 x0 x1 x2) (View.ld x6 r0_6)
def k0_pay70 (x10 : Vec F S512x128 .f32) : FVec F S512x128 .f32 :=
  k0_pay13 (View.ld x10 r0_7)
def k0_pay71 (x11 : Vec F S512x128 .f32) : FVec F S512x128 .f32 :=
  k0_pay14 (View.ld x11 r0_7)
def k0_pay72 (x9 : Vec F S1x128 .f32) : FVec F S1x128 .f32 :=
  k0_pay15 (View.ld x9 r0_4)
def k0_pay73 (x12 : Vec F S128x512 .f32) : FVec F S128x512 .f32 :=
  k0_pay30 (View.ld x12 r0_17)
def k0_pay74 (x13 : Vec F S128x512 .f32) : FVec F S128x512 .f32 :=
  k0_pay31 (View.ld x13 r0_17)
def k0_pay75 (x8 : Vec F S128x1 .f32) : FVec F S128x1 .f32 :=
  k0_pay32 (View.ld x8 r0_18)
def k0_pay76 (x20 : Vec F S256x256 .bf16) : FVec F S256x256 .bf16 :=
  k0_pay49 (View.ld x20 r0_27)
def k0_pay77 (x0 : Vec F S1x512x1024 .f32) (x1 : Vec F S1x1024 .f32) (x14 : Vec F S1024x768 .bf16) : FVec F S512x768 .f32 :=
  k0_pay50 (k0_pay62 x0 x1) (View.ld x14 r0_28)
def k0_pay78 (x0 : Vec F S1x512x1024 .f32) (x1 : Vec F S1x1024 .f32) (x17 : Vec F S1024x768 .bf16) : FVec F S512x768 .f32 :=
  k0_pay55 (k0_pay62 x0 x1) (View.ld x17 r0_28)

/-- An output window's buffer after the body, from the input windows' blocks: its stores as pieces, the last first. -/
def out0_21 (x0 : Vec F S1x512x1024 .f32) (x1 : Vec F S1x1024 .f32) (x2 : Vec F S1024x512 .bf16) (x3 : Vec F S1x256 .f32) (x4 : Vec F S1x128 .f32) (x5 : Vec F S1024x256 .bf16) (x6 : Vec F S128x1024 .bf16) (x7 : Vec F S512x128 .bf16) (x8 : Vec F S128x1 .f32) (x9 : Vec F S1x128 .f32) (x10 : Vec F S512x128 .f32) (x11 : Vec F S512x128 .f32) (x12 : Vec F S128x512 .f32) (x13 : Vec F S128x512 .f32) (x14 : Vec F S1024x768 .bf16) (x15 : Vec F S1x256 .f32) (x16 : Vec F S1x256 .f32) (x17 : Vec F S1024x768 .bf16) (x18 : Vec F S1x256 .f32) (x19 : Vec F S1x256 .f32) (x20 : Vec F S256x256 .bf16) : Vec F S1x1x8x128x512 .f32 :=
  View.canon [⟨r0_26, k0_pay48 (k0_pay73 x12) (k0_pay74 x13) (k0_pay75 x8) (k0_pay46 (k0_pay68 x0 x1 x2 x3 x5)) (k0_pay47 (k0_pay68 x0 x1 x2 x3 x5))⟩,
    ⟨r0_25, k0_pay45 (k0_pay68 x0 x1 x2 x3 x5) (k0_pay73 x12) (k0_pay74 x13) (k0_pay75 x8)⟩,
    ⟨r0_24, k0_pay44 (k0_pay73 x12) (k0_pay74 x13) (k0_pay75 x8) (k0_pay41 (k0_pay68 x0 x1 x2 x3 x5)) (k0_pay42 (k0_pay68 x0 x1 x2 x3 x5)) (k0_pay43 (F := F))⟩,
    ⟨r0_23, k0_pay40 (k0_pay68 x0 x1 x2 x3 x5) (k0_pay73 x12) (k0_pay74 x13) (k0_pay75 x8)⟩,
    ⟨r0_22, k0_pay39 (k0_pay73 x12) (k0_pay74 x13) (k0_pay75 x8) (k0_pay37 (k0_pay68 x0 x1 x2 x3 x5)) (k0_pay38 (k0_pay68 x0 x1 x2 x3 x5))⟩,
    ⟨r0_21, k0_pay36 (k0_pay68 x0 x1 x2 x3 x5) (k0_pay73 x12) (k0_pay74 x13) (k0_pay75 x8)⟩,
    ⟨r0_20, k0_pay35 (k0_pay73 x12) (k0_pay74 x13) (k0_pay75 x8) (k0_pay34 (k0_pay68 x0 x1 x2 x3 x5))⟩,
    ⟨r0_19, k0_pay33 (k0_pay68 x0 x1 x2 x3 x5) (View.ld x12 r0_17) (View.ld x13 r0_17) (View.ld x8 r0_18)⟩]

/-- The stores cover the buffer. -/
theorem cover0_21 (p0 : Vec F S1x1x1x128x512 .f32) (p1 : Vec F S1x1x1x128x512 .f32) (p2 : Vec F S1x1x1x128x512 .f32) (p3 : Vec F S1x1x1x128x512 .f32) (p4 : Vec F S1x1x1x128x512 .f32) (p5 : Vec F S1x1x1x128x512 .f32) (p6 : Vec F S1x1x1x128x512 .f32) (p7 : Vec F S1x1x1x128x512 .f32) (y : S1x1x8x128x512.Idx) :
    ∃ pc ∈ ([⟨r0_26, p0⟩, ⟨r0_25, p1⟩, ⟨r0_24, p2⟩, ⟨r0_23, p3⟩, ⟨r0_22, p4⟩, ⟨r0_21, p5⟩, ⟨r0_20, p6⟩, ⟨r0_19, p7⟩] : List (View.Piece (Elt F) S1x1x8x128x512 .f32)), y ∈ pc.1.set :=
  View.cover_of_tiled [⟨r0_26, p0⟩, ⟨r0_25, p1⟩, ⟨r0_24, p2⟩, ⟨r0_23, p3⟩, ⟨r0_22, p4⟩, ⟨r0_21, p5⟩, ⟨r0_20, p6⟩, ⟨r0_19, p7⟩] S1x1x1x128x512.size (by rfl) y

def out0_22 (x0 : Vec F S1x512x1024 .f32) (x1 : Vec F S1x1024 .f32) (x2 : Vec F S1024x512 .bf16) (x3 : Vec F S1x256 .f32) (x4 : Vec F S1x128 .f32) (x5 : Vec F S1024x256 .bf16) (x6 : Vec F S128x1024 .bf16) (x7 : Vec F S512x128 .bf16) (x8 : Vec F S128x1 .f32) (x9 : Vec F S1x128 .f32) (x10 : Vec F S512x128 .f32) (x11 : Vec F S512x128 .f32) (x12 : Vec F S128x512 .f32) (x13 : Vec F S128x512 .f32) (x14 : Vec F S1024x768 .bf16) (x15 : Vec F S1x256 .f32) (x16 : Vec F S1x256 .f32) (x17 : Vec F S1024x768 .bf16) (x18 : Vec F S1x256 .f32) (x19 : Vec F S1x256 .f32) (x20 : Vec F S256x256 .bf16) : Vec F S1x8x512x128 .bf16 :=
  View.canon [⟨r0_16, k0_pay29 (k0_pay28 (k0_pay67 x0 x1 x2) (k0_pay69 x0 x1 x2 x4 x6) (k0_pay70 x10) (k0_pay71 x11) (k0_pay72 x9))⟩,
    ⟨r0_15, k0_pay27 (k0_pay67 x0 x1 x2) (k0_pay69 x0 x1 x2 x4 x6) (k0_pay70 x10) (k0_pay71 x11) (k0_pay72 x9)⟩,
    ⟨r0_14, k0_pay26 (k0_pay67 x0 x1 x2) (k0_pay69 x0 x1 x2 x4 x6) (k0_pay70 x10) (k0_pay71 x11) (k0_pay72 x9)⟩,
    ⟨r0_13, k0_pay25 (k0_pay67 x0 x1 x2) (k0_pay70 x10) (k0_pay71 x11) (k0_pay72 x9) (k0_pay24 (k0_pay69 x0 x1 x2 x4 x6))⟩,
    ⟨r0_12, k0_pay23 (k0_pay67 x0 x1 x2) (k0_pay69 x0 x1 x2 x4 x6) (k0_pay70 x10) (k0_pay71 x11) (k0_pay72 x9)⟩,
    ⟨r0_11, k0_pay22 (k0_pay70 x10) (k0_pay71 x11) (k0_pay72 x9) (k0_pay20 (k0_pay67 x0 x1 x2) (k0_pay69 x0 x1 x2 x4 x6)) (k0_pay21 (k0_pay67 x0 x1 x2) (k0_pay69 x0 x1 x2 x4 x6))⟩,
    ⟨r0_10, k0_pay19 (k0_pay67 x0 x1 x2) (k0_pay69 x0 x1 x2 x4 x6) (k0_pay70 x10) (k0_pay71 x11) (k0_pay72 x9)⟩,
    ⟨r0_9, k0_pay18 (k0_pay70 x10) (k0_pay71 x11) (k0_pay72 x9) (k0_pay16 (k0_pay63 x0 x1 x2) (k0_pay64 x0 x1 x2) (k0_pay65 x4) (k0_pay66 x0 x1 x2) (View.ld x6 r0_6)) (k0_pay17 (k0_pay63 x0 x1 x2) (k0_pay64 x0 x1 x2) (k0_pay65 x4) (k0_pay66 x0 x1 x2) (View.ld x6 r0_6))⟩]

theorem cover0_22 (p0 : Vec F S1x1x512x128 .bf16) (p1 : Vec F S1x1x512x128 .bf16) (p2 : Vec F S1x1x512x128 .bf16) (p3 : Vec F S1x1x512x128 .bf16) (p4 : Vec F S1x1x512x128 .bf16) (p5 : Vec F S1x1x512x128 .bf16) (p6 : Vec F S1x1x512x128 .bf16) (p7 : Vec F S1x1x512x128 .bf16) (y : S1x8x512x128.Idx) :
    ∃ pc ∈ ([⟨r0_16, p0⟩, ⟨r0_15, p1⟩, ⟨r0_14, p2⟩, ⟨r0_13, p3⟩, ⟨r0_12, p4⟩, ⟨r0_11, p5⟩, ⟨r0_10, p6⟩, ⟨r0_9, p7⟩] : List (View.Piece (Elt F) S1x8x512x128 .bf16)), y ∈ pc.1.set :=
  View.cover_of_tiled [⟨r0_16, p0⟩, ⟨r0_15, p1⟩, ⟨r0_14, p2⟩, ⟨r0_13, p3⟩, ⟨r0_12, p4⟩, ⟨r0_11, p5⟩, ⟨r0_10, p6⟩, ⟨r0_9, p7⟩] S1x1x512x128.size (by rfl) y

def out0_23 (x0 : Vec F S1x512x1024 .f32) (x1 : Vec F S1x1024 .f32) (x2 : Vec F S1024x512 .bf16) (x3 : Vec F S1x256 .f32) (x4 : Vec F S1x128 .f32) (x5 : Vec F S1024x256 .bf16) (x6 : Vec F S128x1024 .bf16) (x7 : Vec F S512x128 .bf16) (x8 : Vec F S128x1 .f32) (x9 : Vec F S1x128 .f32) (x10 : Vec F S512x128 .f32) (x11 : Vec F S512x128 .f32) (x12 : Vec F S128x512 .f32) (x13 : Vec F S128x512 .f32) (x14 : Vec F S1024x768 .bf16) (x15 : Vec F S1x256 .f32) (x16 : Vec F S1x256 .f32) (x17 : Vec F S1024x768 .bf16) (x18 : Vec F S1x256 .f32) (x19 : Vec F S1x256 .f32) (x20 : Vec F S256x256 .bf16) : Vec F S1x1x512x512 .bf16 :=
  View.canon [⟨r0_8, k0_pay12 (k0_pay64 x0 x1 x2) (k0_pay65 x4) (k0_pay66 x0 x1 x2) (View.ld x7 r0_7)⟩]

theorem cover0_23 (p0 : Vec F S1x1x512x512 .bf16) (y : S1x1x512x512.Idx) :
    ∃ pc ∈ ([⟨r0_8, p0⟩] : List (View.Piece (Elt F) S1x1x512x512 .bf16)), y ∈ pc.1.set :=
  View.cover_of_tiled [⟨r0_8, p0⟩] S1x1x512x512.size (by rfl) y

def out0_24 (x0 : Vec F S1x512x1024 .f32) (x1 : Vec F S1x1024 .f32) (x2 : Vec F S1024x512 .bf16) (x3 : Vec F S1x256 .f32) (x4 : Vec F S1x128 .f32) (x5 : Vec F S1024x256 .bf16) (x6 : Vec F S128x1024 .bf16) (x7 : Vec F S512x128 .bf16) (x8 : Vec F S128x1 .f32) (x9 : Vec F S1x128 .f32) (x10 : Vec F S512x128 .f32) (x11 : Vec F S512x128 .f32) (x12 : Vec F S128x512 .f32) (x13 : Vec F S128x512 .f32) (x14 : Vec F S1024x768 .bf16) (x15 : Vec F S1x256 .f32) (x16 : Vec F S1x256 .f32) (x17 : Vec F S1024x768 .bf16) (x18 : Vec F S1x256 .f32) (x19 : Vec F S1x256 .f32) (x20 : Vec F S256x256 .bf16) : Vec F S1x512x256 .bf16 :=
  View.canon [⟨r0_29, k0_pay52 (k0_pay51 (k0_pay62 x0 x1) (View.ld x20 r0_27) (View.ld x14 r0_28) (View.ld x15 r0_3))⟩]

theorem cover0_24 (p0 : Vec F S1x512x256 .bf16) (y : S1x512x256.Idx) :
    ∃ pc ∈ ([⟨r0_29, p0⟩] : List (View.Piece (Elt F) S1x512x256 .bf16)), y ∈ pc.1.set :=
  View.cover_of_tiled [⟨r0_29, p0⟩] S1x512x256.size (by rfl) y

def out0_25 (x0 : Vec F S1x512x1024 .f32) (x1 : Vec F S1x1024 .f32) (x2 : Vec F S1024x512 .bf16) (x3 : Vec F S1x256 .f32) (x4 : Vec F S1x128 .f32) (x5 : Vec F S1024x256 .bf16) (x6 : Vec F S128x1024 .bf16) (x7 : Vec F S512x128 .bf16) (x8 : Vec F S128x1 .f32) (x9 : Vec F S1x128 .f32) (x10 : Vec F S512x128 .f32) (x11 : Vec F S512x128 .f32) (x12 : Vec F S128x512 .f32) (x13 : Vec F S128x512 .f32) (x14 : Vec F S1024x768 .bf16) (x15 : Vec F S1x256 .f32) (x16 : Vec F S1x256 .f32) (x17 : Vec F S1024x768 .bf16) (x18 : Vec F S1x256 .f32) (x19 : Vec F S1x256 .f32) (x20 : Vec F S256x256 .bf16) : Vec F S1x512x256 .bf16 :=
  View.canon [⟨r0_29, k0_pay53 (k0_pay76 x20) (k0_pay77 x0 x1 x14) (View.ld x16 r0_3)⟩]

theorem cover0_25 (p0 : Vec F S1x512x256 .bf16) (y : S1x512x256.Idx) :
    ∃ pc ∈ ([⟨r0_29, p0⟩] : List (View.Piece (Elt F) S1x512x256 .bf16)), y ∈ pc.1.set :=
  View.cover_of_tiled [⟨r0_29, p0⟩] S1x512x256.size (by rfl) y

def out0_26 (x0 : Vec F S1x512x1024 .f32) (x1 : Vec F S1x1024 .f32) (x2 : Vec F S1024x512 .bf16) (x3 : Vec F S1x256 .f32) (x4 : Vec F S1x128 .f32) (x5 : Vec F S1024x256 .bf16) (x6 : Vec F S128x1024 .bf16) (x7 : Vec F S512x128 .bf16) (x8 : Vec F S128x1 .f32) (x9 : Vec F S1x128 .f32) (x10 : Vec F S512x128 .f32) (x11 : Vec F S512x128 .f32) (x12 : Vec F S128x512 .f32) (x13 : Vec F S128x512 .f32) (x14 : Vec F S1024x768 .bf16) (x15 : Vec F S1x256 .f32) (x16 : Vec F S1x256 .f32) (x17 : Vec F S1024x768 .bf16) (x18 : Vec F S1x256 .f32) (x19 : Vec F S1x256 .f32) (x20 : Vec F S256x256 .bf16) : Vec F S1x512x256 .bf16 :=
  View.canon [⟨r0_29, k0_pay54 (k0_pay77 x0 x1 x14)⟩]

theorem cover0_26 (p0 : Vec F S1x512x256 .bf16) (y : S1x512x256.Idx) :
    ∃ pc ∈ ([⟨r0_29, p0⟩] : List (View.Piece (Elt F) S1x512x256 .bf16)), y ∈ pc.1.set :=
  View.cover_of_tiled [⟨r0_29, p0⟩] S1x512x256.size (by rfl) y

def out0_27 (x0 : Vec F S1x512x1024 .f32) (x1 : Vec F S1x1024 .f32) (x2 : Vec F S1024x512 .bf16) (x3 : Vec F S1x256 .f32) (x4 : Vec F S1x128 .f32) (x5 : Vec F S1024x256 .bf16) (x6 : Vec F S128x1024 .bf16) (x7 : Vec F S512x128 .bf16) (x8 : Vec F S128x1 .f32) (x9 : Vec F S1x128 .f32) (x10 : Vec F S512x128 .f32) (x11 : Vec F S512x128 .f32) (x12 : Vec F S128x512 .f32) (x13 : Vec F S128x512 .f32) (x14 : Vec F S1024x768 .bf16) (x15 : Vec F S1x256 .f32) (x16 : Vec F S1x256 .f32) (x17 : Vec F S1024x768 .bf16) (x18 : Vec F S1x256 .f32) (x19 : Vec F S1x256 .f32) (x20 : Vec F S256x256 .bf16) : Vec F S1x512x256 .bf16 :=
  View.canon [⟨r0_29, k0_pay59 (k0_pay56 (k0_pay62 x0 x1) (View.ld x17 r0_28)) (k0_pay57 (View.ld x18 r0_3)) (k0_pay58 (k0_pay62 x0 x1) (k0_pay76 x20) (View.ld x17 r0_28))⟩]

theorem cover0_27 (p0 : Vec F S1x512x256 .bf16) (y : S1x512x256.Idx) :
    ∃ pc ∈ ([⟨r0_29, p0⟩] : List (View.Piece (Elt F) S1x512x256 .bf16)), y ∈ pc.1.set :=
  View.cover_of_tiled [⟨r0_29, p0⟩] S1x512x256.size (by rfl) y

def out0_28 (x0 : Vec F S1x512x1024 .f32) (x1 : Vec F S1x1024 .f32) (x2 : Vec F S1024x512 .bf16) (x3 : Vec F S1x256 .f32) (x4 : Vec F S1x128 .f32) (x5 : Vec F S1024x256 .bf16) (x6 : Vec F S128x1024 .bf16) (x7 : Vec F S512x128 .bf16) (x8 : Vec F S128x1 .f32) (x9 : Vec F S1x128 .f32) (x10 : Vec F S512x128 .f32) (x11 : Vec F S512x128 .f32) (x12 : Vec F S128x512 .f32) (x13 : Vec F S128x512 .f32) (x14 : Vec F S1024x768 .bf16) (x15 : Vec F S1x256 .f32) (x16 : Vec F S1x256 .f32) (x17 : Vec F S1024x768 .bf16) (x18 : Vec F S1x256 .f32) (x19 : Vec F S1x256 .f32) (x20 : Vec F S256x256 .bf16) : Vec F S1x512x256 .bf16 :=
  View.canon [⟨r0_29, k0_pay60 (k0_pay76 x20) (k0_pay78 x0 x1 x17) (View.ld x19 r0_3)⟩]

theorem cover0_28 (p0 : Vec F S1x512x256 .bf16) (y : S1x512x256.Idx) :
    ∃ pc ∈ ([⟨r0_29, p0⟩] : List (View.Piece (Elt F) S1x512x256 .bf16)), y ∈ pc.1.set :=
  View.cover_of_tiled [⟨r0_29, p0⟩] S1x512x256.size (by rfl) y

def out0_29 (x0 : Vec F S1x512x1024 .f32) (x1 : Vec F S1x1024 .f32) (x2 : Vec F S1024x512 .bf16) (x3 : Vec F S1x256 .f32) (x4 : Vec F S1x128 .f32) (x5 : Vec F S1024x256 .bf16) (x6 : Vec F S128x1024 .bf16) (x7 : Vec F S512x128 .bf16) (x8 : Vec F S128x1 .f32) (x9 : Vec F S1x128 .f32) (x10 : Vec F S512x128 .f32) (x11 : Vec F S512x128 .f32) (x12 : Vec F S128x512 .f32) (x13 : Vec F S128x512 .f32) (x14 : Vec F S1024x768 .bf16) (x15 : Vec F S1x256 .f32) (x16 : Vec F S1x256 .f32) (x17 : Vec F S1024x768 .bf16) (x18 : Vec F S1x256 .f32) (x19 : Vec F S1x256 .f32) (x20 : Vec F S256x256 .bf16) : Vec F S1x512x256 .bf16 :=
  View.canon [⟨r0_29, k0_pay1 (k0_pay61 (k0_pay78 x0 x1 x17))⟩]

theorem cover0_29 (p0 : Vec F S1x512x256 .bf16) (y : S1x512x256.Idx) :
    ∃ pc ∈ ([⟨r0_29, p0⟩] : List (View.Piece (Elt F) S1x512x256 .bf16)), y ∈ pc.1.set :=
  View.cover_of_tiled [⟨r0_29, p0⟩] S1x512x256.size (by rfl) y

/-! ## The body's triple -/

set_option maxHeartbeats 1000000 in
/-- The body keeps the inputs' buffers and leaves each output's at its value above. -/
theorem sound_kernel (c : Dev nD) (E : Set ℕ) (i : grid0.Coords) (arg2 : Memref sig .tc .vmem S1x512x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x256 .f32) (harg5 : arg5.IsWhole) (arg6 : Memref sig .tc .vmem S1x128 .f32) (harg6 : arg6.IsWhole) (arg7 : Memref sig .tc .vmem S1024x256 .bf16) (harg7 : arg7.IsWhole) (arg8 : Memref sig .tc .vmem S128x1024 .bf16) (harg8 : arg8.IsWhole) (arg9 : Memref sig .tc .vmem S512x128 .bf16) (harg9 : arg9.IsWhole) (arg10 : Memref sig .tc .vmem S128x1 .f32) (harg10 : arg10.IsWhole) (arg11 : Memref sig .tc .vmem S1x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S128x512 .f32) (harg14 : arg14.IsWhole) (arg15 : Memref sig .tc .vmem S128x512 .f32) (harg15 : arg15.IsWhole) (arg16 : Memref sig .tc .vmem S1024x768 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S1024x768 .bf16) (harg19 : arg19.IsWhole) (arg20 : Memref sig .tc .vmem S1x256 .f32) (harg20 : arg20.IsWhole) (arg21 : Memref sig .tc .vmem S1x256 .f32) (harg21 : arg21.IsWhole) (arg22 : Memref sig .tc .vmem S256x256 .bf16) (harg22 : arg22.IsWhole) (arg23 : Memref sig .tc .vmem S1x1x8x128x512 .f32) (harg23 : arg23.IsWhole) (arg24 : Memref sig .tc .vmem S1x8x512x128 .bf16) (harg24 : arg24.IsWhole) (arg25 : Memref sig .tc .vmem S1x1x512x512 .bf16) (harg25 : arg25.IsWhole) (arg26 : Memref sig .tc .vmem S1x512x256 .bf16) (harg26 : arg26.IsWhole) (arg27 : Memref sig .tc .vmem S1x512x256 .bf16) (harg27 : arg27.IsWhole) (arg28 : Memref sig .tc .vmem S1x512x256 .bf16) (harg28 : arg28.IsWhole) (arg29 : Memref sig .tc .vmem S1x512x256 .bf16) (harg29 : arg29.IsWhole) (arg30 : Memref sig .tc .vmem S1x512x256 .bf16) (harg30 : arg30.IsWhole) (arg31 : Memref sig .tc .vmem S1x512x256 .bf16) (harg31 : arg31.IsWhole)
    (x0 : Vec F S1x512x1024 .f32) (x1 : Vec F S1x1024 .f32) (x2 : Vec F S1024x512 .bf16) (x3 : Vec F S1x256 .f32) (x4 : Vec F S1x128 .f32) (x5 : Vec F S1024x256 .bf16) (x6 : Vec F S128x1024 .bf16) (x7 : Vec F S512x128 .bf16) (x8 : Vec F S128x1 .f32) (x9 : Vec F S1x128 .f32) (x10 : Vec F S512x128 .f32) (x11 : Vec F S512x128 .f32) (x12 : Vec F S128x512 .f32) (x13 : Vec F S128x512 .f32) (x14 : Vec F S1024x768 .bf16) (x15 : Vec F S1x256 .f32) (x16 : Vec F S1x256 .f32) (x17 : Vec F S1024x768 .bf16) (x18 : Vec F S1x256 .f32) (x19 : Vec F S1x256 .f32) (x20 : Vec F S256x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare (out0_21 x0 x1 x2 x3 x4 x5 x6 x7 x8 x9 x10 x11 x12 x13 x14 x15 x16 x17 x18 x19 x20) ∗ owns (c : Thread nD τ) arg24 fullShare (out0_22 x0 x1 x2 x3 x4 x5 x6 x7 x8 x9 x10 x11 x12 x13 x14 x15 x16 x17 x18 x19 x20) ∗ owns (c : Thread nD τ) arg25 fullShare (out0_23 x0 x1 x2 x3 x4 x5 x6 x7 x8 x9 x10 x11 x12 x13 x14 x15 x16 x17 x18 x19 x20) ∗ owns (c : Thread nD τ) arg26 fullShare (out0_24 x0 x1 x2 x3 x4 x5 x6 x7 x8 x9 x10 x11 x12 x13 x14 x15 x16 x17 x18 x19 x20) ∗ owns (c : Thread nD τ) arg27 fullShare (out0_25 x0 x1 x2 x3 x4 x5 x6 x7 x8 x9 x10 x11 x12 x13 x14 x15 x16 x17 x18 x19 x20) ∗ owns (c : Thread nD τ) arg28 fullShare (out0_26 x0 x1 x2 x3 x4 x5 x6 x7 x8 x9 x10 x11 x12 x13 x14 x15 x16 x17 x18 x19 x20) ∗ owns (c : Thread nD τ) arg29 fullShare (out0_27 x0 x1 x2 x3 x4 x5 x6 x7 x8 x9 x10 x11 x12 x13 x14 x15 x16 x17 x18 x19 x20) ∗ owns (c : Thread nD τ) arg30 fullShare (out0_28 x0 x1 x2 x3 x4 x5 x6 x7 x8 x9 x10 x11 x12 x13 x14 x15 x16 x17 x18 x19 x20) ∗ owns (c : Thread nD τ) arg31 fullShare (out0_29 x0 x1 x2 x3 x4 x5 x6 x7 x8 x9 x10 x11 x12 x13 x14 x15 x16 x17 x18 x19 x20)) -∗ K ⟨⟩))
      ⊢ wp frame (wpE (defs₀ (F := F)) Variants.none c none) E (cc0_mix_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_mix_prep_eq_skeleton]; unfold cc0_mix_prep_skel
  simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (View.read_writes_eq_canon _ _ _ (cover0_21 _ _ _ _ _ _ _ _)).trans ?_
    rfl
  isplitl [H22]
  · iexists _; isplitr
    swap; · iexact H22
    ipureintro
    refine (View.read_writes_eq_canon _ _ _ (cover0_22 _ _ _ _ _ _ _ _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  iexists _; isplitr
  swap; · iexact H29
  ipureintro
  refine (View.read_writes_eq_canon _ _ _ (cover0_29 _)).trans ?_
  rfl

/-! ## The pipeline's proof data -/

/-- The proof data of the call on core `c`: the arrays as the call finds them; after the body at point `t` each
    input's buffer at its block and each output's at its value above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 30, h⟩ => absurd h (Nat.not_lt.2 (Nat.le_add_left _ _))
  Φ _ := Pipeline.ΦA spec0 c
  q _ := fullShare
  owed _ := 0

/-- The arrays are those the call finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body called at point `t` is `bodyAt0 t`. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- `sound_body` in the form the run asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- `run_main` with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every weakly fair execution terminates, each output array holding the blocks of `dats`, the other arrays as the call found them. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- Every weakly fair execution terminates, with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel4Ideal.Prep

end
-- ==== Proof.Prep.Out.lean ====
module

public import proofs.«01_k».proof.Proof.Prep.Pay
public import proofs.«01_k».proof.Proof.Prep.Frame

@[expose] public section

set_option maxRecDepth 16384

noncomputable section

namespace Cert.Kernel4Ideal.Hand

open Cert.Kernel4Ideal Cert.Kernel4Ideal.Gen Cert.Kernel4Ideal.Prep
open Idealize.ShloMosaic
open Cert.Row

/-! ## What the body leaves in each output's buffer, from the input blocks -/

theorem hz2 : (![0, 0] : Fin 2 → ℕ) = fun _ => 0 := funext fun a => by fin_cases a <;> rfl
theorem hz3 : (![0, 0, 0] : Fin 3 → ℕ) = fun _ => 0 := funext fun a => by fin_cases a <;> rfl
theorem hz4 : (![0, 0, 0, 0] : Fin 4 → ℕ) = fun _ => 0 := funext fun a => by fin_cases a <;> rfl

section Blocks
variable (x0 : Vec Ideal S1x512x1024 .f32) (x1 : Vec Ideal S1x1024 .f32) (x2 : Vec Ideal S1024x512 .bf16) (x3 : Vec Ideal S1x256 .f32)
  (x4 : Vec Ideal S1x128 .f32) (x5 : Vec Ideal S1024x256 .bf16) (x6 : Vec Ideal S128x1024 .bf16) (x7 : Vec Ideal S512x128 .bf16)
  (x8 : Vec Ideal S128x1 .f32) (x9 : Vec Ideal S1x128 .f32) (x10 : Vec Ideal S512x128 .f32) (x11 : Vec Ideal S512x128 .f32)
  (x12 : Vec Ideal S128x512 .f32) (x13 : Vec Ideal S128x512 .f32) (x14 : Vec Ideal S1024x768 .bf16) (x15 : Vec Ideal S1x256 .f32)
  (x16 : Vec Ideal S1x256 .f32) (x17 : Vec Ideal S1024x768 .bf16) (x18 : Vec Ideal S1x256 .f32) (x19 : Vec Ideal S1x256 .f32)
  (x20 : Vec Ideal S256x256 .bf16)

/-- The block normalized, -/
def blkN : FVec Ideal S512x1024 .bf16 := nrm (shapeCast S512x1024 x0 shapeCasts_S1x512x1024_S512x1024) x1
/-- projected, -/
def blkZ : FVec Ideal S512x512 .f32 := zm (blkN x0 x1) x2
/-- its queries' lanes, -/
def blkQ : FVec Ideal S1024x512 .f32 := uq (nrmQ (zq (blkZ x0 x1 x2)) x3) x5
/-- its compressed keys and values, -/
def blkC : FVec Ideal S512x128 .bf16 := nrmK (zk (blkZ x0 x1 x2)) x4

theorem p62 : k0_pay62 x0 x1 = blkN x0 x1 := by
  unfold k0_pay62
  rw [View.ld_unit_zero (S := S1x512x1024) hz3, View.ld_unit_zero (S := S1x1024) hz2]
  show nrm (shapeCast S512x1024 x0 shapeCasts_S1x512x1024_S512x1024) (shapeCast S1x1024 x1 shapeCasts_S1x1024_S1x1024) = _
  rw [shapeCast_self]; rfl

theorem p63 : k0_pay63 x0 x1 x2 = blkZ x0 x1 x2 := by
  show zm (k0_pay62 x0 x1) (shapeCast S1024x512 (View.ld x2 r0_2) shapeCasts_S1024x512_S1024x512) = _
  rw [View.ld_unit_zero (S := S1024x512) hz2, shapeCast_self x2, p62]; rfl

theorem p64 : k0_pay64 x0 x1 x2 = zk (blkZ x0 x1 x2) := by
  show zk (k0_pay63 x0 x1 x2) = _
  rw [p63]

theorem p65 : k0_pay65 x4 = x4 := by
  show shapeCast S1x128 (View.ld x4 r0_4) shapeCasts_S1x128_S1x128 = _
  rw [View.ld_unit_zero (S := S1x128) hz2, shapeCast_self x4]

theorem p67 : k0_pay67 x0 x1 x2 = zr (blkZ x0 x1 x2) := by
  show zr (k0_pay63 x0 x1 x2) = _
  rw [p63]

theorem p68 : k0_pay68 x0 x1 x2 x3 x5 = blkQ x0 x1 x2 x3 x5 := by
  show uq (nrmQ (zq (k0_pay63 x0 x1 x2)) (shapeCast S1x256 (View.ld x3 r0_3) shapeCasts_S1x256_S1x256))
    (shapeCast S1024x256 (View.ld x5 r0_5) shapeCasts_S1024x256_S1024x256) = _
  rw [View.ld_unit_zero (S := S1x256) hz2, View.ld_unit_zero (S := S1024x256) hz2, shapeCast_self x3, shapeCast_self x5, p63]; rfl

theorem pC : nrmK (k0_pay64 x0 x1 x2) (k0_pay65 x4) = blkC x0 x1 x2 x4 := by
  rw [p64, p65]; rfl

theorem p69 : k0_pay69 x0 x1 x2 x4 x6 = uk (blkC x0 x1 x2 x4) x6 := by
  show uk (nrmK (k0_pay64 x0 x1 x2) (k0_pay65 x4)) (shapeCast S128x1024 (View.ld x6 r0_6) shapeCasts_S128x1024_S128x1024) = _
  rw [View.ld_unit_zero (S := S128x1024) hz2, shapeCast_self x6, pC]

theorem p70 : k0_pay70 x10 = x10 := by
  show shapeCast S512x128 (View.ld x10 r0_7) shapeCasts_S512x128_S512x128 = _
  rw [View.ld_unit_zero (S := S512x128) hz2, shapeCast_self x10]

theorem p72 : k0_pay72 x9 = x9 := p65 x9

theorem p73 : k0_pay73 x12 = x12 := by
  show shapeCast S128x512 (View.ld x12 r0_17) shapeCasts_S128x512_S128x512 = _
  rw [View.ld_unit_zero (S := S128x512) hz2, shapeCast_self x12]

theorem p75 : k0_pay75 x8 = x8 := by
  show shapeCast S128x1 (View.ld x8 r0_18) shapeCasts_S128x1_S128x1 = _
  rw [View.ld_unit_zero (S := S128x1) hz2, shapeCast_self x8]

theorem p76 : k0_pay76 x20 = x20 := by
  show shapeCast S256x256 (View.ld x20 r0_27) shapeCasts_S256x256_S256x256 = _
  rw [View.ld_unit_zero (S := S256x256) hz2, shapeCast_self x20]

theorem p77 : k0_pay77 x0 x1 x14 = zs (blkN x0 x1) x14 := by
  show zs (k0_pay62 x0 x1) (shapeCast S1024x768 (View.ld x14 r0_28) shapeCasts_S1024x768_S1024x768) = _
  rw [View.ld_unit_zero (S := S1024x768) hz2, shapeCast_self x14, p62]

/-- A block of gains as read. -/
theorem pG : shapeCast S1x256 (View.ld x15 r0_3) shapeCasts_S1x256_S1x256 = x15 := by
  rw [View.ld_unit_zero (S := S1x256) hz2]; exact shapeCast_self _ _

/-- All heads' queries, -/
def allQ (y : FVec Ideal S1024x512 .f32) (rc rs : FVec Ideal S128x512 .f32) (g : FVec Ideal S128x1 .f32) : Vec Ideal S1x1x8x128x512 .f32 :=
  fun i => qh y rc rs g (i 2) (ix5 0 0 0 (i 3) (i 4))
/-- and keys. -/
def allK (y : FVec Ideal S512x1024 .f32) (z rc rs : FVec Ideal S512x128 .f32) (g : FVec Ideal S1x128 .f32) : Vec Ideal S1x8x512x128 .bf16 :=
  fun i => kh y z rc rs g (i 1) (ix4 0 0 (i 2) (i 3))

theorem q_piece (y : FVec Ideal S1024x512 .f32) (rc rs : FVec Ideal S128x512 .f32) (g : FVec Ideal S128x1 .f32) (h : Fin 8)
    (inb : ∀ a, (![0, 0, h.val, 0, 0] : Fin 5 → ℕ) a + S1x1x1x128x512.size a ≤ S1x1x8x128x512.size a) (x : S1x1x1x128x512.Idx) :
    qh y rc rs g h x = allQ y rc rs g ((Rect.unit (s := S1x1x8x128x512) ![0, 0, h.val, 0, 0] S1x1x1x128x512.size inb).emb x) := by
  obtain ⟨a, b, c, l, r, rfl⟩ : ∃ (a b c : Fin 1) (l : Fin 128) (r : Fin 512), x = ix5 a b c l r :=
    ⟨x 0, x 1, x 2, x 3, x 4, funext fun a => by fin_cases a <;> rfl⟩
  obtain rfl : a = 0 := Subsingleton.elim _ _
  obtain rfl : b = 0 := Subsingleton.elim _ _
  obtain rfl : c = 0 := Subsingleton.elim _ _
  have e : (Rect.unit (s := S1x1x8x128x512) ![0, 0, h.val, 0, 0] S1x1x1x128x512.size inb).emb (ix5 0 0 0 l r) = ix5 (0 : Fin 1) (0 : Fin 1) h l r :=
    funext fun a => Fin.ext (by
      rw [ValueKit.rect_emb_unit_val]
      fin_cases a
      · rfl
      · rfl
      · rfl
      · exact Nat.zero_add _
      · exact Nat.zero_add _)
  exact (congrArg (allQ y rc rs g) e).symm

theorem k_piece (y : FVec Ideal S512x1024 .f32) (z rc rs : FVec Ideal S512x128 .f32) (g : FVec Ideal S1x128 .f32) (h : Fin 8)
    (inb : ∀ a, (![0, h.val, 0, 0] : Fin 4 → ℕ) a + S1x1x512x128.size a ≤ S1x8x512x128.size a) (x : S1x1x512x128.Idx) :
    kh y z rc rs g h x = allK y z rc rs g ((Rect.unit (s := S1x8x512x128) ![0, h.val, 0, 0] S1x1x512x128.size inb).emb x) := by
  obtain ⟨a, b, r, l, rfl⟩ : ∃ (a b : Fin 1) (r : Fin 512) (l : Fin 128), x = ix4 a b r l :=
    ⟨x 0, x 1, x 2, x 3, funext fun a => by fin_cases a <;> rfl⟩
  obtain rfl : a = 0 := Subsingleton.elim _ _
  obtain rfl : b = 0 := Subsingleton.elim _ _
  have e : (Rect.unit (s := S1x8x512x128) ![0, h.val, 0, 0] S1x1x512x128.size inb).emb (ix4 0 0 r l) = ix4 (0 : Fin 1) h r l :=
    funext fun a => Fin.ext (by
      rw [ValueKit.rect_emb_unit_val]
      fin_cases a
      · rfl
      · rfl
      · exact Nat.zero_add _
      · exact Nat.zero_add _)
  exact (congrArg (allK y z rc rs g) e).symm

theorem out21 : out0_21 x0 x1 x2 x3 x4 x5 x6 x7 x8 x9 x10 x11 x12 x13 x14 x15 x16 x17 x18 x19 x20 = allQ (blkQ x0 x1 x2 x3 x5) x12 x13 x8 := by
  refine Eq.trans (b := allQ (k0_pay68 x0 x1 x2 x3 x5) (k0_pay73 x12) (k0_pay74 x13) (k0_pay75 x8)) (funext fun i => ?_)
    (by rw [p68, p73, show k0_pay74 x13 = x13 from p73 x13, p75])
  refine View.canon_apply_of_pieces _ _ ?_ i (cover0_21 _ _ _ _ _ _ _ _ i)
  intro pc hpc x
  simp only [List.mem_cons, List.not_mem_nil, or_false] at hpc
  rcases hpc with rfl | rfl | rfl | rfl | rfl | rfl | rfl | rfl
  · exact q_piece _ _ _ _ 7 (by decide) x
  · exact q_piece _ _ _ _ 6 (by decide) x
  · exact q_piece _ _ _ _ 5 (by decide) x
  · exact q_piece _ _ _ _ 4 (by decide) x
  · exact q_piece _ _ _ _ 3 (by decide) x
  · exact q_piece _ _ _ _ 2 (by decide) x
  · exact q_piece _ _ _ _ 1 (by decide) x
  · exact q_piece _ _ _ _ 0 (by decide) x

theorem out22 : out0_22 x0 x1 x2 x3 x4 x5 x6 x7 x8 x9 x10 x11 x12 x13 x14 x15 x16 x17 x18 x19 x20
    = allK (uk (blkC x0 x1 x2 x4) x6) (zr (blkZ x0 x1 x2)) x10 x11 x9 := by
  refine Eq.trans (b := allK (k0_pay69 x0 x1 x2 x4 x6) (k0_pay67 x0 x1 x2) (k0_pay70 x10) (k0_pay71 x11) (k0_pay72 x9)) (funext fun i => ?_)
    (by rw [p69, p67, p70, show k0_pay71 x11 = x11 from p70 x11, p72])
  refine View.canon_apply_of_pieces _ _ ?_ i (cover0_22 _ _ _ _ _ _ _ _ i)
  intro pc hpc x
  simp only [List.mem_cons, List.not_mem_nil, or_false] at hpc
  rcases hpc with rfl | rfl | rfl | rfl | rfl | rfl | rfl | rfl
  · exact k_piece _ _ _ _ _ 7 (by decide) x
  · exact k_piece _ _ _ _ _ 6 (by decide) x
  · exact k_piece _ _ _ _ _ 5 (by decide) x
  · exact k_piece _ _ _ _ _ 4 (by decide) x
  · exact k_piece _ _ _ _ _ 3 (by decide) x
  · exact k_piece _ _ _ _ _ 2 (by decide) x
  · exact k_piece _ _ _ _ _ 1 (by decide) x
  · exact k_piece _ _ _ _ _ 0 (by decide) x

theorem out23 : out0_23 x0 x1 x2 x3 x4 x5 x6 x7 x8 x9 x10 x11 x12 x13 x14 x15 x16 x17 x18 x19 x20
    = shapeCast S1x1x512x512 (uv (blkC x0 x1 x2 x4) x7) shapeCasts_S512x512_S1x1x512x512 := by
  unfold out0_23
  rw [View.canon_unit_zero (S := S1x1x512x512) hz4]
  show shapeCast S1x1x512x512 (uv (nrmK (k0_pay64 x0 x1 x2) (k0_pay65 x4)) (shapeCast S512x128 (View.ld x7 r0_7) shapeCasts_S512x128_S512x128)) shapeCasts_S512x512_S1x1x512x512 = _
  rw [View.ld_unit_zero (S := S512x128) hz2, shapeCast_self x7, pC]

/-- 256 lanes as a block. -/
def asBlk (y : FVec Ideal S512x256 .f32) : FVec Ideal S1x512x256 .bf16 :=
  shapeCast S1x512x256 (truncf .bf16 y bitsLt_bf16_f32) shapeCasts_S512x256_S1x512x256
def lo (z : FVec Ideal S512x768 .f32) : FVec Ideal S512x256 .f32 := extractStridedSlice S512x256 ![0, 0] z slices_S512x768_o0_0_S512x256
def mid (z : FVec Ideal S512x768 .f32) : FVec Ideal S512x256 .f32 := extractStridedSlice S512x256 ![0, 256] z slices_S512x768_o0_256_S512x256
def hi (z : FVec Ideal S512x768 .f32) : FVec Ideal S512x256 .f32 := extractStridedSlice S512x256 ![0, 512] z slices_S512x768_o0_512_S512x256

theorem out24 : out0_24 x0 x1 x2 x3 x4 x5 x6 x7 x8 x9 x10 x11 x12 x13 x14 x15 x16 x17 x18 x19 x20 = asBlk (hs (lo (zs (blkN x0 x1) x14)) x20 x15) := by
  unfold out0_24
  rw [View.canon_unit_zero (S := S1x512x256) hz3]
  show asBlk (hs (lo (k0_pay77 x0 x1 x14)) (k0_pay76 x20) (shapeCast S1x256 (View.ld x15 r0_3) shapeCasts_S1x256_S1x256)) = _
  rw [p77, p76, pG]

theorem out25 : out0_25 x0 x1 x2 x3 x4 x5 x6 x7 x8 x9 x10 x11 x12 x13 x14 x15 x16 x17 x18 x19 x20 = asBlk (hn (mid (zs (blkN x0 x1) x14)) x20 x16) := by
  unfold out0_25
  rw [View.canon_unit_zero (S := S1x512x256) hz3]
  show asBlk (hn (mid (k0_pay77 x0 x1 x14)) (k0_pay76 x20) (shapeCast S1x256 (View.ld x16 r0_3) shapeCasts_S1x256_S1x256)) = _
  rw [p77, p76, pG]

theorem out26 : out0_26 x0 x1 x2 x3 x4 x5 x6 x7 x8 x9 x10 x11 x12 x13 x14 x15 x16 x17 x18 x19 x20 = asBlk (hi (zs (blkN x0 x1) x14)) := by
  unfold out0_26
  rw [View.canon_unit_zero (S := S1x512x256) hz3]
  show asBlk (hi (k0_pay77 x0 x1 x14)) = _
  rw [p77]

theorem out27 : out0_27 x0 x1 x2 x3 x4 x5 x6 x7 x8 x9 x10 x11 x12 x13 x14 x15 x16 x17 x18 x19 x20 = asBlk (hs (lo (zs (blkN x0 x1) x17)) x20 x18) := by
  unfold out0_27
  rw [View.canon_unit_zero (S := S1x512x256) hz3]
  show asBlk (hs (lo (k0_pay77 x0 x1 x17)) (k0_pay76 x20) (shapeCast S1x256 (View.ld x18 r0_3) shapeCasts_S1x256_S1x256)) = _
  rw [p77, p76, pG]

theorem out28 : out0_28 x0 x1 x2 x3 x4 x5 x6 x7 x8 x9 x10 x11 x12 x13 x14 x15 x16 x17 x18 x19 x20 = asBlk (hn (mid (zs (blkN x0 x1) x17)) x20 x19) := by
  unfold out0_28
  rw [View.canon_unit_zero (S := S1x512x256) hz3]
  show asBlk (hn (mid (k0_pay77 x0 x1 x17)) (k0_pay76 x20) (shapeCast S1x256 (View.ld x19 r0_3) shapeCasts_S1x256_S1x256)) = _
  rw [p77, p76, pG]

theorem out29 : out0_29 x0 x1 x2 x3 x4 x5 x6 x7 x8 x9 x10 x11 x12 x13 x14 x15 x16 x17 x18 x19 x20 = asBlk (hi (zs (blkN x0 x1) x17)) := by
  unfold out0_29
  rw [View.canon_unit_zero (S := S1x512x256) hz3]
  show asBlk (hi (k0_pay77 x0 x1 x17)) = _
  rw [p77]

end Blocks

end Cert.Kernel4Ideal.Hand

end
-- ==== Proof.Prep.Rows.lean ====
module

public import proofs.«01_k».proof.Proof.Prep.Out

@[expose] public section

set_option maxRecDepth 16384

noncomputable section

namespace Cert.Kernel4Ideal.Hand

open Cert.Kernel4Ideal Cert.Kernel4Ideal.Gen
open Idealize.ShloMosaic
open Cert.Row

/-! ## The outputs at one row -/

theorem blkN_row (x0 : Vec Ideal S1x512x1024 .f32) (x1 : Vec Ideal S1x1024 .f32) (r : Fin 512) (c : Fin 1024) :
    blkN x0 x1 (ix2 r c) = rms n1024 (fun d => x0 (ix3 0 r d)) (fun d => x1 (ix2 0 d)) c :=
  (nrm_apply _ _ r c).trans (congrArg (fun f => rms n1024 f (fun d => x1 (ix2 0 d)) c) (funext fun d => by pointwise []))

section Proj
variable (x0 : Vec Ideal S1x512x1024 .f32) (x1 : Vec Ideal S1x1024 .f32) (x2 : Vec Ideal S1024x512 .bf16) (r : Fin 512)
  (a g : Fin 1024 → EReal) (w : Fin 1024 → Fin 1696 → EReal)
  (ha : ∀ d, x0 (ix3 0 r d) = a d) (hg : ∀ d, x1 (ix2 0 d) = g d)
include ha hg

theorem norm_row (c : Fin 1024) : blkN x0 x1 (ix2 r c) = rms n1024 a g c := by
  rw [blkN_row, show (fun d => x0 (ix3 0 r d)) = a from funext ha, show (fun d => x1 (ix2 0 d)) = g from funext hg]

/-- The first 384 columns are the projected token's, -/
theorem proj_lo (hw : ∀ d (c : Fin 384), x2 (ix2 d ⟨c.val, by omega⟩) = w d ⟨c.val, by omega⟩) (c : Fin 384) :
    blkZ x0 x1 x2 (ix2 r ⟨c.val, by omega⟩) = lin (rms n1024 a g) w ⟨c.val, by omega⟩ := by
  refine (zm_apply _ _ r _).trans (Finset.sum_congr rfl fun d _ => ?_)
  exact congr (congrArg (fun u v : EReal => u * v) (norm_row x0 x1 r a g ha hg d)) (hw d c)

/-- the last 128 the lanes of its shared key. -/
theorem proj_hi (hw : ∀ d (l : Fin 128), x2 (ix2 d ⟨384 + l.val, by omega⟩)
      = spread (fun e => if e.val < 64 then 0 else w d ⟨384 + (e.val - 64), by omega⟩) l) (l : Fin 128) :
    blkZ x0 x1 x2 (ix2 r ⟨384 + l.val, by omega⟩)
      = spread (fun e => if e.val < 64 then 0 else lin (rms n1024 a g) w ⟨384 + (e.val - 64), by omega⟩) l := by
  refine (zm_apply _ _ r _).trans ((Finset.sum_congr rfl fun d _ =>
    congr (congrArg (fun u v : EReal => u * v) (norm_row x0 x1 r a g ha hg d)) (hw d l)).trans ((lin_spread _ _ l).trans ?_))
  refine congrArg (fun f => spread f l) (funext fun e => ?_)
  by_cases h : e.val < 64
  · rw [if_pos h]
    exact Finset.sum_eq_zero fun d _ => (congrArg (_ * ·) (if_pos h)).trans (mul_zero _)
  · rw [if_neg h]
    exact Finset.sum_congr rfl fun d _ => congrArg (_ * ·) (if_neg h)

/-- The other projections' columns. -/
theorem side_row (xw : Vec Ideal S1024x768 .bf16) (k : Fin 768) (j : Fin 1696) (hw : ∀ d, xw (ix2 d k) = w d j) :
    zs (blkN x0 x1) xw (ix2 r k) = lin (rms n1024 a g) w j :=
  (zs_apply _ _ r k).trans (Finset.sum_congr rfl fun d _ =>
    congr (congrArg (fun u v : EReal => u * v) (norm_row x0 x1 r a g ha hg d)) (hw d))

end Proj

section Heads
variable (Z : FVec Ideal S512x512 .f32) (r : Fin 512) (z : Fin 1696 → EReal)
  (hz : ∀ c : Fin 384, Z (ix2 r ⟨c.val, by omega⟩) = z ⟨c.val, by omega⟩)
include hz

theorem cq_row (x3 : Vec Ideal S1x256 .f32) (g : Fin 256 → EReal) (hg : ∀ d, x3 (ix2 0 d) = g d) (d : Fin 256) :
    nrmQ (zq Z) x3 (ix2 r d) = cq z g d := by
  rw [nrmQ_apply, show (fun d => x3 (ix2 0 d)) = g from funext hg]
  exact congrArg (fun f => rms n256 f g d) (funext fun c => (zq_apply Z r c).trans (hz ⟨c.val, by omega⟩))

theorem ckv_row (x4 : Vec Ideal S1x128 .f32) (g : Fin 128 → EReal) (hg : ∀ d, x4 (ix2 0 d) = g d) (d : Fin 128) :
    nrmK (zk Z) x4 (ix2 r d) = ckv z g d := by
  rw [nrmK_apply, show (fun d => x4 (ix2 0 d)) = g from funext hg]
  exact congrArg (fun f => rms n128 f g d) (funext fun c => (zk_apply Z r c).trans (hz ⟨256 + c.val, by omega⟩))

theorem q_row (x3 : Vec Ideal S1x256 .f32) (x5 : Vec Ideal S1024x256 .bf16) (x8 : Vec Ideal S128x1 .f32) (x12 x13 : Vec Ideal S128x512 .f32)
    (g : Fin 256 → EReal) (w : Fin 256 → Fin 768 → EReal) (g' : Fin 96 → EReal) (co si : Fin 16 → EReal) (h : Fin 8)
    (hg : ∀ d, x3 (ix2 0 d) = g d)
    (hw : ∀ (l : Fin 128) d, x5 (ix2 ⟨128 * h.val + l.val, by omega⟩ d) = spread (fun e => w d ⟨96 * h.val + e.val, by omega⟩) l)
    (hg' : ∀ l, x8 (ix2 l 0) = spread g' l) (hc : ∀ l, x12 (ix2 l r) = spread (cosF co) l) (hs : ∀ l, x13 (ix2 l r) = spread (sinF si) l)
    (l : Fin 128) :
    allQ (uq (nrmQ (zq Z) x3) x5) x12 x13 x8 (ix5 0 0 h l r) = qOut co si z g w g' h l := by
  refine (qh_apply _ x12 x13 x8 h r l).trans ?_
  have e : (fun l : Fin 128 => uq (nrmQ (zq Z) x3) x5 (ix2 ⟨128 * h.val + l.val, by omega⟩ r)) = spread (qF z g w h) := funext fun l => by
    refine (uq_apply _ _ r _).trans ((Finset.sum_congr rfl fun d _ => ?_).trans (lin_spread (cq z g) (fun d e => w d ⟨96 * h.val + e.val, by omega⟩) l))
    rw [hw l d, cq_row Z r z hz x3 g hg d]
    exact mul_comm _ _
  rw [e, show (fun l => x8 (ix2 l 0)) = spread g' from funext hg', show (fun l => x12 (ix2 l r)) = spread (cosF co) from funext hc,
    show (fun l => x13 (ix2 l r)) = spread (sinF si) from funext hs, headL_eq]
  rfl

theorem k_row (x4 : Vec Ideal S1x128 .f32) (x6 : Vec Ideal S128x1024 .bf16) (x9 : Vec Ideal S1x128 .f32) (x10 x11 : Vec Ideal S512x128 .f32)
    (g : Fin 128 → EReal) (w : Fin 128 → Fin 1024 → EReal) (g' : Fin 96 → EReal) (co si : Fin 16 → EReal) (h : Fin 8)
    (hz' : ∀ l : Fin 128, Z (ix2 r ⟨384 + l.val, by omega⟩) = spread (fun e => if e.val < 64 then 0 else z ⟨384 + (e.val - 64), by omega⟩) l)
    (hg : ∀ d, x4 (ix2 0 d) = g d)
    (hw : ∀ (l : Fin 128) d, x6 (ix2 d ⟨128 * h.val + l.val, by omega⟩)
      = spread (fun e => if h' : e.val < 64 then w d ⟨128 * h.val + e.val, by omega⟩ else 0) l)
    (hg' : ∀ l, x9 (ix2 0 l) = spread g' l) (hc : ∀ l, x10 (ix2 r l) = spread (cosF co) l) (hs : ∀ l, x11 (ix2 r l) = spread (sinF si) l)
    (l : Fin 128) :
    allK (uk (nrmK (zk Z) x4) x6) (zr Z) x10 x11 x9 (ix4 0 h r l) = kOut co si z g w g' h l := by
  refine (kh_apply _ (zr Z) x10 x11 x9 h r l).trans ?_
  have e : (fun l : Fin 128 => uk (nrmK (zk Z) x4) x6 (ix2 r ⟨128 * h.val + l.val, by omega⟩) + zr Z (ix2 r l)) = spread (kF z g w h) := funext fun l => by
    rw [uk_apply, zr_apply, hz' l]
    refine (congrArg (· + _) ((Finset.sum_congr rfl fun d _ => ?_).trans (lin_spread (ckv z g)
      (fun d e => if h' : e.val < 64 then w d ⟨128 * h.val + e.val, by omega⟩ else 0) l))).trans ?_
    · rw [hw l d, ckv_row Z r z hz x4 g hg d]
    · rw [spread_add]
      refine congrArg (fun f => spread f l) (funext fun e => ?_)
      unfold kF
      by_cases h' : e.val < 64
      · rw [if_pos h', dif_pos h', add_zero]
        unfold kvF lin
        exact Finset.sum_congr rfl fun d _ => congrArg (_ * ·) (dif_pos h')
      · rw [if_neg h', dif_neg h']
        refine (congrArg (· + _) ?_).trans (zero_add _)
        exact Finset.sum_eq_zero fun d _ => (congrArg (_ * ·) (dif_neg h')).trans (mul_zero _)
  rw [e, show (fun l => x9 (ix2 0 l)) = spread g' from funext hg', show (fun l => x10 (ix2 r l)) = spread (cosF co) from funext hc,
    show (fun l => x11 (ix2 r l)) = spread (sinF si) from funext hs, headL_eq]
  rfl

theorem v_row (x4 : Vec Ideal S1x128 .f32) (x7 : Vec Ideal S512x128 .bf16) (g : Fin 128 → EReal) (w : Fin 128 → Fin 1024 → EReal)
    (hg : ∀ d, x4 (ix2 0 d) = g d) (hw : ∀ e d, x7 (ix2 e d) = w d ⟨128 * (e.val / 64) + (64 + e.val % 64), by omega⟩) (e : Fin 512) :
    shapeCast S1x1x512x512 (uv (nrmK (zk Z) x4) x7) shapeCasts_S512x512_S1x1x512x512 (ix4 0 0 e r) = vOut z g w e := by
  refine (shapeCast_apply _ _ _ (ix2 e r) ?_).trans ?_
  · rw [Shape.rowMajor_val_two, Shape.rowMajor_val_four]
    show e.val * 512 + r.val = ((0 * 1 + 0) * 512 + e.val) * 512 + r.val
    omega
  · refine (uv_apply _ _ r e).trans ?_
    unfold vOut kvF lin
    refine Finset.sum_congr rfl fun d _ => ?_
    rw [hw e d, ckv_row Z r z hz x4 g hg d]
    exact mul_comm _ _

end Heads

theorem asBlk_apply (y : FVec Ideal S512x256 .f32) (r : Fin 512) (l : Fin 256) : asBlk y (ix3 0 r l) = y (ix2 r l) := by
  pointwise [asBlk]

/-- Four heads of 64 lanes, each normalized over its lanes. -/
theorem heads_row (y : FVec Ideal S512x256 .f32) (bd : FVec Ideal S256x256 .bf16) (gb : FVec Ideal S1x256 .f32) (r : Fin 512) (l : Fin 256)
    (z : Fin 1696 → EReal) (o : ℕ) (ho : o + 64 ≤ 1696) (g : Fin 64 → EReal)
    (hb : ∀ l l', bd (ix2 l l') = if hd l = hd l' then 1 else 0) (hg : ∀ l, gb (ix2 0 l) = g (pl l))
    (hy : ∀ d, y (ix2 r (lane (hd l) d)) = z ⟨o + d.val, by omega⟩) :
    hn y bd gb (ix2 r l) = nOut z o ho g (pl l) := by
  rw [hn_apply, hK_eq _ _ _ g hb hg l]
  exact congrArg (fun f => rms n64 f g (pl l)) (funext hy)

theorem lo_apply (z : FVec Ideal S512x768 .f32) (r : Fin 512) (l : Fin 256) : lo z (ix2 r l) = z (ix2 r ⟨l.val, by omega⟩) := cut0 z r l
theorem mid_apply (z : FVec Ideal S512x768 .f32) (r : Fin 512) (l : Fin 256) : mid z (ix2 r l) = z (ix2 r ⟨256 + l.val, by omega⟩) := cut1 z r l
theorem hi_apply (z : FVec Ideal S512x768 .f32) (r : Fin 512) (l : Fin 256) : hi z (ix2 r l) = z (ix2 r ⟨512 + l.val, by omega⟩) := cut2 z r l

end Cert.Kernel4Ideal.Hand

end
-- ==== Proof.Prep.Ref.lean ====
module

public import proofs.«01_k».proof.Proof.Prep.Row
public import proofs.«01_k».proof.Proof.Gen.Reference4Ideal
public import proofs.«01_k».proof.Proof.Gen.Reference4Ideal.Run
public import Idealize.ShloMosaic.Lib.Pipeline.Value

@[expose] public section

set_option maxRecDepth 16384

noncomputable section

namespace Cert.Reference4Ideal.Hand

open Cert.Reference4Ideal Cert.Reference4Ideal.Gen
open Idealize.ShloMosaic
open Cert.Row

/-! ## The reference's steps -/

/-- A normalisation of rows of 1024, -/
def nrm (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf
      (broadcastInDim S4x8192x1 ![0, 1] bcast_S4x8192_S4x8192x1_0_1
        (Host.reduceAdd (mulf x x) (constant S_ .f32 0x00000000#32) reducesTo_S4x8192x1024_S4x8192_d2 h_S_))
      (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- of 256, -/
def nrmQ (x : FVec Ideal S4x8192x256 .f32) (g : FVec Ideal S256 .f32) : FVec Ideal S4x8192x256 .f32 :=
  mulf (mulf x (broadcastInDim S4x8192x256 ![0, 1, 2] bcast_S4x8192x1_S4x8192x256_0_1_2 (Host.rsqrt (addf (Host.divf
      (broadcastInDim S4x8192x1 ![0, 1] bcast_S4x8192_S4x8192x1_0_1
        (Host.reduceAdd (mulf x x) (constant S_ .f32 0x00000000#32) reducesTo_S4x8192x256_S4x8192_d2 h_S_))
      (broadcastInDim S4x8192x1 ![] bcast_S_S4x8192x1 (constant S_ .f32 0x43800000#32)))
      (broadcastInDim S4x8192x1 ![] bcast_S_S4x8192x1 (constant S_ .f32 0x358637BD#32))))))
    (broadcastInDim S4x8192x256 ![0, 1, 2] bcast_S1x1x256_S4x8192x256_0_1_2 (broadcastInDim S1x1x256 ![2] bcast_S256_S1x1x256_2 g))

/-- of 128, -/
def nrmK (x : FVec Ideal S4x8192x128 .f32) (g : FVec Ideal S128 .f32) : FVec Ideal S4x8192x128 .f32 :=
  mulf (mulf x (broadcastInDim S4x8192x128 ![0, 1, 2] bcast_S4x8192x1_S4x8192x128_0_1_2 (Host.rsqrt (addf (Host.divf
      (broadcastInDim S4x8192x1 ![0, 1] bcast_S4x8192_S4x8192x1_0_1
        (Host.reduceAdd (mulf x x) (constant S_ .f32 0x00000000#32) reducesTo_S4x8192x128_S4x8192_d2 h_S_))
      (broadcastInDim S4x8192x1 ![] bcast_S_S4x8192x1 (constant S_ .f32 0x43000000#32)))
      (broadcastInDim S4x8192x1 ![] bcast_S_S4x8192x1 (constant S_ .f32 0x358637BD#32))))))
    (broadcastInDim S4x8192x128 ![0, 1, 2] bcast_S1x1x128_S4x8192x128_0_1_2 (broadcastInDim S1x1x128 ![2] bcast_S128_S1x1x128_2 g))

/-- of a head's 96 features, -/
def nrmH (y : FVec Ideal S4x8192x8x96 .f32) (g : FVec Ideal S96 .f32) : FVec Ideal S4x8192x8x96 .f32 :=
  mulf (mulf y (broadcastInDim S4x8192x8x96 ![0, 1, 2, 3] bcast_S4x8192x8x1_S4x8192x8x96_0_1_2_3 (Host.rsqrt (addf (Host.divf
      (broadcastInDim S4x8192x8x1 ![0, 1, 2] bcast_S4x8192x8_S4x8192x8x1_0_1_2
        (Host.reduceAdd (mulf y y) (constant S_ .f32 0x00000000#32) reducesTo_S4x8192x8x96_S4x8192x8_d3 h_S_))
      (broadcastInDim S4x8192x8x1 ![] bcast_S_S4x8192x8x1 (constant S_ .f32 0x42C00000#32)))
      (broadcastInDim S4x8192x8x1 ![] bcast_S_S4x8192x8x1 (constant S_ .f32 0x358637BD#32))))))
    (broadcastInDim S4x8192x8x96 ![0, 1, 2, 3] bcast_S1x1x1x96_S4x8192x8x96_0_1_2_3 (broadcastInDim S1x1x1x96 ![3] bcast_S96_S1x1x1x96_3 g))

/-- of 64 features of four heads, -/
def hn4 (y : FVec Ideal S4x8192x4x64 .f32) (g : FVec Ideal S64 .f32) : FVec Ideal S4x8192x4x64 .f32 :=
  mulf (mulf y (broadcastInDim S4x8192x4x64 ![0, 1, 2, 3] bcast_S4x8192x4x1_S4x8192x4x64_0_1_2_3 (Host.rsqrt (addf (Host.divf
      (broadcastInDim S4x8192x4x1 ![0, 1, 2] bcast_S4x8192x4_S4x8192x4x1_0_1_2
        (Host.reduceAdd (mulf y y) (constant S_ .f32 0x00000000#32) reducesTo_S4x8192x4x64_S4x8192x4_d3 h_S_))
      (broadcastInDim S4x8192x4x1 ![] bcast_S_S4x8192x4x1 (constant S_ .f32 0x42800000#32)))
      (broadcastInDim S4x8192x4x1 ![] bcast_S_S4x8192x4x1 (constant S_ .f32 0x358637BD#32))))))
    (broadcastInDim S4x8192x4x64 ![0, 1, 2, 3] bcast_S1x1x1x64_S4x8192x4x64_0_1_2_3 (broadcastInDim S1x1x1x64 ![3] bcast_S64_S1x1x1x64_3 g))

/-- and of two. -/
def hn2 (y : FVec Ideal S4x8192x2x64 .f32) (g : FVec Ideal S64 .f32) : FVec Ideal S4x8192x2x64 .f32 :=
  mulf (mulf y (broadcastInDim S4x8192x2x64 ![0, 1, 2, 3] bcast_S4x8192x2x1_S4x8192x2x64_0_1_2_3 (Host.rsqrt (addf (Host.divf
      (broadcastInDim S4x8192x2x1 ![0, 1, 2] bcast_S4x8192x2_S4x8192x2x1_0_1_2
        (Host.reduceAdd (mulf y y) (constant S_ .f32 0x00000000#32) reducesTo_S4x8192x2x64_S4x8192x2_d3 h_S_))
      (broadcastInDim S4x8192x2x1 ![] bcast_S_S4x8192x2x1 (constant S_ .f32 0x42800000#32)))
      (broadcastInDim S4x8192x2x1 ![] bcast_S_S4x8192x2x1 (constant S_ .f32 0x358637BD#32))))))
    (broadcastInDim S4x8192x2x64 ![0, 1, 2, 3] bcast_S1x1x1x64_S4x8192x2x64_0_1_2_3 (broadcastInDim S1x1x1x64 ![3] bcast_S64_S1x1x1x64_3 g))

/-- The projected tokens, -/
def proj (x : FVec Ideal S4x8192x1024 .f32) (g : FVec Ideal S1024 .f32) (w : FVec Ideal S1024x1696 .f32) : FVec Ideal S4x8192x1696 .f32 :=
  Host.dotGeneral dot_S4x8192x1024_S1024x1696_S4x8192x1696_2_0_01_1_n_n none (nrm x g) w

/-- their first 416 columns, -/
def za (z : FVec Ideal S4x8192x1696 .f32) : FVec Ideal S4x8192x416 .f32 :=
  extractStridedSlice S4x8192x416 ![0, 0, 0] z slices_S4x8192x1696_S4x8192x416_0_0_0
/-- the next 512 -/
def zb (z : FVec Ideal S4x8192x1696 .f32) : FVec Ideal S4x8192x512 .f32 :=
  extractStridedSlice S4x8192x512 ![0, 0, 416] z slices_S4x8192x1696_S4x8192x512_0_0_416
/-- and the last 768. -/
def zc (z : FVec Ideal S4x8192x1696 .f32) : FVec Ideal S4x8192x768 .f32 :=
  extractStridedSlice S4x8192x768 ![0, 0, 928] z slices_S4x8192x1696_S4x8192x768_0_0_928

/-- The eight heads' queries, -/
def qA (z : FVec Ideal S4x8192x1696 .f32) (g : FVec Ideal S256 .f32) (w : FVec Ideal S256x768 .f32) : FVec Ideal S4x8192x8x96 .f32 :=
  shapeCast S4x8192x8x96 (Host.dotGeneral dot_S4x8192x256_S256x768_S4x8192x768_2_0_01_1_n_n none
    (nrmQ (extractStridedSlice S4x8192x256 ![0, 0, 0] (za z) slices_S4x8192x416_S4x8192x256_0_0_0) g) w) shapeCasts_S4x8192x768_S4x8192x8x96

/-- their keys' and values' features, -/
def kvA (z : FVec Ideal S4x8192x1696 .f32) (g : FVec Ideal S128 .f32) (w : FVec Ideal S128x1024 .f32) : FVec Ideal S4x8192x8x128 .f32 :=
  shapeCast S4x8192x8x128 (Host.dotGeneral dot_S4x8192x128_S128x1024_S4x8192x1024_2_0_01_1_n_n none
    (nrmK (extractStridedSlice S4x8192x128 ![0, 0, 256] (za z) slices_S4x8192x416_S4x8192x128_0_0_256) g) w) shapeCasts_S4x8192x1024_S4x8192x8x128

/-- and their keys. -/
def kA (z : FVec Ideal S4x8192x1696 .f32) (kv : FVec Ideal S4x8192x8x128 .f32) : FVec Ideal S4x8192x8x96 .f32 :=
  concatenate S4x8192x8x96 3 [⟨S4x8192x8x64, extractStridedSlice S4x8192x8x64 ![0, 0, 0, 0] kv slices_S4x8192x8x128_S4x8192x8x64_0_0_0_0⟩,
    ⟨S4x8192x8x32, broadcastInDim S4x8192x8x32 ![0, 1, 2, 3] bcast_S4x8192x1x32_S4x8192x8x32_0_1_2_3
      (broadcastInDim S4x8192x1x32 ![0, 1, 3] bcast_S4x8192x32_S4x8192x1x32_0_1_3
        (extractStridedSlice S4x8192x32 ![0, 0, 384] (za z) slices_S4x8192x416_S4x8192x32_0_0_384))⟩]
    concatenates_S4x8192x8x64_S4x8192x8x32_S4x8192x8x96_d3

/-- The positions' angles. -/
def ang : FVec Ideal S8192x16 .f32 :=
  mulf (broadcastInDim S8192x16 ![0, 1] bcast_S8192x1_S8192x16_0_1 (broadcastInDim S8192x1 ![0] bcast_S8192_S8192x1_0 (sitofp .f32 (iotaInDim S8192 32 0))))
    (broadcastInDim S8192x16 ![0, 1] bcast_S1x16_S8192x16_0_1 (broadcastInDim S1x16 ![1] bcast_S16_S1x16_1
      (Host.divf (broadcastInDim S16 ![] bcast_S_S16 (constant S_ .f32 0x3F800000#32))
        (Host.powf (broadcastInDim S16 ![] bcast_S_S16 (constant S_ .f32 0x461C4000#32))
          (Host.divf (addf (broadcastInDim S16 ![] bcast_S_S16 (constant S_ .f32 0x00000000#32))
            (mulf (broadcastInDim S16 ![] bcast_S_S16 (constant S_ .f32 0x40000000#32)) (sitofp .f32 (iotaInDim S16 32 0))))
            (broadcastInDim S16 ![] bcast_S_S16 (constant S_ .f32 0x42000000#32)))))))

/-- Sixteen of a head's features, -/
def cutA (y : FVec Ideal S4x8192x8x96 .f32) : FVec Ideal S4x8192x8x16 .f32 :=
  extractStridedSlice S4x8192x8x16 ![0, 0, 0, 0] (extractStridedSlice S4x8192x8x32 ![0, 0, 0, 64] y slices_S4x8192x8x96_S4x8192x8x32_0_0_0_64)
    slices_S4x8192x8x32_S4x8192x8x16_0_0_0_0
/-- the next sixteen, -/
def cutB (y : FVec Ideal S4x8192x8x96 .f32) : FVec Ideal S4x8192x8x16 .f32 :=
  extractStridedSlice S4x8192x8x16 ![0, 0, 0, 16] (extractStridedSlice S4x8192x8x32 ![0, 0, 0, 64] y slices_S4x8192x8x96_S4x8192x8x32_0_0_0_64)
    slices_S4x8192x8x32_S4x8192x8x16_0_0_0_16
/-- a table of the positions for every head, -/
def over (t : FVec Ideal S8192x16 .f32) : FVec Ideal S4x8192x8x16 .f32 :=
  broadcastInDim S4x8192x8x16 ![0, 1, 2, 3] bcast_S1x8192x1x16_S4x8192x8x16_0_1_2_3 (broadcastInDim S1x8192x1x16 ![1, 3] bcast_S8192x16_S1x8192x1x16_1_3 t)

/-- and the heads turned by the positions. -/
def turned (c s : FVec Ideal S8192x16 .f32) (y : FVec Ideal S4x8192x8x96 .f32) : FVec Ideal S4x8192x8x96 .f32 :=
  concatenate S4x8192x8x96 3 [⟨S4x8192x8x64, extractStridedSlice S4x8192x8x64 ![0, 0, 0, 0] y slices_S4x8192x8x96_S4x8192x8x64_0_0_0_0⟩,
    ⟨S4x8192x8x32, concatenate S4x8192x8x32 3
      [⟨S4x8192x8x16, subf (mulf (cutA y) (over c)) (mulf (cutB y) (over s))⟩, ⟨S4x8192x8x16, addf (mulf (cutA y) (over s)) (mulf (cutB y) (over c))⟩]
      concatenates_S4x8192x8x16_S4x8192x8x16_S4x8192x8x32_d3⟩] concatenates_S4x8192x8x64_S4x8192x8x32_S4x8192x8x96_d3

/-- The heads in their 128 lanes. -/
def lanes (y : FVec Ideal S4x8192x8x96 .f32) : FVec Ideal S4x8192x8x128 .f32 :=
  concatenate S4x8192x8x128 3 [⟨S4x8192x8x16, extractStridedSlice S4x8192x8x16 ![0, 0, 0, 80] y slices_S4x8192x8x96_S4x8192x8x16_0_0_0_80⟩,
    ⟨S4x8192x8x48, extractStridedSlice S4x8192x8x48 ![0, 0, 0, 0] y slices_S4x8192x8x96_S4x8192x8x48_0_0_0_0⟩,
    ⟨S4x8192x8x16, extractStridedSlice S4x8192x8x16 ![0, 0, 0, 64] y slices_S4x8192x8x96_S4x8192x8x16_0_0_0_64⟩,
    ⟨S4x8192x8x16, extractStridedSlice S4x8192x8x16 ![0, 0, 0, 48] y slices_S4x8192x8x96_S4x8192x8x16_0_0_0_48⟩,
    ⟨S4x8192x8x32, broadcastInDim S4x8192x8x32 ![] bcast_S_S4x8192x8x32 (constant S_ .f32 0x00000000#32)⟩]
    concatenates_S4x8192x8x16_S4x8192x8x48_S4x8192x8x16_S4x8192x8x16_S4x8192x8x32_S4x8192x8x128_d3

/-- The heads' values, their lanes side by side in blocks of 512 tokens, -/
def vals (y : FVec Ideal S4x8192x8x128 .f32) : FVec Ideal S4x16x512x512 .f32 :=
  shapeCast S4x16x512x512 (extractStridedSlice S4x8192x8x64 ![0, 0, 0, 64] y slices_S4x8192x8x128_S4x8192x8x64_0_0_0_64)
    shapeCasts_S4x8192x8x64_S4x16x512x512
/-- each token of a block made a column. -/
def cols (y : FVec Ideal S4x16x512x512 .f32) : FVec Ideal S4x16x512x512 .f32 :=
  transpose S4x16x512x512 [0, 1, 3, 2] y transposes_S4x16x512x512_S4x16x512x512_0_1_3_2

/-- Four heads' 256 lanes, -/
def flat (y : FVec Ideal S4x8192x4x64 .f32) : FVec Ideal S4x8192x256 .f32 := shapeCast S4x8192x256 y shapeCasts_S4x8192x4x64_S4x8192x256
/-- with the scale of the scores, -/
def eighths (y : FVec Ideal S4x8192x256 .f32) : FVec Ideal S4x8192x256 .f32 :=
  mulf y (broadcastInDim S4x8192x256 ![] bcast_S_S4x8192x256 (constant S_ .f32 0x3E000000#32))
/-- and two heads', each twice. -/
def twice (y : FVec Ideal S4x8192x2x64 .f32) : FVec Ideal S4x8192x256 .f32 :=
  shapeCast S4x8192x256 (broadcastInDim S4x8192x2x2x64 ![0, 1, 2, 3, 4] bcast_S4x8192x2x1x64_S4x8192x2x2x64_0_1_2_3_4
    (broadcastInDim S4x8192x2x1x64 ![0, 1, 2, 4] bcast_S4x8192x2x64_S4x8192x2x1x64_0_1_2_4 y)) shapeCasts_S4x8192x2x2x64_S4x8192x256

/-! ## The steps at one index -/

theorem nrm_apply (x : FVec Ideal S4x8192x1024 .f32) (g : FVec Ideal S1024 .f32) (b : Fin 4) (s : Fin 8192) (c : Fin 1024) :
    nrm x g (ix3 b s c) = rms n1024 (fun d => x (ix3 b s d)) (fun d => g (ix1 d)) c := by
  pointwise [nrm, rms, n1024, eps]

theorem nrmQ_apply (x : FVec Ideal S4x8192x256 .f32) (g : FVec Ideal S256 .f32) (b : Fin 4) (s : Fin 8192) (c : Fin 256) :
    nrmQ x g (ix3 b s c) = rms n256 (fun d => x (ix3 b s d)) (fun d => g (ix1 d)) c := by
  pointwise [nrmQ, rms, n256, eps]

theorem nrmK_apply (x : FVec Ideal S4x8192x128 .f32) (g : FVec Ideal S128 .f32) (b : Fin 4) (s : Fin 8192) (c : Fin 128) :
    nrmK x g (ix3 b s c) = rms n128 (fun d => x (ix3 b s d)) (fun d => g (ix1 d)) c := by
  pointwise [nrmK, rms, n128, eps]

theorem nrmH_apply (y : FVec Ideal S4x8192x8x96 .f32) (g : FVec Ideal S96 .f32) (b : Fin 4) (s : Fin 8192) (h : Fin 8) (e : Fin 96) :
    nrmH y g (ix4 b s h e) = rms n96 (fun d => y (ix4 b s h d)) (fun d => g (ix1 d)) e := by
  pointwise [nrmH, rms, n96, eps]

theorem hn4_apply (y : FVec Ideal S4x8192x4x64 .f32) (g : FVec Ideal S64 .f32) (b : Fin 4) (s : Fin 8192) (h : Fin 4) (d : Fin 64) :
    hn4 y g (ix4 b s h d) = rms n64 (fun d => y (ix4 b s h d)) (fun d => g (ix1 d)) d := by
  pointwise [hn4, rms, n64, eps]

theorem hn2_apply (y : FVec Ideal S4x8192x2x64 .f32) (g : FVec Ideal S64 .f32) (b : Fin 4) (s : Fin 8192) (h : Fin 2) (d : Fin 64) :
    hn2 y g (ix4 b s h d) = rms n64 (fun d => y (ix4 b s h d)) (fun d => g (ix1 d)) d := by
  pointwise [hn2, rms, n64, eps]

theorem proj_apply (x : FVec Ideal S4x8192x1024 .f32) (g : FVec Ideal S1024 .f32) (w : FVec Ideal S1024x1696 .f32) (b : Fin 4) (s : Fin 8192) (e : Fin 1696) :
    proj x g w (ix3 b s e) = lin (rms n1024 (fun d => x (ix3 b s d)) fun d => g (ix1 d)) (fun d e => w (ix2 d e)) e := by
  refine Eq.trans (b := lin (fun d => nrm x g (ix3 b s d)) (fun d e => w (ix2 d e)) e) (by pointwise [proj, lin]) ?_
  simp only [nrm_apply]

theorem qA_apply (z : FVec Ideal S4x8192x1696 .f32) (g : FVec Ideal S256 .f32) (w : FVec Ideal S256x768 .f32) (b : Fin 4) (s : Fin 8192) (h : Fin 8) (e : Fin 96) :
    qA z g w (ix4 b s h e) = qF (fun e => z (ix3 b s e)) (fun d => g (ix1 d)) (fun d e => w (ix2 d e)) h e := by
  refine (shapeCast_apply _ _ _ (ix3 b s (⟨96 * h.val + e.val, by omega⟩ : Fin 768)) ?_).trans ?_
  · rw [Shape.rowMajor_val_four, Shape.rowMajor_val_three]
    show (b.val * 8192 + s.val) * 768 + (96 * h.val + e.val) = ((b.val * 8192 + s.val) * 8 + h.val) * 96 + e.val
    omega
  · refine Eq.trans (b := lin (fun d => nrmQ (extractStridedSlice S4x8192x256 ![0, 0, 0] (za z) slices_S4x8192x416_S4x8192x256_0_0_0) g (ix3 b s d))
      (fun d e => w (ix2 d e)) ⟨96 * h.val + e.val, by omega⟩) (by pointwise [lin]) ?_
    simp only [nrmQ_apply]
    have hz : (fun d : Fin 256 => extractStridedSlice S4x8192x256 ![0, 0, 0] (za z) slices_S4x8192x416_S4x8192x256_0_0_0 (ix3 b s d))
        = fun c => z (ix3 b s ⟨c.val, by omega⟩) := funext fun d => by pointwise [za]
    rw [hz]
    rfl

theorem kvA_apply (z : FVec Ideal S4x8192x1696 .f32) (g : FVec Ideal S128 .f32) (w : FVec Ideal S128x1024 .f32) (b : Fin 4) (s : Fin 8192) (h : Fin 8) (e : Fin 128) :
    kvA z g w (ix4 b s h e) = kvF (fun e => z (ix3 b s e)) (fun d => g (ix1 d)) (fun d e => w (ix2 d e)) h e := by
  refine (shapeCast_apply _ _ _ (ix3 b s (⟨128 * h.val + e.val, by omega⟩ : Fin 1024)) ?_).trans ?_
  · rw [Shape.rowMajor_val_four, Shape.rowMajor_val_three]
    show (b.val * 8192 + s.val) * 1024 + (128 * h.val + e.val) = ((b.val * 8192 + s.val) * 8 + h.val) * 128 + e.val
    omega
  · refine Eq.trans (b := lin (fun d => nrmK (extractStridedSlice S4x8192x128 ![0, 0, 256] (za z) slices_S4x8192x416_S4x8192x128_0_0_256) g (ix3 b s d))
      (fun d e => w (ix2 d e)) ⟨128 * h.val + e.val, by omega⟩) (by pointwise [lin]) ?_
    simp only [nrmK_apply]
    have hz : (fun d : Fin 128 => extractStridedSlice S4x8192x128 ![0, 0, 256] (za z) slices_S4x8192x416_S4x8192x128_0_0_256 (ix3 b s d))
        = fun c => z (ix3 b s ⟨256 + c.val, by omega⟩) := funext fun d => by pointwise [za]
    rw [hz]
    rfl

theorem kA_apply (z : FVec Ideal S4x8192x1696 .f32) (kv : FVec Ideal S4x8192x8x128 .f32) (b : Fin 4) (s : Fin 8192) (h : Fin 8) (e : Fin 96) :
    kA z kv (ix4 b s h e) = if h' : e.val < 64 then kv (ix4 b s h ⟨e.val, by omega⟩) else z (ix3 b s ⟨384 + (e.val - 64), by omega⟩) := by
  pointwise [kA, za]

/-- The turned features, counted from the sixty-fourth. -/
def turn' (c s : Fin 16 → EReal) (f : Fin 96 → EReal) (e : Fin 96) : EReal :=
  if h : e.val < 64 then f ⟨e.val, e.isLt⟩
  else if h' : e.val - 64 < 16 then
    f ⟨64 + (e.val - 64), by omega⟩ * c ⟨e.val - 64, h'⟩ - f ⟨64 + (16 + (e.val - 64)), by omega⟩ * s ⟨e.val - 64, h'⟩
  else f ⟨64 + (e.val - 64 - 16), by omega⟩ * s ⟨e.val - 64 - 16, by omega⟩ + f ⟨64 + (16 + (e.val - 64 - 16)), by omega⟩ * c ⟨e.val - 64 - 16, by omega⟩

theorem turn'_eq (c s : Fin 16 → EReal) (f : Fin 96 → EReal) (e : Fin 96) : turn' c s f e = turn c s f e := by
  have hf : ∀ (i j : ℕ) (hi : i < 96) (hj : j < 96), i = j → f ⟨i, hi⟩ = f ⟨j, hj⟩ := fun i j hi hj h => by subst h; rfl
  unfold turn' turn
  split_ifs with h h'
  · rfl
  · rw [hf (64 + (e.val - 64)) e.val (by omega) e.isLt (by omega), hf (64 + (16 + (e.val - 64))) (e.val + 16) (by omega) (by omega) (by omega)]
  · rw [hf (64 + (e.val - 64 - 16)) (e.val - 16) (by omega) (by omega) (by omega), hf (64 + (16 + (e.val - 64 - 16))) e.val (by omega) e.isLt (by omega)]

theorem turned_apply (c s : FVec Ideal S8192x16 .f32) (y : FVec Ideal S4x8192x8x96 .f32) (b : Fin 4) (i : Fin 8192) (h : Fin 8) (e : Fin 96) :
    turned c s y (ix4 b i h e) = turn (fun j => c (ix2 i j)) (fun j => s (ix2 i j)) (fun e => y (ix4 b i h e)) e := by
  refine Eq.trans (b := turn' (fun j => c (ix2 i j)) (fun j => s (ix2 i j)) (fun e => y (ix4 b i h e)) e)
    (by pointwise [turned, cutA, cutB, over, turn']) (turn'_eq _ _ _ e)

theorem lanes_apply (y : FVec Ideal S4x8192x8x96 .f32) (b : Fin 4) (i : Fin 8192) (h : Fin 8) (l : Fin 128) :
    lanes y (ix4 b i h l) = spread (fun e => y (ix4 b i h e)) l := by
  exact Eq.trans (b := laid (fun e => y (ix4 b i h e)) l) (by pointwise [lanes, laid]) (congrFun (laid_eq _) l)

theorem cols_apply (y : FVec Ideal S4x16x512x512 .f32) (b : Fin 4) (i : Fin 16) (e r : Fin 512) : cols y (ix4 b i e r) = y (ix4 b i r e) := by
  pointwise [cols]

theorem vals_apply (y : FVec Ideal S4x8192x8x128 .f32) (b : Fin 4) (i : Fin 16) (r e : Fin 512) :
    vals y (ix4 b i r e) = y (ix4 b (⟨512 * i.val + r.val, by omega⟩ : Fin 8192) (⟨e.val / 64, by omega⟩ : Fin 8) (⟨64 + e.val % 64, by omega⟩ : Fin 128)) := by
  refine (shapeCast_apply _ _ _ (ix4 b (⟨512 * i.val + r.val, by omega⟩ : Fin 8192) (⟨e.val / 64, by omega⟩ : Fin 8) (⟨e.val % 64, by omega⟩ : Fin 64)) ?_).trans
    (by pointwise [])
  rw [Shape.rowMajor_val_four, Shape.rowMajor_val_four]
  show ((b.val * 8192 + (512 * i.val + r.val)) * 8 + e.val / 64) * 64 + e.val % 64 = ((b.val * 16 + i.val) * 512 + r.val) * 512 + e.val
  omega

theorem flat_apply (y : FVec Ideal S4x8192x4x64 .f32) (b : Fin 4) (s : Fin 8192) (l : Fin 256) : flat y (ix3 b s l) = y (ix4 b s (hd l) (pl l)) := by
  refine shapeCast_apply _ _ _ (ix4 b s (hd l) (pl l)) ?_
  rw [Shape.rowMajor_val_four, Shape.rowMajor_val_three]
  show ((b.val * 8192 + s.val) * 4 + l.val / 64) * 64 + l.val % 64 = (b.val * 8192 + s.val) * 256 + l.val
  omega

theorem twice_apply (y : FVec Ideal S4x8192x2x64 .f32) (b : Fin 4) (s : Fin 8192) (l : Fin 256) :
    twice y (ix3 b s l) = y (ix4 b s (⟨l.val / 128, by omega⟩ : Fin 2) (pl l)) := by
  refine (shapeCast_apply _ _ _ (ix5 b s (⟨l.val / 128, by omega⟩ : Fin 2) (⟨l.val / 64 % 2, by omega⟩ : Fin 2) (pl l)) ?_).trans (by pointwise [])
  rw [Shape.rowMajor_val_five, Shape.rowMajor_val_three]
  show (((b.val * 8192 + s.val) * 2 + l.val / 128) * 2 + l.val / 64 % 2) * 64 + l.val % 64 = (b.val * 8192 + s.val) * 256 + l.val
  omega

/-! ## The results -/

section Results
variable (x : FVec Ideal S4x8192x1024 .f32) (g : FVec Ideal S1024 .f32) (w : FVec Ideal S1024x1696 .f32)

/-- A projected token. -/
def tok (b : Fin 4) (s : Fin 8192) : Fin 1696 → EReal := lin (rms n1024 (fun d => x (ix3 b s d)) fun d => g (ix1 d)) fun d e => w (ix2 d e)

theorem tok_eq (b : Fin 4) (s : Fin 8192) : (fun e => proj x g w (ix3 b s e)) = tok x g w b s := funext fun e => proj_apply x g w b s e

/-- The queries of the latent attention, -/
def oq (qn : FVec Ideal S256 .f32) (wq : FVec Ideal S256x768 .f32) (qg : FVec Ideal S96 .f32) : FVec Ideal S4x16x8x128x512 .f32 :=
  transpose S4x16x8x128x512 [0, 1, 3, 4, 2] (shapeCast S4x16x512x8x128
    (lanes (turned (Host.cos ang) (Host.sin ang) (nrmH (qA (proj x g w) qn wq) qg))) shapeCasts_S4x8192x8x128_S4x16x512x8x128)
    transposes_S4x16x512x8x128_S4x16x8x128x512_0_1_3_4_2
/-- its keys -/
def ok (kn : FVec Ideal S128 .f32) (wkv : FVec Ideal S128x1024 .f32) (kg : FVec Ideal S96 .f32) : FVec Ideal S4x8x8192x128 .bf16 :=
  truncf .bf16 (transpose S4x8x8192x128 [0, 2, 1, 3]
    (lanes (turned (Host.cos ang) (Host.sin ang) (nrmH (kA (proj x g w) (kvA (proj x g w) kn wkv)) kg)))
    transposes_S4x8192x8x128_S4x8x8192x128_0_2_1_3) bitsLt_bf16_f32
/-- and values; -/
def ov (kn : FVec Ideal S128 .f32) (wkv : FVec Ideal S128x1024 .f32) : FVec Ideal S4x16x512x512 .bf16 :=
  truncf .bf16 (cols (vals (kvA (proj x g w) kn wkv))) bitsLt_bf16_f32
/-- the queries of the sliding window, -/
def osq (ga : FVec Ideal S64 .f32) : FVec Ideal S4x8192x256 .bf16 :=
  truncf .bf16 (eighths (flat (hn4 (shapeCast S4x8192x4x64
    (extractStridedSlice S4x8192x256 ![0, 0, 0] (zb (proj x g w)) slices_S4x8192x512_S4x8192x256_0_0_0) shapeCasts_S4x8192x256_S4x8192x4x64) ga)))
    bitsLt_bf16_f32
/-- its keys -/
def osk (ga : FVec Ideal S64 .f32) : FVec Ideal S4x8192x256 .bf16 :=
  truncf .bf16 (twice (hn2 (shapeCast S4x8192x2x64
    (extractStridedSlice S4x8192x128 ![0, 0, 256] (zb (proj x g w)) slices_S4x8192x512_S4x8192x128_0_0_256) shapeCasts_S4x8192x128_S4x8192x2x64) ga))
    bitsLt_bf16_f32
/-- and values; -/
def osv : FVec Ideal S4x8192x256 .bf16 :=
  truncf .bf16 (twice (shapeCast S4x8192x2x64
    (extractStridedSlice S4x8192x128 ![0, 0, 384] (zb (proj x g w)) slices_S4x8192x512_S4x8192x128_0_0_384) shapeCasts_S4x8192x128_S4x8192x2x64))
    bitsLt_bf16_f32
/-- the queries of the neighbourhoods, -/
def onq (ga : FVec Ideal S64 .f32) : FVec Ideal S4x8192x256 .bf16 :=
  truncf .bf16 (eighths (flat (hn4 (shapeCast S4x8192x4x64
    (extractStridedSlice S4x8192x256 ![0, 0, 0] (zc (proj x g w)) slices_S4x8192x768_S4x8192x256_0_0_0) shapeCasts_S4x8192x256_S4x8192x4x64) ga)))
    bitsLt_bf16_f32
/-- their keys -/
def onk (ga : FVec Ideal S64 .f32) : FVec Ideal S4x8192x256 .bf16 :=
  truncf .bf16 (flat (hn4 (shapeCast S4x8192x4x64
    (extractStridedSlice S4x8192x256 ![0, 0, 256] (zc (proj x g w)) slices_S4x8192x768_S4x8192x256_0_0_256) shapeCasts_S4x8192x256_S4x8192x4x64) ga))
    bitsLt_bf16_f32
/-- and values. -/
def onv : FVec Ideal S4x8192x256 .bf16 :=
  truncf .bf16 (extractStridedSlice S4x8192x256 ![0, 0, 512] (zc (proj x g w)) slices_S4x8192x768_S4x8192x256_0_0_512) bitsLt_bf16_f32

/-- A position's sixteen cosines -/
def cosA (s : Fin 8192) (j : Fin 16) : EReal := Host.cos ang (ix2 s j)
/-- and sines. -/
def sinA (s : Fin 8192) (j : Fin 16) : EReal := Host.sin ang (ix2 s j)

theorem oq_apply (qn : FVec Ideal S256 .f32) (wq : FVec Ideal S256x768 .f32) (qg : FVec Ideal S96 .f32) (b : Fin 4) (i : Fin 16) (h : Fin 8)
    (l : Fin 128) (r : Fin 512) :
    oq x g w qn wq qg (ix5 b i h l r) = qOut (cosA ⟨512 * i.val + r.val, by omega⟩) (sinA ⟨512 * i.val + r.val, by omega⟩)
      (tok x g w b ⟨512 * i.val + r.val, by omega⟩) (fun d => qn (ix1 d)) (fun d e => wq (ix2 d e)) (fun e => qg (ix1 e)) h l := by
  refine (transpose_apply _ _ _ _ (ix5 b i r h l) (fun a => by fin_cases a <;> rfl)).trans
    ((shapeCast_apply _ _ _ (ix4 b (⟨512 * i.val + r.val, by omega⟩ : Fin 8192) h l) ?_).trans ?_)
  · rw [Shape.rowMajor_val_four, Shape.rowMajor_val_five]
    show ((b.val * 8192 + (512 * i.val + r.val)) * 8 + h.val) * 128 + l.val = (((b.val * 16 + i.val) * 512 + r.val) * 8 + h.val) * 128 + l.val
    omega
  · rw [lanes_apply]
    simp only [turned_apply, nrmH_apply, qA_apply, tok_eq]
    rfl

theorem ok_apply (kn : FVec Ideal S128 .f32) (wkv : FVec Ideal S128x1024 .f32) (kg : FVec Ideal S96 .f32) (b : Fin 4) (h : Fin 8) (s : Fin 8192)
    (l : Fin 128) :
    ok x g w kn wkv kg (ix4 b h s l) = kOut (cosA s) (sinA s) (tok x g w b s) (fun d => kn (ix1 d)) (fun d e => wkv (ix2 d e)) (fun e => kg (ix1 e)) h l := by
  refine (transpose_apply [0, 2, 1, 3]
    (lanes (turned (Host.cos ang) (Host.sin ang) (nrmH (kA (proj x g w) (kvA (proj x g w) kn wkv)) kg)))
    transposes_S4x8192x8x128_S4x8x8192x128_0_2_1_3 (ix4 b h s l) (ix4 b s h l) (fun a => by fin_cases a <;> rfl)).trans ?_
  rw [lanes_apply]
  simp only [turned_apply, nrmH_apply, kA_apply, kvA_apply, tok_eq]
  have ht : ∀ e, proj x g w (ix3 b s e) = tok x g w b s e := proj_apply x g w b s
  simp only [ht]
  rfl

theorem ov_apply (kn : FVec Ideal S128 .f32) (wkv : FVec Ideal S128x1024 .f32) (b : Fin 4) (i : Fin 16) (e r : Fin 512) :
    ov x g w kn wkv (ix4 b i e r)
      = vOut (tok x g w b ⟨512 * i.val + r.val, by omega⟩) (fun d => kn (ix1 d)) (fun d e => wkv (ix2 d e)) e := by
  show cols (vals (kvA (proj x g w) kn wkv)) (ix4 b i e r) = _
  refine (cols_apply _ b i e r).trans ((vals_apply _ b i r e).trans ?_)
  rw [kvA_apply, tok_eq]
  rfl

/-- A normalized head of four from a slice of the projected tokens. -/
theorem four_apply (y : FVec Ideal S4x8192x256 .f32) (ga : FVec Ideal S64 .f32) (o : ℕ) (ho : o + 256 ≤ 1696) (b : Fin 4) (s : Fin 8192)
    (hy : ∀ l : Fin 256, y (ix3 b s l) = tok x g w b s ⟨o + l.val, by omega⟩) (l : Fin 256) :
    flat (hn4 (shapeCast S4x8192x4x64 y shapeCasts_S4x8192x256_S4x8192x4x64) ga) (ix3 b s l)
      = nOut (tok x g w b s) (o + 64 * (hd l).val) (by have := (hd l).isLt; omega) (fun d => ga (ix1 d)) (pl l) := by
  rw [flat_apply, hn4_apply]
  refine congrArg (fun f => rms n64 f _ _) (funext fun d => (shapeCast_apply _ _ _ (ix3 b s (lane (hd l) d)) ?_).trans ((hy _).trans ?_))
  · rw [Shape.rowMajor_val_three, Shape.rowMajor_val_four]
    show (b.val * 8192 + s.val) * 256 + (64 * (hd l).val + d.val) = ((b.val * 8192 + s.val) * 4 + (hd l).val) * 64 + d.val
    omega
  · exact congrArg (tok x g w b s) (Fin.ext (by show o + (64 * (hd l).val + d.val) = o + 64 * (hd l).val + d.val; omega))

/-- A head of two from a slice of the projected tokens. -/
theorem two_apply (y : FVec Ideal S4x8192x128 .f32) (o : ℕ) (ho : o + 128 ≤ 1696) (b : Fin 4) (s : Fin 8192)
    (hy : ∀ l : Fin 128, y (ix3 b s l) = tok x g w b s ⟨o + l.val, by omega⟩) (h : Fin 2) (d : Fin 64) :
    shapeCast S4x8192x2x64 y shapeCasts_S4x8192x128_S4x8192x2x64 (ix4 b s h d) = seg (tok x g w b s) (o + 64 * h.val) (by omega) d := by
  refine (shapeCast_apply _ _ _ (ix3 b s (⟨64 * h.val + d.val, by omega⟩ : Fin 128)) ?_).trans ((hy _).trans ?_)
  · rw [Shape.rowMajor_val_three, Shape.rowMajor_val_four]
    show (b.val * 8192 + s.val) * 128 + (64 * h.val + d.val) = ((b.val * 8192 + s.val) * 2 + h.val) * 64 + d.val
    omega
  · exact congrArg (tok x g w b s) (Fin.ext (by show o + (64 * h.val + d.val) = o + 64 * h.val + d.val; omega))

theorem zb_apply (b : Fin 4) (s : Fin 8192) (e : Fin 512) : zb (proj x g w) (ix3 b s e) = tok x g w b s ⟨416 + e.val, by omega⟩ :=
  Eq.trans (b := proj x g w (ix3 b s ⟨416 + e.val, by omega⟩)) (by pointwise [zb]) (proj_apply x g w b s _)

theorem zc_apply (b : Fin 4) (s : Fin 8192) (e : Fin 768) : zc (proj x g w) (ix3 b s e) = tok x g w b s ⟨928 + e.val, by omega⟩ :=
  Eq.trans (b := proj x g w (ix3 b s ⟨928 + e.val, by omega⟩)) (by pointwise [zc]) (proj_apply x g w b s _)

theorem eighths_apply (y : FVec Ideal S4x8192x256 .f32) (i : S4x8192x256.Idx) : eighths y i = y i * eighth := by pointwise [eighths, eighth]

theorem osq_apply (ga : FVec Ideal S64 .f32) (b : Fin 4) (s : Fin 8192) (l : Fin 256) :
    osq x g w ga (ix3 b s l)
      = nOut (tok x g w b s) (416 + 64 * (hd l).val) (by have := (hd l).isLt; omega) (fun d => ga (ix1 d)) (pl l) * eighth :=
  (eighths_apply _ _).trans (congrArg (· * eighth) (four_apply x g w _ ga 416 (by decide) b s (fun l =>
    Eq.trans (b := zb (proj x g w) (ix3 b s ⟨l.val, by omega⟩)) (by pointwise []) (zb_apply x g w b s _)) l))

theorem onq_apply (ga : FVec Ideal S64 .f32) (b : Fin 4) (s : Fin 8192) (l : Fin 256) :
    onq x g w ga (ix3 b s l)
      = nOut (tok x g w b s) (928 + 64 * (hd l).val) (by have := (hd l).isLt; omega) (fun d => ga (ix1 d)) (pl l) * eighth :=
  (eighths_apply _ _).trans (congrArg (· * eighth) (four_apply x g w _ ga 928 (by decide) b s (fun l =>
    Eq.trans (b := zc (proj x g w) (ix3 b s ⟨l.val, by omega⟩)) (by pointwise []) (zc_apply x g w b s _)) l))

theorem onk_apply (ga : FVec Ideal S64 .f32) (b : Fin 4) (s : Fin 8192) (l : Fin 256) :
    onk x g w ga (ix3 b s l)
      = nOut (tok x g w b s) (1184 + 64 * (hd l).val) (by have := (hd l).isLt; omega) (fun d => ga (ix1 d)) (pl l) :=
  four_apply x g w _ ga 1184 (by decide) b s (fun l =>
    (Eq.trans (b := zc (proj x g w) (ix3 b s ⟨256 + l.val, by omega⟩)) (by pointwise []) (zc_apply x g w b s _)).trans
      (congrArg (tok x g w b s) (Fin.ext (by show 928 + (256 + l.val) = 1184 + l.val; omega)))) l

theorem onv_apply (b : Fin 4) (s : Fin 8192) (l : Fin 256) : onv x g w (ix3 b s l) = tok x g w b s ⟨1440 + l.val, by omega⟩ :=
  (Eq.trans (b := zc (proj x g w) (ix3 b s ⟨512 + l.val, by omega⟩)) (by pointwise [onv]) (zc_apply x g w b s _)).trans
    (congrArg (tok x g w b s) (Fin.ext (by show 928 + (512 + l.val) = 1440 + l.val; omega)))

theorem osk_apply (ga : FVec Ideal S64 .f32) (b : Fin 4) (s : Fin 8192) (l : Fin 256) :
    osk x g w ga (ix3 b s l) = nOut (tok x g w b s) (672 + 64 * (l.val / 128)) (by omega) (fun d => ga (ix1 d)) (pl l) := by
  refine (twice_apply _ b s l).trans ((hn2_apply _ ga b s _ _).trans ?_)
  refine congrArg (fun f => rms n64 f _ _) (funext fun d => two_apply x g w _ 672 (by decide) b s (fun l =>
    (Eq.trans (b := zb (proj x g w) (ix3 b s ⟨256 + l.val, by omega⟩)) (by pointwise []) (zb_apply x g w b s _)).trans
      (congrArg (tok x g w b s) (Fin.ext (by show 416 + (256 + l.val) = 672 + l.val; omega)))) _ d)

theorem osv_apply (b : Fin 4) (s : Fin 8192) (l : Fin 256) :
    osv x g w (ix3 b s l) = seg (tok x g w b s) (800 + 64 * (l.val / 128)) (by omega) (pl l) := by
  show twice (shapeCast S4x8192x2x64
    (extractStridedSlice S4x8192x128 ![0, 0, 384] (zb (proj x g w)) slices_S4x8192x512_S4x8192x128_0_0_384) shapeCasts_S4x8192x128_S4x8192x2x64) (ix3 b s l) = _
  refine (twice_apply _ b s l).trans ?_
  exact two_apply x g w _ 800 (by decide) b s (fun l =>
    (Eq.trans (b := zb (proj x g w) (ix3 b s ⟨384 + l.val, by omega⟩)) (by pointwise []) (zb_apply x g w b s _)).trans
      (congrArg (tok x g w b s) (Fin.ext (by show 416 + (384 + l.val) = 800 + l.val; omega)))) ⟨l.val / 128, by omega⟩ (pl l)

end Results

/-! ## The run -/

open Idealize.ShloMosaic.TcCoe Idealize.SL.Sem in
/-- The reference's run: its nine results, its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v143)
        = oq (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg7))
      ∧ r.2.mem ((c.tc : Thread nD τ).loc main_v229)
        = ok (m ((c.tc : Thread nD τ).loc main_arg0)) (m ((c.tc : Thread nD τ).loc main_arg1)) (m ((c.tc : Thread nD τ).loc main_arg2))
            (m ((c.tc : Thread nD τ).loc main_arg5)) (m ((c.tc : Thread nD τ).loc main_arg6)) (m ((c.tc : Thread nD τ).loc main_arg8))
      ∧ r.2.mem ((c.tc : Thread nD τ).loc main_v230)
        = ov (m ((c.tc : Thread nD τ).loc main_arg0)) (m ((c.tc : Thread nD τ).loc main_arg1)) (m ((c.tc : Thread nD τ).loc main_arg2))
            (m ((c.tc : Thread nD τ).loc main_arg5)) (m ((c.tc : Thread nD τ).loc main_arg6))
      ∧ r.2.mem ((c.tc : Thread nD τ).loc main_v231)
        = osq (m ((c.tc : Thread nD τ).loc main_arg0)) (m ((c.tc : Thread nD τ).loc main_arg1)) (m ((c.tc : Thread nD τ).loc main_arg2))
            (m ((c.tc : Thread nD τ).loc main_arg9))
      ∧ r.2.mem ((c.tc : Thread nD τ).loc main_v232)
        = osk (m ((c.tc : Thread nD τ).loc main_arg0)) (m ((c.tc : Thread nD τ).loc main_arg1)) (m ((c.tc : Thread nD τ).loc main_arg2))
            (m ((c.tc : Thread nD τ).loc main_arg10))
      ∧ r.2.mem ((c.tc : Thread nD τ).loc main_v233)
        = osv (m ((c.tc : Thread nD τ).loc main_arg0)) (m ((c.tc : Thread nD τ).loc main_arg1)) (m ((c.tc : Thread nD τ).loc main_arg2))
      ∧ r.2.mem ((c.tc : Thread nD τ).loc main_v234)
        = onq (m ((c.tc : Thread nD τ).loc main_arg0)) (m ((c.tc : Thread nD τ).loc main_arg1)) (m ((c.tc : Thread nD τ).loc main_arg2))
            (m ((c.tc : Thread nD τ).loc main_arg11))
      ∧ r.2.mem ((c.tc : Thread nD τ).loc main_v235)
        = onk (m ((c.tc : Thread nD τ).loc main_arg0)) (m ((c.tc : Thread nD τ).loc main_arg1)) (m ((c.tc : Thread nD τ).loc main_arg2))
            (m ((c.tc : Thread nD τ).loc main_arg12))
      ∧ r.2.mem ((c.tc : Thread nD τ).loc main_v236)
        = onv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c).1.trans rfl, (h c).2.1.trans rfl, (h c).2.2.1.trans rfl, (h c).2.2.2.1.trans rfl,
    (h c).2.2.2.2.1.trans rfl, (h c).2.2.2.2.2.1.trans rfl, (h c).2.2.2.2.2.2.1.trans rfl, (h c).2.2.2.2.2.2.2.1.trans rfl,
    (h c).2.2.2.2.2.2.2.2.1.trans rfl, (h c).2.2.2.2.2.2.2.2.2⟩) (Cert.Reference4Ideal.Value.run m ρ)

end Cert.Reference4Ideal.Hand

end
-- ==== Proof.Prep.Host.lean ====
module

public import proofs.«01_k».proof.Proof.Prep.Row
public import proofs.«01_k».proof.Proof.Gen.Kernel4Ideal.Skeleton
public import Idealize.ShloMosaic.Lib.Pipeline.Value
public import Idealize.ShloMosaic.Lib.KernelVsHost

@[expose] public section

set_option maxRecDepth 16384

noncomputable section

namespace Cert.Kernel4Ideal.Hand

open Cert.Kernel4Ideal Cert.Kernel4Ideal.Gen
open Idealize.ShloMosaic
open Cert.Row

/-! ## The heads' lanes -/

/-- The columns of the shared keys in a head's lanes, -/
def laneM (y : FVec Ideal S1024x96 .f32) : FVec Ideal S1024x128 .f32 :=
  concatenate S1024x128 1 [⟨S1024x16, extractStridedSlice S1024x16 ![0, 80] y slices_S1024x96_S1024x16_0_80⟩, ⟨S1024x48, extractStridedSlice S1024x48 ![0, 0] y slices_S1024x96_S1024x48_0_0⟩,
    ⟨S1024x16, extractStridedSlice S1024x16 ![0, 64] y slices_S1024x96_S1024x16_0_64⟩, ⟨S1024x16, extractStridedSlice S1024x16 ![0, 48] y slices_S1024x96_S1024x16_0_48⟩,
    ⟨S1024x32, broadcastInDim S1024x32 ![] bcast_S_S1024x32 (constant S_ .f32 0x00000000#32)⟩]
    concatenates_S1024x16_S1024x48_S1024x16_S1024x16_S1024x32_S1024x128_d1

theorem laneM_apply (y : FVec Ideal S1024x96 .f32) (d : Fin 1024) (l : Fin 128) : laneM y (ix2 d l) = spread (fun e => y (ix2 d e)) l :=
  Eq.trans (b := laid (fun e => y (ix2 d e)) l) (by pointwise [laneM, laid]) (congrFun (laid_eq _) l)

/-- the queries', -/
def laneU (y : FVec Ideal S256x8x96 .f32) : FVec Ideal S256x8x128 .f32 :=
  concatenate S256x8x128 2 [⟨S256x8x16, extractStridedSlice S256x8x16 ![0, 0, 80] y slices_S256x8x96_S256x8x16_0_0_80⟩, ⟨S256x8x48, extractStridedSlice S256x8x48 ![0, 0, 0] y slices_S256x8x96_S256x8x48_0_0_0⟩,
    ⟨S256x8x16, extractStridedSlice S256x8x16 ![0, 0, 64] y slices_S256x8x96_S256x8x16_0_0_64⟩, ⟨S256x8x16, extractStridedSlice S256x8x16 ![0, 0, 48] y slices_S256x8x96_S256x8x16_0_0_48⟩,
    ⟨S256x8x32, broadcastInDim S256x8x32 ![] bcast_S_S256x8x32 (constant S_ .f32 0x00000000#32)⟩]
    concatenates_S256x8x16_S256x8x48_S256x8x16_S256x8x16_S256x8x32_S256x8x128_d2

theorem laneU_apply (y : FVec Ideal S256x8x96 .f32) (d : Fin 256) (h : Fin 8) (l : Fin 128) : laneU y (ix3 d h l) = spread (fun e => y (ix3 d h e)) l :=
  Eq.trans (b := laid (fun e => y (ix3 d h e)) l) (by pointwise [laneU, laid]) (congrFun (laid_eq _) l)

/-- the keys', -/
def laneW (y : FVec Ideal S128x8x96 .f32) : FVec Ideal S128x8x128 .f32 :=
  concatenate S128x8x128 2 [⟨S128x8x16, extractStridedSlice S128x8x16 ![0, 0, 80] y slices_S128x8x96_S128x8x16_0_0_80⟩, ⟨S128x8x48, extractStridedSlice S128x8x48 ![0, 0, 0] y slices_S128x8x96_S128x8x48_0_0_0⟩,
    ⟨S128x8x16, extractStridedSlice S128x8x16 ![0, 0, 64] y slices_S128x8x96_S128x8x16_0_0_64⟩, ⟨S128x8x16, extractStridedSlice S128x8x16 ![0, 0, 48] y slices_S128x8x96_S128x8x16_0_0_48⟩,
    ⟨S128x8x32, broadcastInDim S128x8x32 ![] bcast_S_S128x8x32 (constant S_ .f32 0x00000000#32)⟩]
    concatenates_S128x8x16_S128x8x48_S128x8x16_S128x8x16_S128x8x32_S128x8x128_d2

theorem laneW_apply (y : FVec Ideal S128x8x96 .f32) (d : Fin 128) (h : Fin 8) (l : Fin 128) : laneW y (ix3 d h l) = spread (fun e => y (ix3 d h e)) l :=
  Eq.trans (b := laid (fun e => y (ix3 d h e)) l) (by pointwise [laneW, laid]) (congrFun (laid_eq _) l)

/-- the gains' -/
def laneG (y : FVec Ideal S1x96 .f32) : FVec Ideal S1x128 .f32 :=
  concatenate S1x128 1 [⟨S1x16, extractStridedSlice S1x16 ![0, 80] y slices_S1x96_S1x16_0_80⟩, ⟨S1x48, extractStridedSlice S1x48 ![0, 0] y slices_S1x96_S1x48_0_0⟩,
    ⟨S1x16, extractStridedSlice S1x16 ![0, 64] y slices_S1x96_S1x16_0_64⟩, ⟨S1x16, extractStridedSlice S1x16 ![0, 48] y slices_S1x96_S1x16_0_48⟩,
    ⟨S1x32, broadcastInDim S1x32 ![] bcast_S_S1x32 (constant S_ .f32 0x00000000#32)⟩]
    concatenates_S1x16_S1x48_S1x16_S1x16_S1x32_S1x128_d1

theorem laneG_apply (y : FVec Ideal S1x96 .f32) (l : Fin 128) : laneG y (ix2 0 l) = spread (fun e => y (ix2 0 e)) l :=
  Eq.trans (b := laid (fun e => y (ix2 0 e)) l) (by pointwise [laneG, laid]) (congrFun (laid_eq _) l)

/-- and the positions'. -/
def laneT (y : FVec Ideal S8192x96 .f32) : FVec Ideal S8192x128 .f32 :=
  concatenate S8192x128 1 [⟨S8192x16, extractStridedSlice S8192x16 ![0, 80] y slices_S8192x96_S8192x16_0_80⟩, ⟨S8192x48, extractStridedSlice S8192x48 ![0, 0] y slices_S8192x96_S8192x48_0_0⟩,
    ⟨S8192x16, extractStridedSlice S8192x16 ![0, 64] y slices_S8192x96_S8192x16_0_64⟩, ⟨S8192x16, extractStridedSlice S8192x16 ![0, 48] y slices_S8192x96_S8192x16_0_48⟩,
    ⟨S8192x32, broadcastInDim S8192x32 ![] bcast_S_S8192x32 (constant S_ .f32 0x00000000#32)⟩]
    concatenates_S8192x16_S8192x48_S8192x16_S8192x16_S8192x32_S8192x128_d1

theorem laneT_apply (y : FVec Ideal S8192x96 .f32) (s : Fin 8192) (l : Fin 128) : laneT y (ix2 s l) = spread (fun e => y (ix2 s e)) l :=
  Eq.trans (b := laid (fun e => y (ix2 s e)) l) (by pointwise [laneT, laid]) (congrFun (laid_eq _) l)

/-! ## The arrays laid out before the call -/

/-- The word of no number. -/
def zero : FVec Ideal S_ .f32 := sitofp .f32 (constantI S_ 32 0#32)

theorem zero_apply (i : S_.Idx) : zero i = 0 := by
  show (((0#32 : BitVec 32).toInt : ℝ) : EReal) = 0
  simp

/-- The shared keys' columns after 64 zeros, -/
def padM (w : FVec Ideal S1024x1696 .f32) : FVec Ideal S1024x96 .f32 :=
  pad S1024x96 ![0, 64] ![0, 0] ![0, 0] (extractStridedSlice S1024x32 ![0, 384] w slices_S1024x1696_S1024x32_0_384) zero pads_S1024x32_S1024x96_000_6400 h_S_
/-- and the keys' features before 32. -/
def padW (y : FVec Ideal S128x8x64 .f32) : FVec Ideal S128x8x96 .f32 :=
  pad S128x8x96 ![0, 0, 0] ![0, 0, 32] ![0, 0, 0] y zero pads_S128x8x64_S128x8x96_000_000_0320 h_S_

theorem padM_apply (w : FVec Ideal S1024x1696 .f32) (d : Fin 1024) (e : Fin 96) :
    padM w (ix2 d e) = if e.val < 64 then 0 else w (ix2 d ⟨384 + (e.val - 64), by omega⟩) := by
  split_ifs with h
  · refine (pad_apply_of_not_inside _ _ _ _ _ _ _ (ix2 d e) 1 fun hn => ?_).trans (zero_apply _)
    have h1 : 64 ≤ e.val := hn.1
    omega
  · refine (pad_apply_of_inside _ _ _ _ _ _ _ (ix2 d e) (ix2 d (⟨e.val - 64, by omega⟩ : Fin 32)) fun a => ?_).trans (by pointwise [])
    fin_cases a
    · show d.val = 0 + d.val * (0 + 1); omega
    · show e.val = 64 + (e.val - 64) * (0 + 1); omega

theorem padW_apply (y : FVec Ideal S128x8x64 .f32) (d : Fin 128) (h : Fin 8) (e : Fin 96) :
    padW y (ix3 d h e) = if h' : e.val < 64 then y (ix3 d h ⟨e.val, h'⟩) else 0 := by
  split_ifs with h'
  · refine pad_apply_of_inside _ _ _ _ _ _ _ (ix3 d h e) (ix3 d h (⟨e.val, h'⟩ : Fin 64)) fun a => ?_
    fin_cases a
    · show d.val = 0 + d.val * (0 + 1); omega
    · show h.val = 0 + h.val * (0 + 1); omega
    · show e.val = 0 + e.val * (0 + 1); omega
  · refine (pad_apply_of_not_inside _ _ _ _ _ _ _ (ix3 d h e) 2 fun hn => ?_).trans (zero_apply _)
    have h1 : (e.val - 0) / (0 + 1) < 64 := hn.2.2
    omega

/-- The first matrix of the tokens: the compressed columns, then the shared keys' lanes, -/
def matM (w : FVec Ideal S1024x1696 .f32) : FVec Ideal S1024x512 .f32 :=
  concatenate S1024x512 1 [⟨S1024x384, extractStridedSlice S1024x384 ![0, 0] w slices_S1024x1696_S1024x384_0_0⟩, ⟨S1024x128, laneM (padM w)⟩]
    concatenates_S1024x384_S1024x128_S1024x512_d1
/-- the queries', its heads' lanes rows, -/
def matU (w : FVec Ideal S256x768 .f32) : FVec Ideal S1024x256 .f32 :=
  transpose S1024x256 [1, 0] (shapeCast S256x1024 (laneU (shapeCast S256x8x96 w shapeCasts_S256x768_S256x8x96)) shapeCasts_S256x8x128_S256x1024)
    transposes_S256x1024_S1024x256_1_0
/-- the keys', -/
def matK (w : FVec Ideal S128x1024 .f32) : FVec Ideal S128x1024 .f32 :=
  shapeCast S128x1024 (laneW (padW (extractStridedSlice S128x8x64 ![0, 0, 0] (shapeCast S128x8x128 w shapeCasts_S128x1024_S128x8x128)
    slices_S128x8x128_S128x8x64_0_0_0))) shapeCasts_S128x8x128_S128x1024
/-- the values', -/
def matV (w : FVec Ideal S128x1024 .f32) : FVec Ideal S512x128 .f32 :=
  transpose S512x128 [1, 0] (shapeCast S128x512 (extractStridedSlice S128x8x64 ![0, 0, 64] (shapeCast S128x8x128 w shapeCasts_S128x1024_S128x8x128)
    slices_S128x8x128_S128x8x64_0_0_64) shapeCasts_S128x8x64_S128x512) transposes_S128x512_S512x128_1_0
/-- two heads' columns, each twice, -/
def pairs (y : FVec Ideal S1024x128 .f32) : FVec Ideal S1024x256 .f32 :=
  shapeCast S1024x256 (shapeCast S1024x4x64 (broadcastInDim S1024x2x2x64 ![0, 1, 3] bcast_S1024x2x64_S1024x2x2x64_0_1_3
    (shapeCast S1024x2x64 y shapeCasts_S1024x128_S1024x2x64)) shapeCasts_S1024x2x2x64_S1024x4x64) shapeCasts_S1024x4x64_S1024x256
/-- the sliding window's, -/
def matS (w : FVec Ideal S1024x1696 .f32) : FVec Ideal S1024x768 .f32 :=
  concatenate S1024x768 1 [⟨S1024x256, extractStridedSlice S1024x256 ![0, 416] w slices_S1024x1696_S1024x256_0_416⟩,
    ⟨S1024x256, pairs (extractStridedSlice S1024x128 ![0, 672] w slices_S1024x1696_S1024x128_0_672)⟩,
    ⟨S1024x256, pairs (extractStridedSlice S1024x128 ![0, 800] w slices_S1024x1696_S1024x128_0_800)⟩]
    concatenates_S1024x256_S1024x256_S1024x256_S1024x768_d1
/-- and the neighbourhoods'. -/
def matN (w : FVec Ideal S1024x1696 .f32) : FVec Ideal S1024x768 .f32 := extractStridedSlice S1024x768 ![0, 928] w slices_S1024x1696_S1024x768_0_928

/-- The positions' angles, -/
def ang : FVec Ideal S8192x16 .f32 :=
  mulf (broadcastInDim S8192x16 ![0, 1] bcast_S8192x1_S8192x16_0_1 (broadcastInDim S8192x1 ![0] bcast_S8192_S8192x1_0 (sitofp .f32 (iotaInDim S8192 32 0))))
    (broadcastInDim S8192x16 ![0, 1] bcast_S1x16_S8192x16_0_1 (broadcastInDim S1x16 ![1] bcast_S16_S1x16_1
      (Host.divf (broadcastInDim S16 ![] bcast_S_S16 (constant S_ .f32 0x3F800000#32))
        (Host.powf (broadcastInDim S16 ![] bcast_S_S16 (constant S_ .f32 0x461C4000#32))
          (Host.divf (addf (broadcastInDim S16 ![] bcast_S_S16 (constant S_ .f32 0x00000000#32))
            (mulf (broadcastInDim S16 ![] bcast_S_S16 (constant S_ .f32 0x40000000#32)) (sitofp .f32 (iotaInDim S16 32 0))))
            (broadcastInDim S16 ![] bcast_S_S16 (constant S_ .f32 0x42000000#32)))))))
/-- the table of what a lane is multiplied by, -/
def tabC : FVec Ideal S8192x128 .f32 :=
  laneT (concatenate S8192x96 1 [⟨S8192x64, broadcastInDim S8192x64 ![] bcast_S_S8192x64 (constant S_ .f32 0x3F800000#32)⟩, ⟨S8192x16, Host.cos ang⟩,
    ⟨S8192x16, Host.cos ang⟩] concatenates_S8192x64_S8192x16_S8192x16_S8192x96_d1)
/-- of what the other lane is multiplied by, -/
def tabS : FVec Ideal S8192x128 .f32 :=
  laneT (concatenate S8192x96 1 [⟨S8192x64, broadcastInDim S8192x64 ![] bcast_S_S8192x64 (constant S_ .f32 0x00000000#32)⟩, ⟨S8192x16, Host.negf (Host.sin ang)⟩,
    ⟨S8192x16, Host.sin ang⟩] concatenates_S8192x64_S8192x16_S8192x16_S8192x96_d1)
/-- and a table turned over. -/
def flip (t : FVec Ideal S8192x128 .f32) : FVec Ideal S128x8192 .f32 := transpose S128x8192 [1, 0] t transposes_S8192x128_S128x8192_1_0

/-- The heads' gains over all lanes. -/
def gains (g : FVec Ideal S64 .f32) : FVec Ideal S1x256 .f32 :=
  shapeCast S1x256 (broadcastInDim S1x1x4x64 ![0, 1, 2, 3] bcast_S1x1x1x64_S1x1x4x64_0_1_2_3
    (shapeCast S1x1x1x64 (shapeCast S1x64 g shapeCasts_S64_S1x64) shapeCasts_S1x64_S1x1x1x64)) shapeCasts_S1x1x4x64_S1x256

/-- Where two lanes are of one head. -/
def alike : IVec S256x256 1 :=
  shapeCast S256x256 (broadcastInDim S4x64x4x64 ![0, 1, 2, 3] bcast_S4x1x4x1_S4x64x4x64_0_1_2_3
    (cmpi .eq (iotaInDim S4x1x4x1 32 0) (iotaInDim S4x1x4x1 32 2))) shapeCasts_S4x64x4x64_S256x256
/-- Ones there. -/
def ones : FVec Ideal S256x256 .f32 := uitofp (F := Ideal) .f32 alike

/-! ## Each at one index -/

theorem matM_lo (w : FVec Ideal S1024x1696 .f32) (d : Fin 1024) (c : Fin 384) : matM w (ix2 d ⟨c.val, by omega⟩) = w (ix2 d ⟨c.val, by omega⟩) := by
  have h : matM w (ix2 d ⟨c.val, by omega⟩) = if h : c.val < 384 then w (ix2 d ⟨c.val, by omega⟩) else laneM (padM w) (ix2 d ⟨c.val - 384, by omega⟩) := by
    pointwise [matM]
  rw [h, dif_pos c.isLt]

theorem matM_hi (w : FVec Ideal S1024x1696 .f32) (d : Fin 1024) (l : Fin 128) :
    matM w (ix2 d ⟨384 + l.val, by omega⟩) = spread (fun e => if e.val < 64 then 0 else w (ix2 d ⟨384 + (e.val - 64), by omega⟩)) l := by
  have h : matM w (ix2 d ⟨384 + l.val, by omega⟩) = if h : 384 + l.val < 384 then w (ix2 d ⟨384 + l.val, by omega⟩)
      else laneM (padM w) (ix2 d ⟨384 + l.val - 384, by omega⟩) := by
    pointwise [matM]
  rw [h, dif_neg (by omega)]
  refine (congrArg (fun i => laneM (padM w) (ix2 d i)) (Fin.ext (show 384 + l.val - 384 = l.val by omega) : (_ : Fin 128) = l)).trans ?_
  rw [laneM_apply]
  simp only [padM_apply]

theorem matU_apply (w : FVec Ideal S256x768 .f32) (h : Fin 8) (l : Fin 128) (d : Fin 256) :
    matU w (ix2 ⟨128 * h.val + l.val, by omega⟩ d) = spread (fun e => w (ix2 d ⟨96 * h.val + e.val, by omega⟩)) l := by
  refine (transpose_apply _ _ _ _ (ix2 d (⟨128 * h.val + l.val, by omega⟩ : Fin 1024)) (fun a => by fin_cases a <;> rfl)).trans
    ((shapeCast_apply _ _ _ (ix3 d h l) ?_).trans ?_)
  · rw [Shape.rowMajor_val_three, Shape.rowMajor_val_two]
    show (d.val * 8 + h.val) * 128 + l.val = d.val * 1024 + (128 * h.val + l.val)
    omega
  · rw [laneU_apply]
    refine congrArg (fun f => spread f l) (funext fun e => shapeCast_apply _ _ _ (ix2 d (⟨96 * h.val + e.val, by omega⟩ : Fin 768)) ?_)
    rw [Shape.rowMajor_val_two, Shape.rowMajor_val_three]
    show d.val * 768 + (96 * h.val + e.val) = (d.val * 8 + h.val) * 96 + e.val
    omega

/-- A head's column of the keys and values. -/
theorem head_apply (w : FVec Ideal S128x1024 .f32) (d : Fin 128) (h : Fin 8) (e : Fin 128) :
    shapeCast S128x8x128 w shapeCasts_S128x1024_S128x8x128 (ix3 d h e) = w (ix2 d ⟨128 * h.val + e.val, by omega⟩) := by
  refine shapeCast_apply _ _ _ (ix2 d (⟨128 * h.val + e.val, by omega⟩ : Fin 1024)) ?_
  rw [Shape.rowMajor_val_two, Shape.rowMajor_val_three]
  show d.val * 1024 + (128 * h.val + e.val) = (d.val * 8 + h.val) * 128 + e.val
  omega

theorem matK_apply (w : FVec Ideal S128x1024 .f32) (h : Fin 8) (l : Fin 128) (d : Fin 128) :
    matK w (ix2 d ⟨128 * h.val + l.val, by omega⟩)
      = spread (fun e => if h' : e.val < 64 then w (ix2 d ⟨128 * h.val + e.val, by omega⟩) else 0) l := by
  refine (shapeCast_apply _ _ _ (ix3 d h l) ?_).trans ?_
  · rw [Shape.rowMajor_val_three, Shape.rowMajor_val_two]
    show (d.val * 8 + h.val) * 128 + l.val = d.val * 1024 + (128 * h.val + l.val)
    omega
  · rw [laneW_apply]
    refine congrArg (fun f => spread f l) (funext fun e => (padW_apply _ d h e).trans ?_)
    split_ifs with h'
    · exact Eq.trans (b := shapeCast S128x8x128 w shapeCasts_S128x1024_S128x8x128 (ix3 d h (⟨e.val, by omega⟩ : Fin 128))) (by pointwise []) (head_apply w d h _)
    · rfl

theorem matV_apply (w : FVec Ideal S128x1024 .f32) (e : Fin 512) (d : Fin 128) :
    matV w (ix2 e d) = w (ix2 d ⟨128 * (e.val / 64) + (64 + e.val % 64), by omega⟩) := by
  refine (transpose_apply _ _ _ _ (ix2 d e) (fun a => by fin_cases a <;> rfl)).trans
    ((shapeCast_apply _ _ _ (ix3 d (⟨e.val / 64, by omega⟩ : Fin 8) (⟨e.val % 64, by omega⟩ : Fin 64)) ?_).trans ?_)
  · rw [Shape.rowMajor_val_three, Shape.rowMajor_val_two]
    show (d.val * 8 + e.val / 64) * 64 + e.val % 64 = d.val * 512 + e.val
    omega
  · exact Eq.trans (b := shapeCast S128x8x128 w shapeCasts_S128x1024_S128x8x128 (ix3 d (⟨e.val / 64, by omega⟩ : Fin 8) (⟨64 + e.val % 64, by omega⟩ : Fin 128)))
      (by pointwise []) (head_apply w d _ _)

theorem pairs_apply (y : FVec Ideal S1024x128 .f32) (d : Fin 1024) (l : Fin 256) :
    pairs y (ix2 d l) = y (ix2 d ⟨64 * (l.val / 128) + l.val % 64, by omega⟩) := by
  refine (shapeCast_apply _ _ _ (ix3 d (hd l) (pl l)) ?_).trans
    ((shapeCast_apply _ _ _ (ix4 d (⟨l.val / 128, by omega⟩ : Fin 2) (⟨l.val / 64 % 2, by omega⟩ : Fin 2) (pl l)) ?_).trans
      (Eq.trans (b := shapeCast S1024x2x64 y shapeCasts_S1024x128_S1024x2x64 (ix3 d (⟨l.val / 128, by omega⟩ : Fin 2) (pl l))) (by pointwise [])
        (shapeCast_apply _ _ _ (ix2 d (⟨64 * (l.val / 128) + l.val % 64, by omega⟩ : Fin 128)) ?_)))
  · rw [Shape.rowMajor_val_three, Shape.rowMajor_val_two]
    show (d.val * 4 + l.val / 64) * 64 + l.val % 64 = d.val * 256 + l.val
    omega
  · rw [Shape.rowMajor_val_four, Shape.rowMajor_val_three]
    show ((d.val * 2 + l.val / 128) * 2 + l.val / 64 % 2) * 64 + l.val % 64 = (d.val * 4 + l.val / 64) * 64 + l.val % 64
    omega
  · rw [Shape.rowMajor_val_two, Shape.rowMajor_val_three]
    show d.val * 128 + (64 * (l.val / 128) + l.val % 64) = (d.val * 2 + l.val / 128) * 64 + l.val % 64
    omega

/-- A slice of 128 columns, its heads twice. -/
theorem pairs_at (w : FVec Ideal S1024x1696 .f32) (y : FVec Ideal S1024x128 .f32) (o : ℕ) (ho : o + 128 ≤ 1696)
    (hy : ∀ d (l : Fin 128), y (ix2 d l) = w (ix2 d ⟨o + l.val, by omega⟩)) (d : Fin 1024) (l : Fin 256) :
    pairs y (ix2 d l) = w (ix2 d ⟨o + 64 * (l.val / 128) + l.val % 64, by omega⟩) :=
  (pairs_apply y d l).trans ((hy d _).trans (congrArg (fun i => w (ix2 d i)) (Fin.ext (by
    show o + (64 * (l.val / 128) + l.val % 64) = o + 64 * (l.val / 128) + l.val % 64; omega))))

theorem matS_apply (w : FVec Ideal S1024x1696 .f32) (d : Fin 1024) (l : Fin 768) :
    matS w (ix2 d l) = if h : l.val < 256 then w (ix2 d ⟨416 + l.val, by omega⟩)
      else if h' : l.val - 256 < 256 then w (ix2 d ⟨672 + 64 * ((l.val - 256) / 128) + (l.val - 256) % 64, by omega⟩)
      else w (ix2 d ⟨800 + 64 * ((l.val - 256 - 256) / 128) + (l.val - 256 - 256) % 64, by omega⟩) := by
  have e : matS w (ix2 d l) = if h : l.val < 256 then w (ix2 d ⟨416 + l.val, by omega⟩)
      else if h' : l.val - 256 < 256 then pairs (extractStridedSlice S1024x128 ![0, 672] w slices_S1024x1696_S1024x128_0_672) (ix2 d ⟨l.val - 256, h'⟩)
      else pairs (extractStridedSlice S1024x128 ![0, 800] w slices_S1024x1696_S1024x128_0_800) (ix2 d ⟨l.val - 256 - 256, by omega⟩) := by
    pointwise [matS]
  rw [e]
  split_ifs
  · rfl
  · exact pairs_at w _ 672 (by decide) (fun d l => by pointwise []) d _
  · exact pairs_at w _ 800 (by decide) (fun d l => by pointwise []) d _

theorem matN_apply (w : FVec Ideal S1024x1696 .f32) (d : Fin 1024) (l : Fin 768) : matN w (ix2 d l) = w (ix2 d ⟨928 + l.val, by omega⟩) := by
  pointwise [matN]

/-- The word of one. -/
theorem one_word : Ideal.ofBits FTy.f32 1065353216#32 = (1 : EReal) := by
  simp [Ideal.ofBits, Ideal.ieee, -EReal.coe_mul]; norm_num

theorem tabC_apply (s : Fin 8192) (l : Fin 128) : tabC (ix2 s l) = spread (cosF fun j => Host.cos ang (ix2 s j)) l := by
  rw [tabC, laneT_apply]
  refine congrArg (fun f => spread f l) (funext fun e => ?_)
  refine Eq.trans (b := if h : e.val < 64 then 1 else if h' : e.val - 64 < 16 then Host.cos ang (ix2 s ⟨e.val - 64, h'⟩)
    else Host.cos ang (ix2 s ⟨e.val - 64 - 16, by omega⟩)) (by pointwise [one_word]) ?_
  unfold cosF
  split_ifs <;> rfl

theorem tabS_apply (s : Fin 8192) (l : Fin 128) : tabS (ix2 s l) = spread (sinF fun j => Host.sin ang (ix2 s j)) l := by
  rw [tabS, laneT_apply]
  refine congrArg (fun f => spread f l) (funext fun e => ?_)
  refine Eq.trans (b := if h : e.val < 64 then 0 else if h' : e.val - 64 < 16 then -Host.sin ang (ix2 s ⟨e.val - 64, h'⟩)
    else Host.sin ang (ix2 s ⟨e.val - 64 - 16, by omega⟩)) (by pointwise []) ?_
  unfold sinF
  split_ifs <;> rfl

theorem flip_apply (t : FVec Ideal S8192x128 .f32) (s : Fin 8192) (l : Fin 128) : flip t (ix2 l s) = t (ix2 s l) := by
  pointwise [flip]

theorem gains_apply (g : FVec Ideal S64 .f32) (l : Fin 256) : gains g (ix2 0 l) = g (ix1 (pl l)) := by
  refine (shapeCast_apply _ _ _ (ix4 0 0 (hd l) (pl l)) ?_).trans ?_
  · rw [Shape.rowMajor_val_four, Shape.rowMajor_val_two]
    show ((0 * 1 + 0) * 4 + l.val / 64) * 64 + l.val % 64 = 0 * 256 + l.val
    omega
  · pointwise []

theorem same (a b : Fin 4) : cmpi .eq (iotaInDim S4x1x4x1 32 0) (iotaInDim S4x1x4x1 32 2) (ix4 a 0 b 0) = if a = b then 1#1 else 0#1 := by
  fin_cases a <;> fin_cases b <;> rfl

theorem alike_apply (l l' : Fin 256) : alike (ix2 l l') = if hd l = hd l' then 1#1 else 0#1 := by
  refine (shapeCast_apply _ _ _ (ix4 (hd l) (pl l) (hd l') (pl l')) ?_).trans ((show _ = _ from ?_).trans (same (hd l) (hd l')))
  · rw [Shape.rowMajor_val_four, Shape.rowMajor_val_two]
    show ((l.val / 64 * 64 + l.val % 64) * 4 + l'.val / 64) * 64 + l'.val % 64 = l.val * 256 + l'.val
    omega
  · pointwise []

theorem ones_apply (l l' : Fin 256) : ones (ix2 l l') = if hd l = hd l' then 1 else 0 := by
  show (((alike (ix2 l l')).toNat : ℝ) : EReal) = _
  rw [alike_apply]
  split <;> simp

end Cert.Kernel4Ideal.Hand

end
-- ==== Proof.Prep.Blk.lean ====
module

public import proofs.«01_k».proof.Proof.Prep.Rows
public import proofs.«01_k».proof.Proof.Prep.Ref
public import proofs.«01_k».proof.Proof.Prep.Host
public import Idealize.ShloMosaic.Lib.Claim

@[expose] public section

set_option maxRecDepth 16384

noncomputable section

namespace Cert.Kernel4Ideal.Hand

open Cert.Kernel4Ideal Cert.Kernel4Ideal.Gen Cert.Kernel4Ideal.Prep
open Idealize.ShloMosaic Idealize.ShloMosaic.TcCoe
open Cert.Row
open Cert.Reference4Ideal.Hand (oq ok ov osq osk osv onq onk onv tok cosA sinA oq_apply ok_apply ov_apply osq_apply osk_apply osv_apply
  onq_apply onk_apply onv_apply)

/-! ## The sliding window's columns, a third at a time -/

theorem matS_lo (w : FVec Ideal S1024x1696 .f32) (d : Fin 1024) (l : Fin 256) : matS w (ix2 d ⟨l.val, by omega⟩) = w (ix2 d ⟨416 + l.val, by omega⟩) :=
  (matS_apply w d _).trans (dif_pos l.isLt)

theorem matS_mid (w : FVec Ideal S1024x1696 .f32) (d : Fin 1024) (l : Fin 256) :
    matS w (ix2 d ⟨256 + l.val, by omega⟩) = w (ix2 d ⟨672 + 64 * (l.val / 128) + l.val % 64, by omega⟩) :=
  (matS_apply w d _).trans ((dif_neg (by show ¬256 + l.val < 256; omega)).trans ((dif_pos (by show 256 + l.val - 256 < 256; omega)).trans
    (congrArg (fun j => w (ix2 d j)) (Fin.ext (by show 672 + 64 * ((256 + l.val - 256) / 128) + (256 + l.val - 256) % 64 = 672 + 64 * (l.val / 128) + l.val % 64; omega)))))

theorem matS_hi (w : FVec Ideal S1024x1696 .f32) (d : Fin 1024) (l : Fin 256) :
    matS w (ix2 d ⟨512 + l.val, by omega⟩) = w (ix2 d ⟨800 + 64 * (l.val / 128) + l.val % 64, by omega⟩) :=
  (matS_apply w d _).trans ((dif_neg (by show ¬512 + l.val < 256; omega)).trans ((dif_neg (by show ¬512 + l.val - 256 < 256; omega)).trans
    (congrArg (fun j => w (ix2 d j)) (Fin.ext (by show 800 + 64 * ((512 + l.val - 256 - 256) / 128) + (512 + l.val - 256 - 256) % 64 = 800 + 64 * (l.val / 128) + l.val % 64; omega)))))

/-- A head's gains over its lanes, as a row and as a column. -/
theorem rowG (g : FVec Ideal S96 .f32) (l : Fin 128) : laneG (shapeCast S1x96 g shapeCasts_S96_S1x96) (ix2 0 l) = spread (fun e => g (ix1 e)) l :=
  (laneG_apply _ l).trans (congrArg (fun f => spread f l) (funext fun e => by pointwise []))
theorem colG (g : FVec Ideal S96 .f32) (l : Fin 128) :
    shapeCast S128x1 (laneG (shapeCast S1x96 g shapeCasts_S96_S1x96)) shapeCasts_S1x128_S128x1 (ix2 l 0) = spread (fun e => g (ix1 e)) l := by
  refine (shapeCast_apply _ _ _ (ix2 0 l) ?_).trans (rowG g l)
  rw [Shape.rowMajor_val_two, Shape.rowMajor_val_two]
  show 0 * 128 + l.val = l.val * 1 + 0
  omega

section Value
variable (m : (ℓ : Loc nD τ sig) → Buf (Elt Ideal) ℓ) (c : Dev nD)

/-! ## The arrays the call is given -/

set_option maxHeartbeats 3200000 in
theorem V10 : V m c main_v10 = truncf (F := Ideal) .bf16 (matM (m ((c : Thread nD τ).loc main_arg2))) bitsLt_bf16_f32 := by
  show StableHlo.after (List.flatten [hostOps0, hostOps0_1, hostOps0_2, hostOps0_3, hostOps0_4]) _ (Proc.devRef .tc main_v10) = _
  simp only [hostOps0, hostOps0_1, hostOps0_2, hostOps0_3, hostOps0_4, List.flatten_cons, List.flatten_nil, List.append_nil, List.cons_append, List.nil_append]
  after_results
  all_goals rfl

set_option maxHeartbeats 3200000 in
theorem V11 : V m c main_v11 = shapeCast S1x1024 (m ((c : Thread nD τ).loc main_arg1) : FVec Ideal S1024 .f32) shapeCasts_S1024_S1x1024 := by
  show StableHlo.after (List.flatten [hostOps0, hostOps0_1, hostOps0_2, hostOps0_3, hostOps0_4]) _ (Proc.devRef .tc main_v11) = _
  simp only [hostOps0, hostOps0_1, hostOps0_2, hostOps0_3, hostOps0_4, List.flatten_cons, List.flatten_nil, List.append_nil, List.cons_append, List.nil_append]
  after_results
  all_goals rfl

set_option maxHeartbeats 3200000 in
theorem V12 : V m c main_v12 = shapeCast S1x256 (m ((c : Thread nD τ).loc main_arg3) : FVec Ideal S256 .f32) shapeCasts_S256_S1x256 := by
  show StableHlo.after (List.flatten [hostOps0, hostOps0_1, hostOps0_2, hostOps0_3, hostOps0_4]) _ (Proc.devRef .tc main_v12) = _
  simp only [hostOps0, hostOps0_1, hostOps0_2, hostOps0_3, hostOps0_4, List.flatten_cons, List.flatten_nil, List.append_nil, List.cons_append, List.nil_append]
  after_results
  all_goals rfl

set_option maxHeartbeats 3200000 in
theorem V13 : V m c main_v13 = shapeCast S1x128 (m ((c : Thread nD τ).loc main_arg5) : FVec Ideal S128 .f32) shapeCasts_S128_S1x128 := by
  show StableHlo.after (List.flatten [hostOps0, hostOps0_1, hostOps0_2, hostOps0_3, hostOps0_4]) _ (Proc.devRef .tc main_v13) = _
  simp only [hostOps0, hostOps0_1, hostOps0_2, hostOps0_3, hostOps0_4, List.flatten_cons, List.flatten_nil, List.append_nil, List.cons_append, List.nil_append]
  after_results
  all_goals rfl

set_option maxHeartbeats 3200000 in
theorem V23 : V m c main_v23 = truncf (F := Ideal) .bf16 (matU (m ((c : Thread nD τ).loc main_arg4))) bitsLt_bf16_f32 := by
  show StableHlo.after (List.flatten [hostOps0, hostOps0_1, hostOps0_2, hostOps0_3, hostOps0_4]) _ (Proc.devRef .tc main_v23) = _
  simp only [hostOps0, hostOps0_1, hostOps0_2, hostOps0_3, hostOps0_4, List.flatten_cons, List.flatten_nil, List.append_nil, List.cons_append, List.nil_append]
  after_results
  all_goals rfl

set_option maxHeartbeats 3200000 in
theorem V34 : V m c main_v34 = truncf (F := Ideal) .bf16 (matK (m ((c : Thread nD τ).loc main_arg6))) bitsLt_bf16_f32 := by
  show StableHlo.after (List.flatten [hostOps0, hostOps0_1, hostOps0_2, hostOps0_3, hostOps0_4]) _ (Proc.devRef .tc main_v34) = _
  simp only [hostOps0, hostOps0_1, hostOps0_2, hostOps0_3, hostOps0_4, List.flatten_cons, List.flatten_nil, List.append_nil, List.cons_append, List.nil_append]
  after_results
  all_goals rfl

set_option maxHeartbeats 3200000 in
theorem V38 : V m c main_v38 = truncf (F := Ideal) .bf16 (matV (m ((c : Thread nD τ).loc main_arg6))) bitsLt_bf16_f32 := by
  show StableHlo.after (List.flatten [hostOps0, hostOps0_1, hostOps0_2, hostOps0_3, hostOps0_4]) _ (Proc.devRef .tc main_v38) = _
  simp only [hostOps0, hostOps0_1, hostOps0_2, hostOps0_3, hostOps0_4, List.flatten_cons, List.flatten_nil, List.append_nil, List.cons_append, List.nil_append]
  after_results
  all_goals rfl

set_option maxHeartbeats 3200000 in
theorem V46 : V m c main_v46 = shapeCast S128x1 (laneG (shapeCast S1x96 (m ((c : Thread nD τ).loc main_arg7) : FVec Ideal S96 .f32) shapeCasts_S96_S1x96)) shapeCasts_S1x128_S128x1 := by
  show StableHlo.after (List.flatten [hostOps0, hostOps0_1, hostOps0_2, hostOps0_3, hostOps0_4]) _ (Proc.devRef .tc main_v46) = _
  simp only [hostOps0, hostOps0_1, hostOps0_2, hostOps0_3, hostOps0_4, List.flatten_cons, List.flatten_nil, List.append_nil, List.cons_append, List.nil_append]
  after_results
  all_goals rfl

set_option maxHeartbeats 3200000 in
theorem V53 : V m c main_v53 = laneG (shapeCast S1x96 (m ((c : Thread nD τ).loc main_arg8) : FVec Ideal S96 .f32) shapeCasts_S96_S1x96) := by
  show StableHlo.after (List.flatten [hostOps0, hostOps0_1, hostOps0_2, hostOps0_3, hostOps0_4]) _ (Proc.devRef .tc main_v53) = _
  simp only [hostOps0, hostOps0_1, hostOps0_2, hostOps0_3, hostOps0_4, List.flatten_cons, List.flatten_nil, List.append_nil, List.cons_append, List.nil_append]
  after_results
  all_goals rfl

set_option maxHeartbeats 3200000 in
theorem V80 : V m c main_v80 = tabC := by
  show StableHlo.after (List.flatten [hostOps0, hostOps0_1, hostOps0_2, hostOps0_3, hostOps0_4]) _ (Proc.devRef .tc main_v80) = _
  simp only [hostOps0, hostOps0_1, hostOps0_2, hostOps0_3, hostOps0_4, List.flatten_cons, List.flatten_nil, List.append_nil, List.cons_append, List.nil_append]
  after_results
  all_goals rfl

set_option maxHeartbeats 3200000 in
theorem V89 : V m c main_v89 = tabS := by
  show StableHlo.after (List.flatten [hostOps0, hostOps0_1, hostOps0_2, hostOps0_3, hostOps0_4]) _ (Proc.devRef .tc main_v89) = _
  simp only [hostOps0, hostOps0_1, hostOps0_2, hostOps0_3, hostOps0_4, List.flatten_cons, List.flatten_nil, List.append_nil, List.cons_append, List.nil_append]
  after_results
  all_goals rfl

set_option maxHeartbeats 3200000 in
theorem V90 : V m c main_v90 = flip tabC := by
  show StableHlo.after (List.flatten [hostOps0, hostOps0_1, hostOps0_2, hostOps0_3, hostOps0_4]) _ (Proc.devRef .tc main_v90) = _
  simp only [hostOps0, hostOps0_1, hostOps0_2, hostOps0_3, hostOps0_4, List.flatten_cons, List.flatten_nil, List.append_nil, List.cons_append, List.nil_append]
  after_results
  all_goals rfl

set_option maxHeartbeats 3200000 in
theorem V91 : V m c main_v91 = flip tabS := by
  show StableHlo.after (List.flatten [hostOps0, hostOps0_1, hostOps0_2, hostOps0_3, hostOps0_4]) _ (Proc.devRef .tc main_v91) = _
  simp only [hostOps0, hostOps0_1, hostOps0_2, hostOps0_3, hostOps0_4, List.flatten_cons, List.flatten_nil, List.append_nil, List.cons_append, List.nil_append]
  after_results
  all_goals rfl

set_option maxHeartbeats 3200000 in
theorem V104 : V m c main_v104 = truncf (F := Ideal) .bf16 (matS (m ((c : Thread nD τ).loc main_arg2))) bitsLt_bf16_f32 := by
  show StableHlo.after (List.flatten [hostOps0, hostOps0_1, hostOps0_2, hostOps0_3, hostOps0_4]) _ (Proc.devRef .tc main_v104) = _
  simp only [hostOps0, hostOps0_1, hostOps0_2, hostOps0_3, hostOps0_4, List.flatten_cons, List.flatten_nil, List.append_nil, List.cons_append, List.nil_append]
  after_results
  all_goals rfl

set_option maxHeartbeats 3200000 in
theorem V108 : V m c main_v108 = gains (m ((c : Thread nD τ).loc main_arg9)) := by
  show StableHlo.after (List.flatten [hostOps0, hostOps0_1, hostOps0_2, hostOps0_3, hostOps0_4]) _ (Proc.devRef .tc main_v108) = _
  simp only [hostOps0, hostOps0_1, hostOps0_2, hostOps0_3, hostOps0_4, List.flatten_cons, List.flatten_nil, List.append_nil, List.cons_append, List.nil_append]
  after_results
  all_goals rfl

set_option maxHeartbeats 3200000 in
theorem V112 : V m c main_v112 = gains (m ((c : Thread nD τ).loc main_arg10)) := by
  show StableHlo.after (List.flatten [hostOps0, hostOps0_1, hostOps0_2, hostOps0_3, hostOps0_4]) _ (Proc.devRef .tc main_v112) = _
  simp only [hostOps0, hostOps0_1, hostOps0_2, hostOps0_3, hostOps0_4, List.flatten_cons, List.flatten_nil, List.append_nil, List.cons_append, List.nil_append]
  after_results
  all_goals rfl

set_option maxHeartbeats 3200000 in
theorem V114 : V m c main_v114 = truncf (F := Ideal) .bf16 (matN (m ((c : Thread nD τ).loc main_arg2))) bitsLt_bf16_f32 := by
  show StableHlo.after (List.flatten [hostOps0, hostOps0_1, hostOps0_2, hostOps0_3, hostOps0_4]) _ (Proc.devRef .tc main_v114) = _
  simp only [hostOps0, hostOps0_1, hostOps0_2, hostOps0_3, hostOps0_4, List.flatten_cons, List.flatten_nil, List.append_nil, List.cons_append, List.nil_append]
  after_results
  all_goals rfl

set_option maxHeartbeats 3200000 in
theorem V118 : V m c main_v118 = gains (m ((c : Thread nD τ).loc main_arg11)) := by
  show StableHlo.after (List.flatten [hostOps0, hostOps0_1, hostOps0_2, hostOps0_3, hostOps0_4]) _ (Proc.devRef .tc main_v118) = _
  simp only [hostOps0, hostOps0_1, hostOps0_2, hostOps0_3, hostOps0_4, List.flatten_cons, List.flatten_nil, List.append_nil, List.cons_append, List.nil_append]
  after_results
  all_goals rfl

set_option maxHeartbeats 3200000 in
theorem V122 : V m c main_v122 = gains (m ((c : Thread nD τ).loc main_arg12)) := by
  show StableHlo.after (List.flatten [hostOps0, hostOps0_1, hostOps0_2, hostOps0_3, hostOps0_4]) _ (Proc.devRef .tc main_v122) = _
  simp only [hostOps0, hostOps0_1, hostOps0_2, hostOps0_3, hostOps0_4, List.flatten_cons, List.flatten_nil, List.append_nil, List.cons_append, List.nil_append]
  after_results
  all_goals rfl

set_option maxHeartbeats 3200000 in
theorem V129 : V m c main_v129 = truncf (F := Ideal) .bf16 (ones) bitsLt_bf16_f32 := by
  show StableHlo.after (List.flatten [hostOps0, hostOps0_1, hostOps0_2, hostOps0_3, hostOps0_4]) _ (Proc.devRef .tc main_v129) = _
  simp only [hostOps0, hostOps0_1, hostOps0_2, hostOps0_3, hostOps0_4, List.flatten_cons, List.flatten_nil, List.append_nil, List.cons_append, List.nil_append]
  after_results
  all_goals rfl

/-! ## The blocks -/

/-- The windows' block positions. -/
theorem idx0 : ∀ t : Fin cfg0.N, win0_0.index t = ![t.val / 16, t.val % 16, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0] := by decide +kernel
theorem idx1 : ∀ t : Fin cfg0.N, win0_10.index t = ![t.val % 16, 0]
    ∧ win0_11.index t = ![t.val % 16, 0]
    ∧ win0_12.index t = ![0, t.val % 16]
    ∧ win0_13.index t = ![0, t.val % 16]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0] := by decide +kernel
theorem idx2 : ∀ t : Fin cfg0.N, win0_20.index t = ![0, 0]
    ∧ win0_21.index t = ![t.val / 16, t.val % 16, 0, 0, 0]
    ∧ win0_22.index t = ![t.val / 16, 0, t.val % 16, 0]
    ∧ win0_23.index t = ![t.val / 16, t.val % 16, 0, 0]
    ∧ win0_24.index t = ![t.val / 16, t.val % 16, 0]
    ∧ win0_25.index t = ![t.val / 16, t.val % 16, 0]
    ∧ win0_26.index t = ![t.val / 16, t.val % 16, 0]
    ∧ win0_27.index t = ![t.val / 16, t.val % 16, 0]
    ∧ win0_28.index t = ![t.val / 16, t.val % 16, 0]
    ∧ win0_29.index t = ![t.val / 16, t.val % 16, 0] := by decide +kernel

/-- A grid point's batch, -/
def bOf (t : Fin cfg0.N) : Fin 4 := ⟨t.val / 16, by have h : t.val < 64 := t.isLt; omega⟩
/-- its row block, -/
def iOf (t : Fin cfg0.N) : Fin 16 := ⟨t.val % 16, by omega⟩
/-- and row `r` of its 512. -/
def sOf (t : Fin cfg0.N) (r : Fin 512) : Fin 8192 := ⟨512 * (iOf t).val + r.val, by have := (iOf t).isLt; omega⟩

theorem b0 (t : Fin cfg0.N) (r : Fin 512) (d : Fin 1024) : iblk m c 0 t (ix3 0 r d) = m ((c : Thread nD τ).loc main_arg0) (ix3 (bOf t) (sOf t r) d) :=
  Eq.trans (b := V m c main_arg0 (ix3 (bOf t) (sOf t r) d)) (by blk_ext [iblk, (idx0 t).1, bOf, iOf, sOf]) (by rw [V_main_arg0])

theorem b1 (t : Fin cfg0.N) (d : Fin 1024) : iblk m c 1 t (ix2 0 d) = m ((c : Thread nD τ).loc main_arg1) (ix1 d) :=
  Eq.trans (b := V m c main_v11 (ix2 0 d)) (by blk_ext [iblk, (idx0 t).2.1, bOf, iOf, sOf]) (by rw [V11]; pointwise [])

theorem b3 (t : Fin cfg0.N) (d : Fin 256) : iblk m c 3 t (ix2 0 d) = m ((c : Thread nD τ).loc main_arg3) (ix1 d) :=
  Eq.trans (b := V m c main_v12 (ix2 0 d)) (by blk_ext [iblk, (idx0 t).2.2.2.1, bOf, iOf, sOf]) (by rw [V12]; pointwise [])

theorem b4 (t : Fin cfg0.N) (d : Fin 128) : iblk m c 4 t (ix2 0 d) = m ((c : Thread nD τ).loc main_arg5) (ix1 d) :=
  Eq.trans (b := V m c main_v13 (ix2 0 d)) (by blk_ext [iblk, (idx0 t).2.2.2.2.1, bOf, iOf, sOf]) (by rw [V13]; pointwise [])

theorem b2 (t : Fin cfg0.N) (d : Fin 1024) (f : Fin 512) : iblk m c 2 t (ix2 d f) = matM (m ((c : Thread nD τ).loc main_arg2)) (ix2 d f) :=
  Eq.trans (b := V m c main_v10 (ix2 d f)) (by blk_ext [iblk, (idx0 t).2.2.1, bOf, iOf, sOf]) (by rw [V10]; rfl)

theorem b5 (t : Fin cfg0.N) (d : Fin 1024) (f : Fin 256) : iblk m c 5 t (ix2 d f) = matU (m ((c : Thread nD τ).loc main_arg4)) (ix2 d f) :=
  Eq.trans (b := V m c main_v23 (ix2 d f)) (by blk_ext [iblk, (idx0 t).2.2.2.2.2.1, bOf, iOf, sOf]) (by rw [V23]; rfl)

theorem b6 (t : Fin cfg0.N) (d : Fin 128) (f : Fin 1024) : iblk m c 6 t (ix2 d f) = matK (m ((c : Thread nD τ).loc main_arg6)) (ix2 d f) :=
  Eq.trans (b := V m c main_v34 (ix2 d f)) (by blk_ext [iblk, (idx0 t).2.2.2.2.2.2.1, bOf, iOf, sOf]) (by rw [V34]; rfl)

theorem b7 (t : Fin cfg0.N) (d : Fin 512) (f : Fin 128) : iblk m c 7 t (ix2 d f) = matV (m ((c : Thread nD τ).loc main_arg6)) (ix2 d f) :=
  Eq.trans (b := V m c main_v38 (ix2 d f)) (by blk_ext [iblk, (idx0 t).2.2.2.2.2.2.2.1, bOf, iOf, sOf]) (by rw [V38]; rfl)

theorem b14 (t : Fin cfg0.N) (d : Fin 1024) (f : Fin 768) : iblk m c 14 t (ix2 d f) = matS (m ((c : Thread nD τ).loc main_arg2)) (ix2 d f) :=
  Eq.trans (b := V m c main_v104 (ix2 d f)) (by blk_ext [iblk, (idx1 t).2.2.2.2.1, bOf, iOf, sOf]) (by rw [V104]; rfl)

theorem b17 (t : Fin cfg0.N) (d : Fin 1024) (f : Fin 768) : iblk m c 17 t (ix2 d f) = matN (m ((c : Thread nD τ).loc main_arg2)) (ix2 d f) :=
  Eq.trans (b := V m c main_v114 (ix2 d f)) (by blk_ext [iblk, (idx1 t).2.2.2.2.2.2.2.1, bOf, iOf, sOf]) (by rw [V114]; rfl)

theorem b8 (t : Fin cfg0.N) (l : Fin 128) : iblk m c 8 t (ix2 l 0) = spread (fun e : Fin 96 => (m ((c : Thread nD τ).loc main_arg7) : FVec Ideal S96 .f32) (ix1 e)) l :=
  Eq.trans (b := V m c main_v46 (ix2 l 0)) (by blk_ext [iblk, (idx0 t).2.2.2.2.2.2.2.2.1, bOf, iOf, sOf]) (by rw [V46]; exact colG _ l)

theorem b9 (t : Fin cfg0.N) (l : Fin 128) : iblk m c 9 t (ix2 0 l) = spread (fun e : Fin 96 => (m ((c : Thread nD τ).loc main_arg8) : FVec Ideal S96 .f32) (ix1 e)) l :=
  Eq.trans (b := V m c main_v53 (ix2 0 l)) (by blk_ext [iblk, (idx0 t).2.2.2.2.2.2.2.2.2, bOf, iOf, sOf]) (by rw [V53]; exact rowG _ l)

theorem b10 (t : Fin cfg0.N) (r : Fin 512) (l : Fin 128) : iblk m c 10 t (ix2 r l) = spread (cosF (cosA (sOf t r))) l :=
  Eq.trans (b := V m c main_v80 (ix2 (sOf t r) l)) (by blk_ext [iblk, (idx1 t).1, bOf, iOf, sOf]) (by rw [V80]; exact tabC_apply _ l)

theorem b11 (t : Fin cfg0.N) (r : Fin 512) (l : Fin 128) : iblk m c 11 t (ix2 r l) = spread (sinF (sinA (sOf t r))) l :=
  Eq.trans (b := V m c main_v89 (ix2 (sOf t r) l)) (by blk_ext [iblk, (idx1 t).2.1, bOf, iOf, sOf]) (by rw [V89]; exact tabS_apply _ l)

theorem b12 (t : Fin cfg0.N) (r : Fin 512) (l : Fin 128) : iblk m c 12 t (ix2 l r) = spread (cosF (cosA (sOf t r))) l :=
  Eq.trans (b := V m c main_v90 (ix2 l (sOf t r))) (by blk_ext [iblk, (idx1 t).2.2.1, bOf, iOf, sOf]) (by rw [V90]; exact (flip_apply _ _ l).trans (tabC_apply _ l))

theorem b13 (t : Fin cfg0.N) (r : Fin 512) (l : Fin 128) : iblk m c 13 t (ix2 l r) = spread (sinF (sinA (sOf t r))) l :=
  Eq.trans (b := V m c main_v91 (ix2 l (sOf t r))) (by blk_ext [iblk, (idx1 t).2.2.2.1, bOf, iOf, sOf]) (by rw [V91]; exact (flip_apply _ _ l).trans (tabS_apply _ l))

theorem b15 (t : Fin cfg0.N) (l : Fin 256) : iblk m c 15 t (ix2 0 l) = m ((c : Thread nD τ).loc main_arg9) (ix1 (pl l)) :=
  Eq.trans (b := V m c main_v108 (ix2 0 l)) (by blk_ext [iblk, (idx1 t).2.2.2.2.2.1, bOf, iOf, sOf]) (by rw [V108]; exact gains_apply _ l)

theorem b16 (t : Fin cfg0.N) (l : Fin 256) : iblk m c 16 t (ix2 0 l) = m ((c : Thread nD τ).loc main_arg10) (ix1 (pl l)) :=
  Eq.trans (b := V m c main_v112 (ix2 0 l)) (by blk_ext [iblk, (idx1 t).2.2.2.2.2.2.1, bOf, iOf, sOf]) (by rw [V112]; exact gains_apply _ l)

theorem b18 (t : Fin cfg0.N) (l : Fin 256) : iblk m c 18 t (ix2 0 l) = m ((c : Thread nD τ).loc main_arg11) (ix1 (pl l)) :=
  Eq.trans (b := V m c main_v118 (ix2 0 l)) (by blk_ext [iblk, (idx1 t).2.2.2.2.2.2.2.2.1, bOf, iOf, sOf]) (by rw [V118]; exact gains_apply _ l)

theorem b19 (t : Fin cfg0.N) (l : Fin 256) : iblk m c 19 t (ix2 0 l) = m ((c : Thread nD τ).loc main_arg12) (ix1 (pl l)) :=
  Eq.trans (b := V m c main_v122 (ix2 0 l)) (by blk_ext [iblk, (idx1 t).2.2.2.2.2.2.2.2.2, bOf, iOf, sOf]) (by rw [V122]; exact gains_apply _ l)

theorem b20 (t : Fin cfg0.N) (l l' : Fin 256) : iblk m c 20 t (ix2 l l') = if hd l = hd l' then (1 : EReal) else 0 :=
  Eq.trans (b := V m c main_v129 (ix2 l l')) (by blk_ext [iblk, (idx2 t).1, bOf, iOf, sOf]) (by rw [V129]; exact ones_apply l l')

theorem emb21 (t : Fin cfg0.N) (h : Fin 8) (l : Fin 128) (r : Fin 512) : ((cfg0.win 21).blk t).view.emb (ix5 0 0 h l r) = (ix5 (bOf t) (iOf t) h l r : S4x16x8x128x512.Idx) := by
  blk_ext [(idx2 t).2.1, bOf, iOf, sOf]

theorem emb22 (t : Fin cfg0.N) (h : Fin 8) (r : Fin 512) (l : Fin 128) : ((cfg0.win 22).blk t).view.emb (ix4 0 h r l) = (ix4 (bOf t) h (sOf t r) l : S4x8x8192x128.Idx) := by
  blk_ext [(idx2 t).2.2.1, bOf, iOf, sOf]

theorem emb23 (t : Fin cfg0.N) (e r : Fin 512) : ((cfg0.win 23).blk t).view.emb (ix4 0 0 e r) = (ix4 (bOf t) (iOf t) e r : S4x16x512x512.Idx) := by
  blk_ext [(idx2 t).2.2.2.1, bOf, iOf, sOf]

theorem emb24 (t : Fin cfg0.N) (r : Fin 512) (l : Fin 256) : ((cfg0.win 24).blk t).view.emb (ix3 0 r l) = (ix3 (bOf t) (sOf t r) l : S4x8192x256.Idx) := by
  blk_ext [(idx2 t).2.2.2.2.1, bOf, iOf, sOf]

theorem emb25 (t : Fin cfg0.N) (r : Fin 512) (l : Fin 256) : ((cfg0.win 25).blk t).view.emb (ix3 0 r l) = (ix3 (bOf t) (sOf t r) l : S4x8192x256.Idx) := by
  blk_ext [(idx2 t).2.2.2.2.2.1, bOf, iOf, sOf]

theorem emb26 (t : Fin cfg0.N) (r : Fin 512) (l : Fin 256) : ((cfg0.win 26).blk t).view.emb (ix3 0 r l) = (ix3 (bOf t) (sOf t r) l : S4x8192x256.Idx) := by
  blk_ext [(idx2 t).2.2.2.2.2.2.1, bOf, iOf, sOf]

theorem emb27 (t : Fin cfg0.N) (r : Fin 512) (l : Fin 256) : ((cfg0.win 27).blk t).view.emb (ix3 0 r l) = (ix3 (bOf t) (sOf t r) l : S4x8192x256.Idx) := by
  blk_ext [(idx2 t).2.2.2.2.2.2.2.1, bOf, iOf, sOf]

theorem emb28 (t : Fin cfg0.N) (r : Fin 512) (l : Fin 256) : ((cfg0.win 28).blk t).view.emb (ix3 0 r l) = (ix3 (bOf t) (sOf t r) l : S4x8192x256.Idx) := by
  blk_ext [(idx2 t).2.2.2.2.2.2.2.2.1, bOf, iOf, sOf]

theorem emb29 (t : Fin cfg0.N) (r : Fin 512) (l : Fin 256) : ((cfg0.win 29).blk t).view.emb (ix3 0 r l) = (ix3 (bOf t) (sOf t r) l : S4x8192x256.Idx) := by
  blk_ext [(idx2 t).2.2.2.2.2.2.2.2.2, bOf, iOf, sOf]

end Value

end Cert.Kernel4Ideal.Hand

end
-- ==== Proof.Prep.Val.lean ====
module

public import proofs.«01_k».proof.Proof.Prep.Blk

@[expose] public section

set_option maxRecDepth 16384

noncomputable section

namespace Cert.Kernel4Ideal.Hand

open Cert.Kernel4Ideal Cert.Kernel4Ideal.Gen Cert.Kernel4Ideal.Prep
open Idealize.ShloMosaic Idealize.ShloMosaic.TcCoe
open Cert.Row
open Cert.Reference4Ideal.Hand (oq ok ov osq osk osv onq onk onv tok cosA sinA oq_apply ok_apply ov_apply osq_apply osk_apply osv_apply
  onq_apply onk_apply onv_apply)

section Value
variable (m : (ℓ : Loc nD τ sig) → Buf (Elt Ideal) ℓ) (c : Dev nD)

/-! ## A grid point's rows are the reference's -/

/-- The projected token of a grid point's row. -/
abbrev tokOf (t : Fin cfg0.N) (r : Fin 512) : Fin 1696 → EReal := tok (m ((c : Thread nD τ).loc main_arg0)) (m ((c : Thread nD τ).loc main_arg1)) (m ((c : Thread nD τ).loc main_arg2)) (bOf t) (sOf t r)

theorem z_lo (t : Fin cfg0.N) (r : Fin 512) (k : Fin 384) :
    blkZ (iblk m c 0 t) (iblk m c 1 t) (iblk m c 2 t) (ix2 r ⟨k.val, by omega⟩) = tokOf m c t r ⟨k.val, by omega⟩ :=
  proj_lo _ _ _ r _ _ _ (fun d => b0 m c t r d) (fun d => b1 m c t d) (fun d k => (b2 m c t d _).trans (matM_lo _ d k)) k

theorem z_hi (t : Fin cfg0.N) (r : Fin 512) (l : Fin 128) :
    blkZ (iblk m c 0 t) (iblk m c 1 t) (iblk m c 2 t) (ix2 r ⟨384 + l.val, by omega⟩)
      = spread (fun e => if e.val < 64 then 0 else tokOf m c t r ⟨384 + (e.val - 64), by omega⟩) l :=
  proj_hi _ _ _ r _ _ (fun d e => (m ((c : Thread nD τ).loc main_arg2)) (ix2 d e)) (fun d => b0 m c t r d) (fun d => b1 m c t d) (fun d l => (b2 m c t d _).trans (matM_hi _ d l)) l

theorem side (t : Fin cfg0.N) (r : Fin 512) (xw : Vec Ideal S1024x768 .bf16) (k : Fin 768) (j : Fin 1696) (hw : ∀ d, xw (ix2 d k) = (m ((c : Thread nD τ).loc main_arg2)) (ix2 d j)) :
    zs (blkN (iblk m c 0 t) (iblk m c 1 t)) xw (ix2 r k) = tokOf m c t r j :=
  side_row _ _ r _ _ (fun d e => (m ((c : Thread nD τ).loc main_arg2)) (ix2 d e)) (fun d => b0 m c t r d) (fun d => b1 m c t d) xw k j hw

theorem eq21 (t : Fin cfg0.N) (h : Fin 8) (l : Fin 128) (r : Fin 512) :
    (dats m 0 c).after 21 t (ix5 0 0 h l r) = oq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (ix5 (bOf t) (iOf t) h l r) := by
  refine (congrFun ((after0_21 m c t).trans (out21 ..)) _).trans (Eq.trans ?_ (oq_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (bOf t) (iOf t) h l r).symm)
  exact q_row (blkZ (iblk m c 0 t) (iblk m c 1 t) (iblk m c 2 t)) r _ (fun k => z_lo m c t r k) _ _ _ _ _ _ (fun d e => (m ((c : Thread nD τ).loc main_arg4)) (ix2 d e)) _ _ _ h (fun d => b3 m c t d)
    (fun l d => (b5 m c t _ d).trans (matU_apply _ h l d)) (fun l => b8 m c t l) (fun l => b12 m c t r l) (fun l => b13 m c t r l) l

theorem eq22 (t : Fin cfg0.N) (h : Fin 8) (r : Fin 512) (l : Fin 128) :
    (dats m 0 c).after 22 t (ix4 0 h r l) = ok (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (ix4 (bOf t) h (sOf t r) l) := by
  refine (congrFun ((after0_22 m c t).trans (out22 ..)) _).trans (Eq.trans ?_ (ok_apply (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (bOf t) h (sOf t r) l).symm)
  exact k_row (blkZ (iblk m c 0 t) (iblk m c 1 t) (iblk m c 2 t)) r _ (fun k => z_lo m c t r k) _ _ _ _ _ _ (fun d e => (m ((c : Thread nD τ).loc main_arg6)) (ix2 d e)) _ _ _ h (fun l => z_hi m c t r l)
    (fun d => b4 m c t d) (fun l d => (b6 m c t d _).trans (matK_apply _ h l d)) (fun l => b9 m c t l) (fun l => b10 m c t r l) (fun l => b11 m c t r l) l

theorem eq23 (t : Fin cfg0.N) (e r : Fin 512) :
    (dats m 0 c).after 23 t (ix4 0 0 e r) = ov (m ((c : Thread nD τ).loc main_arg0)) (m ((c : Thread nD τ).loc main_arg1)) (m ((c : Thread nD τ).loc main_arg2)) (m ((c : Thread nD τ).loc main_arg5)) (m ((c : Thread nD τ).loc main_arg6)) (ix4 (bOf t) (iOf t) e r) := by
  refine (congrFun ((after0_23 m c t).trans (out23 ..)) _).trans (Eq.trans ?_ (ov_apply (m ((c : Thread nD τ).loc main_arg0)) (m ((c : Thread nD τ).loc main_arg1)) (m ((c : Thread nD τ).loc main_arg2)) (m ((c : Thread nD τ).loc main_arg5)) (m ((c : Thread nD τ).loc main_arg6)) (bOf t) (iOf t) e r).symm)
  exact v_row (blkZ (iblk m c 0 t) (iblk m c 1 t) (iblk m c 2 t)) r _ (fun k => z_lo m c t r k) _ _ _ (fun d e => (m ((c : Thread nD τ).loc main_arg6)) (ix2 d e)) (fun d => b4 m c t d)
    (fun e d => (b7 m c t e d).trans (matV_apply _ e d)) e

theorem eq24 (t : Fin cfg0.N) (r : Fin 512) (l : Fin 256) :
    (dats m 0 c).after 24 t (ix3 0 r l) = osq (m ((c : Thread nD τ).loc main_arg0)) (m ((c : Thread nD τ).loc main_arg1)) (m ((c : Thread nD τ).loc main_arg2)) (m ((c : Thread nD τ).loc main_arg9)) (ix3 (bOf t) (sOf t r) l) := by
  refine (congrFun ((after0_24 m c t).trans (out24 ..)) _).trans ((asBlk_apply _ r l).trans (Eq.trans ?_ (osq_apply (m ((c : Thread nD τ).loc main_arg0)) (m ((c : Thread nD τ).loc main_arg1)) (m ((c : Thread nD τ).loc main_arg2)) (m ((c : Thread nD τ).loc main_arg9)) (bOf t) (sOf t r) l).symm))
  refine Eq.trans (b := hn _ _ _ (ix2 r l) * eighth) rfl (congrArg (· * eighth) ?_)
  exact heads_row _ _ _ r l (tokOf m c t r) (416 + 64 * (hd l).val) (by have := (hd l).isLt; omega) _ (fun l l' => b20 m c t l l')
    (fun l => b15 m c t l) fun d => (lo_apply _ r _).trans (side m c t r _ _ _ fun k => (b14 m c t k _).trans ((matS_lo _ k (lane (hd l) d)).trans
      (congrArg (fun j => (m ((c : Thread nD τ).loc main_arg2)) (ix2 k j)) (Fin.ext (by have := (hd l).isLt; show 416 + (64 * (l.val / 64) + d.val) = 416 + 64 * (l.val / 64) + d.val; omega)))))

theorem eq25 (t : Fin cfg0.N) (r : Fin 512) (l : Fin 256) :
    (dats m 0 c).after 25 t (ix3 0 r l) = osk (m ((c : Thread nD τ).loc main_arg0)) (m ((c : Thread nD τ).loc main_arg1)) (m ((c : Thread nD τ).loc main_arg2)) (m ((c : Thread nD τ).loc main_arg10)) (ix3 (bOf t) (sOf t r) l) := by
  refine (congrFun ((after0_25 m c t).trans (out25 ..)) _).trans ((asBlk_apply _ r l).trans (Eq.trans ?_ (osk_apply (m ((c : Thread nD τ).loc main_arg0)) (m ((c : Thread nD τ).loc main_arg1)) (m ((c : Thread nD τ).loc main_arg2)) (m ((c : Thread nD τ).loc main_arg10)) (bOf t) (sOf t r) l).symm))
  exact heads_row _ _ _ r l (tokOf m c t r) (672 + 64 * (l.val / 128)) (by omega) _ (fun l l' => b20 m c t l l')
    (fun l => b16 m c t l) fun d => (mid_apply _ r _).trans (side m c t r _ _ _ fun k => (b14 m c t k _).trans ((matS_mid _ k (lane (hd l) d)).trans
      (congrArg (fun j => (m ((c : Thread nD τ).loc main_arg2)) (ix2 k j)) (Fin.ext (by have := (hd l).isLt; show 672 + 64 * ((64 * (l.val / 64) + d.val) / 128) + (64 * (l.val / 64) + d.val) % 64 = 672 + 64 * (l.val / 128) + d.val; omega)))))

theorem eq26 (t : Fin cfg0.N) (r : Fin 512) (l : Fin 256) :
    (dats m 0 c).after 26 t (ix3 0 r l) = osv (m ((c : Thread nD τ).loc main_arg0)) (m ((c : Thread nD τ).loc main_arg1)) (m ((c : Thread nD τ).loc main_arg2)) (ix3 (bOf t) (sOf t r) l) := by
  refine (congrFun ((after0_26 m c t).trans (out26 ..)) _).trans ((asBlk_apply _ r l).trans (Eq.trans ?_ (osv_apply (m ((c : Thread nD τ).loc main_arg0)) (m ((c : Thread nD τ).loc main_arg1)) (m ((c : Thread nD τ).loc main_arg2)) (bOf t) (sOf t r) l).symm))
  exact (hi_apply _ r l).trans (side m c t r _ _ _ fun d => (b14 m c t d _).trans (matS_hi _ d l))

theorem eq27 (t : Fin cfg0.N) (r : Fin 512) (l : Fin 256) :
    (dats m 0 c).after 27 t (ix3 0 r l) = onq (m ((c : Thread nD τ).loc main_arg0)) (m ((c : Thread nD τ).loc main_arg1)) (m ((c : Thread nD τ).loc main_arg2)) (m ((c : Thread nD τ).loc main_arg11)) (ix3 (bOf t) (sOf t r) l) := by
  refine (congrFun ((after0_27 m c t).trans (out27 ..)) _).trans ((asBlk_apply _ r l).trans (Eq.trans ?_ (onq_apply (m ((c : Thread nD τ).loc main_arg0)) (m ((c : Thread nD τ).loc main_arg1)) (m ((c : Thread nD τ).loc main_arg2)) (m ((c : Thread nD τ).loc main_arg11)) (bOf t) (sOf t r) l).symm))
  refine Eq.trans (b := hn _ _ _ (ix2 r l) * eighth) rfl (congrArg (· * eighth) ?_)
  exact heads_row _ _ _ r l (tokOf m c t r) (928 + 64 * (hd l).val) (by have := (hd l).isLt; omega) _ (fun l l' => b20 m c t l l')
    (fun l => b18 m c t l) fun d => (lo_apply _ r _).trans (side m c t r _ _ _ fun k => (b17 m c t k _).trans ((matN_apply _ k _).trans
      (congrArg (fun j => (m ((c : Thread nD τ).loc main_arg2)) (ix2 k j)) (Fin.ext (by have := (hd l).isLt; show 928 + (64 * (l.val / 64) + d.val) = 928 + 64 * (l.val / 64) + d.val; omega)))))

theorem eq28 (t : Fin cfg0.N) (r : Fin 512) (l : Fin 256) :
    (dats m 0 c).after 28 t (ix3 0 r l) = onk (m ((c : Thread nD τ).loc main_arg0)) (m ((c : Thread nD τ).loc main_arg1)) (m ((c : Thread nD τ).loc main_arg2)) (m ((c : Thread nD τ).loc main_arg12)) (ix3 (bOf t) (sOf t r) l) := by
  refine (congrFun ((after0_28 m c t).trans (out28 ..)) _).trans ((asBlk_apply _ r l).trans (Eq.trans ?_ (onk_apply (m ((c : Thread nD τ).loc main_arg0)) (m ((c : Thread nD τ).loc main_arg1)) (m ((c : Thread nD τ).loc main_arg2)) (m ((c : Thread nD τ).loc main_arg12)) (bOf t) (sOf t r) l).symm))
  exact heads_row _ _ _ r l (tokOf m c t r) (1184 + 64 * (hd l).val) (by have := (hd l).isLt; omega) _ (fun l l' => b20 m c t l l')
    (fun l => b19 m c t l) fun d => (mid_apply _ r _).trans (side m c t r _ _ _ fun k => (b17 m c t k _).trans ((matN_apply _ k _).trans
      (congrArg (fun j => (m ((c : Thread nD τ).loc main_arg2)) (ix2 k j)) (Fin.ext (by have := (hd l).isLt; show 928 + (256 + (64 * (l.val / 64) + d.val)) = 1184 + 64 * (l.val / 64) + d.val; omega)))))

theorem eq29 (t : Fin cfg0.N) (r : Fin 512) (l : Fin 256) :
    (dats m 0 c).after 29 t (ix3 0 r l) = onv (m ((c : Thread nD τ).loc main_arg0)) (m ((c : Thread nD τ).loc main_arg1)) (m ((c : Thread nD τ).loc main_arg2)) (ix3 (bOf t) (sOf t r) l) := by
  refine (congrFun ((after0_29 m c t).trans (out29 ..)) _).trans ((asBlk_apply _ r l).trans (Eq.trans ?_ (onv_apply (m ((c : Thread nD τ).loc main_arg0)) (m ((c : Thread nD τ).loc main_arg1)) (m ((c : Thread nD τ).loc main_arg2)) (bOf t) (sOf t r) l).symm))
  exact (hi_apply _ r l).trans (side m c t r _ _ _ fun d => (b17 m c t d _).trans ((matN_apply _ d _).trans (congrArg (fun j => (m ((c : Thread nD τ).loc main_arg2)) (ix2 d j)) (Fin.ext (by show 928 + (512 + l.val) = 1440 + l.val; omega)))))

end Value

section Run
variable (m : (ℓ : Loc nD τ sig) → Buf (Elt Ideal) ℓ) (ρ : Dev nD → PrngReg)

theorem arr21 (c : Dev nD) : (dats m 0 c).arrAt 21 cfg0.N = oq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) :=
  Pipeline.Dat.arrAt_eq_of_covers _ 21 _ (by decide +kernel) fun t hf y => by
    obtain ⟨a, b, h, l, r, rfl⟩ : ∃ (a b : Fin 1) (h : Fin 8) (l : Fin 128) (r : Fin 512), y = ix5 a b h l r := ⟨y 0, y 1, y 2, y 3, y 4, funext fun a => by fin_cases a <;> rfl⟩
    obtain rfl : a = 0 := Subsingleton.elim _ _
    obtain rfl : b = 0 := Subsingleton.elim _ _
    exact (eq21 m c t h l r).trans (congrArg (oq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) (emb21 t h l r).symm)

theorem arr22 (c : Dev nD) : (dats m 0 c).arrAt 22 cfg0.N = ok (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) :=
  Pipeline.Dat.arrAt_eq_of_covers _ 22 _ (by decide +kernel) fun t hf y => by
    obtain ⟨a, h, r, l, rfl⟩ : ∃ (a : Fin 1) (h : Fin 8) (r : Fin 512) (l : Fin 128), y = ix4 a h r l := ⟨y 0, y 1, y 2, y 3, funext fun a => by fin_cases a <;> rfl⟩
    obtain rfl : a = 0 := Subsingleton.elim _ _
    exact (eq22 m c t h r l).trans (congrArg (ok (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8))) (emb22 t h r l).symm)

theorem arr23 (c : Dev nD) : (dats m 0 c).arrAt 23 cfg0.N = ov (m ((c : Thread nD τ).loc main_arg0)) (m ((c : Thread nD τ).loc main_arg1)) (m ((c : Thread nD τ).loc main_arg2)) (m ((c : Thread nD τ).loc main_arg5)) (m ((c : Thread nD τ).loc main_arg6)) :=
  Pipeline.Dat.arrAt_eq_of_covers _ 23 _ (by decide +kernel) fun t hf y => by
    obtain ⟨a, b, e, r, rfl⟩ : ∃ (a b : Fin 1) (e r : Fin 512), y = ix4 a b e r := ⟨y 0, y 1, y 2, y 3, funext fun a => by fin_cases a <;> rfl⟩
    obtain rfl : a = 0 := Subsingleton.elim _ _
    obtain rfl : b = 0 := Subsingleton.elim _ _
    exact (eq23 m c t e r).trans (congrArg (ov (m ((c : Thread nD τ).loc main_arg0)) (m ((c : Thread nD τ).loc main_arg1)) (m ((c : Thread nD τ).loc main_arg2)) (m ((c : Thread nD τ).loc main_arg5)) (m ((c : Thread nD τ).loc main_arg6))) (emb23 t e r).symm)

theorem arr24 (c : Dev nD) : (dats m 0 c).arrAt 24 cfg0.N = osq (m ((c : Thread nD τ).loc main_arg0)) (m ((c : Thread nD τ).loc main_arg1)) (m ((c : Thread nD τ).loc main_arg2)) (m ((c : Thread nD τ).loc main_arg9)) :=
  Pipeline.Dat.arrAt_eq_of_covers _ 24 _ (by decide +kernel) fun t hf y => by
    obtain ⟨a, r, l, rfl⟩ : ∃ (a : Fin 1) (r : Fin 512) (l : Fin 256), y = ix3 a r l := ⟨y 0, y 1, y 2, funext fun a => by fin_cases a <;> rfl⟩
    obtain rfl : a = 0 := Subsingleton.elim _ _
    exact (eq24 m c t r l).trans (congrArg (osq (m ((c : Thread nD τ).loc main_arg0)) (m ((c : Thread nD τ).loc main_arg1)) (m ((c : Thread nD τ).loc main_arg2)) (m ((c : Thread nD τ).loc main_arg9))) (emb24 t r l).symm)

theorem arr25 (c : Dev nD) : (dats m 0 c).arrAt 25 cfg0.N = osk (m ((c : Thread nD τ).loc main_arg0)) (m ((c : Thread nD τ).loc main_arg1)) (m ((c : Thread nD τ).loc main_arg2)) (m ((c : Thread nD τ).loc main_arg10)) :=
  Pipeline.Dat.arrAt_eq_of_covers _ 25 _ (by decide +kernel) fun t hf y => by
    obtain ⟨a, r, l, rfl⟩ : ∃ (a : Fin 1) (r : Fin 512) (l : Fin 256), y = ix3 a r l := ⟨y 0, y 1, y 2, funext fun a => by fin_cases a <;> rfl⟩
    obtain rfl : a = 0 := Subsingleton.elim _ _
    exact (eq25 m c t r l).trans (congrArg (osk (m ((c : Thread nD τ).loc main_arg0)) (m ((c : Thread nD τ).loc main_arg1)) (m ((c : Thread nD τ).loc main_arg2)) (m ((c : Thread nD τ).loc main_arg10))) (emb25 t r l).symm)

theorem arr26 (c : Dev nD) : (dats m 0 c).arrAt 26 cfg0.N = osv (m ((c : Thread nD τ).loc main_arg0)) (m ((c : Thread nD τ).loc main_arg1)) (m ((c : Thread nD τ).loc main_arg2)) :=
  Pipeline.Dat.arrAt_eq_of_covers _ 26 _ (by decide +kernel) fun t hf y => by
    obtain ⟨a, r, l, rfl⟩ : ∃ (a : Fin 1) (r : Fin 512) (l : Fin 256), y = ix3 a r l := ⟨y 0, y 1, y 2, funext fun a => by fin_cases a <;> rfl⟩
    obtain rfl : a = 0 := Subsingleton.elim _ _
    exact (eq26 m c t r l).trans (congrArg (osv (m ((c : Thread nD τ).loc main_arg0)) (m ((c : Thread nD τ).loc main_arg1)) (m ((c : Thread nD τ).loc main_arg2))) (emb26 t r l).symm)

theorem arr27 (c : Dev nD) : (dats m 0 c).arrAt 27 cfg0.N = onq (m ((c : Thread nD τ).loc main_arg0)) (m ((c : Thread nD τ).loc main_arg1)) (m ((c : Thread nD τ).loc main_arg2)) (m ((c : Thread nD τ).loc main_arg11)) :=
  Pipeline.Dat.arrAt_eq_of_covers _ 27 _ (by decide +kernel) fun t hf y => by
    obtain ⟨a, r, l, rfl⟩ : ∃ (a : Fin 1) (r : Fin 512) (l : Fin 256), y = ix3 a r l := ⟨y 0, y 1, y 2, funext fun a => by fin_cases a <;> rfl⟩
    obtain rfl : a = 0 := Subsingleton.elim _ _
    exact (eq27 m c t r l).trans (congrArg (onq (m ((c : Thread nD τ).loc main_arg0)) (m ((c : Thread nD τ).loc main_arg1)) (m ((c : Thread nD τ).loc main_arg2)) (m ((c : Thread nD τ).loc main_arg11))) (emb27 t r l).symm)

theorem arr28 (c : Dev nD) : (dats m 0 c).arrAt 28 cfg0.N = onk (m ((c : Thread nD τ).loc main_arg0)) (m ((c : Thread nD τ).loc main_arg1)) (m ((c : Thread nD τ).loc main_arg2)) (m ((c : Thread nD τ).loc main_arg12)) :=
  Pipeline.Dat.arrAt_eq_of_covers _ 28 _ (by decide +kernel) fun t hf y => by
    obtain ⟨a, r, l, rfl⟩ : ∃ (a : Fin 1) (r : Fin 512) (l : Fin 256), y = ix3 a r l := ⟨y 0, y 1, y 2, funext fun a => by fin_cases a <;> rfl⟩
    obtain rfl : a = 0 := Subsingleton.elim _ _
    exact (eq28 m c t r l).trans (congrArg (onk (m ((c : Thread nD τ).loc main_arg0)) (m ((c : Thread nD τ).loc main_arg1)) (m ((c : Thread nD τ).loc main_arg2)) (m ((c : Thread nD τ).loc main_arg12))) (emb28 t r l).symm)

theorem arr29 (c : Dev nD) : (dats m 0 c).arrAt 29 cfg0.N = onv (m ((c : Thread nD τ).loc main_arg0)) (m ((c : Thread nD τ).loc main_arg1)) (m ((c : Thread nD τ).loc main_arg2)) :=
  Pipeline.Dat.arrAt_eq_of_covers _ 29 _ (by decide +kernel) fun t hf y => by
    obtain ⟨a, r, l, rfl⟩ : ∃ (a : Fin 1) (r : Fin 512) (l : Fin 256), y = ix3 a r l := ⟨y 0, y 1, y 2, funext fun a => by fin_cases a <;> rfl⟩
    obtain rfl : a = 0 := Subsingleton.elim _ _
    exact (eq29 m c t r l).trans (congrArg (onv (m ((c : Thread nD τ).loc main_arg0)) (m ((c : Thread nD τ).loc main_arg1)) (m ((c : Thread nD τ).loc main_arg2))) (emb29 t r l).symm)

/-- The kernel's run: its nine results are the reference's, its arguments unchanged. -/
theorem run_value : θ_run (defs (F := Ideal)) (onTc (τ := τ) (main (F := Ideal))) ⟨m, fun _ => 0, ρ⟩ fun r => ∀ c : Dev nD,
      r.2.mem ((c.tc : Thread nD τ).loc main_v130_0) = oq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
      ∧ r.2.mem ((c.tc : Thread nD τ).loc main_v130_1) = ok (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg8))
      ∧ r.2.mem ((c.tc : Thread nD τ).loc main_v130_2) = ov (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v130_3) = osq (m ((c.tc : Thread nD τ).loc main_arg0)) (m ((c.tc : Thread nD τ).loc main_arg1)) (m ((c.tc : Thread nD τ).loc main_arg2)) (m ((c.tc : Thread nD τ).loc main_arg9))
      ∧ r.2.mem ((c.tc : Thread nD τ).loc main_v130_4) = osk (m ((c.tc : Thread nD τ).loc main_arg0)) (m ((c.tc : Thread nD τ).loc main_arg1)) (m ((c.tc : Thread nD τ).loc main_arg2)) (m ((c.tc : Thread nD τ).loc main_arg10))
      ∧ r.2.mem ((c.tc : Thread nD τ).loc main_v130_5) = osv (m ((c.tc : Thread nD τ).loc main_arg0)) (m ((c.tc : Thread nD τ).loc main_arg1)) (m ((c.tc : Thread nD τ).loc main_arg2))
      ∧ r.2.mem ((c.tc : Thread nD τ).loc main_v130_6) = onq (m ((c.tc : Thread nD τ).loc main_arg0)) (m ((c.tc : Thread nD τ).loc main_arg1)) (m ((c.tc : Thread nD τ).loc main_arg2)) (m ((c.tc : Thread nD τ).loc main_arg11))
      ∧ r.2.mem ((c.tc : Thread nD τ).loc main_v130_7) = onk (m ((c.tc : Thread nD τ).loc main_arg0)) (m ((c.tc : Thread nD τ).loc main_arg1)) (m ((c.tc : Thread nD τ).loc main_arg2)) (m ((c.tc : Thread nD τ).loc main_arg12))
      ∧ r.2.mem ((c.tc : Thread nD τ).loc main_v130_8) = onv (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h.1 c).1 21).trans (arr21 m c), ((h.1 c).1 22).trans (arr22 m c), ((h.1 c).1 23).trans (arr23 m c), ((h.1 c).1 24).trans (arr24 m c), ((h.1 c).1 25).trans (arr25 m c), ((h.1 c).1 26).trans (arr26 m c), ((h.1 c).1 27).trans (arr27 m c), ((h.1 c).1 28).trans (arr28 m c), ((h.1 c).1 29).trans (arr29 m c), h.2 c⟩)
    (θ_run_and (Cert.Kernel4Ideal.Prep.run_main m ρ) (Cert.Kernel4Ideal.Prep.unchanged m ρ))

end Run

end Cert.Kernel4Ideal.Hand

end
-- ==== Proof.lean ====
module

public import proofs.«01_k».proof.Defs
public import proofs.«01_k».proof.Proof.K.Run
public import proofs.«01_k».proof.Proof.KI.Run
public import proofs.«01_k».proof.Proof.KI.Val
public import proofs.«01_k».proof.Proof.Pre
public import proofs.«01_k».proof.Proof.Ffn.Val
public import proofs.«01_k».proof.Proof.Tail.Val
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Prep.FrameW
public import proofs.«01_k».proof.Proof.Prep.Val
public import proofs.«01_k».proof.Proof.Gen.Reference3Ideal
public import proofs.«01_k».proof.Proof.Gen.Reference3Ideal.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments, and ends with every counter at zero, having none. -/
theorem referenceRuns (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0 :=
  (θ_run _ _ _).mono (fun r h => ⟨fun c => (h c).2, sem_eq_zero_of_no_sems rfl r.2⟩) (Cert.ReferenceIdeal.Value.run m g)

/-- Over finite queries and keys the kernel's result is the reference's. -/
theorem value : Cert.algebraic_KernelIdeal_ReferenceIdeal_pre_finite_scores (hKernelIdeal := Cert.KernelIdeal.Gen.facts)
    (hReferenceIdeal := Cert.ReferenceIdeal.Gen.facts) (hPre_finite_scores := preFacts) := by
  intro m g m' g' hp ha
  have : Cert.Pre_finite_scores.Facts := preFacts
  choose q' hq using fun c => (finite _ _ _ (hp c)).1
  choose k' hk using fun c => (finite _ _ _ (hp c)).2
  refine ⟨fun c => Cert.ReferenceIdeal.Hand.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m g q' k' hq hk,
    (θ_run _ _ _).mono (fun r h c => ⟨(h c).1.trans ?_, (h c).2⟩) (Cert.ReferenceIdeal.Hand.run m' g')⟩
  rw [(ha c).1, (ha c).2.1, (ha c).2.2]

/-- The feed-forward reference runs and keeps its arguments. -/
theorem reference2Runs : Cert.quiescent_Reference2Ideal (hReference2Ideal := Cert.Reference2Ideal.Gen.facts) := fun m g _ =>
  (θ_run _ _ _).mono (fun r h => ⟨fun c => (h c).2, sem_eq_zero_of_no_sems rfl r.2⟩) (Cert.Reference2Ideal.Value.run m g)

/-- The tail's reference runs and keeps its arguments. -/
theorem reference3Runs : Cert.quiescent_Reference3Ideal (hReference3Ideal := Cert.Reference3Ideal.Gen.facts) := fun m g _ =>
  (θ_run _ _ _).mono (fun r h => ⟨fun c => (h c).2, sem_eq_zero_of_no_sems rfl r.2⟩) (Cert.Reference3Ideal.Value.run m g)

/-- The feed-forward kernel's result is the reference's. -/
theorem value2 : Cert.algebraic_Kernel2Ideal_Reference2Ideal (hKernel2Ideal := Cert.Kernel2Ideal.Gen.facts)
    (hReference2Ideal := Cert.Reference2Ideal.Gen.facts) := by
  intro m g m' g' _ ha
  refine ⟨fun c => Cert.Reference2Ideal.Hand.flat (Cert.Reference2Ideal.Hand.out
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))),
    Cert.Kernel2Ideal.Hand.run_value m g,
    (θ_run _ _ _).mono (fun r h c => ⟨(h c).1.trans ?_, (h c).2⟩) (Cert.Reference2Ideal.Hand.run m' g')⟩
  rw [(ha c).1, (ha c).2.1, (ha c).2.2.1, (ha c).2.2.2]

/-- With finite gains of the queries and finite keys of the memory, the tail's result is the reference's. -/
theorem value3 : Cert.algebraic_Kernel3Ideal_Reference3Ideal_pre_finite_memory (hKernel3Ideal := Cert.Kernel3Ideal.Gen.facts)
    (hReference3Ideal := Cert.Reference3Ideal.Gen.facts) (hPre_finite_memory := memFacts) := by
  intro m g m' g' hp ha
  have : Cert.Pre_finite_memory.Facts := memFacts
  refine ⟨fun c => Cert.Reference3Ideal.Hand.out
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7))
      (m ((c.tc : Thread Cert.Kernel3Ideal.nD Cert.Kernel3Ideal.τ).loc Cert.Kernel3Ideal.main_arg8))
      (m ((c.tc : Thread Cert.Kernel3Ideal.nD Cert.Kernel3Ideal.τ).loc Cert.Kernel3Ideal.main_arg9))
      (m ((c.tc : Thread Cert.Kernel3Ideal.nD Cert.Kernel3Ideal.τ).loc Cert.Kernel3Ideal.main_arg10))
      (m ((c.tc : Thread Cert.Kernel3Ideal.nD Cert.Kernel3Ideal.τ).loc Cert.Kernel3Ideal.main_arg11))
      (m ((c.tc : Thread Cert.Kernel3Ideal.nD Cert.Kernel3Ideal.τ).loc Cert.Kernel3Ideal.main_arg12))
      (m ((c.tc : Thread Cert.Kernel3Ideal.nD Cert.Kernel3Ideal.τ).loc Cert.Kernel3Ideal.main_arg13))
      (m ((c.tc : Thread Cert.Kernel3Ideal.nD Cert.Kernel3Ideal.τ).loc Cert.Kernel3Ideal.main_arg14))
      (m ((c.tc : Thread Cert.Kernel3Ideal.nD Cert.Kernel3Ideal.τ).loc Cert.Kernel3Ideal.main_arg15)),
    Cert.Kernel3Ideal.Hand.run_value m g (fun c => (finiteMem _ _ _ _ _ _ _ _ _ _ _ _ _ _ _ _ (hp c)).1)
      (fun c => (finiteMem _ _ _ _ _ _ _ _ _ _ _ _ _ _ _ _ (hp c)).2),
    (θ_run _ _ _).mono (fun r h c => ⟨(h c).1.trans ?_, (h c).2⟩) (Cert.Reference3Ideal.Hand.run m' g')⟩
  rw [(ha c).1, (ha c).2.1, (ha c).2.2.1, (ha c).2.2.2.1, (ha c).2.2.2.2.1, (ha c).2.2.2.2.2.1, (ha c).2.2.2.2.2.2.1, (ha c).2.2.2.2.2.2.2.1, (ha c).2.2.2.2.2.2.2.2.1, (ha c).2.2.2.2.2.2.2.2.2.1, (ha c).2.2.2.2.2.2.2.2.2.2.1, (ha c).2.2.2.2.2.2.2.2.2.2.2.1, (ha c).2.2.2.2.2.2.2.2.2.2.2.2.1, (ha c).2.2.2.2.2.2.2.2.2.2.2.2.2.1, (ha c).2.2.2.2.2.2.2.2.2.2.2.2.2.2.1, (ha c).2.2.2.2.2.2.2.2.2.2.2.2.2.2.2]

/-- The reference of the projections into the branches runs and keeps its arguments. -/
theorem reference4Runs : Cert.quiescent_Reference4Ideal (hReference4Ideal := Cert.Reference4Ideal.Gen.facts) := fun m g _ =>
  (θ_run _ _ _).mono (fun r h => ⟨fun c => (h c).2.2.2.2.2.2.2.2.2, sem_eq_zero_of_no_sems rfl r.2⟩) (Cert.Reference4Ideal.Value.run m g)

/-- The projections' nine results are the reference's. -/
theorem value4 : Cert.algebraic_Kernel4Ideal_Reference4Ideal (hKernel4Ideal := Cert.Kernel4Ideal.Gen.facts)
    (hReference4Ideal := Cert.Reference4Ideal.Gen.facts) := by
  intro m g m' g' _ ha
  refine ⟨fun c => Cert.Reference4Ideal.Hand.oq
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg7)),
    fun c => Cert.Reference4Ideal.Hand.ok
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg8)),
    fun c => Cert.Reference4Ideal.Hand.ov
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6)),
    fun c => Cert.Reference4Ideal.Hand.osq
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg9)),
    fun c => Cert.Reference4Ideal.Hand.osk
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg10)),
    fun c => Cert.Reference4Ideal.Hand.osv
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)),
    fun c => Cert.Reference4Ideal.Hand.onq
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg11)),
    fun c => Cert.Reference4Ideal.Hand.onk
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg12)),
    fun c => Cert.Reference4Ideal.Hand.onv
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)),
    Cert.Kernel4Ideal.Hand.run_value m g,
    (θ_run _ _ _).mono (fun r h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, (h c).2.2.2.2.2.2.2.2.2⟩)
      (Cert.Reference4Ideal.Hand.run m' g')⟩
  · rw [(ha c).1, (ha c).2.1, (ha c).2.2.1, (ha c).2.2.2.1, (ha c).2.2.2.2.1, (ha c).2.2.2.2.2.2.2.1]
  · rw [(ha c).1, (ha c).2.1, (ha c).2.2.1, (ha c).2.2.2.2.2.1, (ha c).2.2.2.2.2.2.1, (ha c).2.2.2.2.2.2.2.2.1]
  · rw [(ha c).1, (ha c).2.1, (ha c).2.2.1, (ha c).2.2.2.2.2.1, (ha c).2.2.2.2.2.2.1]
  · rw [(ha c).1, (ha c).2.1, (ha c).2.2.1, (ha c).2.2.2.2.2.2.2.2.2.1]
  · rw [(ha c).1, (ha c).2.1, (ha c).2.2.1, (ha c).2.2.2.2.2.2.2.2.2.2.1]
  · rw [(ha c).1, (ha c).2.1, (ha c).2.2.1]
  · rw [(ha c).1, (ha c).2.1, (ha c).2.2.1, (ha c).2.2.2.2.2.2.2.2.2.2.2.1]
  · rw [(ha c).1, (ha c).2.1, (ha c).2.2.1, (ha c).2.2.2.2.2.2.2.2.2.2.2.2]
  · rw [(ha c).1, (ha c).2.1, (ha c).2.2.1]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, preFacts, memFacts,
    fun m g _ => Cert.Kernel.Hand.frame m g,
    fun m g _ => Cert.KernelIdeal.Hand.frame m g,
    fun m g _ => Cert.KernelIdeal.Hand.frame m g,
    fun m g _ => referenceRuns m g,
    fun m g _ => referenceRuns m g,
    fun m g _ => Cert.Kernel2.Gen.frame m g,
    fun m g _ => Cert.Kernel2Ideal.Gen.frame m g,
    reference2Runs,
    fun m g _ => Cert.Kernel3.Gen.frame m g,
    fun m g _ => Cert.Kernel3Ideal.Gen.frame m g,
    fun m g _ => Cert.Kernel3Ideal.Gen.frame m g,
    reference3Runs,
    fun m g _ => reference3Runs m g trivial,
    fun m g _ => Cert.Kernel4.Prep.frame m g,
    fun m g _ => Cert.Kernel4Ideal.Prep.frame m g,
    reference4Runs,
    ⟨IdealRules.named_const.statement Cert.KernelIdeal.κ "mask" .f32 0xF149F2CA#32 ⊥ rfl,
      IdealRules.named_const.statement Cert.KernelIdeal.κ "qscale" .f32 0x3E16C740#32
        (((3424635 / 33554432) * (Real.log 2)⁻¹ : ℝ) : EReal) rfl⟩,
    value, trivial, value2, trivial, value3,
    IdealRules.named_const.statement Cert.Kernel4Ideal.κ "inv96" .f32 0x3C2AAAAB#32 ((1 / 96 : ℝ) : EReal) rfl, value4⟩

end Cert.Proof

end
